-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S3x256x512 : Shape := ⟨3, ![3, 256, 512]⟩
abbrev S256x512 : Shape := ⟨2, ![256, 512]⟩
abbrev S6 : Shape := ⟨1, ![6]⟩
abbrev S12 : Shape := ⟨1, ![12]⟩
abbrev S7 : Shape := ⟨1, ![7]⟩
abbrev S8 : Shape := ⟨1, ![8]⟩
abbrev S32x512 : Shape := ⟨2, ![32, 512]⟩
abbrev S1024x512 : Shape := ⟨2, ![1024, 512]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x64x512 : Shape := ⟨3, ![1, 64, 512]⟩
abbrev S64x512 : Shape := ⟨2, ![64, 512]⟩
abbrev S1x32x512 : Shape := ⟨3, ![1, 32, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S32x1024, .f32⟩
  | .local _ .vmem, ⟨0, _⟩ => ⟨S1024x32, .f32⟩
  | .local _ .vmem, ⟨1, _⟩ => ⟨S32x1024, .f32⟩
  | .local _ .vmem, ⟨2, _⟩ => ⟨S32x1024, .f32⟩
  | .local _ .vmem, ⟨3, _⟩ => ⟨S1024x1024, .f32⟩
  | .local _ .vmem, ⟨4, _⟩ => ⟨S3x256x512, .f32⟩
  | .local _ .vmem, ⟨5, _⟩ => ⟨S3x256x512, .f32⟩
  | .local _ .vmem, ⟨6, _⟩ => ⟨S256x512, .f32⟩
  | .local _ .vmem, ⟨7, _⟩ => ⟨S256x512, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_114 : BitVec 32 := 0#32
  let c8_i32_111 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v199 : BitVec 32 := Scalar.muli c8_i32_111 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_104 : BitVec 32 := 1#32
  let v188 : BitVec 32 := Scalar.addi v29 c1_i32_104
  let c8_i32_105 : BitVec 32 := 8#32
  let c0_i32_106 : BitVec 32 := 0#32
  let v189 : BitVec 1 := Scalar.cmpi .eq c8_i32_105 c0_i32_106
  let c1_i32_107 : BitVec 32 := 1#32
  let v190 : BitVec 32 := Scalar.select v189 c1_i32_107 c8_i32_105
  let v191 : BitVec 32 := Scalar.remsi v188 v190
  let c0_i32_109 : BitVec 32 := 0#32
  let v193 : BitVec 1 := Scalar.cmpi .slt v191 c0_i32_109
  let c0_i32_110 : BitVec 32 := 0#32
  let v194 : BitVec 1 := Scalar.cmpi .slt v190 c0_i32_110
  let v195 : BitVec 1 := Scalar.xori v193 v194
  let c0_i32_108 : BitVec 32 := 0#32
  let v192 : BitVec 1 := Scalar.cmpi .ne v191 c0_i32_108
  let v196 : BitVec 1 := Scalar.andi v195 v192
  let v197 : BitVec 32 := Scalar.addi v191 v190
  let v198 : BitVec 32 := Scalar.select v196 v197 v191
  let v200 : BitVec 32 := Scalar.addi v199 v198
  let c1_i32_113 : BitVec 32 := 1#32
  let v201 : BitVec 32 := Scalar.muli v200 c1_i32_113
  let v202 : BitVec 32 := Scalar.addi c0_i32_114 v201
  v202.toNat
def k0_dev2 (d0 : Dev nD) : Nat :=
  let c0_i32_145 : BitVec 32 := 0#32
  let c8_i32_141 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c1_i32_115 : BitVec 32 := 1#32
  let v203 : BitVec 32 := Scalar.addi v69 c1_i32_115
  let c8_i32_116 : BitVec 32 := 8#32
  let c0_i32_117 : BitVec 32 := 0#32
  let v204 : BitVec 1 := Scalar.cmpi .eq c8_i32_116 c0_i32_117
  let c1_i32_118 : BitVec 32 := 1#32
  let v205 : BitVec 32 := Scalar.select v204 c1_i32_118 c8_i32_116
  let v206 : BitVec 32 := Scalar.remsi v203 v205
  let c0_i32_120 : BitVec 32 := 0#32
  let v208 : BitVec 1 := Scalar.cmpi .slt v206 c0_i32_120
  let c0_i32_121 : BitVec 32 := 0#32
  let v209 : BitVec 1 := Scalar.cmpi .slt v205 c0_i32_121
  let v210 : BitVec 1 := Scalar.xori v208 v209
  let c0_i32_119 : BitVec 32 := 0#32
  let v207 : BitVec 1 := Scalar.cmpi .ne v206 c0_i32_119
  let v211 : BitVec 1 := Scalar.andi v210 v207
  let v212 : BitVec 32 := Scalar.addi v206 v205
  let v213 : BitVec 32 := Scalar.select v211 v212 v206
  let c0_i32_135 : BitVec 32 := 0#32
  let v236 : BitVec 1 := Scalar.cmpi .sgt v213 c0_i32_135
  let v237 : BitVec 32 := Scalar.extui v236
  let c0_i32_136 : BitVec 32 := 0#32
  let v238 : BitVec 1 := Scalar.cmpi .slt v213 c0_i32_136
  let v239 : BitVec 32 := Scalar.extui v238
  let v240 : BitVec 32 := Scalar.subi v237 v239
  let c2_i32_134 : BitVec 32 := 2#32
  let c0_i32_137 : BitVec 32 := 0#32
  let v241 : BitVec 1 := Scalar.cmpi .sgt c2_i32_134 c0_i32_137
  let v242 : BitVec 32 := Scalar.extui v241
  let c0_i32_138 : BitVec 32 := 0#32
  let v243 : BitVec 1 := Scalar.cmpi .slt c2_i32_134 c0_i32_138
  let v244 : BitVec 32 := Scalar.extui v243
  let v245 : BitVec 32 := Scalar.subi v242 v244
  let v246 : BitVec 1 := Scalar.cmpi .ne v240 v245
  let v247 : BitVec 32 := Scalar.remsi v213 c2_i32_134
  let c0_i32_139 : BitVec 32 := 0#32
  let v248 : BitVec 1 := Scalar.cmpi .ne v247 c0_i32_139
  let v249 : BitVec 1 := Scalar.andi v246 v248
  let v235 : BitVec 32 := Scalar.divsi v213 c2_i32_134
  let c1_i32_140 : BitVec 32 := 1#32
  let v250 : BitVec 32 := Scalar.subi v235 c1_i32_140
  let v251 : BitVec 32 := Scalar.select v249 v250 v235
  let v252 : BitVec 32 := Scalar.muli c8_i32_141 v251
  let c2_i32_142 : BitVec 32 := 2#32
  let v253 : BitVec 32 := Scalar.muli c2_i32_142 v46
  let v254 : BitVec 32 := Scalar.addi v252 v253
  let c2_i32_122 : BitVec 32 := 2#32
  let c0_i32_123 : BitVec 32 := 0#32
  let v214 : BitVec 1 := Scalar.cmpi .eq c2_i32_122 c0_i32_123
  let c1_i32_124 : BitVec 32 := 1#32
  let v215 : BitVec 32 := Scalar.select v214 c1_i32_124 c2_i32_122
  let v216 : BitVec 32 := Scalar.remsi v213 v215
  let c0_i32_126 : BitVec 32 := 0#32
  let v218 : BitVec 1 := Scalar.cmpi .slt v216 c0_i32_126
  let c0_i32_127 : BitVec 32 := 0#32
  let v219 : BitVec 1 := Scalar.cmpi .slt v215 c0_i32_127
  let v220 : BitVec 1 := Scalar.xori v218 v219
  let c0_i32_125 : BitVec 32 := 0#32
  let v217 : BitVec 1 := Scalar.cmpi .ne v216 c0_i32_125
  let v221 : BitVec 1 := Scalar.andi v220 v217
  let v222 : BitVec 32 := Scalar.addi v216 v215
  let v223 : BitVec 32 := Scalar.select v221 v222 v216
  let v224 : BitVec 32 := Scalar.addi v223 v46
  let c2_i32_128 : BitVec 32 := 2#32
  let c0_i32_129 : BitVec 32 := 0#32
  let v225 : BitVec 1 := Scalar.cmpi .eq c2_i32_128 c0_i32_129
  let c1_i32_130 : BitVec 32 := 1#32
  let v226 : BitVec 32 := Scalar.select v225 c1_i32_130 c2_i32_128
  let v227 : BitVec 32 := Scalar.remsi v224 v226
  let c0_i32_132 : BitVec 32 := 0#32
  let v229 : BitVec 1 := Scalar.cmpi .slt v227 c0_i32_132
  let c0_i32_133 : BitVec 32 := 0#32
  let v230 : BitVec 1 := Scalar.cmpi .slt v226 c0_i32_133
  let v231 : BitVec 1 := Scalar.xori v229 v230
  let c0_i32_131 : BitVec 32 := 0#32
  let v228 : BitVec 1 := Scalar.cmpi .ne v227 c0_i32_131
  let v232 : BitVec 1 := Scalar.andi v231 v228
  let v233 : BitVec 32 := Scalar.addi v227 v226
  let v234 : BitVec 32 := Scalar.select v232 v233 v227
  let v255 : BitVec 32 := Scalar.addi v254 v234
  let c1_i32_144 : BitVec 32 := 1#32
  let v256 : BitVec 32 := Scalar.muli v255 c1_i32_144
  let v257 : BitVec 32 := Scalar.addi c0_i32_145 v256
  v257.toNat
def k0_dev3 (d0 : Dev nD) : Nat :=
  let c0_i32_156 : BitVec 32 := 0#32
  let c8_i32_153 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v269 : BitVec 32 := Scalar.muli c8_i32_153 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_146 : BitVec 32 := 2#32
  let v258 : BitVec 32 := Scalar.addi v29 c2_i32_146
  let c8_i32_147 : BitVec 32 := 8#32
  let c0_i32_148 : BitVec 32 := 0#32
  let v259 : BitVec 1 := Scalar.cmpi .eq c8_i32_147 c0_i32_148
  let c1_i32_149 : BitVec 32 := 1#32
  let v260 : BitVec 32 := Scalar.select v259 c1_i32_149 c8_i32_147
  let v261 : BitVec 32 := Scalar.remsi v258 v260
  let c0_i32_151 : BitVec 32 := 0#32
  let v263 : BitVec 1 := Scalar.cmpi .slt v261 c0_i32_151
  let c0_i32_152 : BitVec 32 := 0#32
  let v264 : BitVec 1 := Scalar.cmpi .slt v260 c0_i32_152
  let v265 : BitVec 1 := Scalar.xori v263 v264
  let c0_i32_150 : BitVec 32 := 0#32
  let v262 : BitVec 1 := Scalar.cmpi .ne v261 c0_i32_150
  let v266 : BitVec 1 := Scalar.andi v265 v262
  let v267 : BitVec 32 := Scalar.addi v261 v260
  let v268 : BitVec 32 := Scalar.select v266 v267 v261
  let v270 : BitVec 32 := Scalar.addi v269 v268
  let c1_i32_155 : BitVec 32 := 1#32
  let v271 : BitVec 32 := Scalar.muli v270 c1_i32_155
  let v272 : BitVec 32 := Scalar.addi c0_i32_156 v271
  v272.toNat
def k0_dev4 (d0 : Dev nD) : Nat :=
  let c0_i32_187 : BitVec 32 := 0#32
  let c8_i32_183 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c2_i32_157 : BitVec 32 := 2#32
  let v273 : BitVec 32 := Scalar.addi v69 c2_i32_157
  let c8_i32_158 : BitVec 32 := 8#32
  let c0_i32_159 : BitVec 32 := 0#32
  let v274 : BitVec 1 := Scalar.cmpi .eq c8_i32_158 c0_i32_159
  let c1_i32_160 : BitVec 32 := 1#32
  let v275 : BitVec 32 := Scalar.select v274 c1_i32_160 c8_i32_158
  let v276 : BitVec 32 := Scalar.remsi v273 v275
  let c0_i32_162 : BitVec 32 := 0#32
  let v278 : BitVec 1 := Scalar.cmpi .slt v276 c0_i32_162
  let c0_i32_163 : BitVec 32 := 0#32
  let v279 : BitVec 1 := Scalar.cmpi .slt v275 c0_i32_163
  let v280 : BitVec 1 := Scalar.xori v278 v279
  let c0_i32_161 : BitVec 32 := 0#32
  let v277 : BitVec 1 := Scalar.cmpi .ne v276 c0_i32_161
  let v281 : BitVec 1 := Scalar.andi v280 v277
  let v282 : BitVec 32 := Scalar.addi v276 v275
  let v283 : BitVec 32 := Scalar.select v281 v282 v276
  let c0_i32_177 : BitVec 32 := 0#32
  let v306 : BitVec 1 := Scalar.cmpi .sgt v283 c0_i32_177
  let v307 : BitVec 32 := Scalar.extui v306
  let c0_i32_178 : BitVec 32 := 0#32
  let v308 : BitVec 1 := Scalar.cmpi .slt v283 c0_i32_178
  let v309 : BitVec 32 := Scalar.extui v308
  let v310 : BitVec 32 := Scalar.subi v307 v309
  let c2_i32_176 : BitVec 32 := 2#32
  let c0_i32_179 : BitVec 32 := 0#32
  let v311 : BitVec 1 := Scalar.cmpi .sgt c2_i32_176 c0_i32_179
  let v312 : BitVec 32 := Scalar.extui v311
  let c0_i32_180 : BitVec 32 := 0#32
  let v313 : BitVec 1 := Scalar.cmpi .slt c2_i32_176 c0_i32_180
  let v314 : BitVec 32 := Scalar.extui v313
  let v315 : BitVec 32 := Scalar.subi v312 v314
  let v316 : BitVec 1 := Scalar.cmpi .ne v310 v315
  let v317 : BitVec 32 := Scalar.remsi v283 c2_i32_176
  let c0_i32_181 : BitVec 32 := 0#32
  let v318 : BitVec 1 := Scalar.cmpi .ne v317 c0_i32_181
  let v319 : BitVec 1 := Scalar.andi v316 v318
  let v305 : BitVec 32 := Scalar.divsi v283 c2_i32_176
  let c1_i32_182 : BitVec 32 := 1#32
  let v320 : BitVec 32 := Scalar.subi v305 c1_i32_182
  let v321 : BitVec 32 := Scalar.select v319 v320 v305
  let v322 : BitVec 32 := Scalar.muli c8_i32_183 v321
  let c2_i32_184 : BitVec 32 := 2#32
  let v323 : BitVec 32 := Scalar.muli c2_i32_184 v46
  let v324 : BitVec 32 := Scalar.addi v322 v323
  let c2_i32_164 : BitVec 32 := 2#32
  let c0_i32_165 : BitVec 32 := 0#32
  let v284 : BitVec 1 := Scalar.cmpi .eq c2_i32_164 c0_i32_165
  let c1_i32_166 : BitVec 32 := 1#32
  let v285 : BitVec 32 := Scalar.select v284 c1_i32_166 c2_i32_164
  let v286 : BitVec 32 := Scalar.remsi v283 v285
  let c0_i32_168 : BitVec 32 := 0#32
  let v288 : BitVec 1 := Scalar.cmpi .slt v286 c0_i32_168
  let c0_i32_169 : BitVec 32 := 0#32
  let v289 : BitVec 1 := Scalar.cmpi .slt v285 c0_i32_169
  let v290 : BitVec 1 := Scalar.xori v288 v289
  let c0_i32_167 : BitVec 32 := 0#32
  let v287 : BitVec 1 := Scalar.cmpi .ne v286 c0_i32_167
  let v291 : BitVec 1 := Scalar.andi v290 v287
  let v292 : BitVec 32 := Scalar.addi v286 v285
  let v293 : BitVec 32 := Scalar.select v291 v292 v286
  let v294 : BitVec 32 := Scalar.addi v293 v46
  let c2_i32_170 : BitVec 32 := 2#32
  let c0_i32_171 : BitVec 32 := 0#32
  let v295 : BitVec 1 := Scalar.cmpi .eq c2_i32_170 c0_i32_171
  let c1_i32_172 : BitVec 32 := 1#32
  let v296 : BitVec 32 := Scalar.select v295 c1_i32_172 c2_i32_170
  let v297 : BitVec 32 := Scalar.remsi v294 v296
  let c0_i32_174 : BitVec 32 := 0#32
  let v299 : BitVec 1 := Scalar.cmpi .slt v297 c0_i32_174
  let c0_i32_175 : BitVec 32 := 0#32
  let v300 : BitVec 1 := Scalar.cmpi .slt v296 c0_i32_175
  let v301 : BitVec 1 := Scalar.xori v299 v300
  let c0_i32_173 : BitVec 32 := 0#32
  let v298 : BitVec 1 := Scalar.cmpi .ne v297 c0_i32_173
  let v302 : BitVec 1 := Scalar.andi v301 v298
  let v303 : BitVec 32 := Scalar.addi v297 v296
  let v304 : BitVec 32 := Scalar.select v302 v303 v297
  let v325 : BitVec 32 := Scalar.addi v324 v304
  let c1_i32_186 : BitVec 32 := 1#32
  let v326 : BitVec 32 := Scalar.muli v325 c1_i32_186
  let v327 : BitVec 32 := Scalar.addi c0_i32_187 v326
  v327.toNat
def k0_dev5 (d0 : Dev nD) : Nat :=
  let c0_i32_197 : BitVec 32 := 0#32
  let c8_i32_194 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v339 : BitVec 32 := Scalar.muli c8_i32_194 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v328 : BitVec 32 := Scalar.addi v29 c3_i32
  let c8_i32_188 : BitVec 32 := 8#32
  let c0_i32_189 : BitVec 32 := 0#32
  let v329 : BitVec 1 := Scalar.cmpi .eq c8_i32_188 c0_i32_189
  let c1_i32_190 : BitVec 32 := 1#32
  let v330 : BitVec 32 := Scalar.select v329 c1_i32_190 c8_i32_188
  let v331 : BitVec 32 := Scalar.remsi v328 v330
  let c0_i32_192 : BitVec 32 := 0#32
  let v333 : BitVec 1 := Scalar.cmpi .slt v331 c0_i32_192
  let c0_i32_193 : BitVec 32 := 0#32
  let v334 : BitVec 1 := Scalar.cmpi .slt v330 c0_i32_193
  let v335 : BitVec 1 := Scalar.xori v333 v334
  let c0_i32_191 : BitVec 32 := 0#32
  let v332 : BitVec 1 := Scalar.cmpi .ne v331 c0_i32_191
  let v336 : BitVec 1 := Scalar.andi v335 v332
  let v337 : BitVec 32 := Scalar.addi v331 v330
  let v338 : BitVec 32 := Scalar.select v336 v337 v331
  let v340 : BitVec 32 := Scalar.addi v339 v338
  let c1_i32_196 : BitVec 32 := 1#32
  let v341 : BitVec 32 := Scalar.muli v340 c1_i32_196
  let v342 : BitVec 32 := Scalar.addi c0_i32_197 v341
  v342.toNat
def k0_dev6 (d0 : Dev nD) : Nat :=
  let c0_i32_228 : BitVec 32 := 0#32
  let c8_i32_224 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c3_i32_198 : BitVec 32 := 3#32
  let v343 : BitVec 32 := Scalar.addi v69 c3_i32_198
  let c8_i32_199 : BitVec 32 := 8#32
  let c0_i32_200 : BitVec 32 := 0#32
  let v344 : BitVec 1 := Scalar.cmpi .eq c8_i32_199 c0_i32_200
  let c1_i32_201 : BitVec 32 := 1#32
  let v345 : BitVec 32 := Scalar.select v344 c1_i32_201 c8_i32_199
  let v346 : BitVec 32 := Scalar.remsi v343 v345
  let c0_i32_203 : BitVec 32 := 0#32
  let v348 : BitVec 1 := Scalar.cmpi .slt v346 c0_i32_203
  let c0_i32_204 : BitVec 32 := 0#32
  let v349 : BitVec 1 := Scalar.cmpi .slt v345 c0_i32_204
  let v350 : BitVec 1 := Scalar.xori v348 v349
  let c0_i32_202 : BitVec 32 := 0#32
  let v347 : BitVec 1 := Scalar.cmpi .ne v346 c0_i32_202
  let v351 : BitVec 1 := Scalar.andi v350 v347
  let v352 : BitVec 32 := Scalar.addi v346 v345
  let v353 : BitVec 32 := Scalar.select v351 v352 v346
  let c0_i32_218 : BitVec 32 := 0#32
  let v376 : BitVec 1 := Scalar.cmpi .sgt v353 c0_i32_218
  let v377 : BitVec 32 := Scalar.extui v376
  let c0_i32_219 : BitVec 32 := 0#32
  let v378 : BitVec 1 := Scalar.cmpi .slt v353 c0_i32_219
  let v379 : BitVec 32 := Scalar.extui v378
  let v380 : BitVec 32 := Scalar.subi v377 v379
  let c2_i32_217 : BitVec 32 := 2#32
  let c0_i32_220 : BitVec 32 := 0#32
  let v381 : BitVec 1 := Scalar.cmpi .sgt c2_i32_217 c0_i32_220
  let v382 : BitVec 32 := Scalar.extui v381
  let c0_i32_221 : BitVec 32 := 0#32
  let v383 : BitVec 1 := Scalar.cmpi .slt c2_i32_217 c0_i32_221
  let v384 : BitVec 32 := Scalar.extui v383
  let v385 : BitVec 32 := Scalar.subi v382 v384
  let v386 : BitVec 1 := Scalar.cmpi .ne v380 v385
  let v387 : BitVec 32 := Scalar.remsi v353 c2_i32_217
  let c0_i32_222 : BitVec 32 := 0#32
  let v388 : BitVec 1 := Scalar.cmpi .ne v387 c0_i32_222
  let v389 : BitVec 1 := Scalar.andi v386 v388
  let v375 : BitVec 32 := Scalar.divsi v353 c2_i32_217
  let c1_i32_223 : BitVec 32 := 1#32
  let v390 : BitVec 32 := Scalar.subi v375 c1_i32_223
  let v391 : BitVec 32 := Scalar.select v389 v390 v375
  let v392 : BitVec 32 := Scalar.muli c8_i32_224 v391
  let c2_i32_225 : BitVec 32 := 2#32
  let v393 : BitVec 32 := Scalar.muli c2_i32_225 v46
  let v394 : BitVec 32 := Scalar.addi v392 v393
  let c2_i32_205 : BitVec 32 := 2#32
  let c0_i32_206 : BitVec 32 := 0#32
  let v354 : BitVec 1 := Scalar.cmpi .eq c2_i32_205 c0_i32_206
  let c1_i32_207 : BitVec 32 := 1#32
  let v355 : BitVec 32 := Scalar.select v354 c1_i32_207 c2_i32_205
  let v356 : BitVec 32 := Scalar.remsi v353 v355
  let c0_i32_209 : BitVec 32 := 0#32
  let v358 : BitVec 1 := Scalar.cmpi .slt v356 c0_i32_209
  let c0_i32_210 : BitVec 32 := 0#32
  let v359 : BitVec 1 := Scalar.cmpi .slt v355 c0_i32_210
  let v360 : BitVec 1 := Scalar.xori v358 v359
  let c0_i32_208 : BitVec 32 := 0#32
  let v357 : BitVec 1 := Scalar.cmpi .ne v356 c0_i32_208
  let v361 : BitVec 1 := Scalar.andi v360 v357
  let v362 : BitVec 32 := Scalar.addi v356 v355
  let v363 : BitVec 32 := Scalar.select v361 v362 v356
  let v364 : BitVec 32 := Scalar.addi v363 v46
  let c2_i32_211 : BitVec 32 := 2#32
  let c0_i32_212 : BitVec 32 := 0#32
  let v365 : BitVec 1 := Scalar.cmpi .eq c2_i32_211 c0_i32_212
  let c1_i32_213 : BitVec 32 := 1#32
  let v366 : BitVec 32 := Scalar.select v365 c1_i32_213 c2_i32_211
  let v367 : BitVec 32 := Scalar.remsi v364 v366
  let c0_i32_215 : BitVec 32 := 0#32
  let v369 : BitVec 1 := Scalar.cmpi .slt v367 c0_i32_215
  let c0_i32_216 : BitVec 32 := 0#32
  let v370 : BitVec 1 := Scalar.cmpi .slt v366 c0_i32_216
  let v371 : BitVec 1 := Scalar.xori v369 v370
  let c0_i32_214 : BitVec 32 := 0#32
  let v368 : BitVec 1 := Scalar.cmpi .ne v367 c0_i32_214
  let v372 : BitVec 1 := Scalar.andi v371 v368
  let v373 : BitVec 32 := Scalar.addi v367 v366
  let v374 : BitVec 32 := Scalar.select v372 v373 v367
  let v395 : BitVec 32 := Scalar.addi v394 v374
  let c1_i32_227 : BitVec 32 := 1#32
  let v396 : BitVec 32 := Scalar.muli v395 c1_i32_227
  let v397 : BitVec 32 := Scalar.addi c0_i32_228 v396
  v397.toNat
def k0_dev7 (d0 : Dev nD) : Nat :=
  let c0_i32_239 : BitVec 32 := 0#32
  let c8_i32_236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v409 : BitVec 32 := Scalar.muli c8_i32_236 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_229 : BitVec 32 := 4#32
  let v398 : BitVec 32 := Scalar.addi v29 c4_i32_229
  let c8_i32_230 : BitVec 32 := 8#32
  let c0_i32_231 : BitVec 32 := 0#32
  let v399 : BitVec 1 := Scalar.cmpi .eq c8_i32_230 c0_i32_231
  let c1_i32_232 : BitVec 32 := 1#32
  let v400 : BitVec 32 := Scalar.select v399 c1_i32_232 c8_i32_230
  let v401 : BitVec 32 := Scalar.remsi v398 v400
  let c0_i32_234 : BitVec 32 := 0#32
  let v403 : BitVec 1 := Scalar.cmpi .slt v401 c0_i32_234
  let c0_i32_235 : BitVec 32 := 0#32
  let v404 : BitVec 1 := Scalar.cmpi .slt v400 c0_i32_235
  let v405 : BitVec 1 := Scalar.xori v403 v404
  let c0_i32_233 : BitVec 32 := 0#32
  let v402 : BitVec 1 := Scalar.cmpi .ne v401 c0_i32_233
  let v406 : BitVec 1 := Scalar.andi v405 v402
  let v407 : BitVec 32 := Scalar.addi v401 v400
  let v408 : BitVec 32 := Scalar.select v406 v407 v401
  let v410 : BitVec 32 := Scalar.addi v409 v408
  let c1_i32_238 : BitVec 32 := 1#32
  let v411 : BitVec 32 := Scalar.muli v410 c1_i32_238
  let v412 : BitVec 32 := Scalar.addi c0_i32_239 v411
  v412.toNat
def k0_dev8 (d0 : Dev nD) : Nat :=
  let c0_i32_270 : BitVec 32 := 0#32
  let c8_i32_266 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c4_i32_240 : BitVec 32 := 4#32
  let v413 : BitVec 32 := Scalar.addi v69 c4_i32_240
  let c8_i32_241 : BitVec 32 := 8#32
  let c0_i32_242 : BitVec 32 := 0#32
  let v414 : BitVec 1 := Scalar.cmpi .eq c8_i32_241 c0_i32_242
  let c1_i32_243 : BitVec 32 := 1#32
  let v415 : BitVec 32 := Scalar.select v414 c1_i32_243 c8_i32_241
  let v416 : BitVec 32 := Scalar.remsi v413 v415
  let c0_i32_245 : BitVec 32 := 0#32
  let v418 : BitVec 1 := Scalar.cmpi .slt v416 c0_i32_245
  let c0_i32_246 : BitVec 32 := 0#32
  let v419 : BitVec 1 := Scalar.cmpi .slt v415 c0_i32_246
  let v420 : BitVec 1 := Scalar.xori v418 v419
  let c0_i32_244 : BitVec 32 := 0#32
  let v417 : BitVec 1 := Scalar.cmpi .ne v416 c0_i32_244
  let v421 : BitVec 1 := Scalar.andi v420 v417
  let v422 : BitVec 32 := Scalar.addi v416 v415
  let v423 : BitVec 32 := Scalar.select v421 v422 v416
  let c0_i32_260 : BitVec 32 := 0#32
  let v446 : BitVec 1 := Scalar.cmpi .sgt v423 c0_i32_260
  let v447 : BitVec 32 := Scalar.extui v446
  let c0_i32_261 : BitVec 32 := 0#32
  let v448 : BitVec 1 := Scalar.cmpi .slt v423 c0_i32_261
  let v449 : BitVec 32 := Scalar.extui v448
  let v450 : BitVec 32 := Scalar.subi v447 v449
  let c2_i32_259 : BitVec 32 := 2#32
  let c0_i32_262 : BitVec 32 := 0#32
  let v451 : BitVec 1 := Scalar.cmpi .sgt c2_i32_259 c0_i32_262
  let v452 : BitVec 32 := Scalar.extui v451
  let c0_i32_263 : BitVec 32 := 0#32
  let v453 : BitVec 1 := Scalar.cmpi .slt c2_i32_259 c0_i32_263
  let v454 : BitVec 32 := Scalar.extui v453
  let v455 : BitVec 32 := Scalar.subi v452 v454
  let v456 : BitVec 1 := Scalar.cmpi .ne v450 v455
  let v457 : BitVec 32 := Scalar.remsi v423 c2_i32_259
  let c0_i32_264 : BitVec 32 := 0#32
  let v458 : BitVec 1 := Scalar.cmpi .ne v457 c0_i32_264
  let v459 : BitVec 1 := Scalar.andi v456 v458
  let v445 : BitVec 32 := Scalar.divsi v423 c2_i32_259
  let c1_i32_265 : BitVec 32 := 1#32
  let v460 : BitVec 32 := Scalar.subi v445 c1_i32_265
  let v461 : BitVec 32 := Scalar.select v459 v460 v445
  let v462 : BitVec 32 := Scalar.muli c8_i32_266 v461
  let c2_i32_267 : BitVec 32 := 2#32
  let v463 : BitVec 32 := Scalar.muli c2_i32_267 v46
  let v464 : BitVec 32 := Scalar.addi v462 v463
  let c2_i32_247 : BitVec 32 := 2#32
  let c0_i32_248 : BitVec 32 := 0#32
  let v424 : BitVec 1 := Scalar.cmpi .eq c2_i32_247 c0_i32_248
  let c1_i32_249 : BitVec 32 := 1#32
  let v425 : BitVec 32 := Scalar.select v424 c1_i32_249 c2_i32_247
  let v426 : BitVec 32 := Scalar.remsi v423 v425
  let c0_i32_251 : BitVec 32 := 0#32
  let v428 : BitVec 1 := Scalar.cmpi .slt v426 c0_i32_251
  let c0_i32_252 : BitVec 32 := 0#32
  let v429 : BitVec 1 := Scalar.cmpi .slt v425 c0_i32_252
  let v430 : BitVec 1 := Scalar.xori v428 v429
  let c0_i32_250 : BitVec 32 := 0#32
  let v427 : BitVec 1 := Scalar.cmpi .ne v426 c0_i32_250
  let v431 : BitVec 1 := Scalar.andi v430 v427
  let v432 : BitVec 32 := Scalar.addi v426 v425
  let v433 : BitVec 32 := Scalar.select v431 v432 v426
  let v434 : BitVec 32 := Scalar.addi v433 v46
  let c2_i32_253 : BitVec 32 := 2#32
  let c0_i32_254 : BitVec 32 := 0#32
  let v435 : BitVec 1 := Scalar.cmpi .eq c2_i32_253 c0_i32_254
  let c1_i32_255 : BitVec 32 := 1#32
  let v436 : BitVec 32 := Scalar.select v435 c1_i32_255 c2_i32_253
  let v437 : BitVec 32 := Scalar.remsi v434 v436
  let c0_i32_257 : BitVec 32 := 0#32
  let v439 : BitVec 1 := Scalar.cmpi .slt v437 c0_i32_257
  let c0_i32_258 : BitVec 32 := 0#32
  let v440 : BitVec 1 := Scalar.cmpi .slt v436 c0_i32_258
  let v441 : BitVec 1 := Scalar.xori v439 v440
  let c0_i32_256 : BitVec 32 := 0#32
  let v438 : BitVec 1 := Scalar.cmpi .ne v437 c0_i32_256
  let v442 : BitVec 1 := Scalar.andi v441 v438
  let v443 : BitVec 32 := Scalar.addi v437 v436
  let v444 : BitVec 32 := Scalar.select v442 v443 v437
  let v465 : BitVec 32 := Scalar.addi v464 v444
  let c1_i32_269 : BitVec 32 := 1#32
  let v466 : BitVec 32 := Scalar.muli v465 c1_i32_269
  let v467 : BitVec 32 := Scalar.addi c0_i32_270 v466
  v467.toNat
def k0_dev9 (d0 : Dev nD) : Nat :=
  let c0_i32_280 : BitVec 32 := 0#32
  let c8_i32_277 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v479 : BitVec 32 := Scalar.muli c8_i32_277 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v468 : BitVec 32 := Scalar.addi v29 c5_i32
  let c8_i32_271 : BitVec 32 := 8#32
  let c0_i32_272 : BitVec 32 := 0#32
  let v469 : BitVec 1 := Scalar.cmpi .eq c8_i32_271 c0_i32_272
  let c1_i32_273 : BitVec 32 := 1#32
  let v470 : BitVec 32 := Scalar.select v469 c1_i32_273 c8_i32_271
  let v471 : BitVec 32 := Scalar.remsi v468 v470
  let c0_i32_275 : BitVec 32 := 0#32
  let v473 : BitVec 1 := Scalar.cmpi .slt v471 c0_i32_275
  let c0_i32_276 : BitVec 32 := 0#32
  let v474 : BitVec 1 := Scalar.cmpi .slt v470 c0_i32_276
  let v475 : BitVec 1 := Scalar.xori v473 v474
  let c0_i32_274 : BitVec 32 := 0#32
  let v472 : BitVec 1 := Scalar.cmpi .ne v471 c0_i32_274
  let v476 : BitVec 1 := Scalar.andi v475 v472
  let v477 : BitVec 32 := Scalar.addi v471 v470
  let v478 : BitVec 32 := Scalar.select v476 v477 v471
  let v480 : BitVec 32 := Scalar.addi v479 v478
  let c1_i32_279 : BitVec 32 := 1#32
  let v481 : BitVec 32 := Scalar.muli v480 c1_i32_279
  let v482 : BitVec 32 := Scalar.addi c0_i32_280 v481
  v482.toNat
def k0_dev10 (d0 : Dev nD) : Nat :=
  let c0_i32_311 : BitVec 32 := 0#32
  let c8_i32_307 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c5_i32_281 : BitVec 32 := 5#32
  let v483 : BitVec 32 := Scalar.addi v69 c5_i32_281
  let c8_i32_282 : BitVec 32 := 8#32
  let c0_i32_283 : BitVec 32 := 0#32
  let v484 : BitVec 1 := Scalar.cmpi .eq c8_i32_282 c0_i32_283
  let c1_i32_284 : BitVec 32 := 1#32
  let v485 : BitVec 32 := Scalar.select v484 c1_i32_284 c8_i32_282
  let v486 : BitVec 32 := Scalar.remsi v483 v485
  let c0_i32_286 : BitVec 32 := 0#32
  let v488 : BitVec 1 := Scalar.cmpi .slt v486 c0_i32_286
  let c0_i32_287 : BitVec 32 := 0#32
  let v489 : BitVec 1 := Scalar.cmpi .slt v485 c0_i32_287
  let v490 : BitVec 1 := Scalar.xori v488 v489
  let c0_i32_285 : BitVec 32 := 0#32
  let v487 : BitVec 1 := Scalar.cmpi .ne v486 c0_i32_285
  let v491 : BitVec 1 := Scalar.andi v490 v487
  let v492 : BitVec 32 := Scalar.addi v486 v485
  let v493 : BitVec 32 := Scalar.select v491 v492 v486
  let c0_i32_301 : BitVec 32 := 0#32
  let v516 : BitVec 1 := Scalar.cmpi .sgt v493 c0_i32_301
  let v517 : BitVec 32 := Scalar.extui v516
  let c0_i32_302 : BitVec 32 := 0#32
  let v518 : BitVec 1 := Scalar.cmpi .slt v493 c0_i32_302
  let v519 : BitVec 32 := Scalar.extui v518
  let v520 : BitVec 32 := Scalar.subi v517 v519
  let c2_i32_300 : BitVec 32 := 2#32
  let c0_i32_303 : BitVec 32 := 0#32
  let v521 : BitVec 1 := Scalar.cmpi .sgt c2_i32_300 c0_i32_303
  let v522 : BitVec 32 := Scalar.extui v521
  let c0_i32_304 : BitVec 32 := 0#32
  let v523 : BitVec 1 := Scalar.cmpi .slt c2_i32_300 c0_i32_304
  let v524 : BitVec 32 := Scalar.extui v523
  let v525 : BitVec 32 := Scalar.subi v522 v524
  let v526 : BitVec 1 := Scalar.cmpi .ne v520 v525
  let v527 : BitVec 32 := Scalar.remsi v493 c2_i32_300
  let c0_i32_305 : BitVec 32 := 0#32
  let v528 : BitVec 1 := Scalar.cmpi .ne v527 c0_i32_305
  let v529 : BitVec 1 := Scalar.andi v526 v528
  let v515 : BitVec 32 := Scalar.divsi v493 c2_i32_300
  let c1_i32_306 : BitVec 32 := 1#32
  let v530 : BitVec 32 := Scalar.subi v515 c1_i32_306
  let v531 : BitVec 32 := Scalar.select v529 v530 v515
  let v532 : BitVec 32 := Scalar.muli c8_i32_307 v531
  let c2_i32_308 : BitVec 32 := 2#32
  let v533 : BitVec 32 := Scalar.muli c2_i32_308 v46
  let v534 : BitVec 32 := Scalar.addi v532 v533
  let c2_i32_288 : BitVec 32 := 2#32
  let c0_i32_289 : BitVec 32 := 0#32
  let v494 : BitVec 1 := Scalar.cmpi .eq c2_i32_288 c0_i32_289
  let c1_i32_290 : BitVec 32 := 1#32
  let v495 : BitVec 32 := Scalar.select v494 c1_i32_290 c2_i32_288
  let v496 : BitVec 32 := Scalar.remsi v493 v495
  let c0_i32_292 : BitVec 32 := 0#32
  let v498 : BitVec 1 := Scalar.cmpi .slt v496 c0_i32_292
  let c0_i32_293 : BitVec 32 := 0#32
  let v499 : BitVec 1 := Scalar.cmpi .slt v495 c0_i32_293
  let v500 : BitVec 1 := Scalar.xori v498 v499
  let c0_i32_291 : BitVec 32 := 0#32
  let v497 : BitVec 1 := Scalar.cmpi .ne v496 c0_i32_291
  let v501 : BitVec 1 := Scalar.andi v500 v497
  let v502 : BitVec 32 := Scalar.addi v496 v495
  let v503 : BitVec 32 := Scalar.select v501 v502 v496
  let v504 : BitVec 32 := Scalar.addi v503 v46
  let c2_i32_294 : BitVec 32 := 2#32
  let c0_i32_295 : BitVec 32 := 0#32
  let v505 : BitVec 1 := Scalar.cmpi .eq c2_i32_294 c0_i32_295
  let c1_i32_296 : BitVec 32 := 1#32
  let v506 : BitVec 32 := Scalar.select v505 c1_i32_296 c2_i32_294
  let v507 : BitVec 32 := Scalar.remsi v504 v506
  let c0_i32_298 : BitVec 32 := 0#32
  let v509 : BitVec 1 := Scalar.cmpi .slt v507 c0_i32_298
  let c0_i32_299 : BitVec 32 := 0#32
  let v510 : BitVec 1 := Scalar.cmpi .slt v506 c0_i32_299
  let v511 : BitVec 1 := Scalar.xori v509 v510
  let c0_i32_297 : BitVec 32 := 0#32
  let v508 : BitVec 1 := Scalar.cmpi .ne v507 c0_i32_297
  let v512 : BitVec 1 := Scalar.andi v511 v508
  let v513 : BitVec 32 := Scalar.addi v507 v506
  let v514 : BitVec 32 := Scalar.select v512 v513 v507
  let v535 : BitVec 32 := Scalar.addi v534 v514
  let c1_i32_310 : BitVec 32 := 1#32
  let v536 : BitVec 32 := Scalar.muli v535 c1_i32_310
  let v537 : BitVec 32 := Scalar.addi c0_i32_311 v536
  v537.toNat
def k0_dev11 (d0 : Dev nD) : Nat :=
  let c0_i32_321 : BitVec 32 := 0#32
  let c8_i32_318 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v549 : BitVec 32 := Scalar.muli c8_i32_318 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v538 : BitVec 32 := Scalar.addi v29 c6_i32
  let c8_i32_312 : BitVec 32 := 8#32
  let c0_i32_313 : BitVec 32 := 0#32
  let v539 : BitVec 1 := Scalar.cmpi .eq c8_i32_312 c0_i32_313
  let c1_i32_314 : BitVec 32 := 1#32
  let v540 : BitVec 32 := Scalar.select v539 c1_i32_314 c8_i32_312
  let v541 : BitVec 32 := Scalar.remsi v538 v540
  let c0_i32_316 : BitVec 32 := 0#32
  let v543 : BitVec 1 := Scalar.cmpi .slt v541 c0_i32_316
  let c0_i32_317 : BitVec 32 := 0#32
  let v544 : BitVec 1 := Scalar.cmpi .slt v540 c0_i32_317
  let v545 : BitVec 1 := Scalar.xori v543 v544
  let c0_i32_315 : BitVec 32 := 0#32
  let v542 : BitVec 1 := Scalar.cmpi .ne v541 c0_i32_315
  let v546 : BitVec 1 := Scalar.andi v545 v542
  let v547 : BitVec 32 := Scalar.addi v541 v540
  let v548 : BitVec 32 := Scalar.select v546 v547 v541
  let v550 : BitVec 32 := Scalar.addi v549 v548
  let c1_i32_320 : BitVec 32 := 1#32
  let v551 : BitVec 32 := Scalar.muli v550 c1_i32_320
  let v552 : BitVec 32 := Scalar.addi c0_i32_321 v551
  v552.toNat
def k0_dev12 (d0 : Dev nD) : Nat :=
  let c0_i32_352 : BitVec 32 := 0#32
  let c8_i32_348 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c6_i32_322 : BitVec 32 := 6#32
  let v553 : BitVec 32 := Scalar.addi v69 c6_i32_322
  let c8_i32_323 : BitVec 32 := 8#32
  let c0_i32_324 : BitVec 32 := 0#32
  let v554 : BitVec 1 := Scalar.cmpi .eq c8_i32_323 c0_i32_324
  let c1_i32_325 : BitVec 32 := 1#32
  let v555 : BitVec 32 := Scalar.select v554 c1_i32_325 c8_i32_323
  let v556 : BitVec 32 := Scalar.remsi v553 v555
  let c0_i32_327 : BitVec 32 := 0#32
  let v558 : BitVec 1 := Scalar.cmpi .slt v556 c0_i32_327
  let c0_i32_328 : BitVec 32 := 0#32
  let v559 : BitVec 1 := Scalar.cmpi .slt v555 c0_i32_328
  let v560 : BitVec 1 := Scalar.xori v558 v559
  let c0_i32_326 : BitVec 32 := 0#32
  let v557 : BitVec 1 := Scalar.cmpi .ne v556 c0_i32_326
  let v561 : BitVec 1 := Scalar.andi v560 v557
  let v562 : BitVec 32 := Scalar.addi v556 v555
  let v563 : BitVec 32 := Scalar.select v561 v562 v556
  let c0_i32_342 : BitVec 32 := 0#32
  let v586 : BitVec 1 := Scalar.cmpi .sgt v563 c0_i32_342
  let v587 : BitVec 32 := Scalar.extui v586
  let c0_i32_343 : BitVec 32 := 0#32
  let v588 : BitVec 1 := Scalar.cmpi .slt v563 c0_i32_343
  let v589 : BitVec 32 := Scalar.extui v588
  let v590 : BitVec 32 := Scalar.subi v587 v589
  let c2_i32_341 : BitVec 32 := 2#32
  let c0_i32_344 : BitVec 32 := 0#32
  let v591 : BitVec 1 := Scalar.cmpi .sgt c2_i32_341 c0_i32_344
  let v592 : BitVec 32 := Scalar.extui v591
  let c0_i32_345 : BitVec 32 := 0#32
  let v593 : BitVec 1 := Scalar.cmpi .slt c2_i32_341 c0_i32_345
  let v594 : BitVec 32 := Scalar.extui v593
  let v595 : BitVec 32 := Scalar.subi v592 v594
  let v596 : BitVec 1 := Scalar.cmpi .ne v590 v595
  let v597 : BitVec 32 := Scalar.remsi v563 c2_i32_341
  let c0_i32_346 : BitVec 32 := 0#32
  let v598 : BitVec 1 := Scalar.cmpi .ne v597 c0_i32_346
  let v599 : BitVec 1 := Scalar.andi v596 v598
  let v585 : BitVec 32 := Scalar.divsi v563 c2_i32_341
  let c1_i32_347 : BitVec 32 := 1#32
  let v600 : BitVec 32 := Scalar.subi v585 c1_i32_347
  let v601 : BitVec 32 := Scalar.select v599 v600 v585
  let v602 : BitVec 32 := Scalar.muli c8_i32_348 v601
  let c2_i32_349 : BitVec 32 := 2#32
  let v603 : BitVec 32 := Scalar.muli c2_i32_349 v46
  let v604 : BitVec 32 := Scalar.addi v602 v603
  let c2_i32_329 : BitVec 32 := 2#32
  let c0_i32_330 : BitVec 32 := 0#32
  let v564 : BitVec 1 := Scalar.cmpi .eq c2_i32_329 c0_i32_330
  let c1_i32_331 : BitVec 32 := 1#32
  let v565 : BitVec 32 := Scalar.select v564 c1_i32_331 c2_i32_329
  let v566 : BitVec 32 := Scalar.remsi v563 v565
  let c0_i32_333 : BitVec 32 := 0#32
  let v568 : BitVec 1 := Scalar.cmpi .slt v566 c0_i32_333
  let c0_i32_334 : BitVec 32 := 0#32
  let v569 : BitVec 1 := Scalar.cmpi .slt v565 c0_i32_334
  let v570 : BitVec 1 := Scalar.xori v568 v569
  let c0_i32_332 : BitVec 32 := 0#32
  let v567 : BitVec 1 := Scalar.cmpi .ne v566 c0_i32_332
  let v571 : BitVec 1 := Scalar.andi v570 v567
  let v572 : BitVec 32 := Scalar.addi v566 v565
  let v573 : BitVec 32 := Scalar.select v571 v572 v566
  let v574 : BitVec 32 := Scalar.addi v573 v46
  let c2_i32_335 : BitVec 32 := 2#32
  let c0_i32_336 : BitVec 32 := 0#32
  let v575 : BitVec 1 := Scalar.cmpi .eq c2_i32_335 c0_i32_336
  let c1_i32_337 : BitVec 32 := 1#32
  let v576 : BitVec 32 := Scalar.select v575 c1_i32_337 c2_i32_335
  let v577 : BitVec 32 := Scalar.remsi v574 v576
  let c0_i32_339 : BitVec 32 := 0#32
  let v579 : BitVec 1 := Scalar.cmpi .slt v577 c0_i32_339
  let c0_i32_340 : BitVec 32 := 0#32
  let v580 : BitVec 1 := Scalar.cmpi .slt v576 c0_i32_340
  let v581 : BitVec 1 := Scalar.xori v579 v580
  let c0_i32_338 : BitVec 32 := 0#32
  let v578 : BitVec 1 := Scalar.cmpi .ne v577 c0_i32_338
  let v582 : BitVec 1 := Scalar.andi v581 v578
  let v583 : BitVec 32 := Scalar.addi v577 v576
  let v584 : BitVec 32 := Scalar.select v582 v583 v577
  let v605 : BitVec 32 := Scalar.addi v604 v584
  let c1_i32_351 : BitVec 32 := 1#32
  let v606 : BitVec 32 := Scalar.muli v605 c1_i32_351
  let v607 : BitVec 32 := Scalar.addi c0_i32_352 v606
  v607.toNat
def k0_dev13 (d0 : Dev nD) : Nat :=
  let c0_i32_362 : BitVec 32 := 0#32
  let c8_i32_359 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v619 : BitVec 32 := Scalar.muli c8_i32_359 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v608 : BitVec 32 := Scalar.addi v29 c7_i32
  let c8_i32_353 : BitVec 32 := 8#32
  let c0_i32_354 : BitVec 32 := 0#32
  let v609 : BitVec 1 := Scalar.cmpi .eq c8_i32_353 c0_i32_354
  let c1_i32_355 : BitVec 32 := 1#32
  let v610 : BitVec 32 := Scalar.select v609 c1_i32_355 c8_i32_353
  let v611 : BitVec 32 := Scalar.remsi v608 v610
  let c0_i32_357 : BitVec 32 := 0#32
  let v613 : BitVec 1 := Scalar.cmpi .slt v611 c0_i32_357
  let c0_i32_358 : BitVec 32 := 0#32
  let v614 : BitVec 1 := Scalar.cmpi .slt v610 c0_i32_358
  let v615 : BitVec 1 := Scalar.xori v613 v614
  let c0_i32_356 : BitVec 32 := 0#32
  let v612 : BitVec 1 := Scalar.cmpi .ne v611 c0_i32_356
  let v616 : BitVec 1 := Scalar.andi v615 v612
  let v617 : BitVec 32 := Scalar.addi v611 v610
  let v618 : BitVec 32 := Scalar.select v616 v617 v611
  let v620 : BitVec 32 := Scalar.addi v619 v618
  let c1_i32_361 : BitVec 32 := 1#32
  let v621 : BitVec 32 := Scalar.muli v620 c1_i32_361
  let v622 : BitVec 32 := Scalar.addi c0_i32_362 v621
  v622.toNat
def k0_dev14 (d0 : Dev nD) : Nat :=
  let c0_i32_393 : BitVec 32 := 0#32
  let c8_i32_389 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c7_i32_363 : BitVec 32 := 7#32
  let v623 : BitVec 32 := Scalar.addi v69 c7_i32_363
  let c8_i32_364 : BitVec 32 := 8#32
  let c0_i32_365 : BitVec 32 := 0#32
  let v624 : BitVec 1 := Scalar.cmpi .eq c8_i32_364 c0_i32_365
  let c1_i32_366 : BitVec 32 := 1#32
  let v625 : BitVec 32 := Scalar.select v624 c1_i32_366 c8_i32_364
  let v626 : BitVec 32 := Scalar.remsi v623 v625
  let c0_i32_368 : BitVec 32 := 0#32
  let v628 : BitVec 1 := Scalar.cmpi .slt v626 c0_i32_368
  let c0_i32_369 : BitVec 32 := 0#32
  let v629 : BitVec 1 := Scalar.cmpi .slt v625 c0_i32_369
  let v630 : BitVec 1 := Scalar.xori v628 v629
  let c0_i32_367 : BitVec 32 := 0#32
  let v627 : BitVec 1 := Scalar.cmpi .ne v626 c0_i32_367
  let v631 : BitVec 1 := Scalar.andi v630 v627
  let v632 : BitVec 32 := Scalar.addi v626 v625
  let v633 : BitVec 32 := Scalar.select v631 v632 v626
  let c0_i32_383 : BitVec 32 := 0#32
  let v656 : BitVec 1 := Scalar.cmpi .sgt v633 c0_i32_383
  let v657 : BitVec 32 := Scalar.extui v656
  let c0_i32_384 : BitVec 32 := 0#32
  let v658 : BitVec 1 := Scalar.cmpi .slt v633 c0_i32_384
  let v659 : BitVec 32 := Scalar.extui v658
  let v660 : BitVec 32 := Scalar.subi v657 v659
  let c2_i32_382 : BitVec 32 := 2#32
  let c0_i32_385 : BitVec 32 := 0#32
  let v661 : BitVec 1 := Scalar.cmpi .sgt c2_i32_382 c0_i32_385
  let v662 : BitVec 32 := Scalar.extui v661
  let c0_i32_386 : BitVec 32 := 0#32
  let v663 : BitVec 1 := Scalar.cmpi .slt c2_i32_382 c0_i32_386
  let v664 : BitVec 32 := Scalar.extui v663
  let v665 : BitVec 32 := Scalar.subi v662 v664
  let v666 : BitVec 1 := Scalar.cmpi .ne v660 v665
  let v667 : BitVec 32 := Scalar.remsi v633 c2_i32_382
  let c0_i32_387 : BitVec 32 := 0#32
  let v668 : BitVec 1 := Scalar.cmpi .ne v667 c0_i32_387
  let v669 : BitVec 1 := Scalar.andi v666 v668
  let v655 : BitVec 32 := Scalar.divsi v633 c2_i32_382
  let c1_i32_388 : BitVec 32 := 1#32
  let v670 : BitVec 32 := Scalar.subi v655 c1_i32_388
  let v671 : BitVec 32 := Scalar.select v669 v670 v655
  let v672 : BitVec 32 := Scalar.muli c8_i32_389 v671
  let c2_i32_390 : BitVec 32 := 2#32
  let v673 : BitVec 32 := Scalar.muli c2_i32_390 v46
  let v674 : BitVec 32 := Scalar.addi v672 v673
  let c2_i32_370 : BitVec 32 := 2#32
  let c0_i32_371 : BitVec 32 := 0#32
  let v634 : BitVec 1 := Scalar.cmpi .eq c2_i32_370 c0_i32_371
  let c1_i32_372 : BitVec 32 := 1#32
  let v635 : BitVec 32 := Scalar.select v634 c1_i32_372 c2_i32_370
  let v636 : BitVec 32 := Scalar.remsi v633 v635
  let c0_i32_374 : BitVec 32 := 0#32
  let v638 : BitVec 1 := Scalar.cmpi .slt v636 c0_i32_374
  let c0_i32_375 : BitVec 32 := 0#32
  let v639 : BitVec 1 := Scalar.cmpi .slt v635 c0_i32_375
  let v640 : BitVec 1 := Scalar.xori v638 v639
  let c0_i32_373 : BitVec 32 := 0#32
  let v637 : BitVec 1 := Scalar.cmpi .ne v636 c0_i32_373
  let v641 : BitVec 1 := Scalar.andi v640 v637
  let v642 : BitVec 32 := Scalar.addi v636 v635
  let v643 : BitVec 32 := Scalar.select v641 v642 v636
  let v644 : BitVec 32 := Scalar.addi v643 v46
  let c2_i32_376 : BitVec 32 := 2#32
  let c0_i32_377 : BitVec 32 := 0#32
  let v645 : BitVec 1 := Scalar.cmpi .eq c2_i32_376 c0_i32_377
  let c1_i32_378 : BitVec 32 := 1#32
  let v646 : BitVec 32 := Scalar.select v645 c1_i32_378 c2_i32_376
  let v647 : BitVec 32 := Scalar.remsi v644 v646
  let c0_i32_380 : BitVec 32 := 0#32
  let v649 : BitVec 1 := Scalar.cmpi .slt v647 c0_i32_380
  let c0_i32_381 : BitVec 32 := 0#32
  let v650 : BitVec 1 := Scalar.cmpi .slt v646 c0_i32_381
  let v651 : BitVec 1 := Scalar.xori v649 v650
  let c0_i32_379 : BitVec 32 := 0#32
  let v648 : BitVec 1 := Scalar.cmpi .ne v647 c0_i32_379
  let v652 : BitVec 1 := Scalar.andi v651 v648
  let v653 : BitVec 32 := Scalar.addi v647 v646
  let v654 : BitVec 32 := Scalar.select v652 v653 v647
  let v675 : BitVec 32 := Scalar.addi v674 v654
  let c1_i32_392 : BitVec 32 := 1#32
  let v676 : BitVec 32 := Scalar.muli v675 c1_i32_392
  let v677 : BitVec 32 := Scalar.addi c0_i32_393 v676
  v677.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_51 : BitVec 32 := 0#32
  let v107 : BitVec 32 := Scalar.subi v19 c0_i32_51
  let c1_i32_52 : BitVec 32 := 1#32
  let v108 : BitVec 32 := Scalar.subi v107 c1_i32_52
  let c4_i32_53 : BitVec 32 := 4#32
  let c0_i32_54 : BitVec 32 := 0#32
  let v109 : BitVec 1 := Scalar.cmpi .eq c4_i32_53 c0_i32_54
  let c1_i32_55 : BitVec 32 := 1#32
  let v110 : BitVec 32 := Scalar.select v109 c1_i32_55 c4_i32_53
  let v111 : BitVec 32 := Scalar.remsi v108 v110
  let c0_i32_57 : BitVec 32 := 0#32
  let v113 : BitVec 1 := Scalar.cmpi .slt v111 c0_i32_57
  let c0_i32_58 : BitVec 32 := 0#32
  let v114 : BitVec 1 := Scalar.cmpi .slt v110 c0_i32_58
  let v115 : BitVec 1 := Scalar.xori v113 v114
  let c0_i32_56 : BitVec 32 := 0#32
  let v112 : BitVec 1 := Scalar.cmpi .ne v111 c0_i32_56
  let v116 : BitVec 1 := Scalar.andi v115 v112
  let v117 : BitVec 32 := Scalar.addi v111 v110
  let v118 : BitVec 32 := Scalar.select v116 v117 v111
  let c256_i32 : BitVec 32 := 256#32
  let v678 : BitVec 32 := Scalar.muli v118 c256_i32
  let c0_i32_401 : BitVec 32 := 0#32
  ![v678.toNat, 0]
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_397 : BitVec 32 := 1#32
  let v679 : BitVec 32 := Scalar.muli v80 c1_i32_397
  let v680 : BitVec 32 := Scalar.addi c0_i32_398 v679
  v680.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_51 : BitVec 32 := 0#32
  let v107 : BitVec 32 := Scalar.subi v19 c0_i32_51
  let c1_i32_52 : BitVec 32 := 1#32
  let v108 : BitVec 32 := Scalar.subi v107 c1_i32_52
  let c4_i32_53 : BitVec 32 := 4#32
  let c0_i32_54 : BitVec 32 := 0#32
  let v109 : BitVec 1 := Scalar.cmpi .eq c4_i32_53 c0_i32_54
  let c1_i32_55 : BitVec 32 := 1#32
  let v110 : BitVec 32 := Scalar.select v109 c1_i32_55 c4_i32_53
  let v111 : BitVec 32 := Scalar.remsi v108 v110
  let c0_i32_57 : BitVec 32 := 0#32
  let v113 : BitVec 1 := Scalar.cmpi .slt v111 c0_i32_57
  let c0_i32_58 : BitVec 32 := 0#32
  let v114 : BitVec 1 := Scalar.cmpi .slt v110 c0_i32_58
  let v115 : BitVec 1 := Scalar.xori v113 v114
  let c0_i32_56 : BitVec 32 := 0#32
  let v112 : BitVec 1 := Scalar.cmpi .ne v111 c0_i32_56
  let v116 : BitVec 1 := Scalar.andi v115 v112
  let v117 : BitVec 32 := Scalar.addi v111 v110
  let v118 : BitVec 32 := Scalar.select v116 v117 v111
  let c256_i32_402 : BitVec 32 := 256#32
  let v688 : BitVec 32 := Scalar.muli v118 c256_i32_402
  let c256_i32_410 : BitVec 32 := 256#32
  ![v688.toNat, 256]
def k0_dev16 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_406 : BitVec 32 := 1#32
  let v689 : BitVec 32 := Scalar.muli v80 c1_i32_406
  let v690 : BitVec 32 := Scalar.addi c0_i32_407 v689
  v690.toNat
def k0_off3 (d0 : Dev nD) (c0_i32_417 : BitVec 32) : Fin 2 → Nat :=
  let c64_i32 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_75 : BitVec 32 := 0#32
  let v143 : BitVec 32 := Scalar.subi v46 c0_i32_75
  let c1_i32_76 : BitVec 32 := 1#32
  let v144 : BitVec 32 := Scalar.subi v143 c1_i32_76
  let c4_i32_77 : BitVec 32 := 4#32
  let c0_i32_78 : BitVec 32 := 0#32
  let v145 : BitVec 1 := Scalar.cmpi .eq c4_i32_77 c0_i32_78
  let c1_i32_79 : BitVec 32 := 1#32
  let v146 : BitVec 32 := Scalar.select v145 c1_i32_79 c4_i32_77
  let v147 : BitVec 32 := Scalar.remsi v144 v146
  let c0_i32_81 : BitVec 32 := 0#32
  let v149 : BitVec 1 := Scalar.cmpi .slt v147 c0_i32_81
  let c0_i32_82 : BitVec 32 := 0#32
  let v150 : BitVec 1 := Scalar.cmpi .slt v146 c0_i32_82
  let v151 : BitVec 1 := Scalar.xori v149 v150
  let c0_i32_80 : BitVec 32 := 0#32
  let v148 : BitVec 1 := Scalar.cmpi .ne v147 c0_i32_80
  let v152 : BitVec 1 := Scalar.andi v151 v148
  let v153 : BitVec 32 := Scalar.addi v147 v146
  let v154 : BitVec 32 := Scalar.select v152 v153 v147
  let v706 : BitVec 32 := Scalar.muli c64_i32 v154
  let v707 : BitVec 32 := Scalar.addi c0_i32_417 v706
  let c512_i32 : BitVec 32 := 512#32
  ![v707.toNat, 512]
def k0_dev17 (d0 : Dev nD) : Nat :=
  let c0_i32_422 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_421 : BitVec 32 := 1#32
  let v708 : BitVec 32 := Scalar.muli v106 c1_i32_421
  let v709 : BitVec 32 := Scalar.addi c0_i32_422 v708
  v709.toNat
def k0_dev18 (d0 : Dev nD) : Nat :=
  let c0_i32_431 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_430 : BitVec 32 := 1#32
  let v719 : BitVec 32 := Scalar.muli v106 c1_i32_430
  let v720 : BitVec 32 := Scalar.addi c0_i32_431 v719
  v720.toNat
def k0_dev19 (d0 : Dev nD) : Nat :=
  let c0_i32_441 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_440 : BitVec 32 := 1#32
  let v730 : BitVec 32 := Scalar.muli v106 c1_i32_440
  let v731 : BitVec 32 := Scalar.addi c0_i32_441 v730
  v731.toNat
def k0_dev20 (d0 : Dev nD) : Nat :=
  let c0_i32_449 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_448 : BitVec 32 := 1#32
  let v741 : BitVec 32 := Scalar.muli v106 c1_i32_448
  let v742 : BitVec 32 := Scalar.addi c0_i32_449 v741
  v742.toNat
def k0_off4 (d0 : Dev nD) (c1_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v119 : BitVec 32 := Scalar.subi v19 c1_i32_59
  let c1_i32_60 : BitVec 32 := 1#32
  let v120 : BitVec 32 := Scalar.subi v119 c1_i32_60
  let c4_i32_61 : BitVec 32 := 4#32
  let c0_i32_62 : BitVec 32 := 0#32
  let v121 : BitVec 1 := Scalar.cmpi .eq c4_i32_61 c0_i32_62
  let c1_i32_63 : BitVec 32 := 1#32
  let v122 : BitVec 32 := Scalar.select v121 c1_i32_63 c4_i32_61
  let v123 : BitVec 32 := Scalar.remsi v120 v122
  let c0_i32_65 : BitVec 32 := 0#32
  let v125 : BitVec 1 := Scalar.cmpi .slt v123 c0_i32_65
  let c0_i32_66 : BitVec 32 := 0#32
  let v126 : BitVec 1 := Scalar.cmpi .slt v122 c0_i32_66
  let v127 : BitVec 1 := Scalar.xori v125 v126
  let c0_i32_64 : BitVec 32 := 0#32
  let v124 : BitVec 1 := Scalar.cmpi .ne v123 c0_i32_64
  let v128 : BitVec 1 := Scalar.andi v127 v124
  let v129 : BitVec 32 := Scalar.addi v123 v122
  let v130 : BitVec 32 := Scalar.select v128 v129 v123
  let c256_i32_470 : BitVec 32 := 256#32
  let v764 : BitVec 32 := Scalar.muli v130 c256_i32_470
  let v765 : Index := Scalar.indexCast v764
  let c0_471 : Index := 0#32
  ![v765.toNat, 0]
def k0_dev21 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_479 : BitVec 32 := 1#32
  let v771 : BitVec 32 := Scalar.muli v80 c1_i32_479
  let v772 : BitVec 32 := Scalar.addi c0_i32_480 v771
  v772.toNat
def k0_off5 (d0 : Dev nD) (c1_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v119 : BitVec 32 := Scalar.subi v19 c1_i32_59
  let c1_i32_60 : BitVec 32 := 1#32
  let v120 : BitVec 32 := Scalar.subi v119 c1_i32_60
  let c4_i32_61 : BitVec 32 := 4#32
  let c0_i32_62 : BitVec 32 := 0#32
  let v121 : BitVec 1 := Scalar.cmpi .eq c4_i32_61 c0_i32_62
  let c1_i32_63 : BitVec 32 := 1#32
  let v122 : BitVec 32 := Scalar.select v121 c1_i32_63 c4_i32_61
  let v123 : BitVec 32 := Scalar.remsi v120 v122
  let c0_i32_65 : BitVec 32 := 0#32
  let v125 : BitVec 1 := Scalar.cmpi .slt v123 c0_i32_65
  let c0_i32_66 : BitVec 32 := 0#32
  let v126 : BitVec 1 := Scalar.cmpi .slt v122 c0_i32_66
  let v127 : BitVec 1 := Scalar.xori v125 v126
  let c0_i32_64 : BitVec 32 := 0#32
  let v124 : BitVec 1 := Scalar.cmpi .ne v123 c0_i32_64
  let v128 : BitVec 1 := Scalar.andi v127 v124
  let v129 : BitVec 32 := Scalar.addi v123 v122
  let v130 : BitVec 32 := Scalar.select v128 v129 v123
  let c256_i32_502 : BitVec 32 := 256#32
  let v795 : BitVec 32 := Scalar.muli v130 c256_i32_502
  let v796 : Index := Scalar.indexCast v795
  let c256_503 : Index := 256#32
  ![v796.toNat, 256]
def k0_dev22 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_511 : BitVec 32 := 1#32
  let v802 : BitVec 32 := Scalar.muli v80 c1_i32_511
  let v803 : BitVec 32 := Scalar.addi c0_i32_512 v802
  v803.toNat
def k0_off6 (d0 : Dev nD) (c0_i32_536 : BitVec 32) (c1_i32_83 : BitVec 32) : Fin 2 → Nat :=
  let c64_i32_535 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v155 : BitVec 32 := Scalar.subi v46 c1_i32_83
  let c1_i32_84 : BitVec 32 := 1#32
  let v156 : BitVec 32 := Scalar.subi v155 c1_i32_84
  let c4_i32_85 : BitVec 32 := 4#32
  let c0_i32_86 : BitVec 32 := 0#32
  let v157 : BitVec 1 := Scalar.cmpi .eq c4_i32_85 c0_i32_86
  let c1_i32_87 : BitVec 32 := 1#32
  let v158 : BitVec 32 := Scalar.select v157 c1_i32_87 c4_i32_85
  let v159 : BitVec 32 := Scalar.remsi v156 v158
  let c0_i32_89 : BitVec 32 := 0#32
  let v161 : BitVec 1 := Scalar.cmpi .slt v159 c0_i32_89
  let c0_i32_90 : BitVec 32 := 0#32
  let v162 : BitVec 1 := Scalar.cmpi .slt v158 c0_i32_90
  let v163 : BitVec 1 := Scalar.xori v161 v162
  let c0_i32_88 : BitVec 32 := 0#32
  let v160 : BitVec 1 := Scalar.cmpi .ne v159 c0_i32_88
  let v164 : BitVec 1 := Scalar.andi v163 v160
  let v165 : BitVec 32 := Scalar.addi v159 v158
  let v166 : BitVec 32 := Scalar.select v164 v165 v159
  let v826 : BitVec 32 := Scalar.muli c64_i32_535 v166
  let v827 : BitVec 32 := Scalar.addi c0_i32_536 v826
  let v828 : Index := Scalar.indexCast v827
  let c512_537 : Index := 512#32
  ![v828.toNat, 512]
def k0_dev23 (d0 : Dev nD) : Nat :=
  let c0_i32_546 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_545 : BitVec 32 := 1#32
  let v834 : BitVec 32 := Scalar.muli v106 c1_i32_545
  let v835 : BitVec 32 := Scalar.addi c0_i32_546 v834
  v835.toNat
def k0_dev24 (d0 : Dev nD) : Nat :=
  let c0_i32_579 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_578 : BitVec 32 := 1#32
  let v866 : BitVec 32 := Scalar.muli v106 c1_i32_578
  let v867 : BitVec 32 := Scalar.addi c0_i32_579 v866
  v867.toNat
def k0_dev25 (d0 : Dev nD) : Nat :=
  let c0_i32_612 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_611 : BitVec 32 := 1#32
  let v898 : BitVec 32 := Scalar.muli v106 c1_i32_611
  let v899 : BitVec 32 := Scalar.addi c0_i32_612 v898
  v899.toNat
def k0_dev26 (d0 : Dev nD) : Nat :=
  let c0_i32_645 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_644 : BitVec 32 := 1#32
  let v930 : BitVec 32 := Scalar.muli v106 c1_i32_644
  let v931 : BitVec 32 := Scalar.addi c0_i32_645 v930
  v931.toNat
def k0_dev27 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_680 : BitVec 32 := 1#32
  let v963 : BitVec 32 := Scalar.muli v80 c1_i32_680
  let v964 : BitVec 32 := Scalar.addi c0_i32_681 v963
  v964.toNat
def k0_dev28 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v70 : BitVec 32 := Scalar.addi v2 c8_i32_30
  let c32_i32_31 : BitVec 32 := 32#32
  let c0_i32_32 : BitVec 32 := 0#32
  let v71 : BitVec 1 := Scalar.cmpi .eq c32_i32_31 c0_i32_32
  let c1_i32_33 : BitVec 32 := 1#32
  let v72 : BitVec 32 := Scalar.select v71 c1_i32_33 c32_i32_31
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_717 : BitVec 32 := 1#32
  let v996 : BitVec 32 := Scalar.muli v80 c1_i32_717
  let v997 : BitVec 32 := Scalar.addi c0_i32_718 v996
  v997.toNat
def k0_dev29 (d0 : Dev nD) : Nat :=
  let c0_i32_756 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_755 : BitVec 32 := 1#32
  let v1030 : BitVec 32 := Scalar.muli v106 c1_i32_755
  let v1031 : BitVec 32 := Scalar.addi c0_i32_756 v1030
  v1031.toNat
def k0_dev30 (d0 : Dev nD) : Nat :=
  let c0_i32_793 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_792 : BitVec 32 := 1#32
  let v1064 : BitVec 32 := Scalar.muli v106 c1_i32_792
  let v1065 : BitVec 32 := Scalar.addi c0_i32_793 v1064
  v1065.toNat
def k0_dev31 (d0 : Dev nD) : Nat :=
  let c0_i32_830 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_829 : BitVec 32 := 1#32
  let v1098 : BitVec 32 := Scalar.muli v106 c1_i32_829
  let v1099 : BitVec 32 := Scalar.addi c0_i32_830 v1098
  v1099.toNat
def k0_dev32 (d0 : Dev nD) : Nat :=
  let c0_i32_867 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v92 : BitVec 32 := Scalar.muli c8_i32_43 v19
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_37 : BitVec 32 := 1#32
  let v81 : BitVec 32 := Scalar.addi v46 c1_i32_37
  let c4_i32 : BitVec 32 := 4#32
  let c0_i32_38 : BitVec 32 := 0#32
  let v82 : BitVec 1 := Scalar.cmpi .eq c4_i32 c0_i32_38
  let c1_i32_39 : BitVec 32 := 1#32
  let v83 : BitVec 32 := Scalar.select v82 c1_i32_39 c4_i32
  let v84 : BitVec 32 := Scalar.remsi v81 v83
  let c0_i32_41 : BitVec 32 := 0#32
  let v86 : BitVec 1 := Scalar.cmpi .slt v84 c0_i32_41
  let c0_i32_42 : BitVec 32 := 0#32
  let v87 : BitVec 1 := Scalar.cmpi .slt v83 c0_i32_42
  let v88 : BitVec 1 := Scalar.xori v86 v87
  let c0_i32_40 : BitVec 32 := 0#32
  let v85 : BitVec 1 := Scalar.cmpi .ne v84 c0_i32_40
  let v89 : BitVec 1 := Scalar.andi v88 v85
  let v90 : BitVec 32 := Scalar.addi v84 v83
  let v91 : BitVec 32 := Scalar.select v89 v90 v84
  let v93 : BitVec 32 := Scalar.muli c2_i32_44 v91
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v91
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_866 : BitVec 32 := 1#32
  let v1132 : BitVec 32 := Scalar.muli v106 c1_i32_866
  let v1133 : BitVec 32 := Scalar.addi c0_i32_867 v1132
  v1133.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_893 : BitVec 32 := 256#32
  let v1158 : BitVec 32 := Scalar.muli v19 c256_i32_893
  let v1159 : Index := Scalar.indexCast v1158
  let c0_894 : Index := 0#32
  ![v1159.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_920 : BitVec 32 := 256#32
  let v1181 : BitVec 32 := Scalar.muli v19 c256_i32_920
  let v1182 : Index := Scalar.indexCast v1181
  let c256_921 : Index := 256#32
  ![v1182.toNat, 256]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off10 (d0 : Dev nD) : Fin 2 → Nat :=
  let c32_i32_933 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1200 : BitVec 32 := Scalar.muli c32_i32_933 v29
  let c0_i32_946 : BitVec 32 := 0#32
  ![v1200.toNat, 0]
def k0_off11 (d0 : Dev nD) (c1_i32_925 : BitVec 32) : Fin 3 → Nat :=
  let c2_i32_942 : BitVec 32 := 2#32
  let c32_i32_932 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1188 : BitVec 32 := Scalar.addi v29 c1_i32_925
  let c8_i32_926 : BitVec 32 := 8#32
  let c0_i32_927 : BitVec 32 := 0#32
  let v1189 : BitVec 1 := Scalar.cmpi .eq c8_i32_926 c0_i32_927
  let c1_i32_928 : BitVec 32 := 1#32
  let v1190 : BitVec 32 := Scalar.select v1189 c1_i32_928 c8_i32_926
  let v1191 : BitVec 32 := Scalar.remsi v1188 v1190
  let c0_i32_930 : BitVec 32 := 0#32
  let v1193 : BitVec 1 := Scalar.cmpi .slt v1191 c0_i32_930
  let c0_i32_931 : BitVec 32 := 0#32
  let v1194 : BitVec 1 := Scalar.cmpi .slt v1190 c0_i32_931
  let v1195 : BitVec 1 := Scalar.xori v1193 v1194
  let c0_i32_929 : BitVec 32 := 0#32
  let v1192 : BitVec 1 := Scalar.cmpi .ne v1191 c0_i32_929
  let v1196 : BitVec 1 := Scalar.andi v1195 v1192
  let v1197 : BitVec 32 := Scalar.addi v1191 v1190
  let v1198 : BitVec 32 := Scalar.select v1196 v1197 v1191
  let v1199 : BitVec 32 := Scalar.muli c32_i32_932 v1198
  let c0_i32_947 : BitVec 32 := 0#32
  ![2, v1199.toNat, 0]
def k0_dev33 (d0 : Dev nD) : Nat :=
  let c0_i32_945 : BitVec 32 := 0#32
  let c8_i32_934 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1201 : BitVec 32 := Scalar.muli c8_i32_934 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_935 : BitVec 32 := 1#32
  let v1202 : BitVec 32 := Scalar.addi v29 c1_i32_935
  let c8_i32_936 : BitVec 32 := 8#32
  let c0_i32_937 : BitVec 32 := 0#32
  let v1203 : BitVec 1 := Scalar.cmpi .eq c8_i32_936 c0_i32_937
  let c1_i32_938 : BitVec 32 := 1#32
  let v1204 : BitVec 32 := Scalar.select v1203 c1_i32_938 c8_i32_936
  let v1205 : BitVec 32 := Scalar.remsi v1202 v1204
  let c0_i32_940 : BitVec 32 := 0#32
  let v1207 : BitVec 1 := Scalar.cmpi .slt v1205 c0_i32_940
  let c0_i32_941 : BitVec 32 := 0#32
  let v1208 : BitVec 1 := Scalar.cmpi .slt v1204 c0_i32_941
  let v1209 : BitVec 1 := Scalar.xori v1207 v1208
  let c0_i32_939 : BitVec 32 := 0#32
  let v1206 : BitVec 1 := Scalar.cmpi .ne v1205 c0_i32_939
  let v1210 : BitVec 1 := Scalar.andi v1209 v1206
  let v1211 : BitVec 32 := Scalar.addi v1205 v1204
  let v1212 : BitVec 32 := Scalar.select v1210 v1211 v1205
  let v1213 : BitVec 32 := Scalar.addi v1201 v1212
  let c1_i32_944 : BitVec 32 := 1#32
  let v1214 : BitVec 32 := Scalar.muli v1213 c1_i32_944
  let v1215 : BitVec 32 := Scalar.addi c0_i32_945 v1214
  v1215.toNat
def k0_dev34 (d0 : Dev nD) : Nat :=
  let c0_i32_968 : BitVec 32 := 0#32
  let c8_i32_957 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1236 : BitVec 32 := Scalar.muli c8_i32_957 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_958 : BitVec 32 := 2#32
  let v1237 : BitVec 32 := Scalar.addi v29 c2_i32_958
  let c8_i32_959 : BitVec 32 := 8#32
  let c0_i32_960 : BitVec 32 := 0#32
  let v1238 : BitVec 1 := Scalar.cmpi .eq c8_i32_959 c0_i32_960
  let c1_i32_961 : BitVec 32 := 1#32
  let v1239 : BitVec 32 := Scalar.select v1238 c1_i32_961 c8_i32_959
  let v1240 : BitVec 32 := Scalar.remsi v1237 v1239
  let c0_i32_963 : BitVec 32 := 0#32
  let v1242 : BitVec 1 := Scalar.cmpi .slt v1240 c0_i32_963
  let c0_i32_964 : BitVec 32 := 0#32
  let v1243 : BitVec 1 := Scalar.cmpi .slt v1239 c0_i32_964
  let v1244 : BitVec 1 := Scalar.xori v1242 v1243
  let c0_i32_962 : BitVec 32 := 0#32
  let v1241 : BitVec 1 := Scalar.cmpi .ne v1240 c0_i32_962
  let v1245 : BitVec 1 := Scalar.andi v1244 v1241
  let v1246 : BitVec 32 := Scalar.addi v1240 v1239
  let v1247 : BitVec 32 := Scalar.select v1245 v1246 v1240
  let v1248 : BitVec 32 := Scalar.addi v1236 v1247
  let c1_i32_967 : BitVec 32 := 1#32
  let v1249 : BitVec 32 := Scalar.muli v1248 c1_i32_967
  let v1250 : BitVec 32 := Scalar.addi c0_i32_968 v1249
  v1250.toNat
def k0_dev35 (d0 : Dev nD) : Nat :=
  let c0_i32_991 : BitVec 32 := 0#32
  let c8_i32_980 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1271 : BitVec 32 := Scalar.muli c8_i32_980 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_981 : BitVec 32 := 3#32
  let v1272 : BitVec 32 := Scalar.addi v29 c3_i32_981
  let c8_i32_982 : BitVec 32 := 8#32
  let c0_i32_983 : BitVec 32 := 0#32
  let v1273 : BitVec 1 := Scalar.cmpi .eq c8_i32_982 c0_i32_983
  let c1_i32_984 : BitVec 32 := 1#32
  let v1274 : BitVec 32 := Scalar.select v1273 c1_i32_984 c8_i32_982
  let v1275 : BitVec 32 := Scalar.remsi v1272 v1274
  let c0_i32_986 : BitVec 32 := 0#32
  let v1277 : BitVec 1 := Scalar.cmpi .slt v1275 c0_i32_986
  let c0_i32_987 : BitVec 32 := 0#32
  let v1278 : BitVec 1 := Scalar.cmpi .slt v1274 c0_i32_987
  let v1279 : BitVec 1 := Scalar.xori v1277 v1278
  let c0_i32_985 : BitVec 32 := 0#32
  let v1276 : BitVec 1 := Scalar.cmpi .ne v1275 c0_i32_985
  let v1280 : BitVec 1 := Scalar.andi v1279 v1276
  let v1281 : BitVec 32 := Scalar.addi v1275 v1274
  let v1282 : BitVec 32 := Scalar.select v1280 v1281 v1275
  let v1283 : BitVec 32 := Scalar.addi v1271 v1282
  let c1_i32_990 : BitVec 32 := 1#32
  let v1284 : BitVec 32 := Scalar.muli v1283 c1_i32_990
  let v1285 : BitVec 32 := Scalar.addi c0_i32_991 v1284
  v1285.toNat
def k0_dev36 (d0 : Dev nD) : Nat :=
  let c0_i32_1014 : BitVec 32 := 0#32
  let c8_i32_1003 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1306 : BitVec 32 := Scalar.muli c8_i32_1003 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_1004 : BitVec 32 := 4#32
  let v1307 : BitVec 32 := Scalar.addi v29 c4_i32_1004
  let c8_i32_1005 : BitVec 32 := 8#32
  let c0_i32_1006 : BitVec 32 := 0#32
  let v1308 : BitVec 1 := Scalar.cmpi .eq c8_i32_1005 c0_i32_1006
  let c1_i32_1007 : BitVec 32 := 1#32
  let v1309 : BitVec 32 := Scalar.select v1308 c1_i32_1007 c8_i32_1005
  let v1310 : BitVec 32 := Scalar.remsi v1307 v1309
  let c0_i32_1009 : BitVec 32 := 0#32
  let v1312 : BitVec 1 := Scalar.cmpi .slt v1310 c0_i32_1009
  let c0_i32_1010 : BitVec 32 := 0#32
  let v1313 : BitVec 1 := Scalar.cmpi .slt v1309 c0_i32_1010
  let v1314 : BitVec 1 := Scalar.xori v1312 v1313
  let c0_i32_1008 : BitVec 32 := 0#32
  let v1311 : BitVec 1 := Scalar.cmpi .ne v1310 c0_i32_1008
  let v1315 : BitVec 1 := Scalar.andi v1314 v1311
  let v1316 : BitVec 32 := Scalar.addi v1310 v1309
  let v1317 : BitVec 32 := Scalar.select v1315 v1316 v1310
  let v1318 : BitVec 32 := Scalar.addi v1306 v1317
  let c1_i32_1013 : BitVec 32 := 1#32
  let v1319 : BitVec 32 := Scalar.muli v1318 c1_i32_1013
  let v1320 : BitVec 32 := Scalar.addi c0_i32_1014 v1319
  v1320.toNat
def k0_dev37 (d0 : Dev nD) : Nat :=
  let c0_i32_1037 : BitVec 32 := 0#32
  let c8_i32_1026 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1341 : BitVec 32 := Scalar.muli c8_i32_1026 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_1027 : BitVec 32 := 5#32
  let v1342 : BitVec 32 := Scalar.addi v29 c5_i32_1027
  let c8_i32_1028 : BitVec 32 := 8#32
  let c0_i32_1029 : BitVec 32 := 0#32
  let v1343 : BitVec 1 := Scalar.cmpi .eq c8_i32_1028 c0_i32_1029
  let c1_i32_1030 : BitVec 32 := 1#32
  let v1344 : BitVec 32 := Scalar.select v1343 c1_i32_1030 c8_i32_1028
  let v1345 : BitVec 32 := Scalar.remsi v1342 v1344
  let c0_i32_1032 : BitVec 32 := 0#32
  let v1347 : BitVec 1 := Scalar.cmpi .slt v1345 c0_i32_1032
  let c0_i32_1033 : BitVec 32 := 0#32
  let v1348 : BitVec 1 := Scalar.cmpi .slt v1344 c0_i32_1033
  let v1349 : BitVec 1 := Scalar.xori v1347 v1348
  let c0_i32_1031 : BitVec 32 := 0#32
  let v1346 : BitVec 1 := Scalar.cmpi .ne v1345 c0_i32_1031
  let v1350 : BitVec 1 := Scalar.andi v1349 v1346
  let v1351 : BitVec 32 := Scalar.addi v1345 v1344
  let v1352 : BitVec 32 := Scalar.select v1350 v1351 v1345
  let v1353 : BitVec 32 := Scalar.addi v1341 v1352
  let c1_i32_1036 : BitVec 32 := 1#32
  let v1354 : BitVec 32 := Scalar.muli v1353 c1_i32_1036
  let v1355 : BitVec 32 := Scalar.addi c0_i32_1037 v1354
  v1355.toNat
def k0_dev38 (d0 : Dev nD) : Nat :=
  let c0_i32_1060 : BitVec 32 := 0#32
  let c8_i32_1049 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1376 : BitVec 32 := Scalar.muli c8_i32_1049 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_1050 : BitVec 32 := 6#32
  let v1377 : BitVec 32 := Scalar.addi v29 c6_i32_1050
  let c8_i32_1051 : BitVec 32 := 8#32
  let c0_i32_1052 : BitVec 32 := 0#32
  let v1378 : BitVec 1 := Scalar.cmpi .eq c8_i32_1051 c0_i32_1052
  let c1_i32_1053 : BitVec 32 := 1#32
  let v1379 : BitVec 32 := Scalar.select v1378 c1_i32_1053 c8_i32_1051
  let v1380 : BitVec 32 := Scalar.remsi v1377 v1379
  let c0_i32_1055 : BitVec 32 := 0#32
  let v1382 : BitVec 1 := Scalar.cmpi .slt v1380 c0_i32_1055
  let c0_i32_1056 : BitVec 32 := 0#32
  let v1383 : BitVec 1 := Scalar.cmpi .slt v1379 c0_i32_1056
  let v1384 : BitVec 1 := Scalar.xori v1382 v1383
  let c0_i32_1054 : BitVec 32 := 0#32
  let v1381 : BitVec 1 := Scalar.cmpi .ne v1380 c0_i32_1054
  let v1385 : BitVec 1 := Scalar.andi v1384 v1381
  let v1386 : BitVec 32 := Scalar.addi v1380 v1379
  let v1387 : BitVec 32 := Scalar.select v1385 v1386 v1380
  let v1388 : BitVec 32 := Scalar.addi v1376 v1387
  let c1_i32_1059 : BitVec 32 := 1#32
  let v1389 : BitVec 32 := Scalar.muli v1388 c1_i32_1059
  let v1390 : BitVec 32 := Scalar.addi c0_i32_1060 v1389
  v1390.toNat
def k0_dev39 (d0 : Dev nD) : Nat :=
  let c0_i32_1083 : BitVec 32 := 0#32
  let c8_i32_1072 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1411 : BitVec 32 := Scalar.muli c8_i32_1072 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_1073 : BitVec 32 := 7#32
  let v1412 : BitVec 32 := Scalar.addi v29 c7_i32_1073
  let c8_i32_1074 : BitVec 32 := 8#32
  let c0_i32_1075 : BitVec 32 := 0#32
  let v1413 : BitVec 1 := Scalar.cmpi .eq c8_i32_1074 c0_i32_1075
  let c1_i32_1076 : BitVec 32 := 1#32
  let v1414 : BitVec 32 := Scalar.select v1413 c1_i32_1076 c8_i32_1074
  let v1415 : BitVec 32 := Scalar.remsi v1412 v1414
  let c0_i32_1078 : BitVec 32 := 0#32
  let v1417 : BitVec 1 := Scalar.cmpi .slt v1415 c0_i32_1078
  let c0_i32_1079 : BitVec 32 := 0#32
  let v1418 : BitVec 1 := Scalar.cmpi .slt v1414 c0_i32_1079
  let v1419 : BitVec 1 := Scalar.xori v1417 v1418
  let c0_i32_1077 : BitVec 32 := 0#32
  let v1416 : BitVec 1 := Scalar.cmpi .ne v1415 c0_i32_1077
  let v1420 : BitVec 1 := Scalar.andi v1419 v1416
  let v1421 : BitVec 32 := Scalar.addi v1415 v1414
  let v1422 : BitVec 32 := Scalar.select v1420 v1421 v1415
  let v1423 : BitVec 32 := Scalar.addi v1411 v1422
  let c1_i32_1082 : BitVec 32 := 1#32
  let v1424 : BitVec 32 := Scalar.muli v1423 c1_i32_1082
  let v1425 : BitVec 32 := Scalar.addi c0_i32_1083 v1424
  v1425.toNat
def k0_off12 (d0 : Dev nD) : Fin 3 → Nat :=
  let c2_1087 : Index := 2#32
  let c32_i32_1086 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1433 : BitVec 32 := Scalar.muli c32_i32_1086 v29
  let v1434 : Index := Scalar.indexCast v1433
  let c0_1088 : Index := 0#32
  ![2, v1434.toNat, 0]
def k0_off13 (d0 : Dev nD) : Fin 2 → Nat :=
  let c32_i32_1089 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1437 : BitVec 32 := Scalar.muli c32_i32_1089 v29
  let v1438 : Index := Scalar.indexCast v1437
  let c0_1090 : Index := 0#32
  ![v1438.toNat, 0]
def k0_off14 (d0 : Dev nD) (c0_i32_1114 : BitVec 32) : Fin 2 → Nat :=
  let c64_i32_1113 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1458 : BitVec 32 := Scalar.muli c64_i32_1113 v46
  let v1459 : BitVec 32 := Scalar.addi c0_i32_1114 v1458
  let v1460 : Index := Scalar.indexCast v1459
  let c512_1115 : Index := 512#32
  ![v1460.toNat, 512]
def k0_off15 (d0 : Dev nD) : Fin 1 → Nat :=
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  ![v69.toNat]
def k0_off16 (d0 : Dev nD) : Fin 2 → Nat :=
  let c32_i32_1231 : BitVec 32 := 32#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let v1590 : BitVec 32 := Scalar.muli c32_i32_1231 v69
  let c0_i32_1238 : BitVec 32 := 0#32
  ![v1590.toNat, 0]
def k0_off17 (d0 : Dev nD) (c1_i32_1203 : BitVec 32) : Fin 3 → Nat :=
  let c2_i32_1234 : BitVec 32 := 2#32
  let c64_i32_1229 : BitVec 32 := 64#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let v1538 : BitVec 32 := Scalar.addi v69 c1_i32_1203
  let c8_i32_1204 : BitVec 32 := 8#32
  let c0_i32_1205 : BitVec 32 := 0#32
  let v1539 : BitVec 1 := Scalar.cmpi .eq c8_i32_1204 c0_i32_1205
  let c1_i32_1206 : BitVec 32 := 1#32
  let v1540 : BitVec 32 := Scalar.select v1539 c1_i32_1206 c8_i32_1204
  let v1541 : BitVec 32 := Scalar.remsi v1538 v1540
  let c0_i32_1208 : BitVec 32 := 0#32
  let v1543 : BitVec 1 := Scalar.cmpi .slt v1541 c0_i32_1208
  let c0_i32_1209 : BitVec 32 := 0#32
  let v1544 : BitVec 1 := Scalar.cmpi .slt v1540 c0_i32_1209
  let v1545 : BitVec 1 := Scalar.xori v1543 v1544
  let c0_i32_1207 : BitVec 32 := 0#32
  let v1542 : BitVec 1 := Scalar.cmpi .ne v1541 c0_i32_1207
  let v1546 : BitVec 1 := Scalar.andi v1545 v1542
  let v1547 : BitVec 32 := Scalar.addi v1541 v1540
  let v1548 : BitVec 32 := Scalar.select v1546 v1547 v1541
  let c0_i32_1211 : BitVec 32 := 0#32
  let v1550 : BitVec 1 := Scalar.cmpi .sgt v1548 c0_i32_1211
  let v1551 : BitVec 32 := Scalar.extui v1550
  let c0_i32_1212 : BitVec 32 := 0#32
  let v1552 : BitVec 1 := Scalar.cmpi .slt v1548 c0_i32_1212
  let v1553 : BitVec 32 := Scalar.extui v1552
  let v1554 : BitVec 32 := Scalar.subi v1551 v1553
  let c2_i32_1210 : BitVec 32 := 2#32
  let c0_i32_1213 : BitVec 32 := 0#32
  let v1555 : BitVec 1 := Scalar.cmpi .sgt c2_i32_1210 c0_i32_1213
  let v1556 : BitVec 32 := Scalar.extui v1555
  let c0_i32_1214 : BitVec 32 := 0#32
  let v1557 : BitVec 1 := Scalar.cmpi .slt c2_i32_1210 c0_i32_1214
  let v1558 : BitVec 32 := Scalar.extui v1557
  let v1559 : BitVec 32 := Scalar.subi v1556 v1558
  let v1560 : BitVec 1 := Scalar.cmpi .ne v1554 v1559
  let v1561 : BitVec 32 := Scalar.remsi v1548 c2_i32_1210
  let c0_i32_1215 : BitVec 32 := 0#32
  let v1562 : BitVec 1 := Scalar.cmpi .ne v1561 c0_i32_1215
  let v1563 : BitVec 1 := Scalar.andi v1560 v1562
  let v1549 : BitVec 32 := Scalar.divsi v1548 c2_i32_1210
  let c1_i32_1216 : BitVec 32 := 1#32
  let v1564 : BitVec 32 := Scalar.subi v1549 c1_i32_1216
  let v1565 : BitVec 32 := Scalar.select v1563 v1564 v1549
  let v1587 : BitVec 32 := Scalar.muli c64_i32_1229 v1565
  let c32_i32_1230 : BitVec 32 := 32#32
  let c2_i32_1217 : BitVec 32 := 2#32
  let c0_i32_1218 : BitVec 32 := 0#32
  let v1566 : BitVec 1 := Scalar.cmpi .eq c2_i32_1217 c0_i32_1218
  let c1_i32_1219 : BitVec 32 := 1#32
  let v1567 : BitVec 32 := Scalar.select v1566 c1_i32_1219 c2_i32_1217
  let v1568 : BitVec 32 := Scalar.remsi v1548 v1567
  let c0_i32_1221 : BitVec 32 := 0#32
  let v1570 : BitVec 1 := Scalar.cmpi .slt v1568 c0_i32_1221
  let c0_i32_1222 : BitVec 32 := 0#32
  let v1571 : BitVec 1 := Scalar.cmpi .slt v1567 c0_i32_1222
  let v1572 : BitVec 1 := Scalar.xori v1570 v1571
  let c0_i32_1220 : BitVec 32 := 0#32
  let v1569 : BitVec 1 := Scalar.cmpi .ne v1568 c0_i32_1220
  let v1573 : BitVec 1 := Scalar.andi v1572 v1569
  let v1574 : BitVec 32 := Scalar.addi v1568 v1567
  let v1575 : BitVec 32 := Scalar.select v1573 v1574 v1568
  let v1576 : BitVec 32 := Scalar.addi v1575 v46
  let c2_i32_1223 : BitVec 32 := 2#32
  let c0_i32_1224 : BitVec 32 := 0#32
  let v1577 : BitVec 1 := Scalar.cmpi .eq c2_i32_1223 c0_i32_1224
  let c1_i32_1225 : BitVec 32 := 1#32
  let v1578 : BitVec 32 := Scalar.select v1577 c1_i32_1225 c2_i32_1223
  let v1579 : BitVec 32 := Scalar.remsi v1576 v1578
  let c0_i32_1227 : BitVec 32 := 0#32
  let v1581 : BitVec 1 := Scalar.cmpi .slt v1579 c0_i32_1227
  let c0_i32_1228 : BitVec 32 := 0#32
  let v1582 : BitVec 1 := Scalar.cmpi .slt v1578 c0_i32_1228
  let v1583 : BitVec 1 := Scalar.xori v1581 v1582
  let c0_i32_1226 : BitVec 32 := 0#32
  let v1580 : BitVec 1 := Scalar.cmpi .ne v1579 c0_i32_1226
  let v1584 : BitVec 1 := Scalar.andi v1583 v1580
  let v1585 : BitVec 32 := Scalar.addi v1579 v1578
  let v1586 : BitVec 32 := Scalar.select v1584 v1585 v1579
  let v1588 : BitVec 32 := Scalar.muli c32_i32_1230 v1586
  let v1589 : BitVec 32 := Scalar.addi v1587 v1588
  let c0_i32_1239 : BitVec 32 := 0#32
  ![2, v1589.toNat, 0]
def k0_dev40 (d0 : Dev nD) : Nat :=
  let c0_i32_1237 : BitVec 32 := 0#32
  let c8_i32_1232 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c1_i32_1203 : BitVec 32 := 1#32
  let v1538 : BitVec 32 := Scalar.addi v69 c1_i32_1203
  let c8_i32_1204 : BitVec 32 := 8#32
  let c0_i32_1205 : BitVec 32 := 0#32
  let v1539 : BitVec 1 := Scalar.cmpi .eq c8_i32_1204 c0_i32_1205
  let c1_i32_1206 : BitVec 32 := 1#32
  let v1540 : BitVec 32 := Scalar.select v1539 c1_i32_1206 c8_i32_1204
  let v1541 : BitVec 32 := Scalar.remsi v1538 v1540
  let c0_i32_1208 : BitVec 32 := 0#32
  let v1543 : BitVec 1 := Scalar.cmpi .slt v1541 c0_i32_1208
  let c0_i32_1209 : BitVec 32 := 0#32
  let v1544 : BitVec 1 := Scalar.cmpi .slt v1540 c0_i32_1209
  let v1545 : BitVec 1 := Scalar.xori v1543 v1544
  let c0_i32_1207 : BitVec 32 := 0#32
  let v1542 : BitVec 1 := Scalar.cmpi .ne v1541 c0_i32_1207
  let v1546 : BitVec 1 := Scalar.andi v1545 v1542
  let v1547 : BitVec 32 := Scalar.addi v1541 v1540
  let v1548 : BitVec 32 := Scalar.select v1546 v1547 v1541
  let c0_i32_1211 : BitVec 32 := 0#32
  let v1550 : BitVec 1 := Scalar.cmpi .sgt v1548 c0_i32_1211
  let v1551 : BitVec 32 := Scalar.extui v1550
  let c0_i32_1212 : BitVec 32 := 0#32
  let v1552 : BitVec 1 := Scalar.cmpi .slt v1548 c0_i32_1212
  let v1553 : BitVec 32 := Scalar.extui v1552
  let v1554 : BitVec 32 := Scalar.subi v1551 v1553
  let c2_i32_1210 : BitVec 32 := 2#32
  let c0_i32_1213 : BitVec 32 := 0#32
  let v1555 : BitVec 1 := Scalar.cmpi .sgt c2_i32_1210 c0_i32_1213
  let v1556 : BitVec 32 := Scalar.extui v1555
  let c0_i32_1214 : BitVec 32 := 0#32
  let v1557 : BitVec 1 := Scalar.cmpi .slt c2_i32_1210 c0_i32_1214
  let v1558 : BitVec 32 := Scalar.extui v1557
  let v1559 : BitVec 32 := Scalar.subi v1556 v1558
  let v1560 : BitVec 1 := Scalar.cmpi .ne v1554 v1559
  let v1561 : BitVec 32 := Scalar.remsi v1548 c2_i32_1210
  let c0_i32_1215 : BitVec 32 := 0#32
  let v1562 : BitVec 1 := Scalar.cmpi .ne v1561 c0_i32_1215
  let v1563 : BitVec 1 := Scalar.andi v1560 v1562
  let v1549 : BitVec 32 := Scalar.divsi v1548 c2_i32_1210
  let c1_i32_1216 : BitVec 32 := 1#32
  let v1564 : BitVec 32 := Scalar.subi v1549 c1_i32_1216
  let v1565 : BitVec 32 := Scalar.select v1563 v1564 v1549
  let v1591 : BitVec 32 := Scalar.muli c8_i32_1232 v1565
  let c2_i32_1233 : BitVec 32 := 2#32
  let v1592 : BitVec 32 := Scalar.muli c2_i32_1233 v46
  let v1593 : BitVec 32 := Scalar.addi v1591 v1592
  let c2_i32_1217 : BitVec 32 := 2#32
  let c0_i32_1218 : BitVec 32 := 0#32
  let v1566 : BitVec 1 := Scalar.cmpi .eq c2_i32_1217 c0_i32_1218
  let c1_i32_1219 : BitVec 32 := 1#32
  let v1567 : BitVec 32 := Scalar.select v1566 c1_i32_1219 c2_i32_1217
  let v1568 : BitVec 32 := Scalar.remsi v1548 v1567
  let c0_i32_1221 : BitVec 32 := 0#32
  let v1570 : BitVec 1 := Scalar.cmpi .slt v1568 c0_i32_1221
  let c0_i32_1222 : BitVec 32 := 0#32
  let v1571 : BitVec 1 := Scalar.cmpi .slt v1567 c0_i32_1222
  let v1572 : BitVec 1 := Scalar.xori v1570 v1571
  let c0_i32_1220 : BitVec 32 := 0#32
  let v1569 : BitVec 1 := Scalar.cmpi .ne v1568 c0_i32_1220
  let v1573 : BitVec 1 := Scalar.andi v1572 v1569
  let v1574 : BitVec 32 := Scalar.addi v1568 v1567
  let v1575 : BitVec 32 := Scalar.select v1573 v1574 v1568
  let v1576 : BitVec 32 := Scalar.addi v1575 v46
  let c2_i32_1223 : BitVec 32 := 2#32
  let c0_i32_1224 : BitVec 32 := 0#32
  let v1577 : BitVec 1 := Scalar.cmpi .eq c2_i32_1223 c0_i32_1224
  let c1_i32_1225 : BitVec 32 := 1#32
  let v1578 : BitVec 32 := Scalar.select v1577 c1_i32_1225 c2_i32_1223
  let v1579 : BitVec 32 := Scalar.remsi v1576 v1578
  let c0_i32_1227 : BitVec 32 := 0#32
  let v1581 : BitVec 1 := Scalar.cmpi .slt v1579 c0_i32_1227
  let c0_i32_1228 : BitVec 32 := 0#32
  let v1582 : BitVec 1 := Scalar.cmpi .slt v1578 c0_i32_1228
  let v1583 : BitVec 1 := Scalar.xori v1581 v1582
  let c0_i32_1226 : BitVec 32 := 0#32
  let v1580 : BitVec 1 := Scalar.cmpi .ne v1579 c0_i32_1226
  let v1584 : BitVec 1 := Scalar.andi v1583 v1580
  let v1585 : BitVec 32 := Scalar.addi v1579 v1578
  let v1586 : BitVec 32 := Scalar.select v1584 v1585 v1579
  let v1594 : BitVec 32 := Scalar.addi v1593 v1586
  let c1_i32_1236 : BitVec 32 := 1#32
  let v1595 : BitVec 32 := Scalar.muli v1594 c1_i32_1236
  let v1596 : BitVec 32 := Scalar.addi c0_i32_1237 v1595
  v1596.toNat
def k0_dev41 (d0 : Dev nD) : Nat :=
  let c0_i32_1274 : BitVec 32 := 0#32
  let c8_i32_1269 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c2_i32_1240 : BitVec 32 := 2#32
  let v1604 : BitVec 32 := Scalar.addi v69 c2_i32_1240
  let c8_i32_1241 : BitVec 32 := 8#32
  let c0_i32_1242 : BitVec 32 := 0#32
  let v1605 : BitVec 1 := Scalar.cmpi .eq c8_i32_1241 c0_i32_1242
  let c1_i32_1243 : BitVec 32 := 1#32
  let v1606 : BitVec 32 := Scalar.select v1605 c1_i32_1243 c8_i32_1241
  let v1607 : BitVec 32 := Scalar.remsi v1604 v1606
  let c0_i32_1245 : BitVec 32 := 0#32
  let v1609 : BitVec 1 := Scalar.cmpi .slt v1607 c0_i32_1245
  let c0_i32_1246 : BitVec 32 := 0#32
  let v1610 : BitVec 1 := Scalar.cmpi .slt v1606 c0_i32_1246
  let v1611 : BitVec 1 := Scalar.xori v1609 v1610
  let c0_i32_1244 : BitVec 32 := 0#32
  let v1608 : BitVec 1 := Scalar.cmpi .ne v1607 c0_i32_1244
  let v1612 : BitVec 1 := Scalar.andi v1611 v1608
  let v1613 : BitVec 32 := Scalar.addi v1607 v1606
  let v1614 : BitVec 32 := Scalar.select v1612 v1613 v1607
  let c0_i32_1248 : BitVec 32 := 0#32
  let v1616 : BitVec 1 := Scalar.cmpi .sgt v1614 c0_i32_1248
  let v1617 : BitVec 32 := Scalar.extui v1616
  let c0_i32_1249 : BitVec 32 := 0#32
  let v1618 : BitVec 1 := Scalar.cmpi .slt v1614 c0_i32_1249
  let v1619 : BitVec 32 := Scalar.extui v1618
  let v1620 : BitVec 32 := Scalar.subi v1617 v1619
  let c2_i32_1247 : BitVec 32 := 2#32
  let c0_i32_1250 : BitVec 32 := 0#32
  let v1621 : BitVec 1 := Scalar.cmpi .sgt c2_i32_1247 c0_i32_1250
  let v1622 : BitVec 32 := Scalar.extui v1621
  let c0_i32_1251 : BitVec 32 := 0#32
  let v1623 : BitVec 1 := Scalar.cmpi .slt c2_i32_1247 c0_i32_1251
  let v1624 : BitVec 32 := Scalar.extui v1623
  let v1625 : BitVec 32 := Scalar.subi v1622 v1624
  let v1626 : BitVec 1 := Scalar.cmpi .ne v1620 v1625
  let v1627 : BitVec 32 := Scalar.remsi v1614 c2_i32_1247
  let c0_i32_1252 : BitVec 32 := 0#32
  let v1628 : BitVec 1 := Scalar.cmpi .ne v1627 c0_i32_1252
  let v1629 : BitVec 1 := Scalar.andi v1626 v1628
  let v1615 : BitVec 32 := Scalar.divsi v1614 c2_i32_1247
  let c1_i32_1253 : BitVec 32 := 1#32
  let v1630 : BitVec 32 := Scalar.subi v1615 c1_i32_1253
  let v1631 : BitVec 32 := Scalar.select v1629 v1630 v1615
  let v1657 : BitVec 32 := Scalar.muli c8_i32_1269 v1631
  let c2_i32_1270 : BitVec 32 := 2#32
  let v1658 : BitVec 32 := Scalar.muli c2_i32_1270 v46
  let v1659 : BitVec 32 := Scalar.addi v1657 v1658
  let c2_i32_1254 : BitVec 32 := 2#32
  let c0_i32_1255 : BitVec 32 := 0#32
  let v1632 : BitVec 1 := Scalar.cmpi .eq c2_i32_1254 c0_i32_1255
  let c1_i32_1256 : BitVec 32 := 1#32
  let v1633 : BitVec 32 := Scalar.select v1632 c1_i32_1256 c2_i32_1254
  let v1634 : BitVec 32 := Scalar.remsi v1614 v1633
  let c0_i32_1258 : BitVec 32 := 0#32
  let v1636 : BitVec 1 := Scalar.cmpi .slt v1634 c0_i32_1258
  let c0_i32_1259 : BitVec 32 := 0#32
  let v1637 : BitVec 1 := Scalar.cmpi .slt v1633 c0_i32_1259
  let v1638 : BitVec 1 := Scalar.xori v1636 v1637
  let c0_i32_1257 : BitVec 32 := 0#32
  let v1635 : BitVec 1 := Scalar.cmpi .ne v1634 c0_i32_1257
  let v1639 : BitVec 1 := Scalar.andi v1638 v1635
  let v1640 : BitVec 32 := Scalar.addi v1634 v1633
  let v1641 : BitVec 32 := Scalar.select v1639 v1640 v1634
  let v1642 : BitVec 32 := Scalar.addi v1641 v46
  let c2_i32_1260 : BitVec 32 := 2#32
  let c0_i32_1261 : BitVec 32 := 0#32
  let v1643 : BitVec 1 := Scalar.cmpi .eq c2_i32_1260 c0_i32_1261
  let c1_i32_1262 : BitVec 32 := 1#32
  let v1644 : BitVec 32 := Scalar.select v1643 c1_i32_1262 c2_i32_1260
  let v1645 : BitVec 32 := Scalar.remsi v1642 v1644
  let c0_i32_1264 : BitVec 32 := 0#32
  let v1647 : BitVec 1 := Scalar.cmpi .slt v1645 c0_i32_1264
  let c0_i32_1265 : BitVec 32 := 0#32
  let v1648 : BitVec 1 := Scalar.cmpi .slt v1644 c0_i32_1265
  let v1649 : BitVec 1 := Scalar.xori v1647 v1648
  let c0_i32_1263 : BitVec 32 := 0#32
  let v1646 : BitVec 1 := Scalar.cmpi .ne v1645 c0_i32_1263
  let v1650 : BitVec 1 := Scalar.andi v1649 v1646
  let v1651 : BitVec 32 := Scalar.addi v1645 v1644
  let v1652 : BitVec 32 := Scalar.select v1650 v1651 v1645
  let v1660 : BitVec 32 := Scalar.addi v1659 v1652
  let c1_i32_1273 : BitVec 32 := 1#32
  let v1661 : BitVec 32 := Scalar.muli v1660 c1_i32_1273
  let v1662 : BitVec 32 := Scalar.addi c0_i32_1274 v1661
  v1662.toNat
def k0_dev42 (d0 : Dev nD) : Nat :=
  let c0_i32_1311 : BitVec 32 := 0#32
  let c8_i32_1306 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c3_i32_1277 : BitVec 32 := 3#32
  let v1670 : BitVec 32 := Scalar.addi v69 c3_i32_1277
  let c8_i32_1278 : BitVec 32 := 8#32
  let c0_i32_1279 : BitVec 32 := 0#32
  let v1671 : BitVec 1 := Scalar.cmpi .eq c8_i32_1278 c0_i32_1279
  let c1_i32_1280 : BitVec 32 := 1#32
  let v1672 : BitVec 32 := Scalar.select v1671 c1_i32_1280 c8_i32_1278
  let v1673 : BitVec 32 := Scalar.remsi v1670 v1672
  let c0_i32_1282 : BitVec 32 := 0#32
  let v1675 : BitVec 1 := Scalar.cmpi .slt v1673 c0_i32_1282
  let c0_i32_1283 : BitVec 32 := 0#32
  let v1676 : BitVec 1 := Scalar.cmpi .slt v1672 c0_i32_1283
  let v1677 : BitVec 1 := Scalar.xori v1675 v1676
  let c0_i32_1281 : BitVec 32 := 0#32
  let v1674 : BitVec 1 := Scalar.cmpi .ne v1673 c0_i32_1281
  let v1678 : BitVec 1 := Scalar.andi v1677 v1674
  let v1679 : BitVec 32 := Scalar.addi v1673 v1672
  let v1680 : BitVec 32 := Scalar.select v1678 v1679 v1673
  let c0_i32_1285 : BitVec 32 := 0#32
  let v1682 : BitVec 1 := Scalar.cmpi .sgt v1680 c0_i32_1285
  let v1683 : BitVec 32 := Scalar.extui v1682
  let c0_i32_1286 : BitVec 32 := 0#32
  let v1684 : BitVec 1 := Scalar.cmpi .slt v1680 c0_i32_1286
  let v1685 : BitVec 32 := Scalar.extui v1684
  let v1686 : BitVec 32 := Scalar.subi v1683 v1685
  let c2_i32_1284 : BitVec 32 := 2#32
  let c0_i32_1287 : BitVec 32 := 0#32
  let v1687 : BitVec 1 := Scalar.cmpi .sgt c2_i32_1284 c0_i32_1287
  let v1688 : BitVec 32 := Scalar.extui v1687
  let c0_i32_1288 : BitVec 32 := 0#32
  let v1689 : BitVec 1 := Scalar.cmpi .slt c2_i32_1284 c0_i32_1288
  let v1690 : BitVec 32 := Scalar.extui v1689
  let v1691 : BitVec 32 := Scalar.subi v1688 v1690
  let v1692 : BitVec 1 := Scalar.cmpi .ne v1686 v1691
  let v1693 : BitVec 32 := Scalar.remsi v1680 c2_i32_1284
  let c0_i32_1289 : BitVec 32 := 0#32
  let v1694 : BitVec 1 := Scalar.cmpi .ne v1693 c0_i32_1289
  let v1695 : BitVec 1 := Scalar.andi v1692 v1694
  let v1681 : BitVec 32 := Scalar.divsi v1680 c2_i32_1284
  let c1_i32_1290 : BitVec 32 := 1#32
  let v1696 : BitVec 32 := Scalar.subi v1681 c1_i32_1290
  let v1697 : BitVec 32 := Scalar.select v1695 v1696 v1681
  let v1723 : BitVec 32 := Scalar.muli c8_i32_1306 v1697
  let c2_i32_1307 : BitVec 32 := 2#32
  let v1724 : BitVec 32 := Scalar.muli c2_i32_1307 v46
  let v1725 : BitVec 32 := Scalar.addi v1723 v1724
  let c2_i32_1291 : BitVec 32 := 2#32
  let c0_i32_1292 : BitVec 32 := 0#32
  let v1698 : BitVec 1 := Scalar.cmpi .eq c2_i32_1291 c0_i32_1292
  let c1_i32_1293 : BitVec 32 := 1#32
  let v1699 : BitVec 32 := Scalar.select v1698 c1_i32_1293 c2_i32_1291
  let v1700 : BitVec 32 := Scalar.remsi v1680 v1699
  let c0_i32_1295 : BitVec 32 := 0#32
  let v1702 : BitVec 1 := Scalar.cmpi .slt v1700 c0_i32_1295
  let c0_i32_1296 : BitVec 32 := 0#32
  let v1703 : BitVec 1 := Scalar.cmpi .slt v1699 c0_i32_1296
  let v1704 : BitVec 1 := Scalar.xori v1702 v1703
  let c0_i32_1294 : BitVec 32 := 0#32
  let v1701 : BitVec 1 := Scalar.cmpi .ne v1700 c0_i32_1294
  let v1705 : BitVec 1 := Scalar.andi v1704 v1701
  let v1706 : BitVec 32 := Scalar.addi v1700 v1699
  let v1707 : BitVec 32 := Scalar.select v1705 v1706 v1700
  let v1708 : BitVec 32 := Scalar.addi v1707 v46
  let c2_i32_1297 : BitVec 32 := 2#32
  let c0_i32_1298 : BitVec 32 := 0#32
  let v1709 : BitVec 1 := Scalar.cmpi .eq c2_i32_1297 c0_i32_1298
  let c1_i32_1299 : BitVec 32 := 1#32
  let v1710 : BitVec 32 := Scalar.select v1709 c1_i32_1299 c2_i32_1297
  let v1711 : BitVec 32 := Scalar.remsi v1708 v1710
  let c0_i32_1301 : BitVec 32 := 0#32
  let v1713 : BitVec 1 := Scalar.cmpi .slt v1711 c0_i32_1301
  let c0_i32_1302 : BitVec 32 := 0#32
  let v1714 : BitVec 1 := Scalar.cmpi .slt v1710 c0_i32_1302
  let v1715 : BitVec 1 := Scalar.xori v1713 v1714
  let c0_i32_1300 : BitVec 32 := 0#32
  let v1712 : BitVec 1 := Scalar.cmpi .ne v1711 c0_i32_1300
  let v1716 : BitVec 1 := Scalar.andi v1715 v1712
  let v1717 : BitVec 32 := Scalar.addi v1711 v1710
  let v1718 : BitVec 32 := Scalar.select v1716 v1717 v1711
  let v1726 : BitVec 32 := Scalar.addi v1725 v1718
  let c1_i32_1310 : BitVec 32 := 1#32
  let v1727 : BitVec 32 := Scalar.muli v1726 c1_i32_1310
  let v1728 : BitVec 32 := Scalar.addi c0_i32_1311 v1727
  v1728.toNat
def k0_dev43 (d0 : Dev nD) : Nat :=
  let c0_i32_1348 : BitVec 32 := 0#32
  let c8_i32_1343 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c4_i32_1314 : BitVec 32 := 4#32
  let v1736 : BitVec 32 := Scalar.addi v69 c4_i32_1314
  let c8_i32_1315 : BitVec 32 := 8#32
  let c0_i32_1316 : BitVec 32 := 0#32
  let v1737 : BitVec 1 := Scalar.cmpi .eq c8_i32_1315 c0_i32_1316
  let c1_i32_1317 : BitVec 32 := 1#32
  let v1738 : BitVec 32 := Scalar.select v1737 c1_i32_1317 c8_i32_1315
  let v1739 : BitVec 32 := Scalar.remsi v1736 v1738
  let c0_i32_1319 : BitVec 32 := 0#32
  let v1741 : BitVec 1 := Scalar.cmpi .slt v1739 c0_i32_1319
  let c0_i32_1320 : BitVec 32 := 0#32
  let v1742 : BitVec 1 := Scalar.cmpi .slt v1738 c0_i32_1320
  let v1743 : BitVec 1 := Scalar.xori v1741 v1742
  let c0_i32_1318 : BitVec 32 := 0#32
  let v1740 : BitVec 1 := Scalar.cmpi .ne v1739 c0_i32_1318
  let v1744 : BitVec 1 := Scalar.andi v1743 v1740
  let v1745 : BitVec 32 := Scalar.addi v1739 v1738
  let v1746 : BitVec 32 := Scalar.select v1744 v1745 v1739
  let c0_i32_1322 : BitVec 32 := 0#32
  let v1748 : BitVec 1 := Scalar.cmpi .sgt v1746 c0_i32_1322
  let v1749 : BitVec 32 := Scalar.extui v1748
  let c0_i32_1323 : BitVec 32 := 0#32
  let v1750 : BitVec 1 := Scalar.cmpi .slt v1746 c0_i32_1323
  let v1751 : BitVec 32 := Scalar.extui v1750
  let v1752 : BitVec 32 := Scalar.subi v1749 v1751
  let c2_i32_1321 : BitVec 32 := 2#32
  let c0_i32_1324 : BitVec 32 := 0#32
  let v1753 : BitVec 1 := Scalar.cmpi .sgt c2_i32_1321 c0_i32_1324
  let v1754 : BitVec 32 := Scalar.extui v1753
  let c0_i32_1325 : BitVec 32 := 0#32
  let v1755 : BitVec 1 := Scalar.cmpi .slt c2_i32_1321 c0_i32_1325
  let v1756 : BitVec 32 := Scalar.extui v1755
  let v1757 : BitVec 32 := Scalar.subi v1754 v1756
  let v1758 : BitVec 1 := Scalar.cmpi .ne v1752 v1757
  let v1759 : BitVec 32 := Scalar.remsi v1746 c2_i32_1321
  let c0_i32_1326 : BitVec 32 := 0#32
  let v1760 : BitVec 1 := Scalar.cmpi .ne v1759 c0_i32_1326
  let v1761 : BitVec 1 := Scalar.andi v1758 v1760
  let v1747 : BitVec 32 := Scalar.divsi v1746 c2_i32_1321
  let c1_i32_1327 : BitVec 32 := 1#32
  let v1762 : BitVec 32 := Scalar.subi v1747 c1_i32_1327
  let v1763 : BitVec 32 := Scalar.select v1761 v1762 v1747
  let v1789 : BitVec 32 := Scalar.muli c8_i32_1343 v1763
  let c2_i32_1344 : BitVec 32 := 2#32
  let v1790 : BitVec 32 := Scalar.muli c2_i32_1344 v46
  let v1791 : BitVec 32 := Scalar.addi v1789 v1790
  let c2_i32_1328 : BitVec 32 := 2#32
  let c0_i32_1329 : BitVec 32 := 0#32
  let v1764 : BitVec 1 := Scalar.cmpi .eq c2_i32_1328 c0_i32_1329
  let c1_i32_1330 : BitVec 32 := 1#32
  let v1765 : BitVec 32 := Scalar.select v1764 c1_i32_1330 c2_i32_1328
  let v1766 : BitVec 32 := Scalar.remsi v1746 v1765
  let c0_i32_1332 : BitVec 32 := 0#32
  let v1768 : BitVec 1 := Scalar.cmpi .slt v1766 c0_i32_1332
  let c0_i32_1333 : BitVec 32 := 0#32
  let v1769 : BitVec 1 := Scalar.cmpi .slt v1765 c0_i32_1333
  let v1770 : BitVec 1 := Scalar.xori v1768 v1769
  let c0_i32_1331 : BitVec 32 := 0#32
  let v1767 : BitVec 1 := Scalar.cmpi .ne v1766 c0_i32_1331
  let v1771 : BitVec 1 := Scalar.andi v1770 v1767
  let v1772 : BitVec 32 := Scalar.addi v1766 v1765
  let v1773 : BitVec 32 := Scalar.select v1771 v1772 v1766
  let v1774 : BitVec 32 := Scalar.addi v1773 v46
  let c2_i32_1334 : BitVec 32 := 2#32
  let c0_i32_1335 : BitVec 32 := 0#32
  let v1775 : BitVec 1 := Scalar.cmpi .eq c2_i32_1334 c0_i32_1335
  let c1_i32_1336 : BitVec 32 := 1#32
  let v1776 : BitVec 32 := Scalar.select v1775 c1_i32_1336 c2_i32_1334
  let v1777 : BitVec 32 := Scalar.remsi v1774 v1776
  let c0_i32_1338 : BitVec 32 := 0#32
  let v1779 : BitVec 1 := Scalar.cmpi .slt v1777 c0_i32_1338
  let c0_i32_1339 : BitVec 32 := 0#32
  let v1780 : BitVec 1 := Scalar.cmpi .slt v1776 c0_i32_1339
  let v1781 : BitVec 1 := Scalar.xori v1779 v1780
  let c0_i32_1337 : BitVec 32 := 0#32
  let v1778 : BitVec 1 := Scalar.cmpi .ne v1777 c0_i32_1337
  let v1782 : BitVec 1 := Scalar.andi v1781 v1778
  let v1783 : BitVec 32 := Scalar.addi v1777 v1776
  let v1784 : BitVec 32 := Scalar.select v1782 v1783 v1777
  let v1792 : BitVec 32 := Scalar.addi v1791 v1784
  let c1_i32_1347 : BitVec 32 := 1#32
  let v1793 : BitVec 32 := Scalar.muli v1792 c1_i32_1347
  let v1794 : BitVec 32 := Scalar.addi c0_i32_1348 v1793
  v1794.toNat
def k0_dev44 (d0 : Dev nD) : Nat :=
  let c0_i32_1385 : BitVec 32 := 0#32
  let c8_i32_1380 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c5_i32_1351 : BitVec 32 := 5#32
  let v1802 : BitVec 32 := Scalar.addi v69 c5_i32_1351
  let c8_i32_1352 : BitVec 32 := 8#32
  let c0_i32_1353 : BitVec 32 := 0#32
  let v1803 : BitVec 1 := Scalar.cmpi .eq c8_i32_1352 c0_i32_1353
  let c1_i32_1354 : BitVec 32 := 1#32
  let v1804 : BitVec 32 := Scalar.select v1803 c1_i32_1354 c8_i32_1352
  let v1805 : BitVec 32 := Scalar.remsi v1802 v1804
  let c0_i32_1356 : BitVec 32 := 0#32
  let v1807 : BitVec 1 := Scalar.cmpi .slt v1805 c0_i32_1356
  let c0_i32_1357 : BitVec 32 := 0#32
  let v1808 : BitVec 1 := Scalar.cmpi .slt v1804 c0_i32_1357
  let v1809 : BitVec 1 := Scalar.xori v1807 v1808
  let c0_i32_1355 : BitVec 32 := 0#32
  let v1806 : BitVec 1 := Scalar.cmpi .ne v1805 c0_i32_1355
  let v1810 : BitVec 1 := Scalar.andi v1809 v1806
  let v1811 : BitVec 32 := Scalar.addi v1805 v1804
  let v1812 : BitVec 32 := Scalar.select v1810 v1811 v1805
  let c0_i32_1359 : BitVec 32 := 0#32
  let v1814 : BitVec 1 := Scalar.cmpi .sgt v1812 c0_i32_1359
  let v1815 : BitVec 32 := Scalar.extui v1814
  let c0_i32_1360 : BitVec 32 := 0#32
  let v1816 : BitVec 1 := Scalar.cmpi .slt v1812 c0_i32_1360
  let v1817 : BitVec 32 := Scalar.extui v1816
  let v1818 : BitVec 32 := Scalar.subi v1815 v1817
  let c2_i32_1358 : BitVec 32 := 2#32
  let c0_i32_1361 : BitVec 32 := 0#32
  let v1819 : BitVec 1 := Scalar.cmpi .sgt c2_i32_1358 c0_i32_1361
  let v1820 : BitVec 32 := Scalar.extui v1819
  let c0_i32_1362 : BitVec 32 := 0#32
  let v1821 : BitVec 1 := Scalar.cmpi .slt c2_i32_1358 c0_i32_1362
  let v1822 : BitVec 32 := Scalar.extui v1821
  let v1823 : BitVec 32 := Scalar.subi v1820 v1822
  let v1824 : BitVec 1 := Scalar.cmpi .ne v1818 v1823
  let v1825 : BitVec 32 := Scalar.remsi v1812 c2_i32_1358
  let c0_i32_1363 : BitVec 32 := 0#32
  let v1826 : BitVec 1 := Scalar.cmpi .ne v1825 c0_i32_1363
  let v1827 : BitVec 1 := Scalar.andi v1824 v1826
  let v1813 : BitVec 32 := Scalar.divsi v1812 c2_i32_1358
  let c1_i32_1364 : BitVec 32 := 1#32
  let v1828 : BitVec 32 := Scalar.subi v1813 c1_i32_1364
  let v1829 : BitVec 32 := Scalar.select v1827 v1828 v1813
  let v1855 : BitVec 32 := Scalar.muli c8_i32_1380 v1829
  let c2_i32_1381 : BitVec 32 := 2#32
  let v1856 : BitVec 32 := Scalar.muli c2_i32_1381 v46
  let v1857 : BitVec 32 := Scalar.addi v1855 v1856
  let c2_i32_1365 : BitVec 32 := 2#32
  let c0_i32_1366 : BitVec 32 := 0#32
  let v1830 : BitVec 1 := Scalar.cmpi .eq c2_i32_1365 c0_i32_1366
  let c1_i32_1367 : BitVec 32 := 1#32
  let v1831 : BitVec 32 := Scalar.select v1830 c1_i32_1367 c2_i32_1365
  let v1832 : BitVec 32 := Scalar.remsi v1812 v1831
  let c0_i32_1369 : BitVec 32 := 0#32
  let v1834 : BitVec 1 := Scalar.cmpi .slt v1832 c0_i32_1369
  let c0_i32_1370 : BitVec 32 := 0#32
  let v1835 : BitVec 1 := Scalar.cmpi .slt v1831 c0_i32_1370
  let v1836 : BitVec 1 := Scalar.xori v1834 v1835
  let c0_i32_1368 : BitVec 32 := 0#32
  let v1833 : BitVec 1 := Scalar.cmpi .ne v1832 c0_i32_1368
  let v1837 : BitVec 1 := Scalar.andi v1836 v1833
  let v1838 : BitVec 32 := Scalar.addi v1832 v1831
  let v1839 : BitVec 32 := Scalar.select v1837 v1838 v1832
  let v1840 : BitVec 32 := Scalar.addi v1839 v46
  let c2_i32_1371 : BitVec 32 := 2#32
  let c0_i32_1372 : BitVec 32 := 0#32
  let v1841 : BitVec 1 := Scalar.cmpi .eq c2_i32_1371 c0_i32_1372
  let c1_i32_1373 : BitVec 32 := 1#32
  let v1842 : BitVec 32 := Scalar.select v1841 c1_i32_1373 c2_i32_1371
  let v1843 : BitVec 32 := Scalar.remsi v1840 v1842
  let c0_i32_1375 : BitVec 32 := 0#32
  let v1845 : BitVec 1 := Scalar.cmpi .slt v1843 c0_i32_1375
  let c0_i32_1376 : BitVec 32 := 0#32
  let v1846 : BitVec 1 := Scalar.cmpi .slt v1842 c0_i32_1376
  let v1847 : BitVec 1 := Scalar.xori v1845 v1846
  let c0_i32_1374 : BitVec 32 := 0#32
  let v1844 : BitVec 1 := Scalar.cmpi .ne v1843 c0_i32_1374
  let v1848 : BitVec 1 := Scalar.andi v1847 v1844
  let v1849 : BitVec 32 := Scalar.addi v1843 v1842
  let v1850 : BitVec 32 := Scalar.select v1848 v1849 v1843
  let v1858 : BitVec 32 := Scalar.addi v1857 v1850
  let c1_i32_1384 : BitVec 32 := 1#32
  let v1859 : BitVec 32 := Scalar.muli v1858 c1_i32_1384
  let v1860 : BitVec 32 := Scalar.addi c0_i32_1385 v1859
  v1860.toNat
def k0_dev45 (d0 : Dev nD) : Nat :=
  let c0_i32_1422 : BitVec 32 := 0#32
  let c8_i32_1417 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c6_i32_1388 : BitVec 32 := 6#32
  let v1868 : BitVec 32 := Scalar.addi v69 c6_i32_1388
  let c8_i32_1389 : BitVec 32 := 8#32
  let c0_i32_1390 : BitVec 32 := 0#32
  let v1869 : BitVec 1 := Scalar.cmpi .eq c8_i32_1389 c0_i32_1390
  let c1_i32_1391 : BitVec 32 := 1#32
  let v1870 : BitVec 32 := Scalar.select v1869 c1_i32_1391 c8_i32_1389
  let v1871 : BitVec 32 := Scalar.remsi v1868 v1870
  let c0_i32_1393 : BitVec 32 := 0#32
  let v1873 : BitVec 1 := Scalar.cmpi .slt v1871 c0_i32_1393
  let c0_i32_1394 : BitVec 32 := 0#32
  let v1874 : BitVec 1 := Scalar.cmpi .slt v1870 c0_i32_1394
  let v1875 : BitVec 1 := Scalar.xori v1873 v1874
  let c0_i32_1392 : BitVec 32 := 0#32
  let v1872 : BitVec 1 := Scalar.cmpi .ne v1871 c0_i32_1392
  let v1876 : BitVec 1 := Scalar.andi v1875 v1872
  let v1877 : BitVec 32 := Scalar.addi v1871 v1870
  let v1878 : BitVec 32 := Scalar.select v1876 v1877 v1871
  let c0_i32_1396 : BitVec 32 := 0#32
  let v1880 : BitVec 1 := Scalar.cmpi .sgt v1878 c0_i32_1396
  let v1881 : BitVec 32 := Scalar.extui v1880
  let c0_i32_1397 : BitVec 32 := 0#32
  let v1882 : BitVec 1 := Scalar.cmpi .slt v1878 c0_i32_1397
  let v1883 : BitVec 32 := Scalar.extui v1882
  let v1884 : BitVec 32 := Scalar.subi v1881 v1883
  let c2_i32_1395 : BitVec 32 := 2#32
  let c0_i32_1398 : BitVec 32 := 0#32
  let v1885 : BitVec 1 := Scalar.cmpi .sgt c2_i32_1395 c0_i32_1398
  let v1886 : BitVec 32 := Scalar.extui v1885
  let c0_i32_1399 : BitVec 32 := 0#32
  let v1887 : BitVec 1 := Scalar.cmpi .slt c2_i32_1395 c0_i32_1399
  let v1888 : BitVec 32 := Scalar.extui v1887
  let v1889 : BitVec 32 := Scalar.subi v1886 v1888
  let v1890 : BitVec 1 := Scalar.cmpi .ne v1884 v1889
  let v1891 : BitVec 32 := Scalar.remsi v1878 c2_i32_1395
  let c0_i32_1400 : BitVec 32 := 0#32
  let v1892 : BitVec 1 := Scalar.cmpi .ne v1891 c0_i32_1400
  let v1893 : BitVec 1 := Scalar.andi v1890 v1892
  let v1879 : BitVec 32 := Scalar.divsi v1878 c2_i32_1395
  let c1_i32_1401 : BitVec 32 := 1#32
  let v1894 : BitVec 32 := Scalar.subi v1879 c1_i32_1401
  let v1895 : BitVec 32 := Scalar.select v1893 v1894 v1879
  let v1921 : BitVec 32 := Scalar.muli c8_i32_1417 v1895
  let c2_i32_1418 : BitVec 32 := 2#32
  let v1922 : BitVec 32 := Scalar.muli c2_i32_1418 v46
  let v1923 : BitVec 32 := Scalar.addi v1921 v1922
  let c2_i32_1402 : BitVec 32 := 2#32
  let c0_i32_1403 : BitVec 32 := 0#32
  let v1896 : BitVec 1 := Scalar.cmpi .eq c2_i32_1402 c0_i32_1403
  let c1_i32_1404 : BitVec 32 := 1#32
  let v1897 : BitVec 32 := Scalar.select v1896 c1_i32_1404 c2_i32_1402
  let v1898 : BitVec 32 := Scalar.remsi v1878 v1897
  let c0_i32_1406 : BitVec 32 := 0#32
  let v1900 : BitVec 1 := Scalar.cmpi .slt v1898 c0_i32_1406
  let c0_i32_1407 : BitVec 32 := 0#32
  let v1901 : BitVec 1 := Scalar.cmpi .slt v1897 c0_i32_1407
  let v1902 : BitVec 1 := Scalar.xori v1900 v1901
  let c0_i32_1405 : BitVec 32 := 0#32
  let v1899 : BitVec 1 := Scalar.cmpi .ne v1898 c0_i32_1405
  let v1903 : BitVec 1 := Scalar.andi v1902 v1899
  let v1904 : BitVec 32 := Scalar.addi v1898 v1897
  let v1905 : BitVec 32 := Scalar.select v1903 v1904 v1898
  let v1906 : BitVec 32 := Scalar.addi v1905 v46
  let c2_i32_1408 : BitVec 32 := 2#32
  let c0_i32_1409 : BitVec 32 := 0#32
  let v1907 : BitVec 1 := Scalar.cmpi .eq c2_i32_1408 c0_i32_1409
  let c1_i32_1410 : BitVec 32 := 1#32
  let v1908 : BitVec 32 := Scalar.select v1907 c1_i32_1410 c2_i32_1408
  let v1909 : BitVec 32 := Scalar.remsi v1906 v1908
  let c0_i32_1412 : BitVec 32 := 0#32
  let v1911 : BitVec 1 := Scalar.cmpi .slt v1909 c0_i32_1412
  let c0_i32_1413 : BitVec 32 := 0#32
  let v1912 : BitVec 1 := Scalar.cmpi .slt v1908 c0_i32_1413
  let v1913 : BitVec 1 := Scalar.xori v1911 v1912
  let c0_i32_1411 : BitVec 32 := 0#32
  let v1910 : BitVec 1 := Scalar.cmpi .ne v1909 c0_i32_1411
  let v1914 : BitVec 1 := Scalar.andi v1913 v1910
  let v1915 : BitVec 32 := Scalar.addi v1909 v1908
  let v1916 : BitVec 32 := Scalar.select v1914 v1915 v1909
  let v1924 : BitVec 32 := Scalar.addi v1923 v1916
  let c1_i32_1421 : BitVec 32 := 1#32
  let v1925 : BitVec 32 := Scalar.muli v1924 c1_i32_1421
  let v1926 : BitVec 32 := Scalar.addi c0_i32_1422 v1925
  v1926.toNat
def k0_dev46 (d0 : Dev nD) : Nat :=
  let c0_i32_1459 : BitVec 32 := 0#32
  let c8_i32_1454 : BitVec 32 := 8#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let c7_i32_1425 : BitVec 32 := 7#32
  let v1934 : BitVec 32 := Scalar.addi v69 c7_i32_1425
  let c8_i32_1426 : BitVec 32 := 8#32
  let c0_i32_1427 : BitVec 32 := 0#32
  let v1935 : BitVec 1 := Scalar.cmpi .eq c8_i32_1426 c0_i32_1427
  let c1_i32_1428 : BitVec 32 := 1#32
  let v1936 : BitVec 32 := Scalar.select v1935 c1_i32_1428 c8_i32_1426
  let v1937 : BitVec 32 := Scalar.remsi v1934 v1936
  let c0_i32_1430 : BitVec 32 := 0#32
  let v1939 : BitVec 1 := Scalar.cmpi .slt v1937 c0_i32_1430
  let c0_i32_1431 : BitVec 32 := 0#32
  let v1940 : BitVec 1 := Scalar.cmpi .slt v1936 c0_i32_1431
  let v1941 : BitVec 1 := Scalar.xori v1939 v1940
  let c0_i32_1429 : BitVec 32 := 0#32
  let v1938 : BitVec 1 := Scalar.cmpi .ne v1937 c0_i32_1429
  let v1942 : BitVec 1 := Scalar.andi v1941 v1938
  let v1943 : BitVec 32 := Scalar.addi v1937 v1936
  let v1944 : BitVec 32 := Scalar.select v1942 v1943 v1937
  let c0_i32_1433 : BitVec 32 := 0#32
  let v1946 : BitVec 1 := Scalar.cmpi .sgt v1944 c0_i32_1433
  let v1947 : BitVec 32 := Scalar.extui v1946
  let c0_i32_1434 : BitVec 32 := 0#32
  let v1948 : BitVec 1 := Scalar.cmpi .slt v1944 c0_i32_1434
  let v1949 : BitVec 32 := Scalar.extui v1948
  let v1950 : BitVec 32 := Scalar.subi v1947 v1949
  let c2_i32_1432 : BitVec 32 := 2#32
  let c0_i32_1435 : BitVec 32 := 0#32
  let v1951 : BitVec 1 := Scalar.cmpi .sgt c2_i32_1432 c0_i32_1435
  let v1952 : BitVec 32 := Scalar.extui v1951
  let c0_i32_1436 : BitVec 32 := 0#32
  let v1953 : BitVec 1 := Scalar.cmpi .slt c2_i32_1432 c0_i32_1436
  let v1954 : BitVec 32 := Scalar.extui v1953
  let v1955 : BitVec 32 := Scalar.subi v1952 v1954
  let v1956 : BitVec 1 := Scalar.cmpi .ne v1950 v1955
  let v1957 : BitVec 32 := Scalar.remsi v1944 c2_i32_1432
  let c0_i32_1437 : BitVec 32 := 0#32
  let v1958 : BitVec 1 := Scalar.cmpi .ne v1957 c0_i32_1437
  let v1959 : BitVec 1 := Scalar.andi v1956 v1958
  let v1945 : BitVec 32 := Scalar.divsi v1944 c2_i32_1432
  let c1_i32_1438 : BitVec 32 := 1#32
  let v1960 : BitVec 32 := Scalar.subi v1945 c1_i32_1438
  let v1961 : BitVec 32 := Scalar.select v1959 v1960 v1945
  let v1987 : BitVec 32 := Scalar.muli c8_i32_1454 v1961
  let c2_i32_1455 : BitVec 32 := 2#32
  let v1988 : BitVec 32 := Scalar.muli c2_i32_1455 v46
  let v1989 : BitVec 32 := Scalar.addi v1987 v1988
  let c2_i32_1439 : BitVec 32 := 2#32
  let c0_i32_1440 : BitVec 32 := 0#32
  let v1962 : BitVec 1 := Scalar.cmpi .eq c2_i32_1439 c0_i32_1440
  let c1_i32_1441 : BitVec 32 := 1#32
  let v1963 : BitVec 32 := Scalar.select v1962 c1_i32_1441 c2_i32_1439
  let v1964 : BitVec 32 := Scalar.remsi v1944 v1963
  let c0_i32_1443 : BitVec 32 := 0#32
  let v1966 : BitVec 1 := Scalar.cmpi .slt v1964 c0_i32_1443
  let c0_i32_1444 : BitVec 32 := 0#32
  let v1967 : BitVec 1 := Scalar.cmpi .slt v1963 c0_i32_1444
  let v1968 : BitVec 1 := Scalar.xori v1966 v1967
  let c0_i32_1442 : BitVec 32 := 0#32
  let v1965 : BitVec 1 := Scalar.cmpi .ne v1964 c0_i32_1442
  let v1969 : BitVec 1 := Scalar.andi v1968 v1965
  let v1970 : BitVec 32 := Scalar.addi v1964 v1963
  let v1971 : BitVec 32 := Scalar.select v1969 v1970 v1964
  let v1972 : BitVec 32 := Scalar.addi v1971 v46
  let c2_i32_1445 : BitVec 32 := 2#32
  let c0_i32_1446 : BitVec 32 := 0#32
  let v1973 : BitVec 1 := Scalar.cmpi .eq c2_i32_1445 c0_i32_1446
  let c1_i32_1447 : BitVec 32 := 1#32
  let v1974 : BitVec 32 := Scalar.select v1973 c1_i32_1447 c2_i32_1445
  let v1975 : BitVec 32 := Scalar.remsi v1972 v1974
  let c0_i32_1449 : BitVec 32 := 0#32
  let v1977 : BitVec 1 := Scalar.cmpi .slt v1975 c0_i32_1449
  let c0_i32_1450 : BitVec 32 := 0#32
  let v1978 : BitVec 1 := Scalar.cmpi .slt v1974 c0_i32_1450
  let v1979 : BitVec 1 := Scalar.xori v1977 v1978
  let c0_i32_1448 : BitVec 32 := 0#32
  let v1976 : BitVec 1 := Scalar.cmpi .ne v1975 c0_i32_1448
  let v1980 : BitVec 1 := Scalar.andi v1979 v1976
  let v1981 : BitVec 32 := Scalar.addi v1975 v1974
  let v1982 : BitVec 32 := Scalar.select v1980 v1981 v1975
  let v1990 : BitVec 32 := Scalar.addi v1989 v1982
  let c1_i32_1458 : BitVec 32 := 1#32
  let v1991 : BitVec 32 := Scalar.muli v1990 c1_i32_1458
  let v1992 : BitVec 32 := Scalar.addi c0_i32_1459 v1991
  v1992.toNat
def k0_off18 (d0 : Dev nD) : Fin 3 → Nat :=
  let c2_1464 : Index := 2#32
  let c64_i32_1462 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2000 : BitVec 32 := Scalar.muli c64_i32_1462 v19
  let c32_i32_1463 : BitVec 32 := 32#32
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v2 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v2001 : BitVec 32 := Scalar.muli c32_i32_1463 v67
  let v2002 : BitVec 32 := Scalar.addi v2000 v2001
  let v2003 : Index := Scalar.indexCast v2002
  let c0_1465 : Index := 0#32
  ![2, v2003.toNat, 0]
def k0_off19 (d0 : Dev nD) : Fin 2 → Nat :=
  let c32_i32_1466 : BitVec 32 := 32#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let v2006 : BitVec 32 := Scalar.muli c32_i32_1466 v69
  let v2007 : Index := Scalar.indexCast v2006
  let c0_1467 : Index := 0#32
  ![v2007.toNat, 0]
def k0_off20 (d0 : Dev nD) (c1_i32_1468 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2011 : BitVec 32 := Scalar.subi v29 c1_i32_1468
  let c8_i32_1469 : BitVec 32 := 8#32
  let c0_i32_1470 : BitVec 32 := 0#32
  let v2012 : BitVec 1 := Scalar.cmpi .eq c8_i32_1469 c0_i32_1470
  let c1_i32_1471 : BitVec 32 := 1#32
  let v2013 : BitVec 32 := Scalar.select v2012 c1_i32_1471 c8_i32_1469
  let v2014 : BitVec 32 := Scalar.remsi v2011 v2013
  let c0_i32_1473 : BitVec 32 := 0#32
  let v2016 : BitVec 1 := Scalar.cmpi .slt v2014 c0_i32_1473
  let c0_i32_1474 : BitVec 32 := 0#32
  let v2017 : BitVec 1 := Scalar.cmpi .slt v2013 c0_i32_1474
  let v2018 : BitVec 1 := Scalar.xori v2016 v2017
  let c0_i32_1472 : BitVec 32 := 0#32
  let v2015 : BitVec 1 := Scalar.cmpi .ne v2014 c0_i32_1472
  let v2019 : BitVec 1 := Scalar.andi v2018 v2015
  let v2020 : BitVec 32 := Scalar.addi v2014 v2013
  let v2021 : BitVec 32 := Scalar.select v2019 v2020 v2014
  ![v2021.toNat]
def k0_off21 (d0 : Dev nD) (c1_i32_1468 : BitVec 32) : Fin 2 → Nat :=
  let c32_i32_1476 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2011 : BitVec 32 := Scalar.subi v29 c1_i32_1468
  let c8_i32_1469 : BitVec 32 := 8#32
  let c0_i32_1470 : BitVec 32 := 0#32
  let v2012 : BitVec 1 := Scalar.cmpi .eq c8_i32_1469 c0_i32_1470
  let c1_i32_1471 : BitVec 32 := 1#32
  let v2013 : BitVec 32 := Scalar.select v2012 c1_i32_1471 c8_i32_1469
  let v2014 : BitVec 32 := Scalar.remsi v2011 v2013
  let c0_i32_1473 : BitVec 32 := 0#32
  let v2016 : BitVec 1 := Scalar.cmpi .slt v2014 c0_i32_1473
  let c0_i32_1474 : BitVec 32 := 0#32
  let v2017 : BitVec 1 := Scalar.cmpi .slt v2013 c0_i32_1474
  let v2018 : BitVec 1 := Scalar.xori v2016 v2017
  let c0_i32_1472 : BitVec 32 := 0#32
  let v2015 : BitVec 1 := Scalar.cmpi .ne v2014 c0_i32_1472
  let v2019 : BitVec 1 := Scalar.andi v2018 v2015
  let v2020 : BitVec 32 := Scalar.addi v2014 v2013
  let v2021 : BitVec 32 := Scalar.select v2019 v2020 v2014
  let v2023 : BitVec 32 := Scalar.muli c32_i32_1476 v2021
  let c0_i32_1480 : BitVec 32 := 0#32
  ![v2023.toNat, 0]
def k0_off22 (d0 : Dev nD) (c1_i32_1584 : BitVec 32) : Fin 1 → Nat :=
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let v2173 : BitVec 32 := Scalar.subi v69 c1_i32_1584
  let c8_i32_1585 : BitVec 32 := 8#32
  let c0_i32_1586 : BitVec 32 := 0#32
  let v2174 : BitVec 1 := Scalar.cmpi .eq c8_i32_1585 c0_i32_1586
  let c1_i32_1587 : BitVec 32 := 1#32
  let v2175 : BitVec 32 := Scalar.select v2174 c1_i32_1587 c8_i32_1585
  let v2176 : BitVec 32 := Scalar.remsi v2173 v2175
  let c0_i32_1589 : BitVec 32 := 0#32
  let v2178 : BitVec 1 := Scalar.cmpi .slt v2176 c0_i32_1589
  let c0_i32_1590 : BitVec 32 := 0#32
  let v2179 : BitVec 1 := Scalar.cmpi .slt v2175 c0_i32_1590
  let v2180 : BitVec 1 := Scalar.xori v2178 v2179
  let c0_i32_1588 : BitVec 32 := 0#32
  let v2177 : BitVec 1 := Scalar.cmpi .ne v2176 c0_i32_1588
  let v2181 : BitVec 1 := Scalar.andi v2180 v2177
  let v2182 : BitVec 32 := Scalar.addi v2176 v2175
  let v2183 : BitVec 32 := Scalar.select v2181 v2182 v2176
  ![v2183.toNat]
def k0_off23 (d0 : Dev nD) (c1_i32_1584 : BitVec 32) : Fin 2 → Nat :=
  let c32_i32_1592 : BitVec 32 := 32#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v68 : BitVec 32 := Scalar.muli c2_i32_29 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v69 : BitVec 32 := Scalar.addi v68 v57
  let v2173 : BitVec 32 := Scalar.subi v69 c1_i32_1584
  let c8_i32_1585 : BitVec 32 := 8#32
  let c0_i32_1586 : BitVec 32 := 0#32
  let v2174 : BitVec 1 := Scalar.cmpi .eq c8_i32_1585 c0_i32_1586
  let c1_i32_1587 : BitVec 32 := 1#32
  let v2175 : BitVec 32 := Scalar.select v2174 c1_i32_1587 c8_i32_1585
  let v2176 : BitVec 32 := Scalar.remsi v2173 v2175
  let c0_i32_1589 : BitVec 32 := 0#32
  let v2178 : BitVec 1 := Scalar.cmpi .slt v2176 c0_i32_1589
  let c0_i32_1590 : BitVec 32 := 0#32
  let v2179 : BitVec 1 := Scalar.cmpi .slt v2175 c0_i32_1590
  let v2180 : BitVec 1 := Scalar.xori v2178 v2179
  let c0_i32_1588 : BitVec 32 := 0#32
  let v2177 : BitVec 1 := Scalar.cmpi .ne v2176 c0_i32_1588
  let v2181 : BitVec 1 := Scalar.andi v2180 v2177
  let v2182 : BitVec 32 := Scalar.addi v2176 v2175
  let v2183 : BitVec 32 := Scalar.select v2181 v2182 v2176
  let v2185 : BitVec 32 := Scalar.muli c32_i32_1592 v2183
  let c0_i32_1596 : BitVec 32 := 0#32
  ![v2185.toNat, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/- The thirty-two devices as the kernel numbers them, and the closed forms of every device number and offset the
   kernel computes. -/
module

public import proofs.«01_k».proof.Proof.Gen.KernelIdeal

@[expose] public section

namespace Cert.KernelIdeal.Ring

open Idealize.ShloMosaic Cert.KernelIdeal

/-- The layer of a device: eight devices lie in each of the four layers. -/
def zz (c : Dev nD) : ℕ := c.val / 8
/-- The number of a device in its layer. -/
def jj (c : Dev nD) : ℕ := c.val % 8
/-- The row of a device in its layer. -/
def yy (c : Dev nD) : ℕ := c.val % 8 / 2
/-- The parity of a device. -/
def tt (c : Dev nD) : ℕ := c.val % 2
/-- The column of a device in its layer, the rows numbered back and forth. -/
def xx (c : Dev nD) : ℕ := (jj c + yy c) % 2
/-- The number of a device in its row across the layers. -/
def mm (c : Dev nD) : ℕ := 2 * zz c + xx c

/-- The device of layer `z`, number `j`. -/
def dev (z j : ℕ) : Dev nD := ⟨(8 * z + j) % 32, Nat.mod_lt _ (by decide)⟩
/-- The device of row `y`, number `m` across the layers. -/
def devY (y m : ℕ) : Dev nD := ⟨(8 * (m / 2) + 2 * y + (m % 2 + y) % 2) % 32, Nat.mod_lt _ (by decide)⟩

/-- The next device around the layers. -/
def rz (c : Dev nD) : Dev nD := ⟨(c.val + 8) % 32, Nat.mod_lt _ (by decide)⟩
/-- The device before around the layers. -/
def lz (c : Dev nD) : Dev nD := ⟨(c.val + 24) % 32, Nat.mod_lt _ (by decide)⟩
/-- The next device around the rows of one column. -/
def ry (c : Dev nD) : Dev nD := dev (zz c) (2 * ((yy c + 1) % 4) + (xx c + (yy c + 1) % 4) % 2)
/-- The device before around the rows of one column. -/
def ly (c : Dev nD) : Dev nD := dev (zz c) (2 * ((yy c + 3) % 4) + (xx c + (yy c + 3) % 4) % 2)
/-- The device `d` further in the layer. -/
def pz (c : Dev nD) (d : ℕ) : Dev nD := dev (zz c) ((jj c + d) % 8)
/-- The device `d` further in the row across the layers. -/
def py (c : Dev nD) (d : ℕ) : Dev nD := devY (yy c) ((mm c + d) % 8)

/-- The device that transfer `i` of device `c` goes to: six blocks around the layers and twelve around the rows, in
    three rounds of two and four, then the seven of the layer and the seven of the row. -/
def dst (i : Fin 32) (c : Dev nD) : Dev nD :=
  if i.val < 18 then (if i.val % 6 < 2 then rz c else ry c)
  else if i.val < 25 then pz c (i.val - 17) else py c (i.val - 24)
/-- The device that transfer `i` to device `c` comes from. -/
def src (i : Fin 32) (c : Dev nD) : Dev nD :=
  if i.val < 18 then (if i.val % 6 < 2 then lz c else ly c)
  else if i.val < 25 then pz c (25 - i.val) else py c (32 - i.val)

theorem src_dst (i : Fin 32) (c : Dev nD) : src i (dst i c) = c := by revert i c; decide +kernel
theorem dst_src (i : Fin 32) (c : Dev nD) : dst i (src i c) = c := by revert i c; decide +kernel

/-- Devices and the devices their transfers `i` go to, one for one. -/
def dstEquiv (i : Fin 32) : Dev nD ≃ Dev nD := ⟨dst i, src i, src_dst i, dst_src i⟩

/-- The device that signal `n` of the barrier goes to: by turns the layer and the row. -/
def sdst (n : Fin 14) (c : Dev nD) : Dev nD :=
  if n.val % 2 = 0 then pz c (n.val / 2 + 1) else py c (n.val / 2 + 1)
/-- The device that signal `n` to device `c` comes from. -/
def ssrc (n : Fin 14) (c : Dev nD) : Dev nD :=
  if n.val % 2 = 0 then pz c (7 - n.val / 2) else py c (7 - n.val / 2)

theorem ssrc_sdst (n : Fin 14) (c : Dev nD) : ssrc n (sdst n c) = c := by revert n c; decide +kernel
theorem sdst_ssrc (n : Fin 14) (c : Dev nD) : sdst n (ssrc n c) = c := by revert n c; decide +kernel

/-- Devices and the devices their signals `n` go to, one for one. -/
def sdstEquiv (n : Fin 14) : Dev nD ≃ Dev nD := ⟨sdst n, ssrc n, ssrc_sdst n, sdst_ssrc n⟩

theorem zz_lt (c : Dev nD) : zz c < 4 := by revert c; decide
theorem jj_lt (c : Dev nD) : jj c < 8 := by revert c; decide
theorem yy_lt (c : Dev nD) : yy c < 4 := by revert c; decide
theorem tt_lt (c : Dev nD) : tt c < 2 := by revert c; decide
theorem mm_lt (c : Dev nD) : mm c < 8 := by revert c; decide

/-! ### The device numbers the kernel computes -/

theorem sdst0 (c : Dev nD) (h : k0_dev1 c < nD) : (⟨k0_dev1 c, h⟩ : Dev nD) = sdst 0 c := by revert c; decide +kernel
theorem sdst1 (c : Dev nD) (h : k0_dev2 c < nD) : (⟨k0_dev2 c, h⟩ : Dev nD) = sdst 1 c := by revert c; decide +kernel
theorem sdst2 (c : Dev nD) (h : k0_dev3 c < nD) : (⟨k0_dev3 c, h⟩ : Dev nD) = sdst 2 c := by revert c; decide +kernel
theorem sdst3 (c : Dev nD) (h : k0_dev4 c < nD) : (⟨k0_dev4 c, h⟩ : Dev nD) = sdst 3 c := by revert c; decide +kernel
theorem sdst4 (c : Dev nD) (h : k0_dev5 c < nD) : (⟨k0_dev5 c, h⟩ : Dev nD) = sdst 4 c := by revert c; decide +kernel
theorem sdst5 (c : Dev nD) (h : k0_dev6 c < nD) : (⟨k0_dev6 c, h⟩ : Dev nD) = sdst 5 c := by revert c; decide +kernel
theorem sdst6 (c : Dev nD) (h : k0_dev7 c < nD) : (⟨k0_dev7 c, h⟩ : Dev nD) = sdst 6 c := by revert c; decide +kernel
theorem sdst7 (c : Dev nD) (h : k0_dev8 c < nD) : (⟨k0_dev8 c, h⟩ : Dev nD) = sdst 7 c := by revert c; decide +kernel
theorem sdst8 (c : Dev nD) (h : k0_dev9 c < nD) : (⟨k0_dev9 c, h⟩ : Dev nD) = sdst 8 c := by revert c; decide +kernel
theorem sdst9 (c : Dev nD) (h : k0_dev10 c < nD) : (⟨k0_dev10 c, h⟩ : Dev nD) = sdst 9 c := by revert c; decide +kernel
theorem sdst10 (c : Dev nD) (h : k0_dev11 c < nD) : (⟨k0_dev11 c, h⟩ : Dev nD) = sdst 10 c := by revert c; decide +kernel
theorem sdst11 (c : Dev nD) (h : k0_dev12 c < nD) : (⟨k0_dev12 c, h⟩ : Dev nD) = sdst 11 c := by revert c; decide +kernel
theorem sdst12 (c : Dev nD) (h : k0_dev13 c < nD) : (⟨k0_dev13 c, h⟩ : Dev nD) = sdst 12 c := by revert c; decide +kernel
theorem sdst13 (c : Dev nD) (h : k0_dev14 c < nD) : (⟨k0_dev14 c, h⟩ : Dev nD) = sdst 13 c := by revert c; decide +kernel

theorem dst0 (c : Dev nD) (h : k0_dev15 c < nD) : (⟨k0_dev15 c, h⟩ : Dev nD) = dst 0 c := by revert c; decide +kernel
theorem dst1 (c : Dev nD) (h : k0_dev16 c < nD) : (⟨k0_dev16 c, h⟩ : Dev nD) = dst 1 c := by revert c; decide +kernel
theorem dst2 (c : Dev nD) (h : k0_dev17 c < nD) : (⟨k0_dev17 c, h⟩ : Dev nD) = dst 2 c := by revert c; decide +kernel
theorem dst3 (c : Dev nD) (h : k0_dev18 c < nD) : (⟨k0_dev18 c, h⟩ : Dev nD) = dst 3 c := by revert c; decide +kernel
theorem dst4 (c : Dev nD) (h : k0_dev19 c < nD) : (⟨k0_dev19 c, h⟩ : Dev nD) = dst 4 c := by revert c; decide +kernel
theorem dst5 (c : Dev nD) (h : k0_dev20 c < nD) : (⟨k0_dev20 c, h⟩ : Dev nD) = dst 5 c := by revert c; decide +kernel
theorem dst6 (c : Dev nD) (h : k0_dev21 c < nD) : (⟨k0_dev21 c, h⟩ : Dev nD) = dst 6 c := by revert c; decide +kernel
theorem dst7 (c : Dev nD) (h : k0_dev22 c < nD) : (⟨k0_dev22 c, h⟩ : Dev nD) = dst 7 c := by revert c; decide +kernel
theorem dst8 (c : Dev nD) (h : k0_dev23 c < nD) : (⟨k0_dev23 c, h⟩ : Dev nD) = dst 8 c := by revert c; decide +kernel
theorem dst9 (c : Dev nD) (h : k0_dev24 c < nD) : (⟨k0_dev24 c, h⟩ : Dev nD) = dst 9 c := by revert c; decide +kernel
theorem dst10 (c : Dev nD) (h : k0_dev25 c < nD) : (⟨k0_dev25 c, h⟩ : Dev nD) = dst 10 c := by revert c; decide +kernel
theorem dst11 (c : Dev nD) (h : k0_dev26 c < nD) : (⟨k0_dev26 c, h⟩ : Dev nD) = dst 11 c := by revert c; decide +kernel
theorem dst12 (c : Dev nD) (h : k0_dev27 c < nD) : (⟨k0_dev27 c, h⟩ : Dev nD) = dst 12 c := by revert c; decide +kernel
theorem dst13 (c : Dev nD) (h : k0_dev28 c < nD) : (⟨k0_dev28 c, h⟩ : Dev nD) = dst 13 c := by revert c; decide +kernel
theorem dst14 (c : Dev nD) (h : k0_dev29 c < nD) : (⟨k0_dev29 c, h⟩ : Dev nD) = dst 14 c := by revert c; decide +kernel
theorem dst15 (c : Dev nD) (h : k0_dev30 c < nD) : (⟨k0_dev30 c, h⟩ : Dev nD) = dst 15 c := by revert c; decide +kernel
theorem dst16 (c : Dev nD) (h : k0_dev31 c < nD) : (⟨k0_dev31 c, h⟩ : Dev nD) = dst 16 c := by revert c; decide +kernel
theorem dst17 (c : Dev nD) (h : k0_dev32 c < nD) : (⟨k0_dev32 c, h⟩ : Dev nD) = dst 17 c := by revert c; decide +kernel
theorem dst18 (c : Dev nD) (h : k0_dev33 c < nD) : (⟨k0_dev33 c, h⟩ : Dev nD) = dst 18 c := by revert c; decide +kernel
theorem dst19 (c : Dev nD) (h : k0_dev34 c < nD) : (⟨k0_dev34 c, h⟩ : Dev nD) = dst 19 c := by revert c; decide +kernel
theorem dst20 (c : Dev nD) (h : k0_dev35 c < nD) : (⟨k0_dev35 c, h⟩ : Dev nD) = dst 20 c := by revert c; decide +kernel
theorem dst21 (c : Dev nD) (h : k0_dev36 c < nD) : (⟨k0_dev36 c, h⟩ : Dev nD) = dst 21 c := by revert c; decide +kernel
theorem dst22 (c : Dev nD) (h : k0_dev37 c < nD) : (⟨k0_dev37 c, h⟩ : Dev nD) = dst 22 c := by revert c; decide +kernel
theorem dst23 (c : Dev nD) (h : k0_dev38 c < nD) : (⟨k0_dev38 c, h⟩ : Dev nD) = dst 23 c := by revert c; decide +kernel
theorem dst24 (c : Dev nD) (h : k0_dev39 c < nD) : (⟨k0_dev39 c, h⟩ : Dev nD) = dst 24 c := by revert c; decide +kernel
theorem dst25 (c : Dev nD) (h : k0_dev40 c < nD) : (⟨k0_dev40 c, h⟩ : Dev nD) = dst 25 c := by revert c; decide +kernel
theorem dst26 (c : Dev nD) (h : k0_dev41 c < nD) : (⟨k0_dev41 c, h⟩ : Dev nD) = dst 26 c := by revert c; decide +kernel
theorem dst27 (c : Dev nD) (h : k0_dev42 c < nD) : (⟨k0_dev42 c, h⟩ : Dev nD) = dst 27 c := by revert c; decide +kernel
theorem dst28 (c : Dev nD) (h : k0_dev43 c < nD) : (⟨k0_dev43 c, h⟩ : Dev nD) = dst 28 c := by revert c; decide +kernel
theorem dst29 (c : Dev nD) (h : k0_dev44 c < nD) : (⟨k0_dev44 c, h⟩ : Dev nD) = dst 29 c := by revert c; decide +kernel
theorem dst30 (c : Dev nD) (h : k0_dev45 c < nD) : (⟨k0_dev45 c, h⟩ : Dev nD) = dst 30 c := by revert c; decide +kernel
theorem dst31 (c : Dev nD) (h : k0_dev46 c < nD) : (⟨k0_dev46 c, h⟩ : Dev nD) = dst 31 c := by revert c; decide +kernel

/-! ### The offsets the kernel computes -/

/-- The row block device `c` adds to the sum around the layers in round `s`. -/
def cA (s : ℕ) (c : Dev nD) : ℕ := (zz c + 7 - s) % 4
/-- The row block device `c` adds to the sum around the rows in round `s`. -/
def cB (s : ℕ) (c : Dev nD) : ℕ := (yy c + 7 - s) % 4
/-- The first row, of the 256 of the last sum around the rows, that belongs to number `m` of the device's row. -/
def rowB (y m : ℕ) : ℕ := 64 * (m / 2) + 32 * ((m % 2 + y) % 2)

theorem off1_eq (c : Dev nD) : k0_off1 c = ![256 * cA 0 c, 0] := by revert c; decide +kernel
theorem off2_eq (c : Dev nD) : k0_off2 c = ![256 * cA 0 c, 256] := by revert c; decide +kernel
theorem off3_eq (k : Fin 4) (c : Dev nD) :
    k0_off3 c (BitVec.ofNat 32 (256 * k.val)) = ![256 * k.val + 64 * cB 0 c, 512] := by revert k c; decide +kernel
theorem off4_eq (s : Fin 2) (c : Dev nD) :
    k0_off4 c (BitVec.ofNat 32 (1 + s.val)) = ![256 * cA (1 + s.val) c, 0] := by revert s c; decide +kernel
theorem off5_eq (s : Fin 2) (c : Dev nD) :
    k0_off5 c (BitVec.ofNat 32 (1 + s.val)) = ![256 * cA (1 + s.val) c, 256] := by revert s c; decide +kernel
theorem off6_eq (k : Fin 4) (s : Fin 2) (c : Dev nD) :
    k0_off6 c (BitVec.ofNat 32 (256 * k.val)) (BitVec.ofNat 32 (1 + s.val))
      = ![256 * k.val + 64 * cB (1 + s.val) c, 512] := by revert k s c; decide +kernel
theorem off7_eq (c : Dev nD) : k0_off7 c = ![256 * cA 3 c, 0] := by revert c; decide +kernel
theorem off8_eq (c : Dev nD) : k0_off8 c = ![256 * cA 3 c, 256] := by revert c; decide +kernel
theorem off9_eq (c : Dev nD) : k0_off9 c = ![jj c] := by revert c; decide +kernel
theorem off10_eq (c : Dev nD) : k0_off10 c = ![32 * jj c, 0] := by revert c; decide +kernel
theorem off11_eq (d : Fin 7) (c : Dev nD) :
    k0_off11 c (BitVec.ofNat 32 (1 + d.val)) = ![2, 32 * ((jj c + (1 + d.val)) % 8), 0] := by revert d c; decide +kernel
theorem off12_eq (c : Dev nD) : k0_off12 c = ![2, 32 * jj c, 0] := by revert c; decide +kernel
theorem off13_eq (c : Dev nD) : k0_off13 c = ![32 * jj c, 0] := by revert c; decide +kernel
theorem off14_eq (k : Fin 4) (c : Dev nD) :
    k0_off14 c (BitVec.ofNat 32 (256 * k.val)) = ![256 * k.val + 64 * cB 3 c, 512] := by revert k c; decide +kernel
theorem off15_eq (c : Dev nD) : k0_off15 c = ![mm c] := by revert c; decide +kernel
theorem off16_eq (c : Dev nD) : k0_off16 c = ![32 * mm c, 0] := by revert c; decide +kernel
theorem off17_eq (d : Fin 7) (c : Dev nD) :
    k0_off17 c (BitVec.ofNat 32 (1 + d.val)) = ![2, rowB (yy c) ((mm c + (1 + d.val)) % 8), 0] := by
  revert d c; decide +kernel
theorem off18_eq (c : Dev nD) : k0_off18 c = ![2, rowB (yy c) (mm c), 0] := by revert c; decide +kernel
theorem off19_eq (c : Dev nD) : k0_off19 c = ![32 * mm c, 0] := by revert c; decide +kernel
theorem off20_eq (d : Fin 7) (c : Dev nD) :
    k0_off20 c (BitVec.ofNat 32 (1 + d.val)) = ![(jj c + (7 - d.val)) % 8] := by revert d c; decide +kernel
theorem off22_eq (d : Fin 7) (c : Dev nD) :
    k0_off22 c (BitVec.ofNat 32 (1 + d.val)) = ![(mm c + (7 - d.val)) % 8] := by revert d c; decide +kernel

end Cert.KernelIdeal.Ring
-- ==== Proof.Geom.lean ====
/- Boxes of a buffer, the elements a slice, a squeezed slice and an access of a whole buffer go through, and what the
   buffers of the kernel hold as functions of plain coordinates. -/
module

public import proofs.«01_k».proof.Proof.Mesh
public import proofs.«01_k».proof.Proof.Gen.KernelIdeal.Skeleton
public import proofs.«01_k».proof.Proof.Gen.KernelIdeal.Launch
public import Idealize.ShloMosaic.Lib.ValueLayout
public import Idealize.ShloMosaic.Lib.Pointwise.Index
public import Idealize.ShloMosaic.Lib.Pipeline.Value
public import Idealize.ShloMosaic.Lib.Tactic

@[expose] public section

noncomputable section

namespace Cert.KernelIdeal.Ring

open Idealize.ShloMosaic Idealize.ShloMosaic.TcCoe Cert.KernelIdeal Cert.KernelIdeal.Gen

/-! ### Boxes -/

/-- The elements whose coordinate on every axis lies in the interval of the given first coordinate and length. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by
  simp [box]

/-- Membership of a box of a two-dimensional buffer. -/
theorem mem_box2 {d : Fin 2 → ℕ} {a0 a1 n0 n1 : ℕ} {i : (⟨2, d⟩ : Shape).Idx} :
    i ∈ box (s := ⟨2, d⟩) ![a0, a1] ![n0, n1]
      ↔ (a0 ≤ (i 0).val ∧ (i 0).val < a0 + n0) ∧ (a1 ≤ (i 1).val ∧ (i 1).val < a1 + n1) := by
  rw [mem_box, Fin.forall_fin_two]; rfl

/-- Membership of a box of a three-dimensional buffer. -/
theorem mem_box3 {d : Fin 3 → ℕ} {a0 a1 a2 n0 n1 n2 : ℕ} {i : (⟨3, d⟩ : Shape).Idx} :
    i ∈ box (s := ⟨3, d⟩) ![a0, a1, a2] ![n0, n1, n2]
      ↔ (a0 ≤ (i 0).val ∧ (i 0).val < a0 + n0) ∧ (a1 ≤ (i 1).val ∧ (i 1).val < a1 + n1)
        ∧ (a2 ≤ (i 2).val ∧ (i 2).val < a2 + n2) := by
  rw [mem_box]
  constructor
  · intro h; exact ⟨h 0, h 1, h 2⟩
  · rintro ⟨h0, h1, h2⟩ a; fin_cases a <;> assumption

theorem unit_set_eq_box {s : Shape} {off size : Fin s.rank → ℕ} (inb) : (Rect.unit (s := s) off size inb).set = box off size := by
  ext i; rw [Rect.mem_set_unit, mem_box]

section Views
variable {κ : Kind} (b : Ref sig κ)

/-- The elements a slice of a whole buffer goes through are a box. -/
theorem slice_set (off size : Fin b.ty.shape.rank → ℕ) (inb) (hr) :
    ((Memref.whole b).slice (Rect.unit (s := b.ty.shape) off size inb) hr).view.set = box off size := by
  show ((View.whole b).slice (Rect.unit (s := b.ty.shape) off size inb)).set = _
  rw [View.set_slice_whole, unit_set_eq_box]

/-- So are those of a squeezed slice. -/
theorem squeeze_set (off size : Fin b.ty.shape.rank → ℕ) (inb) (hr) (t : Shape) (h) :
    (((Memref.whole b).slice (Rect.unit (s := b.ty.shape) off size inb) hr).squeeze t h).view.set = box off size := by
  exact (View.set_reshape _ _).trans (slice_set b off size inb hr)

/-- So are those of a store through a rectangle. -/
theorem access_setOn (off size : Fin b.ty.shape.rank → ℕ) (inb) :
    ((Memref.whole b).access (Rect.unit (s := b.ty.shape) off size inb)).setOn Finset.univ = box off size := by
  show ((View.whole b).slice (Rect.unit (s := b.ty.shape) off size inb)).set = _
  rw [View.set_slice_whole, unit_set_eq_box]

/-- So are those of a load through a rectangle. -/
theorem load_setOn (off size : Fin b.ty.shape.rank → ℕ) (inb) :
    (Memref.whole b).view.setOn (Rect.unit (s := b.ty.shape) off size inb).set = box off size := by
  rw [unit_set_eq_box]
  exact Finset.map_refl

end Views

/-! ### What a write of one view's elements through another leaves -/

/-- A write of `w` through a whole view that reads off `g` leaves `g` on the view's elements. -/
theorem write_agrees {κ : Kind} {sp : Space} {s : Shape} {e : EltTy} {Val : EltTy → Type} (v : View sig κ sp s e)
    (fd g : v.ty.Contents Val) (w : s.Idx → Val e)
    (h : ∀ y, _root_.cast (congrArg Val v.elt_eq.symm) (w y) = g (v.emb y)) :
    ∀ i ∈ v.set, v.write Val fd w Finset.univ i = g i := by
  intro i hi
  obtain ⟨y, -, rfl⟩ := Finset.mem_map.mp hi
  rw [View.write_emb_of_mem _ _ (Finset.mem_univ y), h]

/-! ### The contents of the buffers, by plain coordinates -/

variable {F : FTy → Type} [FloatOps F]
variable (X : Dev nD → Vec F S1024x32 .f32) (Wt : Dev nD → Vec F S32x1024 .f32)

/-- The left half of a device's weights, as the kernel loads it. -/
def wL (c : Dev nD) : Vec F S32x512 .f32 :=
  (Memref.whole cc0_stg1_0).view.readAt (Elt F) (Rect.unit (s := S32x1024) ![0, 0] S32x512.size inb_S32x1024_S32x512_0_0).toLoadRect (Wt c)
/-- The right half of a device's weights, as the kernel loads it. -/
def wR (c : Dev nD) : Vec F S32x512 .f32 :=
  (Memref.whole cc0_stg1_0).view.readAt (Elt F) (Rect.unit (s := S32x1024) ![0, 512] S32x512.size inb_S32x1024_S32x512_0_512).toLoadRect (Wt c)

/-- The index of a 1024 by 512 array with the given coordinates. -/
def n2 (r k : ℕ) : S1024x512.Idx := ix2 (n0 := 1024) (n1 := 512) (Fin.ofNat 1024 r) (Fin.ofNat 512 k)

/-- Device `c`'s product of its columns of the input and its rows of the weights, at row `r` and column `k`. -/
def part (c : Dev nD) (r k : ℕ) : F .f32 :=
  if k < 512 then k0_pay1 (X c) (wL Wt c) (n2 r k) else k0_pay2 (X c) (wR Wt c) (n2 r (k - 512))

/-- What lands on device `c` in round `s` of the sum around the layers. -/
def landA : ℕ → Dev nD → ℕ → ℕ → F .f32
  | 0, c, r, k => part X Wt (lz c) (256 * cA 0 (lz c) + r) k
  | s + 1, c, r, k => FloatOps.addf (landA s (lz c) r k) (part X Wt (lz c) (256 * cA (s + 1) (lz c) + r) k)
/-- The same with device `c`'s own block added. -/
def accA (s : ℕ) (c : Dev nD) (r k : ℕ) : F .f32 :=
  FloatOps.addf (landA X Wt s c r k) (part X Wt c (256 * cA (s + 1) c + r) k)

/-- The row of the product that row `r` of block `b` of the sum around the rows stands for. -/
def rowOf (b r : ℕ) : ℕ := 256 * (r / 64) + 64 * b + r % 64

/-- What lands on device `c` in round `s` of the sum around the rows. -/
def landB : ℕ → Dev nD → ℕ → ℕ → F .f32
  | 0, c, r, k => part X Wt (ly c) (rowOf (cB 0 (ly c)) r) (512 + k)
  | s + 1, c, r, k => FloatOps.addf (landB s (ly c) r k) (part X Wt (ly c) (rowOf (cB (s + 1) (ly c)) r) (512 + k))
/-- The same with device `c`'s own block added. -/
def accB (s : ℕ) (c : Dev nD) (r k : ℕ) : F .f32 :=
  FloatOps.addf (landB X Wt s c r k) (part X Wt c (rowOf (cB (s + 1) c) r) (512 + k))

/-- Row block `r / 32` of what device `c` collects in its layer. -/
def gatA (c : Dev nD) (r k : ℕ) : F .f32 := accA X Wt 2 (dev (zz c) (r / 32)) (32 * jj c + r % 32) k
/-- Row block `r / 32` of what device `c` collects in its row across the layers. -/
def gatB (c : Dev nD) (r k : ℕ) : F .f32 := accB X Wt 2 (devY (yy c) (r / 32)) (rowB (yy c) (mm c) + r % 32) k

def bPart (c : Dev nD) : (cc0_scratch0 : Ref sig .tc).ty.Contents (Elt F) := fun i => part X Wt c (i (0 : Fin 2)).val (i (1 : Fin 2)).val
def bLandA (c : Dev nD) : (cc0_scratch1 : Ref sig .tc).ty.Contents (Elt F) :=
  fun i => landA X Wt (i (0 : Fin 3)).val c (i (1 : Fin 3)).val (i (2 : Fin 3)).val
def bAccA (c : Dev nD) : (cc0_scratch1 : Ref sig .tc).ty.Contents (Elt F) :=
  fun i => accA X Wt (i (0 : Fin 3)).val c (i (1 : Fin 3)).val (i (2 : Fin 3)).val
def bLandB (c : Dev nD) : (cc0_scratch2 : Ref sig .tc).ty.Contents (Elt F) :=
  fun i => landB X Wt (i (0 : Fin 3)).val c (i (1 : Fin 3)).val (i (2 : Fin 3)).val
def bAccB (c : Dev nD) : (cc0_scratch2 : Ref sig .tc).ty.Contents (Elt F) :=
  fun i => accB X Wt (i (0 : Fin 3)).val c (i (1 : Fin 3)).val (i (2 : Fin 3)).val
def bGatA (c : Dev nD) : (cc0_scratch3 : Ref sig .tc).ty.Contents (Elt F) := fun i => gatA X Wt c (i (0 : Fin 2)).val (i (1 : Fin 2)).val
def bGatB (c : Dev nD) : (cc0_scratch4 : Ref sig .tc).ty.Contents (Elt F) := fun i => gatB X Wt c (i (0 : Fin 2)).val (i (1 : Fin 2)).val

/-! ### The coordinates of a squeezed slice -/

/-- The place, in a three-dimensional buffer, of an element of a squeezed slice of one layer of it. -/
theorem emb_squeeze {d : Fin 3 → ℕ} {m n : ℕ} (off : Fin 3 → ℕ) (inb)
    (h : (⟨2, ![m, n]⟩ : Shape).numel = (⟨3, ![1, m, n]⟩ : Shape).numel) (y : (⟨2, ![m, n]⟩ : Shape).Idx) :
    ((Rect.unit (s := ⟨3, d⟩) off ![1, m, n] inb).emb (Shape.reshapeEquiv h y) (0 : Fin 3)).val = off 0
    ∧ ((Rect.unit (s := ⟨3, d⟩) off ![1, m, n] inb).emb (Shape.reshapeEquiv h y) (1 : Fin 3)).val = off 1 + (y (0 : Fin 2)).val
    ∧ ((Rect.unit (s := ⟨3, d⟩) off ![1, m, n] inb).emb (Shape.reshapeEquiv h y) (2 : Fin 3)).val = off 2 + (y (1 : Fin 2)).val := by
  have e : Shape.reshapeEquiv h y = ix3 (⟨0, Nat.one_pos⟩ : Fin 1) (y (0 : Fin 2)) (y (1 : Fin 2)) := by
    conv_lhs => rw [eq_ix2 y]
    exact ValueIdx.reshapeEquiv_ix2_1ab h _ _
  rw [e]
  refine ⟨?_, ?_, ?_⟩
  · show off 0 + 1 * 0 = off 0; omega
  · show off 1 + 1 * (y (0 : Fin 2)).val = off 1 + _; rw [Nat.one_mul]
  · show off 2 + 1 * (y (1 : Fin 2)).val = off 2 + _; rw [Nat.one_mul]

/-- The place of an element of a slice along an axis. -/
theorem emb_unit {s : Shape} (off size : Fin s.rank → ℕ) (inb) (y : (⟨s.rank, size⟩ : Shape).Idx) (a : Fin s.rank) :
    ((Rect.unit (s := s) off size inb).emb y a).val = off a + (y a).val := by
  rw [Rect.emb_apply]; show off a + 1 * _ = _; rw [Nat.one_mul]

end Cert.KernelIdeal.Ring
-- ==== Proof.Cells.lean ====
/- The semaphores of the kernel as cells of one round each: who pays which cell, how much and with what, what every
   device owes at launch, and in which order the cells may be waited on. -/
module

public import proofs.«01_k».proof.Proof.Geom
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The resource algebra: the pipeline's cells and the kernel's, whose duties are numbered -/

abbrev UB : Type := URounds (GSem nD τ sig) (Fin 14)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ### The cells -/

/-- The barrier's semaphore. -/
abbrev barS : Sem sig := (SemArray.scalar (sig.barrier 0 rfl) : Sems sig S_).sem

/-- The number of the semaphore that transfer `i` raises on the device that sends. -/
def ssemN (i : ℕ) : ℕ :=
  if i < 18 then (if i % 6 < 2 then 3 + (2 * (i / 6) + i % 6) else 15 + (4 * (i / 6) + (i % 6 - 2)))
  else if i < 25 then 39 + (i - 18) else 54 + (i - 25)
/-- The number of the semaphore that transfer `i` to device `c` raises there. -/
def rsemN (c : Dev nD) (i : Fin 32) : ℕ :=
  if i.val < 18 then (if i.val % 6 < 2 then 9 + (2 * (i.val / 6) + i.val % 6) else 27 + (4 * (i.val / 6) + (i.val % 6 - 2)))
  else if i.val < 25 then 46 + jj (src i c) else 61 + mm (src i c)

theorem ssemN_lt (i : Fin 32) : ssemN i.val < 69 := by revert i; decide
theorem rsemN_lt (c : Dev nD) (i : Fin 32) : rsemN c i < 69 := by revert c i; decide +kernel

def ssem (i : Fin 32) : DmaSem sig := (⟨ssemN i.val, ssemN_lt i⟩ : Fin 69)
def rsem (c : Dev nD) (i : Fin 32) : DmaSem sig := (⟨rsemN c i, rsemN_lt c i⟩ : Fin 69)

abbrev barCell (c : Dev nD) : GSem nD τ sig := ((c : Thread nD τ), .reg barS)
abbrev scell (c : Dev nD) (i : Fin 32) : GSem nD τ sig := ((c : Thread nD τ), .dma (ssem i))
abbrev rcell (c : Dev nD) (i : Fin 32) : GSem nD τ sig := ((c : Thread nD τ), .dma (rsem c i))

/-- What a semaphore is to the kernel. -/
inductive Role where
  | bar
  | send (i : Fin 32)
  | recv (i : Fin 32)
  | none
  deriving DecidableEq

/-- The role of a transfer semaphore of device `c`. -/
def roleD (c : Dev nD) (q : Fin 69) : Role :=
  match (List.finRange 32).find? (fun i => decide (ssemN i.val = q.val)) with
  | some i => .send i
  | Option.none => match (List.finRange 32).find? (fun i => decide (rsemN c i = q.val)) with
    | some i => .recv i
    | Option.none => .none

/-- The role of a semaphore. -/
def role (g : GSem nD τ sig) : Role :=
  if g.1.2 = .tc then (match g.2 with
    | .reg _ => .bar
    | .dma q => roleD g.1.1 q) else .none

theorem roleD_send (c : Dev nD) (i : Fin 32) : roleD c ⟨ssemN i.val, ssemN_lt i⟩ = .send i := by revert c i; decide +kernel
theorem roleD_recv (c : Dev nD) (i : Fin 32) : roleD c ⟨rsemN c i, rsemN_lt c i⟩ = .recv i := by revert c i; decide +kernel
theorem roleD_low (c : Dev nD) (q : Fin 69) (h : q.val < 3) : roleD c q = .none := by revert c q; decide +kernel

theorem role_bar (c : Dev nD) : role (barCell c) = .bar := rfl
theorem role_send (c : Dev nD) (i : Fin 32) : role (scell c i) = .send i := roleD_send c i
theorem role_recv (c : Dev nD) (i : Fin 32) : role (rcell c i) = .recv i := roleD_recv c i

/-! ### Amounts -/

/-- What transfer `i` credits. -/
def N (i : Fin 32) : ℕ :=
  if i.val < 18 then (if i.val % 6 < 2 then RefSig.tileCredit S256x256 .f32 else RefSig.tileCredit S64x512 .f32) else RefSig.tileCredit S32x512 .f32

theorem N_pos (i : Fin 32) : 0 < N i := by
  unfold N
  split
  · split
    · exact RefSig.tileCredit_pos _ _ h_S256x256
    · exact RefSig.tileCredit_pos _ _ h_S64x512
  · exact RefSig.tileCredit_pos _ _ h_S32x512

/-! ### The pieces of the buffers -/

/-- A piece of the left sums: round `s`, half `q` of the columns. -/
def setA (s q : ℕ) : Finset S3x256x512.Idx := box (s := ⟨3, ![3, 256, 512]⟩) ![s, 0, 256 * q] ![1, 256, 256]
/-- A piece of the right sums: round `s`, quarter `k` of the rows. -/
def setB (s k : ℕ) : Finset S3x256x512.Idx := box (s := ⟨3, ![3, 256, 512]⟩) ![s, 64 * k, 0] ![1, 64, 512]
/-- Thirty-two rows, from row `o`, of the last round. -/
def row3 (o : ℕ) : Finset S3x256x512.Idx := box (s := ⟨3, ![3, 256, 512]⟩) ![2, o, 0] ![1, 32, 512]
/-- Thirty-two rows, from row `o`, of what a device collects. -/
def row2 (o : ℕ) : Finset S256x512.Idx := box (s := ⟨2, ![256, 512]⟩) ![o, 0] ![32, 512]
/-- A block of the product: 256 rows from row `o`, half `q` of the left columns. -/
def partA (o q : ℕ) : Finset S1024x1024.Idx := box (s := ⟨2, ![1024, 1024]⟩) ![o, 256 * q] ![256, 256]
/-- A block of the product: 64 rows from row `o`, the right columns. -/
def partB (o : ℕ) : Finset S1024x1024.Idx := box (s := ⟨2, ![1024, 1024]⟩) ![o, 512] ![64, 512]

abbrev locP (c : Dev nD) : Loc nD τ sig := (c : Thread nD τ).loc cc0_scratch0
abbrev locA (c : Dev nD) : Loc nD τ sig := (c : Thread nD τ).loc cc0_scratch1
abbrev locB (c : Dev nD) : Loc nD τ sig := (c : Thread nD τ).loc cc0_scratch2
abbrev locXA (c : Dev nD) : Loc nD τ sig := (c : Thread nD τ).loc cc0_scratch3
abbrev locXB (c : Dev nD) : Loc nD τ sig := (c : Thread nD τ).loc cc0_scratch4

/-- The place transfer `i` to device `c` lands, with given contents. -/
def landAt (c : Dev nD) (i : Fin 32) (fA : Buf (Elt F) (locA c)) (fB : Buf (Elt F) (locB c)) (fXA : Buf (Elt F) (locXA c))
    (fXB : Buf (Elt F) (locXB c)) : sProp 𝕄 :=
  if i.val < 18 then
    (if i.val % 6 < 2 then (locA c ↦[setA (i.val / 6) (i.val % 6)]{fullShare} fA)
     else (locB c ↦[setB (i.val / 6) (i.val % 6 - 2)]{fullShare} fB))
  else if i.val < 25 then (locXA c ↦[row2 (32 * jj (src i c))]{fullShare} fXA)
  else (locXB c ↦[row2 (32 * mm (src i c))]{fullShare} fXB)

/-- That place with any contents. -/
def Land (c : Dev nD) (i : Fin 32) : sProp 𝕄 := iprop(∃ fA fB fXA fXB, landAt (F := F) c i fA fB fXA fXB)

variable (X : Dev nD → Vec F S1024x32 .f32) (Wt : Dev nD → Vec F S32x1024 .f32)

/-- That place with what transfer `i` brings. -/
def landPts (c : Dev nD) (i : Fin 32) : sProp 𝕄 := landAt c i (bLandA X Wt c) (bLandB X Wt c) (bGatA X Wt c) (bGatB X Wt c)

/-- The place transfer `i` of device `c` is sent from, with what it sends. -/
def srcPts (c : Dev nD) (i : Fin 32) : sProp 𝕄 :=
  if i.val < 18 then
    (if i.val % 6 < 2 then
      (if i.val < 6 then (locP c ↦[partA (256 * cA 0 c) (i.val % 6)]{fullShare} bPart X Wt c)
       else (locA c ↦[setA (i.val / 6 - 1) (i.val % 6)]{fullShare} bAccA X Wt c))
     else
      (if i.val < 6 then (locP c ↦[partB (256 * (i.val % 6 - 2) + 64 * cB 0 c)]{fullShare} bPart X Wt c)
       else (locB c ↦[setB (i.val / 6 - 1) (i.val % 6 - 2)]{fullShare} bAccB X Wt c)))
  else if i.val < 25 then (locA c ↦[row3 (32 * ((jj c + (i.val - 17)) % 8))]{fullShare} bAccA X Wt c)
  else (locB c ↦[row3 (rowB (yy c) ((mm c + (i.val - 24)) % 8))]{fullShare} bAccB X Wt c)

instance landAt_storable (c : Dev nD) (i : Fin 32) (fA) (fB) (fXA) (fXB) :
    BI.Storable (upEmb : UEmb _ 𝕄) (landAt (F := F) c i fA fB fXA fXB) := by unfold landAt; (repeat' split) <;> infer_instance
instance Land_storable (c : Dev nD) (i : Fin 32) : BI.Storable (upEmb : UEmb _ 𝕄) (Land (F := F) c i) := by
  unfold Land; infer_instance
instance landPts_storable (c : Dev nD) (i : Fin 32) : BI.Storable (upEmb : UEmb _ 𝕄) (landPts X Wt c i) := by
  unfold landPts; infer_instance
instance srcPts_storable (c : Dev nD) (i : Fin 32) : BI.Storable (upEmb : UEmb _ 𝕄) (srcPts X Wt c i) := by
  unfold srcPts; (repeat' split) <;> infer_instance

theorem landAt_Land (c : Dev nD) (i : Fin 32) (fA) (fB) (fXA) (fXB) : landAt (F := F) c i fA fB fXA fXB ⊢ Land c i := by
  unfold Land
  iintro H; iexists fA; iexists fB; iexists fXA; iexists fXB; iexact H

/-! ### What the barrier hands over -/

/-- The signal with which device `c` hands the sender of transfer `i` the place it lands. -/
def gsig (i : Fin 32) (c : Dev nD) : Fin 14 :=
  match (List.finRange 14).find? (fun n => decide (sdst n c = src i c)) with
  | some n => n
  | Option.none => 0

theorem sdst_gsig (i : Fin 32) (c : Dev nD) : sdst (gsig i c) c = src i c := by revert i c; decide +kernel

/-- Two products over finite types change places. -/
theorem prod_swap {ι κ : Type} [Fintype ι] [Fintype κ] (Φ : ι → κ → sProp 𝕄) :
    (bigSep Finset.univ fun i => bigSep Finset.univ fun j => Φ i j) = bigSep Finset.univ fun j => bigSep Finset.univ fun i => Φ i j := by
  rw [← bigSep_univ_prod (fun p : ι × κ => Φ p.1 p.2), bigSep_univ_equiv (Equiv.prodComm κ ι), bigSep_univ_prod]
  rfl

/-- A proposition is the product over the numbers that has it at one number. -/
theorem pick_intro (k : Fin 14) (P : sProp 𝕄) : P ⊢ bigSep Finset.univ fun n : Fin 14 => if k = n then P else iprop(emp) := by
  have h : bigSep (Finset.univ.erase k) (fun n : Fin 14 => if k = n then P else iprop(emp)) = (BI.emp : sProp 𝕄) :=
    (BI.bigSep_congr (Ψ := fun _ => BI.emp) fun n hn => if_neg fun h => (Finset.ne_of_mem_erase hn) h.symm).trans (bigSep_emp_const _)
  rw [bigSep_univ_at _ k, if_pos rfl, h]
  exact (sep_emp (PROP := sProp 𝕄)).2

/-- A product of storable propositions is storable. -/
theorem bigSep_storable {ι : Type} (S : Finset ι) (Φ : ι → sProp 𝕄) (h : ∀ i, BI.Storable (upEmb : UEmb _ 𝕄) (Φ i)) :
    BI.Storable (upEmb : UEmb _ 𝕄) (bigSep S Φ) := by
  classical
  induction S using Finset.induction_on with
  | empty => rw [bigSep_empty]; show BI.Storable _ (iprop(emp) : sProp 𝕄); infer_instance
  | insert i S hi ih => rw [bigSep_insert hi]; have := h i; exact BI.Storable.sep _ _ _

/-- What signal `n` of device `c` hands over: the places of the transfers that its receiver sends to `c`. -/
def Grant (c : Dev nD) (n : Fin 14) : sProp 𝕄 :=
  bigSep Finset.univ fun i : Fin 32 => if gsig i c = n then Land (F := F) c i else iprop(emp)

instance Grant_storable (c : Dev nD) (n : Fin 14) : BI.Storable (upEmb : UEmb _ 𝕄) (Grant (F := F) c n) := by
  unfold Grant
  exact bigSep_storable _ _ fun i => by split <;> infer_instance

/-! ### The schedule -/

/-- One round. The barrier's cell has fourteen duties of one unit; a transfer's cells have one duty of its credit. -/
def Rd : Rounds.Schedule (GSem nD τ sig) (Fin 14) 𝕄 where
  duties g r := if r = 0 then (match role g with
    | .bar => Finset.univ
    | .send _ => {0}
    | .recv _ => {0}
    | .none => ∅) else ∅
  unitless _ := False
  amount g _ _ := match role g with
    | .bar => 1
    | .send i => N i
    | .recv i => N i
    | .none => 1
  payload g _ d := match role g with
    | .bar => Grant (ssrc d g.1.1) d
    | .send i => srcPts X Wt g.1.1 i
    | .recv i => landPts X Wt g.1.1 i
    | .none => iprop(emp)
  amount_pos g _ _ _ := by
    cases role g with
    | bar => exact Nat.one_pos
    | send i => exact N_pos i
    | recv i => exact N_pos i
    | none => exact Nat.one_pos

instance Rd_storable (g : GSem nD τ sig) (r : ℕ) (d : Fin 14) :
    BI.Storable (upEmb : UEmb _ 𝕄) ((Rd X Wt).payload g r d) := by
  show BI.Storable upEmb (match role g with
    | .bar => Grant (F := F) (ssrc d g.1.1) d
    | .send i => srcPts X Wt g.1.1 i
    | .recv i => landPts X Wt g.1.1 i
    | .none => iprop(emp))
  cases role g <;> infer_instance

section Sched
variable (c : Dev nD) (i : Fin 32)

theorem duties_bar : (Rd X Wt).duties (barCell c) 0 = Finset.univ := rfl
theorem duties_send : (Rd X Wt).duties (scell c i) 0 = {0} := by
  show (if (0 : ℕ) = 0 then (match role (scell c i) with | .bar => (Finset.univ : Finset (Fin 14)) | .send _ => {0} | .recv _ => {0} | .none => ∅) else ∅) = _
  rw [role_send]; rfl
theorem duties_recv : (Rd X Wt).duties (rcell c i) 0 = {0} := by
  show (if (0 : ℕ) = 0 then (match role (rcell c i) with | .bar => (Finset.univ : Finset (Fin 14)) | .send _ => {0} | .recv _ => {0} | .none => ∅) else ∅) = _
  rw [role_recv]; rfl
theorem duties_later (g : GSem nD τ sig) : ∀ r, 1 ≤ r → (Rd X Wt).duties g r = ∅ :=
  fun r hr => if_neg (by omega)

theorem amount_bar (d : Fin 14) : (Rd X Wt).amount (barCell c) 0 d = 1 := rfl
theorem amount_send (d : Fin 14) : (Rd X Wt).amount (scell c i) 0 d = N i := by
  show (match role (scell c i) with | .bar => 1 | .send i => N i | .recv i => N i | .none => 1) = _
  rw [role_send]
theorem amount_recv (d : Fin 14) : (Rd X Wt).amount (rcell c i) 0 d = N i := by
  show (match role (rcell c i) with | .bar => 1 | .send i => N i | .recv i => N i | .none => 1) = _
  rw [role_recv]

theorem expect_bar : (Rd X Wt).expect (barCell c) 0 = 14 := by
  unfold Schedule.expect Schedule.amountOf
  rw [duties_bar, Finset.sum_congr rfl fun d _ => amount_bar X Wt c d, Finset.sum_const, Finset.card_univ, Fintype.card_fin, smul_eq_mul]
theorem expect_send : (Rd X Wt).expect (scell c i) 0 = N i := by
  unfold Schedule.expect Schedule.amountOf; rw [duties_send, Finset.sum_singleton, amount_send]
theorem expect_recv : (Rd X Wt).expect (rcell c i) 0 = N i := by
  unfold Schedule.expect Schedule.amountOf; rw [duties_recv, Finset.sum_singleton, amount_recv]

theorem payload_bar (d : Fin 14) : (Rd X Wt).payload (barCell c) 0 d = Grant (ssrc d c) d := rfl
theorem payload_send (d : Fin 14) : (Rd X Wt).payload (scell c i) 0 d = srcPts X Wt c i := by
  show (match role (scell c i) with
    | .bar => Grant (F := F) (ssrc d c) d
    | .send i => srcPts X Wt c i
    | .recv i => landPts X Wt c i
    | .none => iprop(emp)) = _
  rw [role_send]
theorem payload_recv (d : Fin 14) : (Rd X Wt).payload (rcell c i) 0 d = landPts X Wt c i := by
  show (match role (rcell c i) with
    | .bar => Grant (F := F) (ssrc d c) d
    | .send i => srcPts X Wt c i
    | .recv i => landPts X Wt c i
    | .none => iprop(emp)) = _
  rw [role_recv]

theorem rest_bar : bigSep ((Rd X Wt).duties (barCell c) 0 \ ∅) (fun d => (Rd X Wt).payload (barCell c) 0 d)
    = bigSep Finset.univ fun d : Fin 14 => Grant (F := F) (ssrc d c) d := by
  rw [Finset.sdiff_empty, duties_bar]; rfl
theorem rest_send : bigSep ((Rd X Wt).duties (scell c i) 0 \ ∅) (fun d => (Rd X Wt).payload (scell c i) 0 d) = srcPts X Wt c i := by
  rw [Finset.sdiff_empty, duties_send, bigSep_singleton, payload_send]
theorem rest_recv : bigSep ((Rd X Wt).duties (rcell c i) 0 \ ∅) (fun d => (Rd X Wt).payload (rcell c i) 0 d) = landPts X Wt c i := by
  rw [Finset.sdiff_empty, duties_recv, bigSep_singleton, payload_recv]

end Sched

/-- The places a device receives at are what its signals hand over. -/
theorem grants_of_lands (c : Dev nD) :
    (bigSep Finset.univ fun i : Fin 32 => Land (F := F) c i) ⊢ bigSep Finset.univ fun n : Fin 14 => Grant (F := F) c n := by
  unfold Grant
  rw [prod_swap (fun (n : Fin 14) (i : Fin 32) => if gsig i c = n then Land (F := F) c i else iprop(emp))]
  refine BI.bigSep_mono fun i _ => ?_
  exact pick_intro (gsig i c) _

/-- What its barrier brings a device are the places its transfers land. -/
theorem lands_of_grants (c : Dev nD) :
    (bigSep Finset.univ fun n : Fin 14 => Grant (F := F) (ssrc n c) n) ⊢ bigSep Finset.univ fun i : Fin 32 => Land (F := F) (dst i c) i := by
  unfold Grant
  rw [prod_swap (fun (n : Fin 14) (i : Fin 32) => if gsig i (ssrc n c) = n then Land (F := F) (ssrc n c) i else iprop(emp))]
  refine BI.bigSep_mono fun i _ => ?_
  have h : ssrc (gsig i (dst i c)) c = dst i c := by
    have h := ssrc_sdst (gsig i (dst i c)) (dst i c)
    rwa [sdst_gsig, src_dst] at h
  have e : ∀ (n : Fin 14) (a a' : Dev nD), a = a' → gsig i a' = n → (if gsig i a = n then Land (F := F) a i else iprop(emp)) ⊢ Land a' i := by
    rintro n a a' rfl hn
    rw [if_pos hn]
  generalize hk : gsig i (dst i c) = k at h
  exact (BI.bigSep_elim (Φ := fun n : Fin 14 => if gsig i (ssrc n c) = n then Land (F := F) (ssrc n c) i else iprop(emp))
    (Finset.mem_univ k)).trans (e k _ _ h hk)

/-! ### What is owed; the levels -/

/-- What device `c` owes its transfers from number `n` on. -/
def Od (c : Dev nD) (n : ℕ) : CellTallies nD τ sig Unit :=
  ∑ i ∈ Finset.univ.filter (fun i : Fin 32 => n ≤ i.val), tallyAt (rcell (dst i c) i) () (N i)
/-- What device `c` owes before signal `n`. -/
def Ob (c : Dev nD) (n : ℕ) : CellTallies nD τ sig Unit :=
  Od c 0 + ∑ j ∈ Finset.univ.filter (fun j : Fin 14 => n ≤ j.val), tallyAt (barCell (sdst j c)) () 1

theorem filter_ge_step {k : ℕ} (i : Fin k) :
    Finset.univ.filter (fun j : Fin k => i.val ≤ j.val) = insert i (Finset.univ.filter (fun j : Fin k => i.val + 1 ≤ j.val)) := by
  ext j
  simp only [Finset.mem_filter, Finset.mem_univ, true_and, Finset.mem_insert, Fin.ext_iff]
  omega

theorem Od_step (c : Dev nD) (i : Fin 32) : Od c i.val = Od c (i.val + 1) + tallyAt (rcell (dst i c) i) () (N i) := by
  unfold Od
  rw [filter_ge_step i, Finset.sum_insert (by simp), add_comm]
theorem Ob_step (c : Dev nD) (j : Fin 14) : Ob c j.val = Ob c (j.val + 1) + tallyAt (barCell (sdst j c)) () 1 := by
  unfold Ob
  rw [filter_ge_step j, Finset.sum_insert (by simp), add_assoc, add_comm (tallyAt _ _ _)]
theorem Od_end (c : Dev nD) : Od c 32 = 0 := by
  unfold Od
  rw [Finset.filter_false_of_mem (fun i _ => by omega), Finset.sum_empty]
theorem Ob_end (c : Dev nD) : Ob c 14 = Od c 0 := by
  unfold Ob
  rw [Finset.filter_false_of_mem (fun i _ => by omega), Finset.sum_empty, add_zero]

def L (g : GSem nD τ sig) : Finset Unit := if g.1.2 = .tc then {()} else ∅
/-- The barrier's cells stand at 1, the cell of transfer `i` at its receiver at `2 + i`, all others at 0. -/
def lv (g : GSem nD τ sig) (_ : Unit) : ℕ := match role g with
  | .bar => 1
  | .recv i => 2 + i.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (i : Fin 32) (u : Unit) : lv (rcell c i) u = 2 + i.val := by unfold lv; rw [role_recv]
theorem lv_send (c : Dev nD) (i : Fin 32) (u : Unit) : lv (scell c i) u = 0 := by unfold lv; rw [role_send]

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem sum_tally_pos {ι : Type} (S : Finset ι) (T : ι → CellTallies nD τ sig Unit) {g : GSem nD τ sig} {u : Unit}
    (h : 0 < (∑ i ∈ S, T i) g u) : ∃ i ∈ S, 0 < T i g u := by
  by_contra hn
  push Not at hn
  rw [Finset.sum_apply, Finsupp.finset_sum_apply, Finset.sum_eq_zero fun i hi => Nat.le_zero.mp (hn i hi)] at h
  exact Nat.lt_irrefl 0 h

theorem Od_pos {c : Dev nD} {n : ℕ} {g : GSem nD τ sig} {u : Unit} (h : 0 < Od c n g u) : ∃ i : Fin 32, n ≤ i.val ∧ g = rcell (dst i c) i := by
  obtain ⟨i, hi, h⟩ := sum_tally_pos _ _ h
  exact ⟨i, (Finset.mem_filter.mp hi).2, tally_pos h⟩

theorem Ob_pos {c : Dev nD} {n : ℕ} {g : GSem nD τ sig} {u : Unit} (h : 0 < Ob c n g u) :
    (∃ i : Fin 32, g = rcell (dst i c) i) ∨ ∃ j : Fin 14, g = barCell (sdst j c) := by
  unfold Ob at h
  rw [Pi.add_apply, Finsupp.add_apply] at h
  rcases Nat.eq_zero_or_pos (Od c 0 g u) with h0 | h0
  · rw [h0, Nat.zero_add] at h
    obtain ⟨j, -, h⟩ := sum_tally_pos _ _ h
    exact .inr ⟨j, tally_pos h⟩
  · obtain ⟨i, -, h⟩ := Od_pos h0
    exact .inl ⟨i, h⟩

/-- A device may wait on a cell that stands below everything it still owes. -/
theorem mayWait_Od (c : Dev nD) (sm : SemLoc sig) (n k : ℕ) (hk : lv ((c : Thread nD τ), sm) () ≤ k) (hn : k < 2 + n) :
    (levAts L lv : sProp 𝕄) ⊢ MayWait (c : Thread nD τ) sm () (Od c n) :=
  MayOwe.of_cut (L := L) (lev := lv) k (fun p hp => by rw [Finset.mem_singleton.mp hp, L_tc]; exact Finset.mem_singleton_self _)
    (fun g u hg => by obtain ⟨i, -, rfl⟩ := Od_pos hg; exact Finset.mem_singleton_self _)
    (fun p hp => by rw [Finset.mem_singleton.mp hp]; exact hk)
    (fun g u hg => by obtain ⟨i, hi, rfl⟩ := Od_pos hg; rw [lv_recv]; omega)

/-- A device may wait on a staging cell at launch. -/
theorem mayWait_Ob (c : Dev nD) (q : DmaSem sig) (hq : lv ((c : Thread nD τ), .dma q) () = 0) (n : ℕ) :
    (levAts L lv : sProp 𝕄) ⊢ MayWait (c : Thread nD τ) (.dma q) () (Ob c n) :=
  MayOwe.of_cut (L := L) (lev := lv) 0 (fun p hp => by rw [Finset.mem_singleton.mp hp, L_tc]; exact Finset.mem_singleton_self _)
    (fun g u hg => by rcases Ob_pos hg with ⟨i, rfl⟩ | ⟨j, rfl⟩ <;> exact Finset.mem_singleton_self _)
    (fun p hp => by rw [Finset.mem_singleton.mp hp]; exact hq.le)
    (fun g u hg => by
      rcases Ob_pos hg with ⟨i, rfl⟩ | ⟨j, rfl⟩
      · rw [lv_recv]; omega
      · rw [lv_bar]; decide)

end Cert.KernelIdeal.Ring
-- ==== Proof.Steps.lean ====
/- What a device holds between two operations of the kernel, and how each signal, each transfer and each wait changes it. -/
module

public import proofs.«01_k».proof.Proof.Cells

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A product gives any factor. -/
theorem big_elim {ι : Type} [Fintype ι] [DecidableEq ι] (Φ : ι → sProp 𝕄) (k : ι) : bigSep Finset.univ Φ ⊢ Φ k := BI.bigSep_elim (Finset.mem_univ k)
/-- Factors may be weakened one by one. -/
theorem big_mono {ι : Type} [Fintype ι] (Φ Ψ : ι → sProp 𝕄) (h : ∀ i, Φ i ⊢ Ψ i) : bigSep Finset.univ Φ ⊢ bigSep Finset.univ Ψ :=
  BI.bigSep_mono fun i _ => h i

/-! ### The records of the cells -/

/-- The cells of a device: its barrier's, those of its sends, those of its receipts. -/
abbrev Ci : Type := Option (Bool × Fin 32)
def kcell (ck : Dev nD × Ci) : GSem nD τ sig := match ck.2 with
  | none => barCell ck.1
  | some (false, i) => scell ck.1 i
  | some (true, i) => rcell ck.1 i

variable (F) in
/-- The levels of the cells. -/
def Lev : sProp 𝕄 := levAts L lv
instance Lev_persistent : BI.Persistent (Lev F) := by unfold Lev; infer_instance

variable (X : Dev nD → Vec F S1024x32 .f32) (Wt : Dev nD → Vec F S32x1024 .f32)
variable (K : Dev nD × Ci → ℕ)

/-- Every cell's invariant and that it has reached round 0, and the levels. -/
def Inv : sProp 𝕄 :=
  iprop((bigSep Finset.univ fun ck : Dev nD × Ci => iprop(cellInv ER (Rd X Wt) (K ck) (kcell ck) ∗ reached ER (kcell ck) 0)) ∗ Lev F)

instance Inv_persistent : BI.Persistent (Inv X Wt K) := by
  unfold Inv
  infer_instance

theorem Inv_at (ck : Dev nD × Ci) : Inv X Wt K ⊢ iprop(cellInv ER (Rd X Wt) (K ck) (kcell ck) ∗ reached ER (kcell ck) 0) := by
  unfold Inv
  iintro ⟨H, -⟩
  iapply (big_elim (fun ck : Dev nD × Ci => (iprop(cellInv ER (Rd X Wt) (K ck) (kcell ck) ∗ reached ER (kcell ck) 0) : sProp 𝕄)) ck) $$ H
theorem Inv_bar (c : Dev nD) : Inv X Wt K ⊢ iprop(cellInv ER (Rd X Wt) (K (c, none)) (barCell c) ∗ reached ER (barCell c) 0) := Inv_at X Wt K (c, none)
theorem Inv_send (c : Dev nD) (i : Fin 32) :
    Inv X Wt K ⊢ iprop(cellInv ER (Rd X Wt) (K (c, some (false, i))) (scell c i) ∗ reached ER (scell c i) 0) := Inv_at X Wt K (c, some (false, i))
theorem Inv_recv (c : Dev nD) (i : Fin 32) :
    Inv X Wt K ⊢ iprop(cellInv ER (Rd X Wt) (K (c, some (true, i))) (rcell c i) ∗ reached ER (rcell c i) 0) := Inv_at X Wt K (c, some (true, i))
/-- A device may wait on a cell that stands below everything it still owes. -/
theorem Inv_mayWait (c : Dev nD) (sm : SemLoc sig) (n k : ℕ) (hk : lv ((c : Thread nD τ), sm) () ≤ k) (hn : k < 2 + n) :
    Inv X Wt K ⊢ MayWait (c : Thread nD τ) sm () (Od c n) := by
  unfold Inv Lev
  iintro ⟨-, #H⟩
  iapply (mayWait_Od c sm n k hk hn)
  iexact H

/-! ### What a device holds -/

/-- One factor of a product may be exchanged for another. -/
theorem upd {ι : Type} [Fintype ι] [DecidableEq ι] (Φ Φ' : ι → sProp 𝕄) (k : ι) (h : ∀ j, j ≠ k → Φ j = Φ' j) :
    bigSep Finset.univ Φ ⊢ iprop(Φ k ∗ (Φ' k -∗ bigSep Finset.univ Φ')) := by
  rw [bigSep_univ_at Φ k, bigSep_univ_at Φ' k, BI.bigSep_congr (fun j hj => h j (Finset.ne_of_mem_erase hj))]
  iintro ⟨H, Hr⟩
  isplitl [H]; · iexact H
  iintro H'
  isplitl [H'] <;> iassumption

/-- What a device's part in its signal `j` needs. -/
def sigSt (c : Dev nD) (n : ℕ) (j : Fin 14) : sProp 𝕄 :=
  if n ≤ j.val then iprop(dutyTok ER (barCell (sdst j c)) 0 j ∗ Grant (F := F) c j) else iprop(emp)

/-- Before signal `n`. -/
def Sig (c : Dev nD) (n : ℕ) : sProp 𝕄 :=
  iprop(Inv X Wt K ∗ (∃ W, owes (c : Thread nD τ) (Ob c n) W) ∗ bigSep Finset.univ (sigSt (F := F) c n))

/-- What a device holds of its transfer `i` when `n` have been sent and `s` of those waited for: the right to send it
    and the place it lands; then the right to wait; then the closed cell and the place it was sent from. -/
def sendSt (c : Dev nD) (n s : ℕ) (i : Fin 32) : sProp 𝕄 :=
  if n ≤ i.val then iprop(dutyTok ER (scell c i) 0 0 ∗ dutyTok ER (rcell (dst i c) i) 0 0 ∗ Land (F := F) (dst i c) i ∗ atPos ER (scell c i) 0 ∅ 0)
  else if s ≤ i.val then iprop(atPos ER (scell c i) 0 ∅ 0 ∗ cred (tallyAt (scell c i) () (N i)))
  else iprop(semVal (scell c i) 0 ∗ srcPts X Wt c i)

/-- What a device holds of the transfer `i` to it when `r` have been waited for. -/
def recvSt (c : Dev nD) (r : ℕ) (i : Fin 32) : sProp 𝕄 :=
  if r ≤ i.val then iprop(atPos ER (rcell c i) 0 ∅ 0 ∗ cred (tallyAt (rcell c i) () (N i))) else iprop(semVal (rcell c i) 0)

/-- When `n` transfers have been sent, `s` of them waited for, and `r` received. -/
def St (c : Dev nD) (n s r : ℕ) : sProp 𝕄 :=
  iprop(Inv X Wt K ∗ (∃ W, owes (c : Thread nD τ) (Od c n) W) ∗ bigSep Finset.univ (sendSt X Wt c n s) ∗ bigSep Finset.univ (recvSt (F := F) c r))

/-- What the transfers need before the barrier is passed. -/
def Pre (c : Dev nD) : sProp 𝕄 :=
  iprop((bigSep Finset.univ fun i : Fin 32 => iprop(dutyTok ER (scell c i) 0 0 ∗ dutyTok ER (rcell (dst i c) i) 0 0 ∗ atPos ER (scell c i) 0 ∅ 0))
    ∗ bigSep Finset.univ (recvSt (F := F) c 0))

theorem sigSt_ne (c : Dev nD) (n j : Fin 14) (hj : j ≠ n) : sigSt (F := F) c n.val j = sigSt c (n.val + 1) j := by
  have : j.val ≠ n.val := fun h => hj (Fin.ext h)
  unfold sigSt
  by_cases h : n.val ≤ j.val
  · rw [if_pos h, if_pos (by omega)]
  · rw [if_neg h, if_neg (by omega)]
theorem sendSt_ne (c : Dev nD) (i j : Fin 32) (s : ℕ) (hj : j ≠ i) : sendSt X Wt c i.val s j = sendSt X Wt c (i.val + 1) s j := by
  have : j.val ≠ i.val := fun h => hj (Fin.ext h)
  unfold sendSt
  by_cases h : i.val ≤ j.val
  · rw [if_pos h, if_pos (show i.val + 1 ≤ j.val by omega)]
  · rw [if_neg h, if_neg (show ¬ i.val + 1 ≤ j.val by omega)]
theorem waitSt_ne (c : Dev nD) (n : ℕ) (i j : Fin 32) (hj : j ≠ i) : sendSt X Wt c n i.val j = sendSt X Wt c n (i.val + 1) j := by
  have : j.val ≠ i.val := fun h => hj (Fin.ext h)
  unfold sendSt
  by_cases h : i.val ≤ j.val
  · rw [if_pos h, if_pos (show i.val + 1 ≤ j.val by omega)]
  · rw [if_neg h, if_neg (show ¬ i.val + 1 ≤ j.val by omega)]
theorem recvSt_ne (c : Dev nD) (i j : Fin 32) (hj : j ≠ i) : recvSt (F := F) c i.val j = recvSt c (i.val + 1) j := by
  have : j.val ≠ i.val := fun h => hj (Fin.ext h)
  unfold recvSt
  by_cases h : i.val ≤ j.val
  · rw [if_pos h, if_pos (by omega)]
  · rw [if_neg h, if_neg (by omega)]

attribute [local irreducible] Od Ob N

section Steps

/-- Signal `n`. -/
theorem step_signal {α : Type} {Q : α → sProp 𝕄} {k : PUnit → Prog (TpuEff nD τ sig (Elt F) Λ₀ .tc) α}
    (c : Dev nD) (n : Fin 14) (d : Dev nD) (hd : d = sdst n c) {a : ℕ} (ha : 1 = a) :
    Sig X Wt K c n.val ⊢ iprop((Sig X Wt K c (n.val + 1) -∗ Wp c (k ⟨⟩) Q)
      -∗ Wp c (.op (.semSignal (d : Thread nD τ) barS a) k) Q) := by
  subst hd
  unfold Sig
  iintro ⟨#HI, ⟨%W, HO⟩, Hs⟩ Hk
  ihave #HIb := (Inv_bar X Wt K (sdst n c)) $$ HI
  icases HIb with ⟨#Hinv, #Hr⟩
  ihave Hu := (upd (sigSt (F := F) c n.val) (sigSt c (n.val + 1)) n (fun j hj => by
    have : j.val ≠ n.val := fun h => hj (Fin.ext h)
    unfold sigSt
    split_ifs <;> first | rfl | (exfalso; omega))) $$ Hs
  icases Hu with ⟨Hn, Hback⟩
  ihave Hn' := (Entails.of_eq (show sigSt (F := F) c n.val n = iprop(dutyTok ER (barCell (sdst n c)) 0 n ∗ Grant (F := F) c n) from if_pos le_rfl)) $$ Hn
  icases Hn' with ⟨Htok, Hg⟩
  iapply (Rounds.wp_signal 𝒱₀ ER (Rd X Wt) (c : Thread nD τ) none (dst := (sdst n c : Thread nD τ)) (κ := K (sdst n c, none))
      (d := n) (by rw [duties_bar]; exact Finset.mem_univ _) ((amount_bar X Wt (sdst n c) n).trans ha) () (O₀ := Ob c n.val) (Ob c (n.val + 1)) (by rw [← ha, Ob_step c n]))
    $$ [HO Htok Hg]
  · isplitr; · iexact Hinv
    isplitl [HO]; · iexact HO
    isplitl [Htok]; · iexact Htok
    isplitl [Hg]; · rw [payload_bar, ssrc_sdst]; iexact Hg
    iexact Hr
  iintro HO
  iapply Hk
  isplitr; · iexact HI
  isplitl [HO]; · iexists W; iexact HO
  iapply Hback
  rw [show sigSt (F := F) c (n.val + 1) n = iprop(emp) from if_neg (by omega)]
  iempintro

/-- The wait at the barrier. -/
theorem step_bar {α : Type} {Q : α → sProp 𝕄} {k : PUnit → Prog (TpuEff nD τ sig (Elt F) Λ₀ .tc) α}
    (c : Dev nD) {a : ℕ} (ha : 14 = a) :
    iprop(Sig X Wt K c 14 ∗ cred (tallyAt (barCell c) () 14) ∗ atPos ER (barCell c) 0 ∅ 0 ∗ Pre c)
      ⊢ iprop(((St X Wt K c 0 0 0 ∗ semVal (barCell c) 0) -∗ Wp c (k ⟨⟩) Q) -∗ Wp c (.op (.semWait barS a) k) Q) := by
  subst ha
  unfold Sig Pre
  iintro ⟨⟨#HI, ⟨%W, HO⟩, -⟩, Hc, Hat, Hs, Hrcv⟩ Hk
  ihave #HIb := (Inv_bar X Wt K c) $$ HI
  icases HIb with ⟨#Hinv, -⟩
  iapply (Rounds.wp_wait_rest_token 𝒱₀ ER (Rd X Wt) (c : Thread nD τ) none (κ := K (c, none))
      (wpE_semWait_eq 𝒱₀ (c : Thread nD τ) none Set.univ) (Set.mem_univ _) () (O := Od c 0) (W := W) (R := 0) (m := 0) (T := ∅)
      (by rw [Nat.zero_add, expect_bar])) $$ [Hc HO Hat]
  · isplitr; · iexact Hinv
    isplitl [Hc]; · iexact Hc
    isplitl [HO]; · rw [← Ob_end]; iexact HO
    isplitr; · iapply (Inv_mayWait X Wt K c (.reg barS) 0 1 (lv_bar c ()).le (by decide)); iexact HI
    iexact Hat
  iintro ⟨HO, Hat, -, Hpay⟩
  imod (Rounds.cell_close ER (Rd X Wt) (Set.mem_univ (K (c, none))) (fun h => h) (R := 0 + 1) (duties_later X Wt (barCell c))) $$ [Hat] with Hz
  · isplitr; · iexact Hinv
    iexact Hat
  ihave Hp := (Entails.of_eq (rest_bar X Wt c)) $$ Hpay
  ihave Hl := (lands_of_grants (F := F) c) $$ Hp
  iapply Hk
  isplitr [Hz]
  · unfold St
    isplitr; · iexact HI
    isplitl [HO]; · iexists _; iexact HO
    isplitr [Hrcv]
    · ihave Hj := (Entails.of_eq (bigSep_sep' Finset.univ
        (fun i : Fin 32 => (iprop(dutyTok ER (scell c i) 0 0 ∗ dutyTok ER (rcell (dst i c) i) 0 0 ∗ atPos ER (scell c i) 0 ∅ 0) : sProp 𝕄))
        (fun i => Land (F := F) (dst i c) i)).symm) $$ [Hs Hl]
      · isplitl [Hs] <;> iassumption
      iapply (big_mono _ (sendSt X Wt c 0 0) (fun i => ?_)) $$ Hj
      rw [show sendSt X Wt c 0 0 i = iprop(dutyTok ER (scell c i) 0 0 ∗ dutyTok ER (rcell (dst i c) i) 0 0 ∗ Land (F := F) (dst i c) i
        ∗ atPos ER (scell c i) 0 ∅ 0) from if_pos (Nat.zero_le _)]
      iintro ⟨⟨H1, H2, H3⟩, H4⟩
      isplitl [H1]; · iexact H1
      isplitl [H2]; · iexact H2
      isplitl [H4] <;> iassumption
    iexact Hrcv
  iexact Hz

/-- A transfer: the place it is sent from goes with it. -/
theorem step_send {α : Type} {Q : α → sProp 𝕄} {k : PUnit → Prog (TpuEff nD τ sig (Elt F) Λ₀ .tc) α}
    (c : Dev nD) (i : Fin 32) (s r : ℕ) (d : Dev nD) (hd : d = dst i c) (hs : s ≤ i.val) {sh : Shape}
    {sm : Memref sig .tc .vmem sh .f32} {dm : Memref sig (Dev.tc d : Thread nD τ).2.kind .vmem sh .f32}
    {hsc : dm.view.ref.isScScratch = false} {sS sR : DmaSem sig} (hsS : sS = ssem i) (hsR : sR = rsem (dst i c) i)
    {hsrc : sm.view.WordExact} {hdst : dm.view.WordExact}
    {hsem : DmaTarget.Typed .vmem (.dma sR) (.remote (Dev.tc d : Thread nD τ) dm (.dma sS) hsc)}
    (hN : dm.view.amount (.dma sR) = N i)
    (fs : Buf (Elt F) (sm.view.loc (c : Thread nD τ)))
    (h1 : srcPts X Wt c i = (sm.view.loc (c : Thread nD τ) ↦[sm.view.set]{fullShare} fs))
    (h2 : Land (F := F) (dst i c) i ⊢ iprop(∃ fd : Buf (Elt F) (dm.view.loc (Dev.tc d : Thread nD τ)),
      (dm.view.loc (Dev.tc d : Thread nD τ) ↦[dm.view.set]{fullShare} fd)))
    (h3 : ∀ fd : Buf (Elt F) (dm.view.loc (Dev.tc d : Thread nD τ)),
      (dm.view.loc (Dev.tc d : Thread nD τ) ↦[dm.view.set]{fullShare} (dm.view.write (Elt F) fd (sm.view.read (Elt F) fs) Finset.univ))
        ⊢ landPts X Wt (dst i c) i) :
    iprop(St X Wt K c i.val s r ∗ srcPts X Wt c i)
      ⊢ iprop((St X Wt K c (i.val + 1) s r -∗ Wp c (k ⟨⟩) Q)
        -∗ Wp c (.op (.enqueueDma sm (.remote (Dev.tc d : Thread nD τ) dm (.dma sS) hsc) (.dma sR) hsrc hdst hsem) k) Q) := by
  subst hd hsS hsR
  unfold St
  iintro ⟨⟨#HI, ⟨%W, HO⟩, Hs, Hr⟩, Hsrc⟩ Hk
  ihave #HIs := (Inv_send X Wt K c i) $$ HI
  icases HIs with ⟨#Hinv1, #Hr1⟩
  ihave #HIr := (Inv_recv X Wt K (dst i c) i) $$ HI
  icases HIr with ⟨#Hinv2, #Hr2⟩
  ihave Hu := (upd (sendSt X Wt c i.val s) (sendSt X Wt c (i.val + 1) s) i (fun j hj => by
    have : j.val ≠ i.val := fun h => hj (Fin.ext h)
    unfold sendSt
    split_ifs <;> first | rfl | (exfalso; omega))) $$ Hs
  icases Hu with ⟨Hn, Hback⟩
  ihave Hn' := (Entails.of_eq (show sendSt X Wt c i.val s i = iprop(dutyTok ER (scell c i) 0 0 ∗ dutyTok ER (rcell (dst i c) i) 0 0
    ∗ Land (F := F) (dst i c) i ∗ atPos ER (scell c i) 0 ∅ 0) from if_pos le_rfl)) $$ Hn
  icases Hn' with ⟨Ht1, Ht2, Hl, Hat⟩
  ihave Hl' := h2 $$ Hl
  icases Hl' with ⟨%fd, Hl⟩
  iapply (Rounds.wp_send_pointsTo 𝒱₀ ER (Rd X Wt) (c : Thread nD τ) none (κ₁ := K (c, some (false, i))) (κ₂ := K (dst i c, some (true, i)))
    (r₁ := 0) (r₂ := 0) (d₁ := 0) (d₂ := 0) (fs := fs) (fd := fd)
    (by rw [duties_send]; exact Finset.mem_singleton_self _) (by rw [duties_recv]; exact Finset.mem_singleton_self _)
    () () (N i) hN (amount_send X Wt c i 0) (amount_recv X Wt (dst i c) i 0) (Od c (i.val + 1)) (Od_step c i) (W := W)
    (by rw [payload_send, h1])
    (by rw [payload_recv]; exact h3 fd)) $$ [Hsrc Hl HO Ht1 Ht2]
  · isplitr; · iexact Hinv1
    isplitr; · iexact Hinv2
    isplitl [Hsrc]; · rw [← h1]; iexact Hsrc
    isplitl [Hl]; · iexact Hl
    isplitl [HO]; · iexact HO
    isplitl [Ht1]; · iexact Ht1
    isplitr; · iexact Hr1
    isplitl [Ht2]; · iexact Ht2
    iexact Hr2
  iintro ⟨Hcr, HO⟩
  iapply Hk
  isplitr; · iexact HI
  isplitl [HO]; · iexists W; iexact HO
  isplitr [Hr]
  · iapply Hback
    rw [show sendSt X Wt c (i.val + 1) s i = iprop(atPos ER (scell c i) 0 ∅ 0 ∗ cred (tallyAt (scell c i) () (N i))) from
      (if_neg (by omega)).trans (if_pos hs)]
    isplitl [Hat] <;> iassumption
  iexact Hr

/-- The wait for a transfer sent: the place it was sent from comes back. -/
theorem step_wait_send {α : Type} {Q : α → sProp 𝕄} {k : PUnit → Prog (TpuEff nD τ sig (Elt F) Λ₀ .tc) α}
    (c : Dev nD) (i : Fin 32) (n r : ℕ) (hn : i.val < n) {sm : DmaSem sig} (hsm : sm = ssem i)
    {sp sp' : Space} {s s' : Shape} {e e' : EltTy} {κ' : Kind} {sM : Memref sig .tc sp' s' e'} {dM : Memref sig κ' sp s e}
    {hsrc : sM.view.WordExact} {hdst : dM.view.WordExact} (hN : dM.view.dmaCredit = N i) :
    St X Wt K c n i.val r ⊢ iprop((St X Wt K c n (i.val + 1) r -∗ Wp c (k ⟨⟩) Q) -∗ Wp c (.op (.waitDma2 sm sM dM hsrc hdst) k) Q) := by
  subst hsm
  unfold St
  iintro ⟨#HI, ⟨%W, HO⟩, Hs, Hr⟩ Hk
  ihave #HIs := (Inv_send X Wt K c i) $$ HI
  icases HIs with ⟨#Hinv, -⟩
  ihave Hu := (upd (sendSt X Wt c n i.val) (sendSt X Wt c n (i.val + 1)) i (fun j hj => by
    have : j.val ≠ i.val := fun h => hj (Fin.ext h)
    unfold sendSt
    split_ifs <;> first | rfl | (exfalso; omega))) $$ Hs
  icases Hu with ⟨Hn, Hback⟩
  ihave Hn' := (Entails.of_eq (show sendSt X Wt c n i.val i = iprop(atPos ER (scell c i) 0 ∅ 0 ∗ cred (tallyAt (scell c i) () (N i))) from
      (if_neg (by omega)).trans (if_pos le_rfl))) $$ Hn
  icases Hn' with ⟨Hat, Hc⟩
  iapply (Rounds.wp_wait_rest_token 𝒱₀ ER (Rd X Wt) (c : Thread nD τ) none (κ := K (c, some (false, i)))
      (wpE_waitDma2_eq 𝒱₀ (c : Thread nD τ) none Set.univ) (Set.mem_univ _) () (O := Od c n) (W := W) (R := 0) (m := 0) (T := ∅)
      (by rw [Nat.zero_add, expect_send, hN])) $$ [Hc HO Hat]
  · isplitr; · iexact Hinv
    isplitl [Hc]; · rw [hN]; iexact Hc
    isplitl [HO]; · iexact HO
    isplitr; · iapply (Inv_mayWait X Wt K c (.dma (ssem i)) n 0 (lv_send c i ()).le (by omega)); iexact HI
    iexact Hat
  iintro ⟨HO, Hat, -, Hpay⟩
  imod (Rounds.cell_close ER (Rd X Wt) (Set.mem_univ (K (c, some (false, i)))) (fun h => h) (R := 0 + 1) (duties_later X Wt (scell c i))) $$ [Hat] with Hz
  · isplitr; · iexact Hinv
    iexact Hat
  ihave Hp := (Entails.of_eq (rest_send X Wt c i)) $$ Hpay
  iapply Hk
  isplitr; · iexact HI
  isplitl [HO]; · iexists _; iexact HO
  isplitr [Hr]
  · iapply Hback
    rw [show sendSt X Wt c n (i.val + 1) i = iprop(semVal (scell c i) 0 ∗ srcPts X Wt c i) from
      (if_neg (by omega)).trans (if_neg (by omega))]
    isplitl [Hz] <;> iassumption
  iexact Hr

/-- The wait for a transfer to the device: what it brings is the device's. -/
theorem step_wait_recv {α : Type} {Q : α → sProp 𝕄} {k : PUnit → Prog (TpuEff nD τ sig (Elt F) Λ₀ .tc) α}
    (c : Dev nD) (i : Fin 32) (n s : ℕ) (hn : i.val < n) {sm : DmaSem sig} (hsm : sm = rsem c i)
    {sp sp' : Space} {sh s' : Shape} {e e' : EltTy} {κ' : Kind} {sM : Memref sig .tc sp' s' e'} {dM : Memref sig κ' sp sh e}
    {hsrc : sM.view.WordExact} {hdst : dM.view.WordExact} (hN : dM.view.dmaCredit = N i) :
    St X Wt K c n s i.val ⊢ iprop((St X Wt K c n s (i.val + 1) ∗ landPts X Wt c i -∗ Wp c (k ⟨⟩) Q)
      -∗ Wp c (.op (.waitDma2 sm sM dM hsrc hdst) k) Q) := by
  subst hsm
  unfold St
  iintro ⟨#HI, ⟨%W, HO⟩, Hs, Hr⟩ Hk
  ihave #HIs := (Inv_recv X Wt K c i) $$ HI
  icases HIs with ⟨#Hinv, -⟩
  ihave Hu := (upd (recvSt (F := F) c i.val) (recvSt c (i.val + 1)) i (fun j hj => by
    have : j.val ≠ i.val := fun h => hj (Fin.ext h)
    unfold recvSt
    split_ifs <;> first | rfl | (exfalso; omega))) $$ Hr
  icases Hu with ⟨Hn, Hback⟩
  ihave Hn' := (Entails.of_eq (show recvSt (F := F) c i.val i = iprop(atPos ER (rcell c i) 0 ∅ 0 ∗ cred (tallyAt (rcell c i) () (N i))) from
      if_pos le_rfl)) $$ Hn
  icases Hn' with ⟨Hat, Hc⟩
  iapply (Rounds.wp_wait_rest_token 𝒱₀ ER (Rd X Wt) (c : Thread nD τ) none (κ := K (c, some (true, i)))
      (wpE_waitDma2_eq 𝒱₀ (c : Thread nD τ) none Set.univ) (Set.mem_univ _) () (O := Od c n) (W := W) (R := 0) (m := 0) (T := ∅)
      (by rw [Nat.zero_add, expect_recv, hN])) $$ [Hc HO Hat]
  · isplitr; · iexact Hinv
    isplitl [Hc]; · rw [hN]; iexact Hc
    isplitl [HO]; · iexact HO
    isplitr; · iapply (Inv_mayWait X Wt K c (.dma (rsem c i)) n (2 + i.val) (lv_recv c i ()).le (by omega)); iexact HI
    iexact Hat
  iintro ⟨HO, Hat, -, Hpay⟩
  imod (Rounds.cell_close ER (Rd X Wt) (Set.mem_univ (K (c, some (true, i)))) (fun h => h) (R := 0 + 1) (duties_later X Wt (rcell c i))) $$ [Hat] with Hz
  · isplitr; · iexact Hinv
    iexact Hat
  ihave Hp := (Entails.of_eq (rest_recv X Wt c i)) $$ Hpay
  iapply Hk
  isplitr [Hp]
  · isplitr; · iexact HI
    isplitl [HO]; · iexists _; iexact HO
    isplitl [Hs]; · iexact Hs
    iapply Hback
    rw [show recvSt (F := F) c (i.val + 1) i = iprop(semVal (rcell c i) 0) from if_neg (by omega)]
    iexact Hz
  iexact Hp

end Steps

end Cert.KernelIdeal.Ring
-- ==== Proof.Sends.lean ====
/- The transfers of the kernel by kind: from the product, from the sums, and the exchanges at the end. -/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)

/-! ### What the transfers bring -/

theorem lz_rz (c : Dev nD) : lz (rz c) = c := by revert c; decide
theorem ly_ry (c : Dev nD) : ly (ry c) = c := by revert c; decide

theorem landA_zero (c : Dev nD) (r k : ℕ) : landA X Wt 0 (rz c) r k = part X Wt c (256 * cA 0 c + r) k := by
  show part X Wt (lz (rz c)) (256 * cA 0 (lz (rz c)) + r) k = _
  rw [lz_rz]
theorem landA_succ (s : ℕ) (c : Dev nD) (r k : ℕ) : landA X Wt (s + 1) (rz c) r k = accA X Wt s c r k := by
  show FloatOps.addf (landA X Wt s (lz (rz c)) r k) (part X Wt (lz (rz c)) (256 * cA (s + 1) (lz (rz c)) + r) k) = _
  rw [lz_rz]; rfl
theorem landB_zero (c : Dev nD) (r k : ℕ) : landB X Wt 0 (ry c) r k = part X Wt c (rowOf (cB 0 c) r) (512 + k) := by
  show part X Wt (ly (ry c)) (rowOf (cB 0 (ly (ry c))) r) (512 + k) = _
  rw [ly_ry]
theorem landB_succ (s : ℕ) (c : Dev nD) (r k : ℕ) : landB X Wt (s + 1) (ry c) r k = accB X Wt s c r k := by
  show FloatOps.addf (landB X Wt s (ly (ry c)) r k) (part X Wt (ly (ry c)) (rowOf (cB (s + 1) (ly (ry c))) r) (512 + k)) = _
  rw [ly_ry]; rfl

/-- Row `r` of quarter `k` of a block of rows. -/
theorem rowOf_quarter (b k r : ℕ) (hr : r < 64) : rowOf b (64 * k + r) = 256 * k + 64 * b + r := by
  unfold rowOf
  rw [show (64 * k + r) / 64 = k by omega, show (64 * k + r) % 64 = r by omega]

theorem dev_pz (c : Dev nD) (d : Fin 8) : dev (zz (pz c d.val)) (jj c) = c := by revert c d; decide
theorem jj_pz (c : Dev nD) (d : Fin 8) : jj (pz c d.val) = (jj c + d.val) % 8 := by revert c d; decide
theorem devY_py (c : Dev nD) (d : Fin 8) : devY (yy (py c d.val)) (mm c) = c := by revert c d; decide
theorem mm_py (c : Dev nD) (d : Fin 8) : mm (py c d.val) = (mm c + d.val) % 8 := by revert c d; decide
theorem yy_py (c : Dev nD) (d : Fin 8) : yy (py c d.val) = yy c := by revert c d; decide

theorem gatA_pz (c : Dev nD) (d : Fin 8) (r k : ℕ) (hr : r < 32) :
    gatA X Wt (pz c d.val) (32 * jj c + r) k = accA X Wt 2 c (32 * ((jj c + d.val) % 8) + r) k := by
  unfold gatA
  rw [show (32 * jj c + r) / 32 = jj c by omega, show (32 * jj c + r) % 32 = r by omega, dev_pz, jj_pz]
theorem gatB_py (c : Dev nD) (d : Fin 8) (r k : ℕ) (hr : r < 32) :
    gatB X Wt (py c d.val) (32 * mm c + r) k = accB X Wt 2 c (rowB (yy c) ((mm c + d.val) % 8) + r) k := by
  unfold gatB
  rw [show (32 * mm c + r) / 32 = mm c by omega, show (32 * mm c + r) % 32 = r by omega, devY_py, mm_py, yy_py]

/-! ### The places, kind by kind -/

section Kinds
variable (c : Dev nD) (i : Fin 32)

theorem landAt_A (s q : ℕ) (hi : i.val = 6 * s + q) (hs : s < 3) (hq : q < 2) (fA) (fB) (fXA) (fXB) :
    landAt (F := F) c i fA fB fXA fXB = (locA c ↦[setA s q]{fullShare} fA) := by
  unfold landAt
  rw [if_pos (by omega), if_pos (by omega), show i.val / 6 = s by omega, show i.val % 6 = q by omega]
theorem landAt_B (s k : ℕ) (hi : i.val = 6 * s + 2 + k) (hs : s < 3) (hk : k < 4) (fA) (fB) (fXA) (fXB) :
    landAt (F := F) c i fA fB fXA fXB = (locB c ↦[setB s k]{fullShare} fB) := by
  unfold landAt
  rw [if_pos (by omega), if_neg (by omega), show i.val / 6 = s by omega, show i.val % 6 - 2 = k by omega]
theorem landAt_XA (hi : 18 ≤ i.val) (hi' : i.val < 25) (fA) (fB) (fXA) (fXB) :
    landAt (F := F) c i fA fB fXA fXB = (locXA c ↦[row2 (32 * jj (src i c))]{fullShare} fXA) := by
  unfold landAt
  rw [if_neg (by omega), if_pos (by omega)]
theorem landAt_XB (hi : 25 ≤ i.val) (fA) (fB) (fXA) (fXB) :
    landAt (F := F) c i fA fB fXA fXB = (locXB c ↦[row2 (32 * mm (src i c))]{fullShare} fXB) := by
  unfold landAt
  rw [if_neg (by omega), if_neg (by omega)]

theorem Land_A (s q : ℕ) (hi : i.val = 6 * s + q) (hs : s < 3) (hq : q < 2) :
    Land (F := F) c i ⊢ iprop(∃ f : Buf (Elt F) (locA c), (locA c ↦[setA s q]{fullShare} f)) := by
  unfold Land
  simp only [landAt_A c i s q hi hs hq]
  iintro ⟨%fA, %fB, %fXA, %fXB, H⟩
  iexists fA; iexact H
theorem Land_B (s k : ℕ) (hi : i.val = 6 * s + 2 + k) (hs : s < 3) (hk : k < 4) :
    Land (F := F) c i ⊢ iprop(∃ f : Buf (Elt F) (locB c), (locB c ↦[setB s k]{fullShare} f)) := by
  unfold Land
  simp only [landAt_B c i s k hi hs hk]
  iintro ⟨%fA, %fB, %fXA, %fXB, H⟩
  iexists fB; iexact H
theorem Land_XA (hi : 18 ≤ i.val) (hi' : i.val < 25) :
    Land (F := F) c i ⊢ iprop(∃ f : Buf (Elt F) (locXA c), (locXA c ↦[row2 (32 * jj (src i c))]{fullShare} f)) := by
  unfold Land
  simp only [landAt_XA c i hi hi']
  iintro ⟨%fA, %fB, %fXA, %fXB, H⟩
  iexists fXA; iexact H
theorem Land_XB (hi : 25 ≤ i.val) :
    Land (F := F) c i ⊢ iprop(∃ f : Buf (Elt F) (locXB c), (locXB c ↦[row2 (32 * mm (src i c))]{fullShare} f)) := by
  unfold Land
  simp only [landAt_XB c i hi]
  iintro ⟨%fA, %fB, %fXA, %fXB, H⟩
  iexists fXB; iexact H

theorem srcPts_A0 (q : ℕ) (hi : i.val = q) (hq : q < 2) :
    srcPts X Wt c i = (locP c ↦[partA (256 * cA 0 c) q]{fullShare} bPart X Wt c) := by
  unfold srcPts
  rw [if_pos (by omega), if_pos (by omega), if_pos (by omega), show i.val % 6 = q by omega]
theorem srcPts_B0 (k : ℕ) (hi : i.val = 2 + k) (hk : k < 4) :
    srcPts X Wt c i = (locP c ↦[partB (256 * k + 64 * cB 0 c)]{fullShare} bPart X Wt c) := by
  unfold srcPts
  rw [if_pos (by omega), if_neg (by omega), if_pos (by omega), show i.val % 6 - 2 = k by omega]
theorem srcPts_A (s q : ℕ) (hi : i.val = 6 * (s + 1) + q) (hs : s < 2) (hq : q < 2) :
    srcPts X Wt c i = (locA c ↦[setA s q]{fullShare} bAccA X Wt c) := by
  unfold srcPts
  rw [if_pos (by omega), if_pos (by omega), if_neg (by omega), show i.val % 6 = q by omega, show i.val / 6 - 1 = s by omega]
theorem srcPts_B (s k : ℕ) (hi : i.val = 6 * (s + 1) + 2 + k) (hs : s < 2) (hk : k < 4) :
    srcPts X Wt c i = (locB c ↦[setB s k]{fullShare} bAccB X Wt c) := by
  unfold srcPts
  rw [if_pos (by omega), if_neg (by omega), if_neg (by omega), show i.val % 6 - 2 = k by omega, show i.val / 6 - 1 = s by omega]
theorem srcPts_DA (d : ℕ) (hi : i.val = 17 + d) (hd : 1 ≤ d) (hd' : d < 8) :
    srcPts X Wt c i = (locA c ↦[row3 (32 * ((jj c + d) % 8))]{fullShare} bAccA X Wt c) := by
  unfold srcPts
  rw [if_neg (by omega), if_pos (by omega), show i.val - 17 = d by omega]
theorem srcPts_DB (d : ℕ) (hi : i.val = 24 + d) (hd : 1 ≤ d) (hd' : d < 8) :
    srcPts X Wt c i = (locB c ↦[row3 (rowB (yy c) ((mm c + d) % 8))]{fullShare} bAccB X Wt c) := by
  unfold srcPts
  rw [if_neg (by omega), if_neg (by omega), show i.val - 24 = d by omega]

theorem dst_A (s q : ℕ) (hi : i.val = 6 * s + q) (hs : s < 3) (hq : q < 2) : dst i c = rz c := by
  unfold dst; rw [if_pos (by omega), if_pos (by omega)]
theorem dst_B (s k : ℕ) (hi : i.val = 6 * s + 2 + k) (hs : s < 3) (hk : k < 4) : dst i c = ry c := by
  unfold dst; rw [if_pos (by omega), if_neg (by omega)]
theorem dst_DA (d : ℕ) (hi : i.val = 17 + d) (hd : 1 ≤ d) (hd' : d < 8) : dst i c = pz c d := by
  unfold dst; rw [if_neg (by omega), if_pos (by omega), show i.val - 17 = d by omega]
theorem dst_DB (d : ℕ) (hi : i.val = 24 + d) (hd : 1 ≤ d) (hd' : d < 8) : dst i c = py c d := by
  unfold dst; rw [if_neg (by omega), if_neg (by omega), show i.val - 24 = d by omega]

theorem N_A (s q : ℕ) (hi : i.val = 6 * s + q) (hs : s < 3) (hq : q < 2) : N i = RefSig.tileCredit S256x256 .f32 := by
  unfold N; rw [if_pos (by omega), if_pos (by omega)]
theorem N_B (s k : ℕ) (hi : i.val = 6 * s + 2 + k) (hs : s < 3) (hk : k < 4) : N i = RefSig.tileCredit S64x512 .f32 := by
  unfold N; rw [if_pos (by omega), if_neg (by omega)]
theorem N_D (hi : 18 ≤ i.val) : N i = RefSig.tileCredit S32x512 .f32 := by
  unfold N; rw [if_neg (by omega)]

end Kinds

/-! ### The transfers -/

theorem of_eq' {P P' : sProp 𝕄} (h : P = P') : P ⊢ P' := Entails.of_eq h

/-- What a write through a view leaves at the view's elements, over any name of their set. -/
theorem pts_written (t : Thread nD τ) {sp : Space} {sh : Shape} {e : EltTy} (v : View sig t.2.kind sp sh e)
    (fd g : Buf (Elt F) (v.loc t)) (w : sh.Idx → Elt F e) (S : Finset v.ty.shape.Idx) (hS : v.set = S)
    (h : ∀ y, _root_.cast (congrArg (Elt F) v.elt_eq.symm) (w y) = g (v.emb y)) :
    (v.loc t ↦[v.set]{fullShare} v.write (Elt F) fd w Finset.univ : sProp 𝕄) = (v.loc t ↦[S]{fullShare} g) := by
  subst hS
  exact pointsTo_congr (write_agrees v fd g w h)

variable (K : Dev nD × Ci → ℕ)

attribute [local irreducible] Od Ob

/-- The first transfer of half `q` of the columns around the layers, out of the product. -/
theorem send_A0 {α : Type} {Q : α → sProp 𝕄} {k : PUnit → Prog (TpuEff nD τ sig (Elt F) Λ₀ .tc) α}
    (c : Dev nD) (i : Fin 32) (q : ℕ) (hi : i.val = 6 * 0 + q) (hq : q < 2) (s r : ℕ) (hs : s ≤ i.val) (d : Dev nD) (hd : d = dst i c)
    (off : Fin 2 → ℕ) (inb) (hoff : off = ![256 * cA 0 c, 256 * q]) (off' : Fin 3 → ℕ) (inb') (hoff' : off' = ![0, 0, 256 * q])
    (sS sR : DmaSem sig) (hsS : sS = ssem i) (hsR : sR = rsem (dst i c) i) (sq) (hsc) (w1) (w2) (w3) :
    iprop(St X Wt K c i.val s r ∗ srcPts X Wt c i)
      ⊢ iprop((St X Wt K c (i.val + 1) s r -∗ Wp c (k ⟨⟩) Q)
        -∗ Wp c (.op (.enqueueDma ((Memref.whole cc0_scratch0).slice (Rect.unit (s := S1024x1024) off S256x256.size inb) (fun _ => rfl))
          (.remote (Dev.tc d : Thread nD τ)
            (((Memref.whole cc0_scratch1).slice (Rect.unit (s := S3x256x512) off' S1x256x256.size inb') (fun _ => rfl)).squeeze S256x256 sq)
            (.dma sS) hsc) (.dma sR) w1 w2 w3) k) Q) := by
  subst hoff hoff' hd
  refine step_send X Wt K c i s r _ rfl hs hsS hsR (N_A i 0 q hi (by decide) hq).symm (bPart X Wt c) ?_ ?_ ?_
  · rw [srcPts_A0 X Wt c i q (by omega) hq]
    exact congrArg (fun S => (locP c ↦[S]{fullShare} bPart X Wt c : sProp 𝕄)) (slice_set cc0_scratch0 _ _ inb _).symm
  · rw [squeeze_set cc0_scratch1 ![0, 0, 256 * q] S1x256x256.size inb' (fun _ => rfl) S256x256 sq]
    exact Land_A (dst i c) i 0 q hi (by decide) hq
  · intro fd
    unfold landPts
    rw [landAt_A (dst i c) i 0 q hi (by decide) hq]
    refine of_eq' (pts_written _ _ fd (bLandA X Wt (dst i c)) _ _ (squeeze_set cc0_scratch1 _ _ inb' (fun _ => rfl) S256x256 sq) fun y => ?_)
    obtain ⟨e0, e1, e2⟩ := emb_squeeze (d := ![3, 256, 512]) ![0, 0, 256 * q] inb' (squeezes_S1x256x256_S256x256.numel_eq) y
    show part X Wt c ((Rect.unit (s := S1024x1024) ![256 * cA 0 c, 256 * q] S256x256.size inb).emb y (0 : Fin 2)).val
        ((Rect.unit (s := S1024x1024) ![256 * cA 0 c, 256 * q] S256x256.size inb).emb y (1 : Fin 2)).val
      = landA X Wt ((Rect.unit (s := S3x256x512) ![0, 0, 256 * q] S1x256x256.size inb').emb (Shape.reshapeEquiv _ y) (0 : Fin 3)).val (dst i c)
        ((Rect.unit (s := S3x256x512) ![0, 0, 256 * q] S1x256x256.size inb').emb (Shape.reshapeEquiv _ y) (1 : Fin 3)).val
        ((Rect.unit (s := S3x256x512) ![0, 0, 256 * q] S1x256x256.size inb').emb (Shape.reshapeEquiv _ y) (2 : Fin 3)).val
    erw [e0, e1, e2]
    rw [dst_A c i 0 q hi (by decide) hq, emb_unit, emb_unit]
    exact (landA_zero X Wt c _ _).symm.trans (by congr 1; exact (Nat.zero_add _).symm)

/-- The first transfer of quarter `b` of the rows around the rows of devices, out of the product. -/
theorem send_B0 {α : Type} {Q : α → sProp 𝕄} {k : PUnit → Prog (TpuEff nD τ sig (Elt F) Λ₀ .tc) α}
    (c : Dev nD) (i : Fin 32) (b : ℕ) (hi : i.val = 6 * 0 + 2 + b) (hb : b < 4) (s r : ℕ) (hs : s ≤ i.val) (d : Dev nD) (hd : d = dst i c)
    (off : Fin 2 → ℕ) (inb) (hoff : off = ![256 * b + 64 * cB 0 c, 512]) (off' : Fin 3 → ℕ) (inb') (hoff' : off' = ![0, 64 * b, 0])
    (sS sR : DmaSem sig) (hsS : sS = ssem i) (hsR : sR = rsem (dst i c) i) (sq) (hsc) (w1) (w2) (w3) :
    iprop(St X Wt K c i.val s r ∗ srcPts X Wt c i)
      ⊢ iprop((St X Wt K c (i.val + 1) s r -∗ Wp c (k ⟨⟩) Q)
        -∗ Wp c (.op (.enqueueDma ((Memref.whole cc0_scratch0).slice (Rect.unit (s := S1024x1024) off S64x512.size inb) (fun _ => rfl))
          (.remote (Dev.tc d : Thread nD τ)
            (((Memref.whole cc0_scratch2).slice (Rect.unit (s := S3x256x512) off' S1x64x512.size inb') (fun _ => rfl)).squeeze S64x512 sq)
            (.dma sS) hsc) (.dma sR) w1 w2 w3) k) Q) := by
  subst hoff hoff' hd
  refine step_send X Wt K c i s r _ rfl hs hsS hsR (N_B i 0 b hi (by decide) hb).symm (bPart X Wt c) ?_ ?_ ?_
  · rw [srcPts_B0 X Wt c i b (by omega) hb]
    exact congrArg (fun S => (locP c ↦[S]{fullShare} bPart X Wt c : sProp 𝕄)) (slice_set cc0_scratch0 _ _ inb _).symm
  · rw [squeeze_set cc0_scratch2 ![0, 64 * b, 0] S1x64x512.size inb' (fun _ => rfl) S64x512 sq]
    exact Land_B (dst i c) i 0 b hi (by decide) hb
  · intro fd
    unfold landPts
    rw [landAt_B (dst i c) i 0 b hi (by decide) hb]
    refine of_eq' (pts_written _ _ fd (bLandB X Wt (dst i c)) _ _ (squeeze_set cc0_scratch2 _ _ inb' (fun _ => rfl) S64x512 sq) fun y => ?_)
    obtain ⟨e0, e1, e2⟩ := emb_squeeze (d := ![3, 256, 512]) ![0, 64 * b, 0] inb' (squeezes_S1x64x512_S64x512.numel_eq) y
    show part X Wt c ((Rect.unit (s := S1024x1024) ![256 * b + 64 * cB 0 c, 512] S64x512.size inb).emb y (0 : Fin 2)).val
        ((Rect.unit (s := S1024x1024) ![256 * b + 64 * cB 0 c, 512] S64x512.size inb).emb y (1 : Fin 2)).val
      = landB X Wt ((Rect.unit (s := S3x256x512) ![0, 64 * b, 0] S1x64x512.size inb').emb (Shape.reshapeEquiv _ y) (0 : Fin 3)).val (dst i c)
        ((Rect.unit (s := S3x256x512) ![0, 64 * b, 0] S1x64x512.size inb').emb (Shape.reshapeEquiv _ y) (1 : Fin 3)).val
        ((Rect.unit (s := S3x256x512) ![0, 64 * b, 0] S1x64x512.size inb').emb (Shape.reshapeEquiv _ y) (2 : Fin 3)).val
    erw [e0, e1, e2]
    rw [dst_B c i 0 b hi (by decide) hb, emb_unit, emb_unit]
    show part X Wt c (256 * b + 64 * cB 0 c + (y (0 : Fin 2)).val) (512 + (y (1 : Fin 2)).val)
      = landB X Wt 0 (ry c) (64 * b + (y (0 : Fin 2)).val) (0 + (y (1 : Fin 2)).val)
    rw [landB_zero, rowOf_quarter _ _ _ (y (0 : Fin 2)).isLt, Nat.zero_add]

/-- The next transfer of half `q` of the columns around the layers, out of the sum so far. -/
theorem send_A {α : Type} {Q : α → sProp 𝕄} {k : PUnit → Prog (TpuEff nD τ sig (Elt F) Λ₀ .tc) α}
    (c : Dev nD) (i : Fin 32) (t q : ℕ) (hi : i.val = 6 * (t + 1) + q) (ht : t < 2) (hq : q < 2) (s r : ℕ) (hs : s ≤ i.val) (d : Dev nD)
    (hd : d = dst i c) (off : Fin 3 → ℕ) (inb) (hoff : off = ![t, 0, 256 * q]) (off' : Fin 3 → ℕ) (inb') (hoff' : off' = ![t + 1, 0, 256 * q])
    (sS sR : DmaSem sig) (hsS : sS = ssem i) (hsR : sR = rsem (dst i c) i) (sq) (sq') (hsc) (w1) (w2) (w3) :
    iprop(St X Wt K c i.val s r ∗ srcPts X Wt c i)
      ⊢ iprop((St X Wt K c (i.val + 1) s r -∗ Wp c (k ⟨⟩) Q)
        -∗ Wp c (.op (.enqueueDma
          (((Memref.whole cc0_scratch1).slice (Rect.unit (s := S3x256x512) off S1x256x256.size inb) (fun _ => rfl)).squeeze S256x256 sq)
          (.remote (Dev.tc d : Thread nD τ)
            (((Memref.whole cc0_scratch1).slice (Rect.unit (s := S3x256x512) off' S1x256x256.size inb') (fun _ => rfl)).squeeze S256x256 sq')
            (.dma sS) hsc) (.dma sR) w1 w2 w3) k) Q) := by
  subst hoff hoff' hd
  refine step_send X Wt K c i s r _ rfl hs hsS hsR (N_A i (t + 1) q hi (by omega) hq).symm (bAccA X Wt c) ?_ ?_ ?_
  · rw [srcPts_A X Wt c i t q hi ht hq]
    exact congrArg (fun S => (locA c ↦[S]{fullShare} bAccA X Wt c : sProp 𝕄))
      (squeeze_set cc0_scratch1 ![t, 0, 256 * q] S1x256x256.size inb (fun _ => rfl) S256x256 sq).symm
  · rw [squeeze_set cc0_scratch1 ![t + 1, 0, 256 * q] S1x256x256.size inb' (fun _ => rfl) S256x256 sq']
    exact Land_A (dst i c) i (t + 1) q hi (by omega) hq
  · intro fd
    unfold landPts
    rw [landAt_A (dst i c) i (t + 1) q hi (by omega) hq]
    refine of_eq' (pts_written _ _ fd (bLandA X Wt (dst i c)) _ _ (squeeze_set cc0_scratch1 _ _ inb' (fun _ => rfl) S256x256 sq') fun y => ?_)
    obtain ⟨e0, e1, e2⟩ := emb_squeeze (d := ![3, 256, 512]) ![t + 1, 0, 256 * q] inb' (squeezes_S1x256x256_S256x256.numel_eq) y
    obtain ⟨a0, a1, a2⟩ := emb_squeeze (d := ![3, 256, 512]) ![t, 0, 256 * q] inb (squeezes_S1x256x256_S256x256.numel_eq) y
    show accA X Wt ((Rect.unit (s := S3x256x512) ![t, 0, 256 * q] S1x256x256.size inb).emb (Shape.reshapeEquiv _ y) (0 : Fin 3)).val c
        ((Rect.unit (s := S3x256x512) ![t, 0, 256 * q] S1x256x256.size inb).emb (Shape.reshapeEquiv _ y) (1 : Fin 3)).val
        ((Rect.unit (s := S3x256x512) ![t, 0, 256 * q] S1x256x256.size inb).emb (Shape.reshapeEquiv _ y) (2 : Fin 3)).val
      = landA X Wt ((Rect.unit (s := S3x256x512) ![t + 1, 0, 256 * q] S1x256x256.size inb').emb (Shape.reshapeEquiv _ y) (0 : Fin 3)).val (dst i c)
        ((Rect.unit (s := S3x256x512) ![t + 1, 0, 256 * q] S1x256x256.size inb').emb (Shape.reshapeEquiv _ y) (1 : Fin 3)).val
        ((Rect.unit (s := S3x256x512) ![t + 1, 0, 256 * q] S1x256x256.size inb').emb (Shape.reshapeEquiv _ y) (2 : Fin 3)).val
    erw [e0, e1, e2, a0]
    rw [dst_A c i (t + 1) q hi (by omega) hq]
    exact (landA_succ X Wt t c _ _).symm

/-- The next transfer of quarter `b` of the rows around the rows of devices, out of the sum so far. -/
theorem send_B {α : Type} {Q : α → sProp 𝕄} {k : PUnit → Prog (TpuEff nD τ sig (Elt F) Λ₀ .tc) α}
    (c : Dev nD) (i : Fin 32) (t b : ℕ) (hi : i.val = 6 * (t + 1) + 2 + b) (ht : t < 2) (hb : b < 4) (s r : ℕ) (hs : s ≤ i.val) (d : Dev nD)
    (hd : d = dst i c) (off : Fin 3 → ℕ) (inb) (hoff : off = ![t, 64 * b, 0]) (off' : Fin 3 → ℕ) (inb') (hoff' : off' = ![t + 1, 64 * b, 0])
    (sS sR : DmaSem sig) (hsS : sS = ssem i) (hsR : sR = rsem (dst i c) i) (sq) (sq') (hsc) (w1) (w2) (w3) :
    iprop(St X Wt K c i.val s r ∗ srcPts X Wt c i)
      ⊢ iprop((St X Wt K c (i.val + 1) s r -∗ Wp c (k ⟨⟩) Q)
        -∗ Wp c (.op (.enqueueDma
          (((Memref.whole cc0_scratch2).slice (Rect.unit (s := S3x256x512) off S1x64x512.size inb) (fun _ => rfl)).squeeze S64x512 sq)
          (.remote (Dev.tc d : Thread nD τ)
            (((Memref.whole cc0_scratch2).slice (Rect.unit (s := S3x256x512) off' S1x64x512.size inb') (fun _ => rfl)).squeeze S64x512 sq')
            (.dma sS) hsc) (.dma sR) w1 w2 w3) k) Q) := by
  subst hoff hoff' hd
  refine step_send X Wt K c i s r _ rfl hs hsS hsR (N_B i (t + 1) b hi (by omega) hb).symm (bAccB X Wt c) ?_ ?_ ?_
  · rw [srcPts_B X Wt c i t b hi ht hb]
    exact congrArg (fun S => (locB c ↦[S]{fullShare} bAccB X Wt c : sProp 𝕄))
      (squeeze_set cc0_scratch2 ![t, 64 * b, 0] S1x64x512.size inb (fun _ => rfl) S64x512 sq).symm
  · rw [squeeze_set cc0_scratch2 ![t + 1, 64 * b, 0] S1x64x512.size inb' (fun _ => rfl) S64x512 sq']
    exact Land_B (dst i c) i (t + 1) b hi (by omega) hb
  · intro fd
    unfold landPts
    rw [landAt_B (dst i c) i (t + 1) b hi (by omega) hb]
    refine of_eq' (pts_written _ _ fd (bLandB X Wt (dst i c)) _ _ (squeeze_set cc0_scratch2 _ _ inb' (fun _ => rfl) S64x512 sq') fun y => ?_)
    obtain ⟨e0, e1, e2⟩ := emb_squeeze (d := ![3, 256, 512]) ![t + 1, 64 * b, 0] inb' (squeezes_S1x64x512_S64x512.numel_eq) y
    obtain ⟨a0, a1, a2⟩ := emb_squeeze (d := ![3, 256, 512]) ![t, 64 * b, 0] inb (squeezes_S1x64x512_S64x512.numel_eq) y
    show accB X Wt ((Rect.unit (s := S3x256x512) ![t, 64 * b, 0] S1x64x512.size inb).emb (Shape.reshapeEquiv _ y) (0 : Fin 3)).val c
        ((Rect.unit (s := S3x256x512) ![t, 64 * b, 0] S1x64x512.size inb).emb (Shape.reshapeEquiv _ y) (1 : Fin 3)).val
        ((Rect.unit (s := S3x256x512) ![t, 64 * b, 0] S1x64x512.size inb).emb (Shape.reshapeEquiv _ y) (2 : Fin 3)).val
      = landB X Wt ((Rect.unit (s := S3x256x512) ![t + 1, 64 * b, 0] S1x64x512.size inb').emb (Shape.reshapeEquiv _ y) (0 : Fin 3)).val (dst i c)
        ((Rect.unit (s := S3x256x512) ![t + 1, 64 * b, 0] S1x64x512.size inb').emb (Shape.reshapeEquiv _ y) (1 : Fin 3)).val
        ((Rect.unit (s := S3x256x512) ![t + 1, 64 * b, 0] S1x64x512.size inb').emb (Shape.reshapeEquiv _ y) (2 : Fin 3)).val
    erw [e0, e1, e2, a0]
    rw [dst_B c i (t + 1) b hi (by omega) hb]
    exact (landB_succ X Wt t c _ _).symm

/-- The exchange in a layer: the rows that belong to the device `e` further on. -/
theorem send_DA {α : Type} {Q : α → sProp 𝕄} {k : PUnit → Prog (TpuEff nD τ sig (Elt F) Λ₀ .tc) α}
    (c : Dev nD) (i : Fin 32) (e : ℕ) (hi : i.val = 17 + e) (he : 1 ≤ e) (he' : e < 8) (s r : ℕ) (hs : s ≤ i.val) (d : Dev nD)
    (hd : d = dst i c) (off : Fin 3 → ℕ) (inb) (hoff : off = ![2, 32 * ((jj c + e) % 8), 0]) (off' : Fin 2 → ℕ) (inb')
    (hoff' : off' = ![32 * jj c, 0])
    (sS sR : DmaSem sig) (hsS : sS = ssem i) (hsR : sR = rsem (dst i c) i) (sq) (hsc) (w1) (w2) (w3) :
    iprop(St X Wt K c i.val s r ∗ srcPts X Wt c i)
      ⊢ iprop((St X Wt K c (i.val + 1) s r -∗ Wp c (k ⟨⟩) Q)
        -∗ Wp c (.op (.enqueueDma
          (((Memref.whole cc0_scratch1).slice (Rect.unit (s := S3x256x512) off S1x32x512.size inb) (fun _ => rfl)).squeeze S32x512 sq)
          (.remote (Dev.tc d : Thread nD τ)
            ((Memref.whole cc0_scratch3).slice (Rect.unit (s := S256x512) off' S32x512.size inb') (fun _ => rfl))
            (.dma sS) hsc) (.dma sR) w1 w2 w3) k) Q) := by
  subst hoff hoff' hd
  refine step_send X Wt K c i s r _ rfl hs hsS hsR (N_D i (by omega)).symm (bAccA X Wt c) ?_ ?_ ?_
  · rw [srcPts_DA X Wt c i e hi he he']
    exact congrArg (fun S => (locA c ↦[S]{fullShare} bAccA X Wt c : sProp 𝕄))
      (squeeze_set cc0_scratch1 ![2, 32 * ((jj c + e) % 8), 0] S1x32x512.size inb (fun _ => rfl) S32x512 sq).symm
  · rw [slice_set cc0_scratch3 ![32 * jj c, 0] S32x512.size inb' (fun _ => rfl)]
    have h := Land_XA (F := F) (dst i c) i (by omega) (by omega)
    rw [src_dst] at h
    exact h
  · intro fd
    unfold landPts
    rw [landAt_XA (dst i c) i (by omega) (by omega), src_dst]
    refine of_eq' (pts_written _ _ fd (bGatA X Wt (dst i c)) _ _ (slice_set cc0_scratch3 _ _ inb' (fun _ => rfl)) fun y => ?_)
    obtain ⟨a0, a1, a2⟩ := emb_squeeze (d := ![3, 256, 512]) ![2, 32 * ((jj c + e) % 8), 0] inb (squeezes_S1x32x512_S32x512.numel_eq) y
    show accA X Wt ((Rect.unit (s := S3x256x512) ![2, 32 * ((jj c + e) % 8), 0] S1x32x512.size inb).emb (Shape.reshapeEquiv _ y) (0 : Fin 3)).val c
        ((Rect.unit (s := S3x256x512) ![2, 32 * ((jj c + e) % 8), 0] S1x32x512.size inb).emb (Shape.reshapeEquiv _ y) (1 : Fin 3)).val
        ((Rect.unit (s := S3x256x512) ![2, 32 * ((jj c + e) % 8), 0] S1x32x512.size inb).emb (Shape.reshapeEquiv _ y) (2 : Fin 3)).val
      = gatA X Wt (dst i c) ((Rect.unit (s := S256x512) ![32 * jj c, 0] S32x512.size inb').emb y (0 : Fin 2)).val
        ((Rect.unit (s := S256x512) ![32 * jj c, 0] S32x512.size inb').emb y (1 : Fin 2)).val
    erw [a0, a1, a2]
    rw [emb_unit, emb_unit, dst_DA c i e hi he he']
    exact (gatA_pz X Wt c ⟨e, he'⟩ _ _ (y (0 : Fin 2)).isLt).symm

/-- The exchange across the layers: the rows that belong to the device `e` further on. -/
theorem send_DB {α : Type} {Q : α → sProp 𝕄} {k : PUnit → Prog (TpuEff nD τ sig (Elt F) Λ₀ .tc) α}
    (c : Dev nD) (i : Fin 32) (e : ℕ) (hi : i.val = 24 + e) (he : 1 ≤ e) (he' : e < 8) (s r : ℕ) (hs : s ≤ i.val) (d : Dev nD)
    (hd : d = dst i c) (off : Fin 3 → ℕ) (inb) (hoff : off = ![2, rowB (yy c) ((mm c + e) % 8), 0]) (off' : Fin 2 → ℕ) (inb')
    (hoff' : off' = ![32 * mm c, 0])
    (sS sR : DmaSem sig) (hsS : sS = ssem i) (hsR : sR = rsem (dst i c) i) (sq) (hsc) (w1) (w2) (w3) :
    iprop(St X Wt K c i.val s r ∗ srcPts X Wt c i)
      ⊢ iprop((St X Wt K c (i.val + 1) s r -∗ Wp c (k ⟨⟩) Q)
        -∗ Wp c (.op (.enqueueDma
          (((Memref.whole cc0_scratch2).slice (Rect.unit (s := S3x256x512) off S1x32x512.size inb) (fun _ => rfl)).squeeze S32x512 sq)
          (.remote (Dev.tc d : Thread nD τ)
            ((Memref.whole cc0_scratch4).slice (Rect.unit (s := S256x512) off' S32x512.size inb') (fun _ => rfl))
            (.dma sS) hsc) (.dma sR) w1 w2 w3) k) Q) := by
  subst hoff hoff' hd
  refine step_send X Wt K c i s r _ rfl hs hsS hsR (N_D i (by omega)).symm (bAccB X Wt c) ?_ ?_ ?_
  · rw [srcPts_DB X Wt c i e hi he he']
    exact congrArg (fun S => (locB c ↦[S]{fullShare} bAccB X Wt c : sProp 𝕄))
      (squeeze_set cc0_scratch2 ![2, rowB (yy c) ((mm c + e) % 8), 0] S1x32x512.size inb (fun _ => rfl) S32x512 sq).symm
  · rw [slice_set cc0_scratch4 ![32 * mm c, 0] S32x512.size inb' (fun _ => rfl)]
    have h := Land_XB (F := F) (dst i c) i (by omega)
    rw [src_dst] at h
    exact h
  · intro fd
    unfold landPts
    rw [landAt_XB (dst i c) i (by omega), src_dst]
    refine of_eq' (pts_written _ _ fd (bGatB X Wt (dst i c)) _ _ (slice_set cc0_scratch4 _ _ inb' (fun _ => rfl)) fun y => ?_)
    obtain ⟨a0, a1, a2⟩ := emb_squeeze (d := ![3, 256, 512]) ![2, rowB (yy c) ((mm c + e) % 8), 0] inb (squeezes_S1x32x512_S32x512.numel_eq) y
    show accB X Wt ((Rect.unit (s := S3x256x512) ![2, rowB (yy c) ((mm c + e) % 8), 0] S1x32x512.size inb).emb (Shape.reshapeEquiv _ y) (0 : Fin 3)).val c
        ((Rect.unit (s := S3x256x512) ![2, rowB (yy c) ((mm c + e) % 8), 0] S1x32x512.size inb).emb (Shape.reshapeEquiv _ y) (1 : Fin 3)).val
        ((Rect.unit (s := S3x256x512) ![2, rowB (yy c) ((mm c + e) % 8), 0] S1x32x512.size inb).emb (Shape.reshapeEquiv _ y) (2 : Fin 3)).val
      = gatB X Wt (dst i c) ((Rect.unit (s := S256x512) ![32 * mm c, 0] S32x512.size inb').emb y (0 : Fin 2)).val
        ((Rect.unit (s := S256x512) ![32 * mm c, 0] S32x512.size inb').emb y (1 : Fin 2)).val
    erw [a0, a1, a2]
    rw [emb_unit, emb_unit, dst_DB c i e hi he he']
    exact (gatB_py X Wt c ⟨e, he'⟩ _ _ (y (0 : Fin 2)).isLt).symm

end Cert.KernelIdeal.Ring
-- ==== Proof.Memory.lean ====
/- The pieces the buffers are cut into and joined from, and the loads and stores of the kernel on them. -/
module

public import proofs.«01_k».proof.Proof.Sends

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)

/-! ### Cutting a buffer -/

/-- Elements that lie in exactly one of several pieces are held piece by piece. -/
theorem pts_fin {ℓ : Loc nD τ sig} {n : ℕ} (K : Fin n → Finset (Idx ℓ)) (S : Finset (Idx ℓ)) (f : Buf (Elt F) ℓ)
    (hd : ∀ i j, i ≠ j → Disjoint (K i) (K j)) (hS : ∀ x, x ∈ S ↔ ∃ i, x ∈ K i) :
    (ℓ ↦[S]{fullShare} f : sProp 𝕄) = bigSep Finset.univ fun i => ℓ ↦[K i]{fullShare} f := by
  have e : S = Finset.univ.biUnion K := by
    ext x
    rw [hS, Finset.mem_biUnion]
    simp only [Finset.mem_univ, true_and]
  rw [e]
  exact pointsTo_biUnion _ _ fun i _ j _ h => hd i j h

/-- The left half of the product. -/
def halfL : Finset S1024x1024.Idx := box (s := ⟨2, ![1024, 1024]⟩) ![0, 0] ![1024, 512]
/-- The right half of the product. -/
def halfR : Finset S1024x1024.Idx := box (s := ⟨2, ![1024, 1024]⟩) ![0, 512] ![1024, 512]
/-- What stays of the left half when its first block is sent. -/
def PL (c : Dev nD) : Finset S1024x1024.Idx := halfL.filter fun x => (x (0 : Fin 2)).val / 256 ≠ cA 0 c
/-- What stays of the right half when its first blocks are sent. -/
def PR (c : Dev nD) : Finset S1024x1024.Idx := halfR.filter fun x => (x (0 : Fin 2)).val % 256 / 64 ≠ cB 0 c
/-- The last round's sums. -/
def slot2 : Finset S3x256x512.Idx := box (s := ⟨3, ![3, 256, 512]⟩) ![2, 0, 0] ![1, 256, 512]

theorem cA_lt (s : ℕ) (c : Dev nD) : cA s c < 4 := Nat.mod_lt _ (by decide)
theorem cB_lt (s : ℕ) (c : Dev nD) : cB s c < 4 := Nat.mod_lt _ (by decide)

theorem mem_halfL {x : S1024x1024.Idx} : x ∈ halfL ↔ (x (1 : Fin 2)).val < 512 := by
  have h0 : (x (0 : Fin 2)).val < 1024 := (x (0 : Fin 2)).isLt
  unfold halfL; rw [mem_box2]; omega
theorem mem_halfR {x : S1024x1024.Idx} : x ∈ halfR ↔ 512 ≤ (x (1 : Fin 2)).val := by
  have h0 : (x (0 : Fin 2)).val < 1024 := (x (0 : Fin 2)).isLt
  have h1 : (x (1 : Fin 2)).val < 1024 := (x (1 : Fin 2)).isLt
  unfold halfR; rw [mem_box2]; omega
theorem mem_PL {c : Dev nD} {x : S1024x1024.Idx} : x ∈ PL c ↔ (x (1 : Fin 2)).val < 512 ∧ (x (0 : Fin 2)).val / 256 ≠ cA 0 c := by
  unfold PL; rw [Finset.mem_filter, mem_halfL]
theorem mem_PR {c : Dev nD} {x : S1024x1024.Idx} : x ∈ PR c ↔ 512 ≤ (x (1 : Fin 2)).val ∧ (x (0 : Fin 2)).val % 256 / 64 ≠ cB 0 c := by
  unfold PR; rw [Finset.mem_filter, mem_halfR]
theorem mem_partA {o q : ℕ} {x : S1024x1024.Idx} : x ∈ partA o q ↔ (o ≤ (x (0 : Fin 2)).val ∧ (x (0 : Fin 2)).val < o + 256)
    ∧ (256 * q ≤ (x (1 : Fin 2)).val ∧ (x (1 : Fin 2)).val < 256 * q + 256) := mem_box2
theorem mem_partB {o : ℕ} {x : S1024x1024.Idx} : x ∈ partB o ↔ (o ≤ (x (0 : Fin 2)).val ∧ (x (0 : Fin 2)).val < o + 64)
    ∧ (512 ≤ (x (1 : Fin 2)).val ∧ (x (1 : Fin 2)).val < 512 + 512) := mem_box2
theorem mem_setA {s q : ℕ} {x : S3x256x512.Idx} : x ∈ setA s q ↔ (s ≤ (x (0 : Fin 3)).val ∧ (x (0 : Fin 3)).val < s + 1)
    ∧ (0 ≤ (x (1 : Fin 3)).val ∧ (x (1 : Fin 3)).val < 0 + 256) ∧ (256 * q ≤ (x (2 : Fin 3)).val ∧ (x (2 : Fin 3)).val < 256 * q + 256) := mem_box3
theorem mem_setB {s k : ℕ} {x : S3x256x512.Idx} : x ∈ setB s k ↔ (s ≤ (x (0 : Fin 3)).val ∧ (x (0 : Fin 3)).val < s + 1)
    ∧ (64 * k ≤ (x (1 : Fin 3)).val ∧ (x (1 : Fin 3)).val < 64 * k + 64) ∧ (0 ≤ (x (2 : Fin 3)).val ∧ (x (2 : Fin 3)).val < 0 + 512) := mem_box3
theorem mem_row3 {o : ℕ} {x : S3x256x512.Idx} : x ∈ row3 o ↔ (2 ≤ (x (0 : Fin 3)).val ∧ (x (0 : Fin 3)).val < 2 + 1)
    ∧ (o ≤ (x (1 : Fin 3)).val ∧ (x (1 : Fin 3)).val < o + 32) ∧ (0 ≤ (x (2 : Fin 3)).val ∧ (x (2 : Fin 3)).val < 0 + 512) := mem_box3
theorem mem_row2 {o : ℕ} {x : S256x512.Idx} : x ∈ row2 o ↔ (o ≤ (x (0 : Fin 2)).val ∧ (x (0 : Fin 2)).val < o + 32)
    ∧ (0 ≤ (x (1 : Fin 2)).val ∧ (x (1 : Fin 2)).val < 0 + 512) := mem_box2
theorem mem_slot2 {x : S3x256x512.Idx} : x ∈ slot2 ↔ (2 ≤ (x (0 : Fin 3)).val ∧ (x (0 : Fin 3)).val < 2 + 1)
    ∧ (0 ≤ (x (1 : Fin 3)).val ∧ (x (1 : Fin 3)).val < 0 + 256) ∧ (0 ≤ (x (2 : Fin 3)).val ∧ (x (2 : Fin 3)).val < 0 + 512) := mem_box3

section Cuts
variable (c : Dev nD)

/-- The product is its two halves. -/
theorem part_halves (f : Buf (Elt F) (locP c)) :
    (locP c ↦[Finset.univ]{fullShare} f : sProp 𝕄) = iprop((locP c ↦[halfL]{fullShare} f) ∗ (locP c ↦[halfR]{fullShare} f)) := by
  rw [pts_fin (ℓ := locP c) ![halfL, halfR] Finset.univ f ?_ ?_, bigSep_univ_eq_bigSepL [0, 1] (by decide) (by decide)]
  · rfl
  · intro i j hij
    rw [Finset.disjoint_left]
    intro x hx hx'
    fin_cases i <;> fin_cases j <;> first | exact hij rfl | skip
    · have h1 := mem_halfL.mp hx; have h2 := mem_halfR.mp hx'; omega
    · have h1 := mem_halfR.mp hx; have h2 := mem_halfL.mp hx'; omega
  · intro x
    refine ⟨fun _ => ?_, fun _ => Finset.mem_univ _⟩
    by_cases h : (x (1 : Fin 2)).val < 512
    · exact ⟨0, mem_halfL.mpr h⟩
    · exact ⟨1, mem_halfR.mpr (by omega)⟩

/-- The left half is what the first two transfers take and what stays. -/
theorem left_pieces : (locP c ↦[halfL]{fullShare} bPart X Wt c : sProp 𝕄)
    = iprop((locP c ↦[PL c]{fullShare} bPart X Wt c) ∗ srcPts X Wt c 0 ∗ srcPts X Wt c 1) := by
  have h4 := cA_lt 0 c
  rw [srcPts_A0 X Wt c 0 0 rfl (by decide), srcPts_A0 X Wt c 1 1 rfl (by decide),
    pts_fin (ℓ := locP c) ![PL c, partA (256 * cA 0 c) 0, partA (256 * cA 0 c) 1] halfL _ ?_ ?_,
    bigSep_univ_eq_bigSepL [0, 1, 2] (by decide) (by decide)]
  · rfl
  · intro i j hij
    rw [Finset.disjoint_left]
    intro x hx hx'
    fin_cases i <;> fin_cases j <;> first | exact hij rfl | skip
    · have h1 := mem_PL.mp hx; have h2 := mem_partA.mp hx'; omega
    · have h1 := mem_PL.mp hx; have h2 := mem_partA.mp hx'; omega
    · have h1 := mem_partA.mp hx; have h2 := mem_PL.mp hx'; omega
    · have h1 := mem_partA.mp hx; have h2 := mem_partA.mp hx'; omega
    · have h1 := mem_partA.mp hx; have h2 := mem_PL.mp hx'; omega
    · have h1 := mem_partA.mp hx; have h2 := mem_partA.mp hx'; omega
  · intro x
    rw [mem_halfL]
    constructor
    · intro h
      by_cases h0 : (x (0 : Fin 2)).val / 256 = cA 0 c
      · by_cases h1 : (x (1 : Fin 2)).val < 256
        · exact ⟨1, mem_partA.mpr (by omega)⟩
        · exact ⟨2, mem_partA.mpr (by omega)⟩
      · exact ⟨0, mem_PL.mpr ⟨h, h0⟩⟩
    · rintro ⟨i, hx⟩
      fin_cases i
      · exact (mem_PL.mp hx).1
      · have h1 := mem_partA.mp hx; omega
      · have h1 := mem_partA.mp hx; omega

/-- The right half is what the next four transfers take and what stays. -/
theorem right_pieces : (locP c ↦[halfR]{fullShare} bPart X Wt c : sProp 𝕄)
    = iprop((locP c ↦[PR c]{fullShare} bPart X Wt c) ∗ srcPts X Wt c 2 ∗ srcPts X Wt c 3 ∗ srcPts X Wt c 4 ∗ srcPts X Wt c 5) := by
  have h4 := cB_lt 0 c
  have key : ∀ (K : Fin 5 → Finset S1024x1024.Idx), K 0 = PR c → (∀ k : Fin 4, K k.succ = partB (256 * k.val + 64 * cB 0 c)) →
      (∀ i j, i ≠ j → Disjoint (K i) (K j)) ∧ ∀ x, x ∈ halfR ↔ ∃ i, x ∈ K i := by
    intro K h0 hK
    refine ⟨?_, ?_⟩
    · intro i j hij
      rw [Finset.disjoint_left]
      intro x hx hx'
      rcases Fin.eq_zero_or_eq_succ i with rfl | ⟨i, rfl⟩ <;> rcases Fin.eq_zero_or_eq_succ j with rfl | ⟨j, rfl⟩
      · exact hij rfl
      · rw [h0] at hx; rw [hK] at hx'
        have h1 := mem_PR.mp hx; have h2 := mem_partB.mp hx'; omega
      · rw [hK] at hx; rw [h0] at hx'
        have h1 := mem_PR.mp hx'; have h2 := mem_partB.mp hx; omega
      · rw [hK] at hx hx'
        have h1 := mem_partB.mp hx; have h2 := mem_partB.mp hx'
        exact hij (congrArg Fin.succ (Fin.ext (by omega)))
    · intro x
      rw [mem_halfR]
      have b0 : (x (0 : Fin 2)).val < 1024 := (x (0 : Fin 2)).isLt
      have b1 : (x (1 : Fin 2)).val < 1024 := (x (1 : Fin 2)).isLt
      constructor
      · intro h
        by_cases h1 : (x (0 : Fin 2)).val % 256 / 64 = cB 0 c
        · refine ⟨(⟨(x (0 : Fin 2)).val / 256, by omega⟩ : Fin 4).succ, ?_⟩
          rw [hK]
          exact mem_partB.mpr (by show (256 * ((x (0 : Fin 2)).val / 256) + _ ≤ _ ∧ _ < 256 * ((x (0 : Fin 2)).val / 256) + _ + _) ∧ _; omega)
        · exact ⟨0, by rw [h0]; exact mem_PR.mpr ⟨h, h1⟩⟩
      · rintro ⟨i, hx⟩
        rcases Fin.eq_zero_or_eq_succ i with rfl | ⟨i, rfl⟩
        · rw [h0] at hx; exact (mem_PR.mp hx).1
        · rw [hK] at hx
          have h1 := mem_partB.mp hx; omega
  obtain ⟨hd, hS⟩ := key (Fin.cons (PR c) fun k : Fin 4 => partB (256 * k.val + 64 * cB 0 c)) rfl (fun k => rfl)
  rw [srcPts_B0 X Wt c 2 0 rfl (by decide), srcPts_B0 X Wt c 3 1 rfl (by decide), srcPts_B0 X Wt c 4 2 rfl (by decide),
    srcPts_B0 X Wt c 5 3 rfl (by decide), pts_fin (ℓ := locP c) _ halfR _ hd hS,
    bigSep_univ_eq_bigSepL [0, 1, 2, 3, 4] (by decide) (by decide)]
  rfl

/-- The last left sums, by halves of the columns. -/
theorem slotA_halves (f : Buf (Elt F) (locA c)) : (locA c ↦[slot2]{fullShare} f : sProp 𝕄)
    = iprop((locA c ↦[setA 2 0]{fullShare} f) ∗ (locA c ↦[setA 2 1]{fullShare} f)) := by
  rw [pts_fin (ℓ := locA c) (fun q : Fin 2 => setA 2 q.val) slot2 f ?_ ?_, bigSep_univ_eq_bigSepL [0, 1] (by decide) (by decide)]
  · rfl
  · intro i j hij
    rw [Finset.disjoint_left]
    intro x hx hx'
    have h1 := mem_setA.mp hx; have h2 := mem_setA.mp hx'
    exact hij (Fin.ext (by omega))
  · intro x
    have b2 : (x (2 : Fin 3)).val < 512 := (x (2 : Fin 3)).isLt
    rw [mem_slot2]
    constructor
    · intro h
      exact ⟨⟨(x (2 : Fin 3)).val / 256, by omega⟩, mem_setA.mpr (by
        show _ ∧ _ ∧ (256 * ((x (2 : Fin 3)).val / 256) ≤ _ ∧ _ < 256 * ((x (2 : Fin 3)).val / 256) + 256); omega)⟩
    · rintro ⟨i, hx⟩
      have h1 := mem_setA.mp hx; omega

/-- The last right sums, by quarters of the rows. -/
theorem slotB_quarters (f : Buf (Elt F) (locB c)) : (locB c ↦[slot2]{fullShare} f : sProp 𝕄)
    = iprop((locB c ↦[setB 2 0]{fullShare} f) ∗ (locB c ↦[setB 2 1]{fullShare} f) ∗ (locB c ↦[setB 2 2]{fullShare} f)
      ∗ (locB c ↦[setB 2 3]{fullShare} f)) := by
  rw [pts_fin (ℓ := locB c) (fun q : Fin 4 => setB 2 q.val) slot2 f ?_ ?_, bigSep_univ_eq_bigSepL [0, 1, 2, 3] (by decide) (by decide)]
  · rfl
  · intro i j hij
    rw [Finset.disjoint_left]
    intro x hx hx'
    have h1 := mem_setB.mp hx; have h2 := mem_setB.mp hx'
    exact hij (Fin.ext (by omega))
  · intro x
    have b1 : (x (1 : Fin 3)).val < 256 := (x (1 : Fin 3)).isLt
    rw [mem_slot2]
    constructor
    · intro h
      exact ⟨⟨(x (1 : Fin 3)).val / 64, by omega⟩, mem_setB.mpr (by
        show _ ∧ (64 * ((x (1 : Fin 3)).val / 64) ≤ _ ∧ _ < 64 * ((x (1 : Fin 3)).val / 64) + 64) ∧ _; omega)⟩
    · rintro ⟨i, hx⟩
      have h1 := mem_setB.mp hx; omega

/-- Eight blocks of thirty-two rows, in any order, are the last round's sums. -/
theorem slot_rows (o : Fin 8 → ℕ) (hinj : ∀ i j, o i = o j → i = j) (hsur : ∀ b, b < 8 → ∃ i, o i = b) (hlt : ∀ i, o i < 8) :
    (∀ i j, i ≠ j → Disjoint (row3 (32 * o i)) (row3 (32 * o j))) ∧ ∀ x, x ∈ slot2 ↔ ∃ i, x ∈ row3 (32 * o i) := by
  refine ⟨?_, ?_⟩
  · intro i j hij
    rw [Finset.disjoint_left]
    intro x hx hx'
    have h1 := mem_row3.mp hx; have h2 := mem_row3.mp hx'
    exact hij (hinj i j (by omega))
  · intro x
    have b1 : (x (1 : Fin 3)).val < 256 := (x (1 : Fin 3)).isLt
    rw [mem_slot2]
    constructor
    · intro h
      obtain ⟨i, hi⟩ := hsur ((x (1 : Fin 3)).val / 32) (by omega)
      exact ⟨i, mem_row3.mpr (by omega)⟩
    · rintro ⟨i, hx⟩
      have h1 := mem_row3.mp hx; have h2 := hlt i; omega

/-- Eight blocks of thirty-two rows, in any order, are what a device collects. -/
theorem col_rows (o : Fin 8 → ℕ) (hinj : ∀ i j, o i = o j → i = j) (hsur : ∀ b, b < 8 → ∃ i, o i = b) (hlt : ∀ i, o i < 8) :
    (∀ i j, i ≠ j → Disjoint (row2 (32 * o i)) (row2 (32 * o j))) ∧ ∀ x, x ∈ (Finset.univ : Finset S256x512.Idx) ↔ ∃ i, x ∈ row2 (32 * o i) := by
  refine ⟨?_, ?_⟩
  · intro i j hij
    rw [Finset.disjoint_left]
    intro x hx hx'
    have h1 := mem_row2.mp hx; have h2 := mem_row2.mp hx'
    exact hij (hinj i j (by omega))
  · intro x
    have b0 : (x (0 : Fin 2)).val < 256 := (x (0 : Fin 2)).isLt
    have b1 : (x (1 : Fin 2)).val < 512 := (x (1 : Fin 2)).isLt
    refine ⟨fun _ => ?_, fun _ => Finset.mem_univ _⟩
    obtain ⟨i, hi⟩ := hsur ((x (0 : Fin 2)).val / 32) (by omega)
    exact ⟨i, mem_row2.mpr (by omega)⟩

theorem jperm (j : ℕ) (hj : j < 8) : (∀ d e : Fin 8, (j + d.val) % 8 = (j + e.val) % 8 → d = e)
    ∧ (∀ b, b < 8 → ∃ d : Fin 8, (j + d.val) % 8 = b) ∧ ∀ d : Fin 8, (j + d.val) % 8 < 8 := by
  refine ⟨fun d e h => Fin.ext (by omega), fun b hb => ⟨⟨(b + 8 - j) % 8, by omega⟩, by show (j + (b + 8 - j) % 8) % 8 = b; omega⟩,
    fun d => by omega⟩
theorem rowB_blk (y m : ℕ) : rowB y m = 32 * (2 * (m / 2) + (m % 2 + y) % 2) := by unfold rowB; omega
theorem mperm (y m : ℕ) (hm : m < 8) :
    (∀ d e : Fin 8, 2 * ((m + d.val) % 8 / 2) + ((m + d.val) % 8 % 2 + y) % 2 = 2 * ((m + e.val) % 8 / 2) + ((m + e.val) % 8 % 2 + y) % 2 → d = e)
    ∧ (∀ b, b < 8 → ∃ d : Fin 8, 2 * ((m + d.val) % 8 / 2) + ((m + d.val) % 8 % 2 + y) % 2 = b)
    ∧ ∀ d : Fin 8, 2 * ((m + d.val) % 8 / 2) + ((m + d.val) % 8 % 2 + y) % 2 < 8 := by
  obtain ⟨h1, h2, h3⟩ := jperm m hm
  refine ⟨fun d e h => h1 d e (by have := h3 d; have := h3 e; omega), fun b hb => ?_, fun d => by have := h3 d; omega⟩
  obtain ⟨d, hd⟩ := h2 (2 * (b / 2) + (b % 2 + y) % 2) (by omega)
  exact ⟨d, by rw [hd]; omega⟩

/-- The last left sums are the device's own rows and what the exchange in the layer takes. -/
theorem slotA_rows : (locA c ↦[slot2]{fullShare} bAccA X Wt c : sProp 𝕄)
    = iprop((locA c ↦[row3 (32 * jj c)]{fullShare} bAccA X Wt c) ∗ srcPts X Wt c 18 ∗ srcPts X Wt c 19 ∗ srcPts X Wt c 20 ∗ srcPts X Wt c 21
      ∗ srcPts X Wt c 22 ∗ srcPts X Wt c 23 ∗ srcPts X Wt c 24) := by
  have hj := jj_lt c
  obtain ⟨h1, h2, h3⟩ := jperm (jj c) hj
  obtain ⟨hd, hS⟩ := slot_rows (fun d => (jj c + d.val) % 8) h1 h2 h3
  rw [srcPts_DA X Wt c 18 1 rfl (by decide) (by decide), srcPts_DA X Wt c 19 2 rfl (by decide) (by decide), srcPts_DA X Wt c 20 3 rfl (by decide) (by decide),
    srcPts_DA X Wt c 21 4 rfl (by decide) (by decide), srcPts_DA X Wt c 22 5 rfl (by decide) (by decide), srcPts_DA X Wt c 23 6 rfl (by decide) (by decide),
    srcPts_DA X Wt c 24 7 rfl (by decide) (by decide), pts_fin (ℓ := locA c) _ slot2 _ hd hS,
    bigSep_univ_eq_bigSepL [0, 1, 2, 3, 4, 5, 6, 7] (by decide) (by decide)]
  have e : (jj c + (0 : Fin 8).val) % 8 = jj c := Nat.mod_eq_of_lt hj
  simp only [bigSepL_cons_cons, bigSepL_singleton, e]
  rfl

/-- The last right sums are the device's own rows and what the exchange across the layers takes. -/
theorem slotB_rows : (locB c ↦[slot2]{fullShare} bAccB X Wt c : sProp 𝕄)
    = iprop((locB c ↦[row3 (rowB (yy c) (mm c))]{fullShare} bAccB X Wt c) ∗ srcPts X Wt c 25 ∗ srcPts X Wt c 26 ∗ srcPts X Wt c 27 ∗ srcPts X Wt c 28
      ∗ srcPts X Wt c 29 ∗ srcPts X Wt c 30 ∗ srcPts X Wt c 31) := by
  have hj := mm_lt c
  obtain ⟨h1, h2, h3⟩ := mperm (yy c) (mm c) hj
  obtain ⟨hd, hS⟩ := slot_rows (fun d => 2 * ((mm c + d.val) % 8 / 2) + ((mm c + d.val) % 8 % 2 + yy c) % 2) h1 h2 h3
  rw [srcPts_DB X Wt c 25 1 rfl (by decide) (by decide), srcPts_DB X Wt c 26 2 rfl (by decide) (by decide), srcPts_DB X Wt c 27 3 rfl (by decide) (by decide),
    srcPts_DB X Wt c 28 4 rfl (by decide) (by decide), srcPts_DB X Wt c 29 5 rfl (by decide) (by decide), srcPts_DB X Wt c 30 6 rfl (by decide) (by decide),
    srcPts_DB X Wt c 31 7 rfl (by decide) (by decide), pts_fin (ℓ := locB c) _ slot2 _ hd hS,
    bigSep_univ_eq_bigSepL [0, 1, 2, 3, 4, 5, 6, 7] (by decide) (by decide)]
  have e : (mm c + (0 : Fin 8).val) % 8 = mm c := Nat.mod_eq_of_lt hj
  simp only [bigSepL_cons_cons, bigSepL_singleton, e, rowB_blk]
  rfl

theorem jj_src (i : Fin 32) (h : 18 ≤ i.val ∧ i.val < 25) : jj (src i c) = (jj c + (25 - i.val)) % 8 := by revert i c; decide +kernel
theorem mm_src (i : Fin 32) (h : 25 ≤ i.val) : mm (src i c) = (mm c + (32 - i.val)) % 8 := by revert i c; decide +kernel

/-- What a device collects in its layer, by blocks: its own and the seven received. -/
theorem colA_rows : (locXA c ↦[Finset.univ]{fullShare} bGatA X Wt c : sProp 𝕄)
    = iprop((locXA c ↦[row2 (32 * jj c)]{fullShare} bGatA X Wt c) ∗ landPts X Wt c 24 ∗ landPts X Wt c 23 ∗ landPts X Wt c 22 ∗ landPts X Wt c 21
      ∗ landPts X Wt c 20 ∗ landPts X Wt c 19 ∗ landPts X Wt c 18) := by
  have hj := jj_lt c
  obtain ⟨h1, h2, h3⟩ := jperm (jj c) hj
  obtain ⟨hd, hS⟩ := col_rows (fun d => (jj c + d.val) % 8) h1 h2 h3
  have e : (jj c + (0 : Fin 8).val) % 8 = jj c := Nat.mod_eq_of_lt hj
  have hl : ∀ i : Fin 32, 18 ≤ i.val ∧ i.val < 25 → landPts X Wt c i = (locXA c ↦[row2 (32 * ((jj c + (25 - i.val)) % 8))]{fullShare} bGatA X Wt c) := by
    intro i hi
    unfold landPts
    rw [landAt_XA c i hi.1 hi.2, jj_src c i hi]
  rw [hl 18 (by decide), hl 19 (by decide), hl 20 (by decide), hl 21 (by decide), hl 22 (by decide), hl 23 (by decide), hl 24 (by decide),
    pts_fin (ℓ := locXA c) _ Finset.univ _ hd hS, bigSep_univ_eq_bigSepL [0, 1, 2, 3, 4, 5, 6, 7] (by decide) (by decide)]
  simp only [bigSepL_cons_cons, bigSepL_singleton, e]
  rfl

/-- What a device collects across the layers, by blocks: its own and the seven received. -/
theorem colB_rows : (locXB c ↦[Finset.univ]{fullShare} bGatB X Wt c : sProp 𝕄)
    = iprop((locXB c ↦[row2 (32 * mm c)]{fullShare} bGatB X Wt c) ∗ landPts X Wt c 31 ∗ landPts X Wt c 30 ∗ landPts X Wt c 29 ∗ landPts X Wt c 28
      ∗ landPts X Wt c 27 ∗ landPts X Wt c 26 ∗ landPts X Wt c 25) := by
  have hj := mm_lt c
  obtain ⟨h1, h2, h3⟩ := jperm (mm c) hj
  obtain ⟨hd, hS⟩ := col_rows (fun d => (mm c + d.val) % 8) h1 h2 h3
  have e : (mm c + (0 : Fin 8).val) % 8 = mm c := Nat.mod_eq_of_lt hj
  have hl : ∀ i : Fin 32, 25 ≤ i.val → landPts X Wt c i = (locXB c ↦[row2 (32 * ((mm c + (32 - i.val)) % 8))]{fullShare} bGatB X Wt c) := by
    intro i hi
    unfold landPts
    rw [landAt_XB c i hi, mm_src c i hi]
  rw [hl 25 (by decide), hl 26 (by decide), hl 27 (by decide), hl 28 (by decide), hl 29 (by decide), hl 30 (by decide), hl 31 (by decide),
    pts_fin (ℓ := locXB c) _ Finset.univ _ hd hS, bigSep_univ_eq_bigSepL [0, 1, 2, 3, 4, 5, 6, 7] (by decide) (by decide)]
  simp only [bigSepL_cons_cons, bigSepL_singleton, e]
  rfl

/-- The left sums whole: the first two rounds' halves and the last round. -/
theorem sumsA (f : Buf (Elt F) (locA c)) : (locA c ↦[Finset.univ]{fullShare} f : sProp 𝕄)
    = iprop((locA c ↦[setA 0 0]{fullShare} f) ∗ (locA c ↦[setA 0 1]{fullShare} f) ∗ (locA c ↦[setA 1 0]{fullShare} f)
      ∗ (locA c ↦[setA 1 1]{fullShare} f) ∗ (locA c ↦[slot2]{fullShare} f)) := by
  rw [slotA_halves, pts_fin (ℓ := locA c) (fun i : Fin 6 => setA (i.val / 2) (i.val % 2)) Finset.univ f ?_ ?_,
    bigSep_univ_eq_bigSepL [0, 1, 2, 3, 4, 5] (by decide) (by decide)]
  · rfl
  · intro i j hij
    rw [Finset.disjoint_left]
    intro x hx hx'
    have h1 := mem_setA.mp hx; have h2 := mem_setA.mp hx'
    exact hij (Fin.ext (by omega))
  · intro x
    have b0 : (x (0 : Fin 3)).val < 3 := (x (0 : Fin 3)).isLt
    have b1 : (x (1 : Fin 3)).val < 256 := (x (1 : Fin 3)).isLt
    have b2 : (x (2 : Fin 3)).val < 512 := (x (2 : Fin 3)).isLt
    refine ⟨fun _ => ⟨⟨2 * (x (0 : Fin 3)).val + (x (2 : Fin 3)).val / 256, by omega⟩, mem_setA.mpr ?_⟩, fun _ => Finset.mem_univ _⟩
    show ((2 * (x (0 : Fin 3)).val + (x (2 : Fin 3)).val / 256) / 2 ≤ _ ∧ _ < (2 * (x (0 : Fin 3)).val + (x (2 : Fin 3)).val / 256) / 2 + 1)
      ∧ _ ∧ (256 * ((2 * (x (0 : Fin 3)).val + (x (2 : Fin 3)).val / 256) % 2) ≤ _ ∧ _ < 256 * ((2 * (x (0 : Fin 3)).val + (x (2 : Fin 3)).val / 256) % 2) + 256)
    omega

/-- The right sums whole: the first two rounds' quarters and the last round. -/
theorem sumsB (f : Buf (Elt F) (locB c)) : (locB c ↦[Finset.univ]{fullShare} f : sProp 𝕄)
    = iprop((locB c ↦[setB 0 0]{fullShare} f) ∗ (locB c ↦[setB 0 1]{fullShare} f) ∗ (locB c ↦[setB 0 2]{fullShare} f)
      ∗ (locB c ↦[setB 0 3]{fullShare} f) ∗ (locB c ↦[setB 1 0]{fullShare} f) ∗ (locB c ↦[setB 1 1]{fullShare} f)
      ∗ (locB c ↦[setB 1 2]{fullShare} f) ∗ (locB c ↦[setB 1 3]{fullShare} f) ∗ (locB c ↦[slot2]{fullShare} f)) := by
  rw [slotB_quarters, pts_fin (ℓ := locB c) (fun i : Fin 12 => setB (i.val / 4) (i.val % 4)) Finset.univ f ?_ ?_,
    bigSep_univ_eq_bigSepL [0, 1, 2, 3, 4, 5, 6, 7, 8, 9, 10, 11] (by decide) (by decide)]
  · rfl
  · intro i j hij
    rw [Finset.disjoint_left]
    intro x hx hx'
    have h1 := mem_setB.mp hx; have h2 := mem_setB.mp hx'
    exact hij (Fin.ext (by omega))
  · intro x
    have b0 : (x (0 : Fin 3)).val < 3 := (x (0 : Fin 3)).isLt
    have b1 : (x (1 : Fin 3)).val < 256 := (x (1 : Fin 3)).isLt
    have b2 : (x (2 : Fin 3)).val < 512 := (x (2 : Fin 3)).isLt
    refine ⟨fun _ => ⟨⟨4 * (x (0 : Fin 3)).val + (x (1 : Fin 3)).val / 64, by omega⟩, mem_setB.mpr ?_⟩, fun _ => Finset.mem_univ _⟩
    show ((4 * (x (0 : Fin 3)).val + (x (1 : Fin 3)).val / 64) / 4 ≤ _ ∧ _ < (4 * (x (0 : Fin 3)).val + (x (1 : Fin 3)).val / 64) / 4 + 1)
      ∧ (64 * ((4 * (x (0 : Fin 3)).val + (x (1 : Fin 3)).val / 64) % 4) ≤ _ ∧ _ < 64 * ((4 * (x (0 : Fin 3)).val + (x (1 : Fin 3)).val / 64) % 4) + 64) ∧ _
    omega

end Cuts

/-! ### Loads and stores -/

section Access

/-- A buffer in vector memory, by its place in the signature. -/
abbrev vb (i : Fin (sig.nNear .tc .vmem)) (hκ : sig.names .tc .vmem i = true) : Ref sig .tc := ⟨.vmem, i, hκ⟩

/-- A load through a rectangle of a buffer of which the device holds enough. -/
theorem ld {α : Type} {Q : α → sProp 𝕄} (c : Dev nD) (i : Fin (sig.nNear .tc .vmem)) (hκ) (S : Finset (vb i hκ).ty.shape.Idx) (f : Buf (Elt F) ((c : Thread nD τ).loc (vb i hκ)))
    (off size : Fin (vb i hκ).ty.shape.rank → ℕ) (inb)
    (hl : (Memref.whole (vb i hκ)).view.LoadsAt (Rect.unit (s := (vb i hκ).ty.shape) off size inb).toLoadRect) (hS : box off size ⊆ S)
    {k : ((Rect.unit (s := (vb i hκ).ty.shape) off size inb).toLoadRect.shape.Idx → Elt F (vb i hκ).ty.elt) → Prog (TpuEff nD τ sig (Elt F) Λ₀ .tc) α} :
    ((c : Thread nD τ).loc (vb i hκ) ↦[S]{fullShare} f : sProp 𝕄)
      ⊢ iprop((((c : Thread nD τ).loc (vb i hκ) ↦[S]{fullShare} f)
          -∗ Wp c (k ((Memref.whole (vb i hκ)).view.readAt (Elt F) (Rect.unit (s := (vb i hκ).ty.shape) off size inb).toLoadRect f)) Q)
        -∗ Wp c (.op (.load (cs := .vmem) (Memref.whole (vb i hκ)) (Rect.unit (s := (vb i hκ).ty.shape) off size inb).toLoadRect hl) k) Q) :=
  wp_load 𝒱₀ (c : Thread nD τ) none Set.univ (cs := .vmem) (m := Memref.whole (vb i hκ))
    ((load_setOn (vb i hκ) off size inb).le.trans hS)

/-- A store through a rectangle of a buffer of which the device holds just that: the contents are then any that the stored
    values are read off. -/
theorem sv {α : Type} {Q : α → sProp 𝕄} (c : Dev nD) (i : Fin (sig.nNear .tc .vmem)) (hκ) (S : Finset (vb i hκ).ty.shape.Idx) (f g : Buf (Elt F) ((c : Thread nD τ).loc (vb i hκ)))
    (off size : Fin (vb i hκ).ty.shape.rank → ℕ) (inb)
    (w : (Rect.unit (s := (vb i hκ).ty.shape) off size inb).shape.Idx → Elt F (vb i hκ).ty.elt)
    (h1 : ((Memref.whole (vb i hκ)).access (Rect.unit (s := (vb i hκ).ty.shape) off size inb)).Stores Finset.univ) (h2)
    (hS : S = box off size) (h : ∀ y, w y = g ((Rect.unit (s := (vb i hκ).ty.shape) off size inb).emb y))
    {k : PUnit → Prog (TpuEff nD τ sig (Elt F) Λ₀ .tc) α} :
    ((c : Thread nD τ).loc (vb i hκ) ↦[S]{fullShare} f : sProp 𝕄)
      ⊢ iprop((((c : Thread nD τ).loc (vb i hκ) ↦[S]{fullShare} g) -∗ Wp c (k ⟨⟩) Q)
        -∗ Wp c (.op (.store (cs := .vmem) (Memref.whole (vb i hκ)) (Rect.unit (s := (vb i hκ).ty.shape) off size inb) w Finset.univ h1 h2) k) Q) := by
  subst hS
  have hset : (((Memref.whole (vb i hκ)).access (Rect.unit (s := (vb i hκ).ty.shape) off size inb)).setOn Finset.univ) = box off size :=
    access_setOn (vb i hκ) off size inb
  have e : ((c : Thread nD τ).loc (vb i hκ) ↦[box off size]{fullShare}
      ((Memref.whole (vb i hκ)).access (Rect.unit (s := (vb i hκ).ty.shape) off size inb)).write (Elt F) f w Finset.univ : sProp 𝕄)
      = ((c : Thread nD τ).loc (vb i hκ) ↦[box off size]{fullShare} g) := by
    refine pointsTo_congr fun i hi => ?_
    rw [← hset] at hi
    exact write_agrees ((Memref.whole (vb _ hκ)).access (Rect.unit (s := (vb _ hκ).ty.shape) off size inb)) f g w h i hi
  rw [← e]
  exact wp_store 𝒱₀ (c : Thread nD τ) none Set.univ (cs := .vmem) (m := Memref.whole (vb i hκ))
    (r := Rect.unit (s := (vb i hκ).ty.shape) off size inb) hset.le

end Access

end Cert.KernelIdeal.Ring
-- ==== Proof.Access.lean ====
/- The kernel's loads and stores by the pieces they work on: a sum with the device's own block, a copy of its own rows. -/
module

public import proofs.«01_k».proof.Proof.Memory

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

/-- A block stored as one layer, added to a block: element by element. -/
theorem acc3 {m n : ℕ} (v1 : Vec F ⟨3, ![1, m, n]⟩ .f32) (v2 : Vec F ⟨2, ![m, n]⟩ .f32)
    (h : (⟨3, ![1, m, n]⟩ : Shape).ShapeCasts ⟨2, ![m, n]⟩) (h' : (⟨2, ![m, n]⟩ : Shape).ShapeCasts ⟨3, ![1, m, n]⟩)
    (y : (⟨3, ![1, m, n]⟩ : Shape).Idx) :
    shapeCast ⟨3, ![1, m, n]⟩ (addf (shapeCast ⟨2, ![m, n]⟩ v1 h) v2) h' y
      = FloatOps.addf (v1 y) (v2 (ix2 (n0 := m) (n1 := n) (y (1 : Fin 3)) (y (2 : Fin 3)))) := by
  have e1 := shapeCast_addUnit_apply ![m, n] (addf (shapeCast ⟨2, ![m, n]⟩ v1 h) v2) h' y
  have e2 := shapeCast_dropUnit_apply ![m, n] v1 h (fun a => y a.succ)
  have e3 : (fun a : Fin 2 => y a.succ) = ix2 (n0 := m) (n1 := n) (y (1 : Fin 3)) (y (2 : Fin 3)) := by
    funext a; refine Fin.cases rfl (fun b => ?_) a; rw [Fin.eq_zero b]; rfl
  have e4 : (Fin.cons (⟨0, Nat.one_pos⟩ : Fin 1) (fun a : Fin 2 => y a.succ) : (⟨3, ![1, m, n]⟩ : Shape).Idx) = y := by
    funext a
    refine Fin.cases ?_ (fun b => rfl) a
    exact (Fin.eq_zero (y 0 : Fin 1)).symm
  refine e1.trans ?_
  show FloatOps.addf (shapeCast ⟨2, ![m, n]⟩ v1 h (fun a => y a.succ)) (v2 (fun a => y a.succ)) = _
  exact congrArg₂ FloatOps.addf (e2.trans (congrArg v1 e4)) (congrArg v2 e3)

section
variable (c : Dev nD)

/-- The pieces of the product that stay. -/
abbrev PLp : sProp 𝕄 := locP c ↦[PL c]{fullShare} bPart X Wt c
abbrev PRp : sProp 𝕄 := locP c ↦[PR c]{fullShare} bPart X Wt c
abbrev lA (s q : ℕ) : sProp 𝕄 := locA c ↦[setA s q]{fullShare} bLandA X Wt c
abbrev aA (s q : ℕ) : sProp 𝕄 := locA c ↦[setA s q]{fullShare} bAccA X Wt c
abbrev lB (s b : ℕ) : sProp 𝕄 := locB c ↦[setB s b]{fullShare} bLandB X Wt c
abbrev aB (s b : ℕ) : sProp 𝕄 := locB c ↦[setB s b]{fullShare} bAccB X Wt c

/-- What lands plus the device's own block, on the left. -/
theorem acc_A (s q : ℕ) (off : Fin 3 → ℕ) (inb) (hoff : off = ![s, 0, 256 * q]) (off' : Fin 2 → ℕ) (inb')
    (hoff' : off' = ![256 * cA (s + 1) c, 256 * q]) (y : S1x256x256.Idx) :
    FloatOps.addf ((Memref.whole cc0_scratch1).view.readAt (Elt F) (Rect.unit (s := S3x256x512) off S1x256x256.size inb).toLoadRect (bLandA X Wt c) y)
      ((Memref.whole cc0_scratch0).view.readAt (Elt F) (Rect.unit (s := S1024x1024) off' S256x256.size inb').toLoadRect (bPart X Wt c)
        (ix2 (n0 := 256) (n1 := 256) (y (1 : Fin 3)) (y (2 : Fin 3))))
      = bAccA X Wt c ((Rect.unit (s := S3x256x512) off S1x256x256.size inb).emb y) := by
  subst hoff hoff'
  have y0 : (y (0 : Fin 3)).val = 0 := by have h : (y (0 : Fin 3)).val < 1 := (y (0 : Fin 3)).isLt; omega
  show FloatOps.addf (landA X Wt (s + 1 * (y (0 : Fin 3)).val) c (0 + 1 * (y (1 : Fin 3)).val) (256 * q + 1 * (y (2 : Fin 3)).val))
    (part X Wt c (256 * cA (s + 1) c + 1 * (y (1 : Fin 3)).val) (256 * q + 1 * (y (2 : Fin 3)).val))
    = accA X Wt (s + 1 * (y (0 : Fin 3)).val) c (0 + 1 * (y (1 : Fin 3)).val) (256 * q + 1 * (y (2 : Fin 3)).val)
  rw [y0]
  simp only [Nat.mul_zero, Nat.add_zero, Nat.zero_add]
  rfl

/-- What lands plus the device's own block, on the right. -/
theorem acc_B (s b : ℕ) (off : Fin 3 → ℕ) (inb) (hoff : off = ![s, 64 * b, 0]) (off' : Fin 2 → ℕ) (inb')
    (hoff' : off' = ![256 * b + 64 * cB (s + 1) c, 512]) (y : S1x64x512.Idx) :
    FloatOps.addf ((Memref.whole cc0_scratch2).view.readAt (Elt F) (Rect.unit (s := S3x256x512) off S1x64x512.size inb).toLoadRect (bLandB X Wt c) y)
      ((Memref.whole cc0_scratch0).view.readAt (Elt F) (Rect.unit (s := S1024x1024) off' S64x512.size inb').toLoadRect (bPart X Wt c)
        (ix2 (n0 := 64) (n1 := 512) (y (1 : Fin 3)) (y (2 : Fin 3))))
      = bAccB X Wt c ((Rect.unit (s := S3x256x512) off S1x64x512.size inb).emb y) := by
  subst hoff hoff'
  have y0 : (y (0 : Fin 3)).val = 0 := by have h : (y (0 : Fin 3)).val < 1 := (y (0 : Fin 3)).isLt; omega
  have y1 : (y (1 : Fin 3)).val < 64 := (y (1 : Fin 3)).isLt
  show FloatOps.addf (landB X Wt (s + 1 * (y (0 : Fin 3)).val) c (64 * b + 1 * (y (1 : Fin 3)).val) (0 + 1 * (y (2 : Fin 3)).val))
    (part X Wt c (256 * b + 64 * cB (s + 1) c + 1 * (y (1 : Fin 3)).val) (512 + 1 * (y (2 : Fin 3)).val))
    = accB X Wt (s + 1 * (y (0 : Fin 3)).val) c (64 * b + 1 * (y (1 : Fin 3)).val) (0 + 1 * (y (2 : Fin 3)).val)
  rw [y0]
  simp only [Nat.mul_zero, Nat.add_zero, Nat.zero_add, Nat.one_mul]
  unfold accB
  rw [rowOf_quarter (cB (s + 1) c) b (y (1 : Fin 3)).val y1]

theorem cA_ne (s : ℕ) (hs : s < 3) : cA (s + 1) c ≠ cA 0 c := by unfold cA; omega
theorem cB_ne (s : ℕ) (hs : s < 3) : cB (s + 1) c ≠ cB 0 c := by unfold cB; omega

/-- A later block of the left half has stayed. -/
theorem PL_block (s q : ℕ) (hs : s < 3) (hq : q < 2) : box (s := S1024x1024) ![256 * cA (s + 1) c, 256 * q] S256x256.size ⊆ PL c := by
  intro x hx
  have h1 := mem_partA.mp (show x ∈ partA (256 * cA (s + 1) c) q from hx)
  have h2 := cA_ne c s hs
  have h3 := cA_lt 0 c
  exact mem_PL.mpr (by omega)
/-- A later block of the right half has stayed. -/
theorem PR_block (s b : ℕ) (hs : s < 3) : box (s := S1024x1024) ![256 * b + 64 * cB (s + 1) c, 512] S64x512.size ⊆ PR c := by
  intro x hx
  have h1 := mem_partB.mp (show x ∈ partB (256 * b + 64 * cB (s + 1) c) from hx)
  have h2 := cB_ne c s hs
  have h3 := cB_lt 0 c
  have h4 := cB_lt (s + 1) c
  exact mem_PR.mpr (by omega)

/-- The whole sum with the device's own block, on the left: three loads and a store. -/
theorem sum_A {α : Type} {Q : α → sProp 𝕄} {k : PUnit → Prog (TpuEff nD τ sig (Elt F) Λ₀ .tc) α}
    (s q : ℕ) (pay : Vec F S1x256x256 .f32 → Vec F S256x256 .f32 → Vec F S1x256x256 .f32)
    (hp : ∀ v1 v2 y, pay v1 v2 y = FloatOps.addf (v1 y) (v2 (ix2 (n0 := 256) (n1 := 256) (y (1 : Fin 3)) (y (2 : Fin 3)))))
    {off : Fin 3 → ℕ} {inb} (hoff : off = ![s, 0, 256 * q]) {off' : Fin 2 → ℕ} {inb'}
    (hoff' : off' = ![256 * cA (s + 1) c, 256 * q]) (hs : s < 3 := by decide) (hq : q < 2 := by decide) {w1} {w2} {w3} {w4} :
    iprop(lA X Wt c s q ∗ PLp X Wt c)
      ⊢ iprop(((aA X Wt c s q ∗ PLp X Wt c) -∗ Wp c (k ⟨⟩) Q)
        -∗ Wp c (.op (.load (Memref.whole cc0_scratch1) (Rect.unit (s := S3x256x512) off S1x256x256.size inb).toLoadRect w1) fun v1 =>
          .op (.load (Memref.whole cc0_scratch0) (Rect.unit (s := S1024x1024) off' S256x256.size inb').toLoadRect w2) fun v2 =>
          .op (.load (Memref.whole cc0_scratch1) (Rect.unit (s := S3x256x512) off S1x256x256.size inb).toLoadRect w1) fun _ =>
          .op (.store (Memref.whole cc0_scratch1) (Rect.unit (s := S3x256x512) off S1x256x256.size inb) (pay v1 v2) Finset.univ w3 w4) k) Q) := by
  subst hoff hoff'
  iintro ⟨HL, HP⟩ Hk
  iapply (ld c 4 rfl (setA s q) (bLandA X Wt c) ![s, 0, 256 * q] S1x256x256.size inb w1 (Finset.Subset.refl _)) $$ HL
  iintro HL
  iapply (ld c 3 rfl (PL c) (bPart X Wt c) ![256 * cA (s + 1) c, 256 * q] S256x256.size inb' w2 (PL_block c s q hs hq)) $$ HP
  iintro HP
  iapply (ld c 4 rfl (setA s q) (bLandA X Wt c) ![s, 0, 256 * q] S1x256x256.size inb w1 (Finset.Subset.refl _)) $$ HL
  iintro HL
  iapply (sv c 4 rfl (setA s q) (bLandA X Wt c) (bAccA X Wt c) ![s, 0, 256 * q] S1x256x256.size inb _ w3 w4 rfl
    (fun y => (hp _ _ y).trans (acc_A X Wt c s q _ inb rfl _ inb' rfl y))) $$ HL
  iintro HL
  iapply Hk
  isplitl [HL] <;> iassumption

/-- The whole sum with the device's own block, on the right: three loads and a store. -/
theorem sum_B {α : Type} {Q : α → sProp 𝕄} {k : PUnit → Prog (TpuEff nD τ sig (Elt F) Λ₀ .tc) α}
    (s b : ℕ) (pay : Vec F S1x64x512 .f32 → Vec F S64x512 .f32 → Vec F S1x64x512 .f32)
    (hp : ∀ v1 v2 y, pay v1 v2 y = FloatOps.addf (v1 y) (v2 (ix2 (n0 := 64) (n1 := 512) (y (1 : Fin 3)) (y (2 : Fin 3)))))
    {off : Fin 3 → ℕ} {inb} (hoff : off = ![s, 64 * b, 0]) {off' : Fin 2 → ℕ} {inb'}
    (hoff' : off' = ![256 * b + 64 * cB (s + 1) c, 512]) (hs : s < 3 := by decide) {w1} {w2} {w3} {w4} :
    iprop(lB X Wt c s b ∗ PRp X Wt c)
      ⊢ iprop(((aB X Wt c s b ∗ PRp X Wt c) -∗ Wp c (k ⟨⟩) Q)
        -∗ Wp c (.op (.load (Memref.whole cc0_scratch2) (Rect.unit (s := S3x256x512) off S1x64x512.size inb).toLoadRect w1) fun v1 =>
          .op (.load (Memref.whole cc0_scratch0) (Rect.unit (s := S1024x1024) off' S64x512.size inb').toLoadRect w2) fun v2 =>
          .op (.load (Memref.whole cc0_scratch2) (Rect.unit (s := S3x256x512) off S1x64x512.size inb).toLoadRect w1) fun _ =>
          .op (.store (Memref.whole cc0_scratch2) (Rect.unit (s := S3x256x512) off S1x64x512.size inb) (pay v1 v2) Finset.univ w3 w4) k) Q) := by
  subst hoff hoff'
  iintro ⟨HL, HP⟩ Hk
  iapply (ld c 5 rfl (setB s b) (bLandB X Wt c) ![s, 64 * b, 0] S1x64x512.size inb w1 (Finset.Subset.refl _)) $$ HL
  iintro HL
  iapply (ld c 3 rfl (PR c) (bPart X Wt c) ![256 * b + 64 * cB (s + 1) c, 512] S64x512.size inb' w2 (PR_block c s b hs)) $$ HP
  iintro HP
  iapply (ld c 5 rfl (setB s b) (bLandB X Wt c) ![s, 64 * b, 0] S1x64x512.size inb w1 (Finset.Subset.refl _)) $$ HL
  iintro HL
  iapply (sv c 5 rfl (setB s b) (bLandB X Wt c) (bAccB X Wt c) ![s, 64 * b, 0] S1x64x512.size inb _ w3 w4 rfl
    (fun y => (hp _ _ y).trans (acc_B X Wt c s b _ inb rfl _ inb' rfl y))) $$ HL
  iintro HL
  iapply Hk
  isplitl [HL] <;> iassumption

/-- A wait for a block of the sum around the layers. -/
theorem recv_A {α : Type} {Q : α → sProp 𝕄} {k : PUnit → Prog (TpuEff nD τ sig (Elt F) Λ₀ .tc) α}
    (i : Fin 32) (t q : ℕ) (n s : ℕ) {sm : DmaSem sig} (hsm : sm = rsem c i)
    (hi : i.val = 6 * t + q := by rfl) (ht : t < 3 := by decide) (hq : q < 2 := by decide) (hn : i.val < n := by decide)
    {sM : Memref sig .tc .vmem S256x256 .f32} {dM : Memref sig .tc .vmem S256x256 .f32}
    {hsrc : sM.view.WordExact} {hdst : dM.view.WordExact} :
    St X Wt K c n s i.val ⊢ iprop((St X Wt K c n s (i.val + 1) ∗ lA X Wt c t q -∗ Wp c (k ⟨⟩) Q)
      -∗ Wp c (.op (.waitDma2 sm sM dM hsrc hdst) k) Q) := by
  have e : landPts X Wt c i = lA X Wt c t q := by
    unfold landPts
    rw [landAt_A c i t q hi ht hq]
  rw [← e]
  exact step_wait_recv X Wt K c i n s hn hsm (N_A i t q hi ht hq).symm

/-- A wait for a block of the sum around the rows. -/
theorem recv_B {α : Type} {Q : α → sProp 𝕄} {k : PUnit → Prog (TpuEff nD τ sig (Elt F) Λ₀ .tc) α}
    (i : Fin 32) (t b : ℕ) (n s : ℕ) {sm : DmaSem sig} (hsm : sm = rsem c i)
    (hi : i.val = 6 * t + 2 + b := by rfl) (ht : t < 3 := by decide) (hb : b < 4 := by decide) (hn : i.val < n := by decide)
    {sM : Memref sig .tc .vmem S64x512 .f32} {dM : Memref sig .tc .vmem S64x512 .f32}
    {hsrc : sM.view.WordExact} {hdst : dM.view.WordExact} :
    St X Wt K c n s i.val ⊢ iprop((St X Wt K c n s (i.val + 1) ∗ lB X Wt c t b -∗ Wp c (k ⟨⟩) Q)
      -∗ Wp c (.op (.waitDma2 sm sM dM hsrc hdst) k) Q) := by
  have e : landPts X Wt c i = lB X Wt c t b := by
    unfold landPts
    rw [landAt_B c i t b hi ht hb]
  rw [← e]
  exact step_wait_recv X Wt K c i n s hn hsm (N_B i t b hi ht hb).symm

/-- A wait for a transfer of a left block to have been sent. -/
theorem sent_A {α : Type} {Q : α → sProp 𝕄} {k : PUnit → Prog (TpuEff nD τ sig (Elt F) Λ₀ .tc) α}
    (i : Fin 32) (t q : ℕ) (n r : ℕ) {sm : DmaSem sig} (hsm : sm = ssem i)
    (hi : i.val = 6 * t + q := by rfl) (ht : t < 3 := by decide) (hq : q < 2 := by decide) (hn : i.val < n := by decide)
    {sM : Memref sig .tc .vmem S256x256 .f32} {dM : Memref sig .tc .vmem S256x256 .f32}
    {hsrc : sM.view.WordExact} {hdst : dM.view.WordExact} :
    St X Wt K c n i.val r ⊢ iprop((St X Wt K c n (i.val + 1) r -∗ Wp c (k ⟨⟩) Q) -∗ Wp c (.op (.waitDma2 sm sM dM hsrc hdst) k) Q) :=
  step_wait_send X Wt K c i n r hn hsm (N_A i t q hi ht hq).symm

/-- A wait for a transfer of a right block to have been sent. -/
theorem sent_B {α : Type} {Q : α → sProp 𝕄} {k : PUnit → Prog (TpuEff nD τ sig (Elt F) Λ₀ .tc) α}
    (i : Fin 32) (t b : ℕ) (n r : ℕ) {sm : DmaSem sig} (hsm : sm = ssem i)
    (hi : i.val = 6 * t + 2 + b := by rfl) (ht : t < 3 := by decide) (hb : b < 4 := by decide) (hn : i.val < n := by decide)
    {sM : Memref sig .tc .vmem S64x512 .f32} {dM : Memref sig .tc .vmem S64x512 .f32}
    {hsrc : sM.view.WordExact} {hdst : dM.view.WordExact} :
    St X Wt K c n i.val r ⊢ iprop((St X Wt K c n (i.val + 1) r -∗ Wp c (k ⟨⟩) Q) -∗ Wp c (.op (.waitDma2 sm sM dM hsrc hdst) k) Q) :=
  step_wait_send X Wt K c i n r hn hsm (N_B i t b hi ht hb).symm

/-- A wait for rows of an exchange. -/
theorem recv_D {α : Type} {Q : α → sProp 𝕄} {k : PUnit → Prog (TpuEff nD τ sig (Elt F) Λ₀ .tc) α}
    (i : Fin 32) (n s : ℕ) {sm : DmaSem sig} (hsm : sm = rsem c i) (hi : 18 ≤ i.val := by decide) (hn : i.val < n := by decide)
    {sM : Memref sig .tc .vmem S32x512 .f32} {dM : Memref sig .tc .vmem S32x512 .f32}
    {hsrc : sM.view.WordExact} {hdst : dM.view.WordExact} :
    St X Wt K c n s i.val ⊢ iprop((St X Wt K c n s (i.val + 1) ∗ landPts X Wt c i -∗ Wp c (k ⟨⟩) Q)
      -∗ Wp c (.op (.waitDma2 sm sM dM hsrc hdst) k) Q) :=
  step_wait_recv X Wt K c i n s hn hsm (N_D i hi).symm

/-- A wait for rows of an exchange to have been sent. -/
theorem sent_D {α : Type} {Q : α → sProp 𝕄} {k : PUnit → Prog (TpuEff nD τ sig (Elt F) Λ₀ .tc) α}
    (i : Fin 32) (n r : ℕ) {sm : DmaSem sig} (hsm : sm = ssem i) (hi : 18 ≤ i.val := by decide) (hn : i.val < n := by decide)
    {sM : Memref sig .tc .vmem S32x512 .f32} {dM : Memref sig .tc .vmem S32x512 .f32}
    {hsrc : sM.view.WordExact} {hdst : dM.view.WordExact} :
    St X Wt K c n i.val r ⊢ iprop((St X Wt K c n (i.val + 1) r -∗ Wp c (k ⟨⟩) Q) -∗ Wp c (.op (.waitDma2 sm sM dM hsrc hdst) k) Q) :=
  step_wait_send X Wt K c i n r hn hsm (N_D i hi).symm

/-- The first transfers of the sum around the layers, and then the later ones, from the pieces they are sent from. -/
theorem snd_A0 {α : Type} {Q : α → sProp 𝕄} {k : PUnit → Prog (TpuEff nD τ sig (Elt F) Λ₀ .tc) α}
    (i : Fin 32) (q : ℕ) (s r : ℕ) {d : Dev nD} (hd : d = dst i c)
    {off : Fin 2 → ℕ} {inb} (hoff : off = ![256 * cA 0 c, 256 * q]) {off' : Fin 3 → ℕ} {inb'} (hoff' : off' = ![0, 0, 256 * q])
    {sS sR : DmaSem sig} (hsS : sS = ssem i) (hsR : sR = rsem (dst i c) i) (hi : i.val = 6 * 0 + q := by rfl) (hq : q < 2 := by decide)
    (hs : s ≤ i.val := by decide) {sq} {hsc} {w1} {w2} {w3} :
    iprop(St X Wt K c i.val s r ∗ srcPts X Wt c i)
      ⊢ iprop((St X Wt K c (i.val + 1) s r -∗ Wp c (k ⟨⟩) Q)
        -∗ Wp c (.op (.enqueueDma ((Memref.whole cc0_scratch0).slice (Rect.unit (s := S1024x1024) off S256x256.size inb) (fun _ => rfl))
          (.remote (Dev.tc d : Thread nD τ)
            (((Memref.whole cc0_scratch1).slice (Rect.unit (s := S3x256x512) off' S1x256x256.size inb') (fun _ => rfl)).squeeze S256x256 sq)
            (.dma sS) hsc) (.dma sR) w1 w2 w3) k) Q) :=
  send_A0 X Wt K c i q hi hq s r hs d hd off inb hoff off' inb' hoff' sS sR hsS hsR sq hsc w1 w2 w3

theorem snd_B0 {α : Type} {Q : α → sProp 𝕄} {k : PUnit → Prog (TpuEff nD τ sig (Elt F) Λ₀ .tc) α}
    (i : Fin 32) (b : ℕ) (s r : ℕ) {d : Dev nD} (hd : d = dst i c)
    {off : Fin 2 → ℕ} {inb} (hoff : off = ![256 * b + 64 * cB 0 c, 512]) {off' : Fin 3 → ℕ} {inb'} (hoff' : off' = ![0, 64 * b, 0])
    {sS sR : DmaSem sig} (hsS : sS = ssem i) (hsR : sR = rsem (dst i c) i) (hi : i.val = 6 * 0 + 2 + b := by rfl) (hb : b < 4 := by decide)
    (hs : s ≤ i.val := by decide) {sq} {hsc} {w1} {w2} {w3} :
    iprop(St X Wt K c i.val s r ∗ srcPts X Wt c i)
      ⊢ iprop((St X Wt K c (i.val + 1) s r -∗ Wp c (k ⟨⟩) Q)
        -∗ Wp c (.op (.enqueueDma ((Memref.whole cc0_scratch0).slice (Rect.unit (s := S1024x1024) off S64x512.size inb) (fun _ => rfl))
          (.remote (Dev.tc d : Thread nD τ)
            (((Memref.whole cc0_scratch2).slice (Rect.unit (s := S3x256x512) off' S1x64x512.size inb') (fun _ => rfl)).squeeze S64x512 sq)
            (.dma sS) hsc) (.dma sR) w1 w2 w3) k) Q) :=
  send_B0 X Wt K c i b hi hb s r hs d hd off inb hoff off' inb' hoff' sS sR hsS hsR sq hsc w1 w2 w3

theorem snd_A {α : Type} {Q : α → sProp 𝕄} {k : PUnit → Prog (TpuEff nD τ sig (Elt F) Λ₀ .tc) α}
    (i : Fin 32) (t q : ℕ) (s r : ℕ) {d : Dev nD} (hd : d = dst i c)
    {off : Fin 3 → ℕ} {inb} (hoff : off = ![t, 0, 256 * q]) {off' : Fin 3 → ℕ} {inb'} (hoff' : off' = ![t + 1, 0, 256 * q])
    {sS sR : DmaSem sig} (hsS : sS = ssem i) (hsR : sR = rsem (dst i c) i) (hi : i.val = 6 * (t + 1) + q := by rfl) (ht : t < 2 := by decide)
    (hq : q < 2 := by decide) (hs : s ≤ i.val := by decide) {sq} {sq'} {hsc} {w1} {w2} {w3} :
    iprop(St X Wt K c i.val s r ∗ aA X Wt c t q)
      ⊢ iprop((St X Wt K c (i.val + 1) s r -∗ Wp c (k ⟨⟩) Q)
        -∗ Wp c (.op (.enqueueDma
          (((Memref.whole cc0_scratch1).slice (Rect.unit (s := S3x256x512) off S1x256x256.size inb) (fun _ => rfl)).squeeze S256x256 sq)
          (.remote (Dev.tc d : Thread nD τ)
            (((Memref.whole cc0_scratch1).slice (Rect.unit (s := S3x256x512) off' S1x256x256.size inb') (fun _ => rfl)).squeeze S256x256 sq')
            (.dma sS) hsc) (.dma sR) w1 w2 w3) k) Q) := by
  rw [show aA X Wt c t q = srcPts X Wt c i from (srcPts_A X Wt c i t q hi ht hq).symm]
  exact send_A X Wt K c i t q hi ht hq s r hs d hd off inb hoff off' inb' hoff' sS sR hsS hsR sq sq' hsc w1 w2 w3

theorem snd_B {α : Type} {Q : α → sProp 𝕄} {k : PUnit → Prog (TpuEff nD τ sig (Elt F) Λ₀ .tc) α}
    (i : Fin 32) (t b : ℕ) (s r : ℕ) {d : Dev nD} (hd : d = dst i c)
    {off : Fin 3 → ℕ} {inb} (hoff : off = ![t, 64 * b, 0]) {off' : Fin 3 → ℕ} {inb'} (hoff' : off' = ![t + 1, 64 * b, 0])
    {sS sR : DmaSem sig} (hsS : sS = ssem i) (hsR : sR = rsem (dst i c) i) (hi : i.val = 6 * (t + 1) + 2 + b := by rfl) (ht : t < 2 := by decide)
    (hb : b < 4 := by decide) (hs : s ≤ i.val := by decide) {sq} {sq'} {hsc} {w1} {w2} {w3} :
    iprop(St X Wt K c i.val s r ∗ aB X Wt c t b)
      ⊢ iprop((St X Wt K c (i.val + 1) s r -∗ Wp c (k ⟨⟩) Q)
        -∗ Wp c (.op (.enqueueDma
          (((Memref.whole cc0_scratch2).slice (Rect.unit (s := S3x256x512) off S1x64x512.size inb) (fun _ => rfl)).squeeze S64x512 sq)
          (.remote (Dev.tc d : Thread nD τ)
            (((Memref.whole cc0_scratch2).slice (Rect.unit (s := S3x256x512) off' S1x64x512.size inb') (fun _ => rfl)).squeeze S64x512 sq')
            (.dma sS) hsc) (.dma sR) w1 w2 w3) k) Q) := by
  rw [show aB X Wt c t b = srcPts X Wt c i from (srcPts_B X Wt c i t b hi ht hb).symm]
  exact send_B X Wt K c i t b hi ht hb s r hs d hd off inb hoff off' inb' hoff' sS sR hsS hsR sq sq' hsc w1 w2 w3

/-- The transfers of the two exchanges. -/
theorem snd_DA {α : Type} {Q : α → sProp 𝕄} {k : PUnit → Prog (TpuEff nD τ sig (Elt F) Λ₀ .tc) α}
    (i : Fin 32) (e : ℕ) (s r : ℕ) {d : Dev nD} (hd : d = dst i c)
    {off : Fin 3 → ℕ} {inb} (hoff : off = ![2, 32 * ((jj c + e) % 8), 0]) {off' : Fin 2 → ℕ} {inb'} (hoff' : off' = ![32 * jj c, 0])
    {sS sR : DmaSem sig} (hsS : sS = ssem i) (hsR : sR = rsem (dst i c) i) (hi : i.val = 17 + e := by rfl) (he : 1 ≤ e := by decide)
    (he' : e < 8 := by decide) (hs : s ≤ i.val := by decide) {sq} {hsc} {w1} {w2} {w3} :
    iprop(St X Wt K c i.val s r ∗ srcPts X Wt c i)
      ⊢ iprop((St X Wt K c (i.val + 1) s r -∗ Wp c (k ⟨⟩) Q)
        -∗ Wp c (.op (.enqueueDma
          (((Memref.whole cc0_scratch1).slice (Rect.unit (s := S3x256x512) off S1x32x512.size inb) (fun _ => rfl)).squeeze S32x512 sq)
          (.remote (Dev.tc d : Thread nD τ)
            ((Memref.whole cc0_scratch3).slice (Rect.unit (s := S256x512) off' S32x512.size inb') (fun _ => rfl))
            (.dma sS) hsc) (.dma sR) w1 w2 w3) k) Q) :=
  send_DA X Wt K c i e hi he he' s r hs d hd off inb hoff off' inb' hoff' sS sR hsS hsR sq hsc w1 w2 w3

theorem snd_DB {α : Type} {Q : α → sProp 𝕄} {k : PUnit → Prog (TpuEff nD τ sig (Elt F) Λ₀ .tc) α}
    (i : Fin 32) (e : ℕ) (s r : ℕ) {d : Dev nD} (hd : d = dst i c)
    {off : Fin 3 → ℕ} {inb} (hoff : off = ![2, rowB (yy c) ((mm c + e) % 8), 0]) {off' : Fin 2 → ℕ} {inb'} (hoff' : off' = ![32 * mm c, 0])
    {sS sR : DmaSem sig} (hsS : sS = ssem i) (hsR : sR = rsem (dst i c) i) (hi : i.val = 24 + e := by rfl) (he : 1 ≤ e := by decide)
    (he' : e < 8 := by decide) (hs : s ≤ i.val := by decide) {sq} {hsc} {w1} {w2} {w3} :
    iprop(St X Wt K c i.val s r ∗ srcPts X Wt c i)
      ⊢ iprop((St X Wt K c (i.val + 1) s r -∗ Wp c (k ⟨⟩) Q)
        -∗ Wp c (.op (.enqueueDma
          (((Memref.whole cc0_scratch2).slice (Rect.unit (s := S3x256x512) off S1x32x512.size inb) (fun _ => rfl)).squeeze S32x512 sq)
          (.remote (Dev.tc d : Thread nD τ)
            ((Memref.whole cc0_scratch4).slice (Rect.unit (s := S256x512) off' S32x512.size inb') (fun _ => rfl))
            (.dma sS) hsc) (.dma sR) w1 w2 w3) k) Q) :=
  send_DB X Wt K c i e hi he he' s r hs d hd off inb hoff off' inb' hoff' sS sR hsS hsR sq hsc w1 w2 w3

/-- A piece that ends returns its value. -/
theorem Wp_ret {α : Type} {Q : α → sProp 𝕄} (a : α) : Q a ⊢ Wp c (.ret a) Q := le_wp_ret _ _ _ a Q

end

/-! ### The semaphores by their numbers -/

/-- The number of one semaphore of an array of them. -/
theorem sem_at {N : ℕ} (base k n : ℕ) (hb) (off : Fin 1 → ℕ) (hoff : off = ![n]) (inb) :
    ((((SemArray.consecutive (n := N) base ⟨1, ![k]⟩ hb).slice (Rect.unit (s := ⟨1, ![k]⟩) off S1.size inb)).squeeze S_ squeezes_S1_S_).sem : Fin N).val
      = base + n := by
  subst hoff
  show base + ((⟨1, ![k]⟩ : Shape).rowMajor ((Rect.unit (s := ⟨1, ![k]⟩) ![n] S1.size inb).emb (Shape.reshapeEquiv squeezes_S1_S_.numel_eq fun i => i.elim0))).val = base + n
  rw [Shape.rowMajor_val_one, emb_unit]
  have h : ((Shape.reshapeEquiv squeezes_S1_S_.numel_eq fun i => i.elim0 : S1.Idx) (0 : Fin 1)).val < 1 :=
    ((Shape.reshapeEquiv squeezes_S1_S_.numel_eq fun i => i.elim0 : S1.Idx) (0 : Fin 1)).isLt
  have h' : ((Shape.reshapeEquiv squeezes_S1_S_.numel_eq fun i => i.elim0 : S1.Idx) (0 : Fin 1)).val = 0 := by omega
  show base + (n + ((Shape.reshapeEquiv squeezes_S1_S_.numel_eq fun i => i.elim0 : S1.Idx) (0 : Fin 1)).val) = _
  rw [h', Nat.add_zero]

theorem ss5 (i : Fin 32) (n : ℕ) (hn : ssemN i.val = 3 + n) (off : Fin 1 → ℕ) (hoff : off = ![n]) (inb) :
    ((cc0_scratch5.slice (Rect.unit (s := S6) off S1.size inb)).squeeze S_ squeezes_S1_S_).sem = ssem i := Fin.ext ((sem_at 3 6 n _ off hoff inb).trans hn.symm)
theorem ss7 (i : Fin 32) (n : ℕ) (hn : ssemN i.val = 15 + n) (off : Fin 1 → ℕ) (hoff : off = ![n]) (inb) :
    ((cc0_scratch7.slice (Rect.unit (s := S12) off S1.size inb)).squeeze S_ squeezes_S1_S_).sem = ssem i := Fin.ext ((sem_at 15 12 n _ off hoff inb).trans hn.symm)
theorem ss9 (i : Fin 32) (n : ℕ) (hn : ssemN i.val = 39 + n) (off : Fin 1 → ℕ) (hoff : off = ![n]) (inb) :
    ((cc0_scratch9.slice (Rect.unit (s := S7) off S1.size inb)).squeeze S_ squeezes_S1_S_).sem = ssem i := Fin.ext ((sem_at 39 7 n _ off hoff inb).trans hn.symm)
theorem ss11 (i : Fin 32) (n : ℕ) (hn : ssemN i.val = 54 + n) (off : Fin 1 → ℕ) (hoff : off = ![n]) (inb) :
    ((cc0_scratch11.slice (Rect.unit (s := S7) off S1.size inb)).squeeze S_ squeezes_S1_S_).sem = ssem i := Fin.ext ((sem_at 54 7 n _ off hoff inb).trans hn.symm)
theorem rs6 (c : Dev nD) (i : Fin 32) (n : ℕ) (hn : rsemN c i = 9 + n) (off : Fin 1 → ℕ) (hoff : off = ![n]) (inb) :
    ((cc0_scratch6.slice (Rect.unit (s := S6) off S1.size inb)).squeeze S_ squeezes_S1_S_).sem = rsem c i := Fin.ext ((sem_at 9 6 n _ off hoff inb).trans hn.symm)
theorem rs8 (c : Dev nD) (i : Fin 32) (n : ℕ) (hn : rsemN c i = 27 + n) (off : Fin 1 → ℕ) (hoff : off = ![n]) (inb) :
    ((cc0_scratch8.slice (Rect.unit (s := S12) off S1.size inb)).squeeze S_ squeezes_S1_S_).sem = rsem c i := Fin.ext ((sem_at 27 12 n _ off hoff inb).trans hn.symm)
theorem rs10 (c : Dev nD) (i : Fin 32) (n : ℕ) (hn : rsemN c i = 46 + n) (off : Fin 1 → ℕ) (hoff : off = ![n]) (inb) :
    ((cc0_scratch10.slice (Rect.unit (s := S8) off S1.size inb)).squeeze S_ squeezes_S1_S_).sem = rsem c i := Fin.ext ((sem_at 46 8 n _ off hoff inb).trans hn.symm)
theorem rs12 (c : Dev nD) (i : Fin 32) (n : ℕ) (hn : rsemN c i = 61 + n) (off : Fin 1 → ℕ) (hoff : off = ![n]) (inb) :
    ((cc0_scratch12.slice (Rect.unit (s := S8) off S1.size inb)).squeeze S_ squeezes_S1_S_).sem = rsem c i := Fin.ext ((sem_at 61 8 n _ off hoff inb).trans hn.symm)

/-- The semaphore a transfer of an exchange raises is named after the sender. -/
theorem rsemN_DA (c : Dev nD) (i : Fin 32) (h : 18 ≤ i.val ∧ i.val < 25) : rsemN (dst i c) i = 46 + jj c := by
  unfold rsemN; rw [if_neg (by omega), if_pos (by omega), src_dst]
theorem rsemN_DB (c : Dev nD) (i : Fin 32) (h : 25 ≤ i.val) : rsemN (dst i c) i = 61 + mm c := by
  unfold rsemN; rw [if_neg (by omega), if_neg (by omega), src_dst]
theorem rsemN_RA (c : Dev nD) (i : Fin 32) (h : 18 ≤ i.val ∧ i.val < 25) : rsemN c i = 46 + (jj c + (25 - i.val)) % 8 := by
  unfold rsemN; rw [if_neg (by omega), if_pos (by omega), jj_src c i h]
theorem rsemN_RB (c : Dev nD) (i : Fin 32) (h : 25 ≤ i.val) : rsemN c i = 61 + (mm c + (32 - i.val)) % 8 := by
  unfold rsemN; rw [if_neg (by omega), if_neg (by omega), mm_src c i h]

/-! ### The offsets at the words the kernel passes -/

section
variable (c : Dev nD)
theorem off3_0 : k0_off3 c 0#32 = ![256 * 0 + 64 * cB 0 c, 512] := off3_eq 0 c
theorem off3_1 : k0_off3 c 256#32 = ![256 * 1 + 64 * cB 0 c, 512] := off3_eq 1 c
theorem off3_2 : k0_off3 c 512#32 = ![256 * 2 + 64 * cB 0 c, 512] := off3_eq 2 c
theorem off3_3 : k0_off3 c 768#32 = ![256 * 3 + 64 * cB 0 c, 512] := off3_eq 3 c
theorem off4_1 : k0_off4 c 1#32 = ![256 * cA (0 + 1) c, 256 * 0] := off4_eq 0 c
theorem off4_2 : k0_off4 c 2#32 = ![256 * cA (1 + 1) c, 256 * 0] := off4_eq 1 c
theorem off5_1 : k0_off5 c 1#32 = ![256 * cA (0 + 1) c, 256 * 1] := off5_eq 0 c
theorem off5_2 : k0_off5 c 2#32 = ![256 * cA (1 + 1) c, 256 * 1] := off5_eq 1 c
theorem off6_01 : k0_off6 c 0#32 1#32 = ![256 * 0 + 64 * cB (0 + 1) c, 512] := off6_eq 0 0 c
theorem off6_11 : k0_off6 c 256#32 1#32 = ![256 * 1 + 64 * cB (0 + 1) c, 512] := off6_eq 1 0 c
theorem off6_21 : k0_off6 c 512#32 1#32 = ![256 * 2 + 64 * cB (0 + 1) c, 512] := off6_eq 2 0 c
theorem off6_31 : k0_off6 c 768#32 1#32 = ![256 * 3 + 64 * cB (0 + 1) c, 512] := off6_eq 3 0 c
theorem off6_02 : k0_off6 c 0#32 2#32 = ![256 * 0 + 64 * cB (1 + 1) c, 512] := off6_eq 0 1 c
theorem off6_12 : k0_off6 c 256#32 2#32 = ![256 * 1 + 64 * cB (1 + 1) c, 512] := off6_eq 1 1 c
theorem off6_22 : k0_off6 c 512#32 2#32 = ![256 * 2 + 64 * cB (1 + 1) c, 512] := off6_eq 2 1 c
theorem off6_32 : k0_off6 c 768#32 2#32 = ![256 * 3 + 64 * cB (1 + 1) c, 512] := off6_eq 3 1 c
theorem off14_0 : k0_off14 c 0#32 = ![256 * 0 + 64 * cB (2 + 1) c, 512] := off14_eq 0 c
theorem off14_1 : k0_off14 c 256#32 = ![256 * 1 + 64 * cB (2 + 1) c, 512] := off14_eq 1 c
theorem off14_2 : k0_off14 c 512#32 = ![256 * 2 + 64 * cB (2 + 1) c, 512] := off14_eq 2 c
theorem off14_3 : k0_off14 c 768#32 = ![256 * 3 + 64 * cB (2 + 1) c, 512] := off14_eq 3 c
end

end Cert.KernelIdeal.Ring
-- ==== Proof.Body1.lean ====
/- The kernel's sums around the layers and around the rows, one printed piece of it after another. -/
module

public import proofs.«01_k».proof.Proof.Access

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

/-- A piece of the kernel at the kernel's own buffers. -/
abbrev onArgs {R : Type 1} (f : (arg0 : Memref sig .tc .vmem S1024x32 .f32) → arg0.IsWhole → (arg1 : Memref sig .tc .vmem S32x1024 .f32) → arg1.IsWhole →
    (arg2 : Memref sig .tc .vmem S32x1024 .f32) → arg2.IsWhole → (arg3 : Memref sig .tc .vmem S1024x1024 .f32) → arg3.IsWhole →
    (arg4 : Memref sig .tc .vmem S3x256x512 .f32) → arg4.IsWhole → (arg5 : Memref sig .tc .vmem S3x256x512 .f32) → arg5.IsWhole →
    (arg6 : Memref sig .tc .vmem S256x512 .f32) → arg6.IsWhole → (arg7 : Memref sig .tc .vmem S256x512 .f32) → arg7.IsWhole →
    DmaSems sig S6 → DmaSems sig S6 → DmaSems sig S12 → DmaSems sig S12 → DmaSems sig S7 → DmaSems sig S8 → DmaSems sig S7 → DmaSems sig S8 → R) : R :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12

/-- Transfer `n`. -/
abbrev ii (n : ℕ) (h : n < 32 := by decide) : Fin 32 := ⟨n, h⟩

/-- What a sum of two blocks is, element by element. -/
theorem pay_A (v1 : Vec F S1x256x256 .f32) (v2 : Vec F S256x256 .f32) (y : S1x256x256.Idx) :
    k0_pay3 v1 v2 y = FloatOps.addf (v1 y) (v2 (ix2 (n0 := 256) (n1 := 256) (y (1 : Fin 3)) (y (2 : Fin 3)))) := acc3 v1 v2 _ _ y
theorem pay_B (v1 : Vec F S1x64x512 .f32) (v2 : Vec F S64x512 .f32) (y : S1x64x512.Idx) :
    k0_pay5 v1 v2 y = FloatOps.addf (v1 y) (v2 (ix2 (n0 := 64) (n1 := 512) (y (1 : Fin 3)) (y (2 : Fin 3)))) := acc3 v1 v2 _ _ y

variable (c : Dev nD)

theorem n2_self (y : S1024x512.Idx) : n2 (y (0 : Fin 2)).val (y (1 : Fin 2)).val = y := by
  have h0 : (y (0 : Fin 2)).val < 1024 := (y (0 : Fin 2)).isLt
  have h1 : (y (1 : Fin 2)).val < 512 := (y (1 : Fin 2)).isLt
  funext a
  refine Fin.ext ?_
  match a with
  | ⟨0, _⟩ => exact Nat.mod_eq_of_lt h0
  | ⟨1, _⟩ => exact Nat.mod_eq_of_lt h1
/-- The product the kernel stores on the left, and on the right, is the device's product there. -/
theorem pay_L (y : S1024x512.Idx) :
    k0_pay1 (X c) (wL Wt c) y = bPart X Wt c ((Rect.unit (s := S1024x1024) ![0, 0] S1024x512.size inb_S1024x1024_S1024x512_0_0).emb y) := by
  have h1 : (y (1 : Fin 2)).val < 512 := (y (1 : Fin 2)).isLt
  show _ = part X Wt c (0 + 1 * (y (0 : Fin 2)).val) (0 + 1 * (y (1 : Fin 2)).val)
  simp only [Nat.zero_add, Nat.one_mul]
  unfold part
  rw [if_pos h1, n2_self]
theorem pay_R (y : S1024x512.Idx) :
    k0_pay2 (X c) (wR Wt c) y = bPart X Wt c ((Rect.unit (s := S1024x1024) ![0, 512] S1024x512.size inb_S1024x1024_S1024x512_0_512).emb y) := by
  show _ = part X Wt c (0 + 1 * (y (0 : Fin 2)).val) (512 + 1 * (y (1 : Fin 2)).val)
  simp only [Nat.zero_add, Nat.one_mul]
  unfold part
  rw [if_neg (by omega), Nat.add_sub_cancel_left, n2_self]

/-- The whole of a device's input, and of its weights, as staged. -/
abbrev xS : sProp 𝕄 := ((c : Thread nD τ).loc cc0_stg0_0) ↦[Finset.univ]{fullShare} X c
abbrev wS : sProp 𝕄 := ((c : Thread nD τ).loc cc0_stg1_0) ↦[Finset.univ]{fullShare} Wt c

/-- A stored block holds the sum at its place. -/
def isA (s q : ℕ) (v : Vec F S1x256x256 .f32) : Prop := ∀ (off : Fin 3 → ℕ) (inb), off = ![s, 0, 256 * q] →
  ∀ y, v y = bAccA X Wt c ((Rect.unit (s := S3x256x512) off S1x256x256.size inb).emb y)
def isB (s b : ℕ) (v : Vec F S1x64x512 .f32) : Prop := ∀ (off : Fin 3 → ℕ) (inb), off = ![s, 64 * b, 0] →
  ∀ y, v y = bAccB X Wt c ((Rect.unit (s := S3x256x512) off S1x64x512.size inb).emb y)

/-- The sum of a landed block and the device's own is such a block. -/
theorem isA_sum (s q : ℕ) {pay : Vec F S1x256x256 .f32 → Vec F S256x256 .f32 → Vec F S1x256x256 .f32}
    (hp : ∀ v1 v2 y, pay v1 v2 y = FloatOps.addf (v1 y) (v2 (ix2 (n0 := 256) (n1 := 256) (y (1 : Fin 3)) (y (2 : Fin 3)))))
    {off : Fin 3 → ℕ} {inb} (hoff : off = ![s, 0, 256 * q]) {off' : Fin 2 → ℕ} {inb'} (hoff' : off' = ![256 * cA (s + 1) c, 256 * q]) :
    isA X Wt c s q (pay ((Memref.whole cc0_scratch1).view.readAt (Elt F) (Rect.unit (s := S3x256x512) off S1x256x256.size inb).toLoadRect (bLandA X Wt c))
      ((Memref.whole cc0_scratch0).view.readAt (Elt F) (Rect.unit (s := S1024x1024) off' S256x256.size inb').toLoadRect (bPart X Wt c))) := by
  intro o i ho y
  subst hoff ho
  exact (hp _ _ y).trans (acc_A X Wt c s q _ inb rfl _ inb' hoff' y)
theorem isB_sum (s b : ℕ) {pay : Vec F S1x64x512 .f32 → Vec F S64x512 .f32 → Vec F S1x64x512 .f32}
    (hp : ∀ v1 v2 y, pay v1 v2 y = FloatOps.addf (v1 y) (v2 (ix2 (n0 := 64) (n1 := 512) (y (1 : Fin 3)) (y (2 : Fin 3)))))
    {off : Fin 3 → ℕ} {inb} (hoff : off = ![s, 64 * b, 0]) {off' : Fin 2 → ℕ} {inb'} (hoff' : off' = ![256 * b + 64 * cB (s + 1) c, 512]) :
    isB X Wt c s b (pay ((Memref.whole cc0_scratch2).view.readAt (Elt F) (Rect.unit (s := S3x256x512) off S1x64x512.size inb).toLoadRect (bLandB X Wt c))
      ((Memref.whole cc0_scratch0).view.readAt (Elt F) (Rect.unit (s := S1024x1024) off' S64x512.size inb').toLoadRect (bPart X Wt c))) := by
  intro o i ho y
  subst hoff ho
  exact (hp _ _ y).trans (acc_B X Wt c s b _ inb rfl _ inb' hoff' y)

/-- A load of the whole of the input is the input. -/
theorem readX (f : (cc0_stg0_0 : Ref sig .tc).ty.Contents (Elt F)) :
    (Memref.whole cc0_stg0_0).view.readAt (Elt F) (Rect.unit (s := S1024x32) ![0, 0] S1024x32.size inb_S1024x32_S1024x32_0_0).toLoadRect f = f :=
  Memref.readAt_unit_zero (Elt F) cc0_stg0_0 (by funext a; match a with | ⟨0, _⟩ => rfl | ⟨1, _⟩ => rfl) _ f

section
variable {α : Type}

/-- Loads of a landed block and of a block of the device's own, and the store of a sum. -/
theorem ldA {Q : α → sProp 𝕄} (s q : ℕ) {off : Fin 3 → ℕ} {inb} (hoff : off = ![s, 0, 256 * q]) {w1}
    {k : Vec F S1x256x256 .f32 → Prog (TpuEff nD τ sig (Elt F) Λ₀ .tc) α} :
    lA X Wt c s q ⊢ iprop((lA X Wt c s q -∗ Wp c (k ((Memref.whole cc0_scratch1).view.readAt (Elt F) (Rect.unit (s := S3x256x512) off S1x256x256.size inb).toLoadRect (bLandA X Wt c))) Q)
      -∗ Wp c (.op (.load (Memref.whole cc0_scratch1) (Rect.unit (s := S3x256x512) off S1x256x256.size inb).toLoadRect w1) k) Q) := by
  subst hoff
  exact ld c 4 rfl (setA s q) (bLandA X Wt c) ![s, 0, 256 * q] S1x256x256.size inb w1 (Finset.Subset.refl _)
theorem ldB {Q : α → sProp 𝕄} (s b : ℕ) {off : Fin 3 → ℕ} {inb} (hoff : off = ![s, 64 * b, 0]) {w1}
    {k : Vec F S1x64x512 .f32 → Prog (TpuEff nD τ sig (Elt F) Λ₀ .tc) α} :
    lB X Wt c s b ⊢ iprop((lB X Wt c s b -∗ Wp c (k ((Memref.whole cc0_scratch2).view.readAt (Elt F) (Rect.unit (s := S3x256x512) off S1x64x512.size inb).toLoadRect (bLandB X Wt c))) Q)
      -∗ Wp c (.op (.load (Memref.whole cc0_scratch2) (Rect.unit (s := S3x256x512) off S1x64x512.size inb).toLoadRect w1) k) Q) := by
  subst hoff
  exact ld c 5 rfl (setB s b) (bLandB X Wt c) ![s, 64 * b, 0] S1x64x512.size inb w1 (Finset.Subset.refl _)
theorem ldPL {Q : α → sProp 𝕄} (s q : ℕ) {off : Fin 2 → ℕ} {inb} (hoff : off = ![256 * cA (s + 1) c, 256 * q]) (hs : s < 3 := by decide)
    (hq : q < 2 := by decide) {w1} {k : Vec F S256x256 .f32 → Prog (TpuEff nD τ sig (Elt F) Λ₀ .tc) α} :
    PLp X Wt c ⊢ iprop((PLp X Wt c -∗ Wp c (k ((Memref.whole cc0_scratch0).view.readAt (Elt F) (Rect.unit (s := S1024x1024) off S256x256.size inb).toLoadRect (bPart X Wt c))) Q)
      -∗ Wp c (.op (.load (Memref.whole cc0_scratch0) (Rect.unit (s := S1024x1024) off S256x256.size inb).toLoadRect w1) k) Q) := by
  subst hoff
  exact ld c 3 rfl (PL c) (bPart X Wt c) ![256 * cA (s + 1) c, 256 * q] S256x256.size inb w1 (PL_block c s q hs hq)
theorem ldPR {Q : α → sProp 𝕄} (s b : ℕ) {off : Fin 2 → ℕ} {inb} (hoff : off = ![256 * b + 64 * cB (s + 1) c, 512]) (hs : s < 3 := by decide)
    {w1} {k : Vec F S64x512 .f32 → Prog (TpuEff nD τ sig (Elt F) Λ₀ .tc) α} :
    PRp X Wt c ⊢ iprop((PRp X Wt c -∗ Wp c (k ((Memref.whole cc0_scratch0).view.readAt (Elt F) (Rect.unit (s := S1024x1024) off S64x512.size inb).toLoadRect (bPart X Wt c))) Q)
      -∗ Wp c (.op (.load (Memref.whole cc0_scratch0) (Rect.unit (s := S1024x1024) off S64x512.size inb).toLoadRect w1) k) Q) := by
  subst hoff
  exact ld c 3 rfl (PR c) (bPart X Wt c) ![256 * b + 64 * cB (s + 1) c, 512] S64x512.size inb w1 (PR_block c s b hs)
theorem svA {Q : α → sProp 𝕄} (s q : ℕ) {v : Vec F S1x256x256 .f32} (hv : isA X Wt c s q v) {off : Fin 3 → ℕ} {inb} (hoff : off = ![s, 0, 256 * q]) {w1} {w2}
    {k : PUnit → Prog (TpuEff nD τ sig (Elt F) Λ₀ .tc) α} :
    lA X Wt c s q ⊢ iprop((aA X Wt c s q -∗ Wp c (k ⟨⟩) Q)
      -∗ Wp c (.op (.store (Memref.whole cc0_scratch1) (Rect.unit (s := S3x256x512) off S1x256x256.size inb) v Finset.univ w1 w2) k) Q) := by
  subst hoff
  exact sv c 4 rfl (setA s q) (bLandA X Wt c) (bAccA X Wt c) ![s, 0, 256 * q] S1x256x256.size inb v w1 w2 rfl (hv _ inb rfl)
theorem svB {Q : α → sProp 𝕄} (s b : ℕ) {v : Vec F S1x64x512 .f32} (hv : isB X Wt c s b v) {off : Fin 3 → ℕ} {inb} (hoff : off = ![s, 64 * b, 0]) {w1} {w2}
    {k : PUnit → Prog (TpuEff nD τ sig (Elt F) Λ₀ .tc) α} :
    lB X Wt c s b ⊢ iprop((aB X Wt c s b -∗ Wp c (k ⟨⟩) Q)
      -∗ Wp c (.op (.store (Memref.whole cc0_scratch2) (Rect.unit (s := S3x256x512) off S1x64x512.size inb) v Finset.univ w1 w2) k) Q) := by
  subst hoff
  exact sv c 5 rfl (setB s b) (bLandB X Wt c) (bAccB X Wt c) ![s, 64 * b, 0] S1x64x512.size inb v w1 w2 rfl (hv _ inb rfl)
end

/-! ## The pieces

Each is told of by what the device holds before it and after it; the words are those the kernel passes from piece to piece. -/
theorem part20 {Q : (PUnit) → sProp 𝕄} (f : Buf (Elt F) (locP c)) (a b : BitVec 32) : iprop(St X Wt K c 1 0 0 ∗ srcPts X Wt c (ii 1) ∗ xS X c ∗ wS Wt c ∗ (locP c ↦[halfR]{fullShare} f))
    ⊢ iprop((St X Wt K c 3 0 0 ∗ PRp X Wt c ∗ srcPts X Wt c (ii 3) ∗ srcPts X Wt c (ii 4) ∗ srcPts X Wt c (ii 5) ∗ xS X c ∗ wS Wt c -∗ Q ⟨⟩) -∗ Wp c (onArgs (k0_part20 (F := F)) c a b) Q) := by
  rw [k0_part20_eq_skeleton]; unfold k0_part20_skel
  simp only [Prog.lift, Prog.bind_op, Prog.bind_ret, Prog.pure_eq_ret]
  iintro ⟨HS, H1, HX, HW, HP⟩ Hk
  iapply (snd_A0 X Wt K c (ii 1) 1 0 0 (dst1 c _) (off2_eq c) rfl (ss5 _ 1 rfl _ rfl _) (rs6 _ _ 1 rfl _ rfl _)) $$ [HS H1]
  · isplitl [HS] <;> iassumption
  iintro HS
  iapply (ld c 0 rfl Finset.univ (X c) ![0, 0] S1024x32.size inb_S1024x32_S1024x32_0_0 _ (Finset.subset_univ _)) $$ HX
  iintro HX
  iapply (ld c 1 rfl Finset.univ (Wt c) ![0, 512] S32x512.size inb_S32x1024_S32x512_0_512 _ (Finset.subset_univ _)) $$ HW
  iintro HW
  iapply (ld c 3 rfl halfR f ![0, 512] S1024x512.size inb_S1024x1024_S1024x512_0_512 _ (Finset.Subset.refl _)) $$ HP
  iintro HP
  rw [readX (X c)]
  iapply (sv c 3 rfl halfR f (bPart X Wt c) ![0, 512] S1024x512.size inb_S1024x1024_S1024x512_0_512 _ _ _ rfl (pay_R X Wt c)) $$ HP
  iintro HP
  ihave HP := (of_eq' (right_pieces X Wt c)) $$ HP
  icases HP with ⟨HP, H2, H3, H4, H5⟩
  iapply (snd_B0 X Wt K c (ii 2) 0 0 0 (dst2 c _) (off3_0 c) rfl (ss7 _ 0 rfl _ rfl _) (rs8 _ _ 0 rfl _ rfl _)) $$ [HS H2]
  · isplitl [HS]; · iexact HS
    iexact H2
  iintro HS
  iapply (Wp_ret c)
  iapply Hk; isplitl [HS]; · iexact HS
  isplitl [HP]; · iexact HP
  isplitl [H3]; · iexact H3
  isplitl [H4]; · iexact H4
  isplitl [H5]; · iexact H5
  isplitl [HX]; · iexact HX
  iexact HW

theorem part21 {Q : (PUnit) → sProp 𝕄} (a b : BitVec 32) : iprop(St X Wt K c 3 0 0 ∗ srcPts X Wt c (ii 3) ∗ srcPts X Wt c (ii 4) ∗ srcPts X Wt c (ii 5))
    ⊢ iprop((St X Wt K c 6 1 0 -∗ Q ⟨⟩) -∗ Wp c (onArgs (k0_part21 (F := F)) c a b) Q) := by
  rw [k0_part21_eq_skeleton]; unfold k0_part21_skel
  simp only [Prog.lift, Prog.bind_op, Prog.bind_ret, Prog.pure_eq_ret]
  iintro ⟨HS, H3, H4, H5⟩ Hk
  iapply (snd_B0 X Wt K c (ii 3) 1 0 0 (dst3 c _) (off3_1 c) rfl (ss7 _ 1 rfl _ rfl _) (rs8 _ _ 1 rfl _ rfl _)) $$ [HS H3]
  · isplitl [HS] <;> iassumption
  iintro HS
  iapply (snd_B0 X Wt K c (ii 4) 2 0 0 (dst4 c _) (off3_2 c) rfl (ss7 _ 2 rfl _ rfl _) (rs8 _ _ 2 rfl _ rfl _)) $$ [HS H4]
  · isplitl [HS] <;> iassumption
  iintro HS
  iapply (snd_B0 X Wt K c (ii 5) 3 0 0 (dst5 c _) (off3_3 c) rfl (ss7 _ 3 rfl _ rfl _) (rs8 _ _ 3 rfl _ rfl _)) $$ [HS H5]
  · isplitl [HS] <;> iassumption
  iintro HS
  iapply (sent_A X Wt K c (ii 0) 0 0 6 0 (ss5 _ 0 rfl _ rfl _)) $$ HS
  iintro HS
  iapply (Wp_ret c)
  iapply Hk; iexact HS

theorem part22 {Q : (PUnit) → sProp 𝕄} (a b : BitVec 32) : iprop(St X Wt K c 6 1 0 ∗ PLp X Wt c)
    ⊢ iprop((St X Wt K c 7 1 1 ∗ PLp X Wt c -∗ Q ⟨⟩) -∗ Wp c (onArgs (k0_part22 (F := F)) c a b) Q) := by
  rw [k0_part22_eq_skeleton]; unfold k0_part22_skel
  simp only [Prog.lift, Prog.bind_op, Prog.bind_ret, Prog.pure_eq_ret]
  iintro ⟨HS, HP⟩ Hk
  iapply (recv_A X Wt K c (ii 0) 0 0 6 1 (rs6 c _ 0 rfl _ rfl _)) $$ HS
  iintro ⟨HS, HL⟩
  iapply (sum_A X Wt c 0 0 k0_pay3 pay_A rfl (off4_1 c)) $$ [HL HP]
  · isplitl [HL] <;> iassumption
  iintro ⟨HL, HP⟩
  iapply (snd_A X Wt K c (ii 6) 0 0 1 1 (dst6 c _) rfl rfl (ss5 _ 2 rfl _ rfl _) (rs6 _ _ 2 rfl _ rfl _)) $$ [HS HL]
  · isplitl [HS] <;> iassumption
  iintro HS
  iapply (Wp_ret c)
  iapply Hk; isplitl [HS]; · iexact HS
  iexact HP

theorem part23 {Q : (PUnit) → sProp 𝕄} (a b : BitVec 32) : iprop(St X Wt K c 7 1 1 ∗ PLp X Wt c)
    ⊢ iprop((St X Wt K c 7 2 2 ∗ PLp X Wt c ∗ aA X Wt c 0 1 -∗ Q ⟨⟩) -∗ Wp c (onArgs (k0_part23 (F := F)) c a b) Q) := by
  rw [k0_part23_eq_skeleton]; unfold k0_part23_skel
  simp only [Prog.lift, Prog.bind_op, Prog.bind_ret, Prog.pure_eq_ret]
  iintro ⟨HS, HP⟩ Hk
  iapply (sent_A X Wt K c (ii 1) 0 1 7 1 (ss5 _ 1 rfl _ rfl _)) $$ HS
  iintro HS
  iapply (recv_A X Wt K c (ii 1) 0 1 7 2 (rs6 c _ 1 rfl _ rfl _)) $$ HS
  iintro ⟨HS, HL⟩
  iapply (sum_A X Wt c 0 1 k0_pay4 pay_A rfl (off5_1 c)) $$ [HL HP]
  · isplitl [HL] <;> iassumption
  iintro ⟨HL, HP⟩
  iapply (Wp_ret c)
  iapply Hk; isplitl [HS]; · iexact HS
  isplitl [HP]; · iexact HP
  iexact HL

theorem part24 {Q : (PUnit) → sProp 𝕄} (a b : BitVec 32) : iprop(St X Wt K c 7 2 2 ∗ aA X Wt c 0 1 ∗ PRp X Wt c)
    ⊢ iprop((St X Wt K c 8 3 3 ∗ PRp X Wt c ∗ aB X Wt c 0 0 -∗ Q ⟨⟩) -∗ Wp c (onArgs (k0_part24 (F := F)) c a b) Q) := by
  rw [k0_part24_eq_skeleton]; unfold k0_part24_skel
  simp only [Prog.lift, Prog.bind_op, Prog.bind_ret, Prog.pure_eq_ret]
  iintro ⟨HS, HL, HP⟩ Hk
  iapply (snd_A X Wt K c (ii 7) 0 1 2 2 (dst7 c _) rfl rfl (ss5 _ 3 rfl _ rfl _) (rs6 _ _ 3 rfl _ rfl _)) $$ [HS HL]
  · isplitl [HS] <;> iassumption
  iintro HS
  iapply (sent_B X Wt K c (ii 2) 0 0 8 2 (ss7 _ 0 rfl _ rfl _)) $$ HS
  iintro HS
  iapply (recv_B X Wt K c (ii 2) 0 0 8 3 (rs8 c _ 0 rfl _ rfl _)) $$ HS
  iintro ⟨HS, HL⟩
  iapply (sum_B X Wt c 0 0 k0_pay5 pay_B rfl (off6_01 c)) $$ [HL HP]
  · isplitl [HL] <;> iassumption
  iintro ⟨HL, HP⟩
  iapply (Wp_ret c)
  iapply Hk; isplitl [HS]; · iexact HS
  isplitl [HP]; · iexact HP
  iexact HL

theorem part25 {Q : (FVec F S64x512 .f32) → sProp 𝕄} (a b : BitVec 32) : iprop(St X Wt K c 8 3 3 ∗ aB X Wt c 0 0 ∗ PRp X Wt c)
    ⊢ iprop((∀ r, ⌜isB X Wt c 0 1 (k0_pay7 r)⌝ ∗ St X Wt K c 9 4 4 ∗ PRp X Wt c ∗ lB X Wt c 0 1 -∗ Q r) -∗ Wp c (onArgs (k0_part25 (F := F)) c a b) Q) := by
  rw [k0_part25_eq_skeleton]; unfold k0_part25_skel
  simp only [Prog.lift, Prog.bind_op, Prog.bind_ret, Prog.pure_eq_ret]
  iintro ⟨HS, HL, HP⟩ Hk
  iapply (snd_B X Wt K c (ii 8) 0 0 3 3 (dst8 c _) rfl rfl (ss7 _ 4 rfl _ rfl _) (rs8 _ _ 4 rfl _ rfl _)) $$ [HS HL]
  · isplitl [HS] <;> iassumption
  iintro HS
  iapply (sent_B X Wt K c (ii 3) 0 1 9 3 (ss7 _ 1 rfl _ rfl _)) $$ HS
  iintro HS
  iapply (recv_B X Wt K c (ii 3) 0 1 9 4 (rs8 c _ 1 rfl _ rfl _)) $$ HS
  iintro ⟨HS, HL⟩
  iapply (ldB X Wt c 0 1 rfl) $$ HL
  iintro HL
  iapply (ldPR X Wt c 0 1 (off6_11 c)) $$ HP
  iintro HP
  iapply (ldB X Wt c 0 1 rfl) $$ HL
  iintro HL
  iapply (Wp_ret c)
  iapply Hk
  isplitr; · ipureintro; exact isB_sum X Wt c 0 1 (pay := fun v1 v2 => k0_pay7 (k0_pay6 v1 v2)) pay_B rfl (off6_11 c)
  isplitl [HS]; · iexact HS
  isplitl [HP]; · iexact HP
  iexact HL

theorem part26 {Q : (Σ' (_ : FVec F S64x512 .f32) (_ : BitVec 32), BitVec 32) → sProp 𝕄} (a b : BitVec 32) (v : FVec F S64x512 .f32) (hv : isB X Wt c 0 1 (k0_pay7 v)) : iprop(St X Wt K c 9 4 4 ∗ lB X Wt c 0 1)
    ⊢ iprop((∀ r, ⌜∀ (off : Fin 2 → ℕ) (inb), off = ![256 * 2 + 64 * cB (0 + 1) c, 512] → isB X Wt c 0 2 (k0_pay9 r.1 ((Memref.whole cc0_scratch0).view.readAt (Elt F) (Rect.unit (s := S1024x1024) off S64x512.size inb).toLoadRect (bPart X Wt c)))⌝ ∗ St X Wt K c 10 5 5 ∗ lB X Wt c 0 2 -∗ Q r) -∗ Wp c (onArgs (k0_part26 (F := F)) c a b v) Q) := by
  rw [k0_part26_eq_skeleton]; unfold k0_part26_skel
  simp only [Prog.lift, Prog.bind_op, Prog.bind_ret, Prog.pure_eq_ret]
  iintro ⟨HS, HL⟩ Hk
  iapply (svB X Wt c 0 1 hv rfl) $$ HL
  iintro HL
  iapply (snd_B X Wt K c (ii 9) 0 1 4 4 (dst9 c _) rfl rfl (ss7 _ 5 rfl _ rfl _) (rs8 _ _ 5 rfl _ rfl _)) $$ [HS HL]
  · isplitl [HS] <;> iassumption
  iintro HS
  iapply (sent_B X Wt K c (ii 4) 0 2 10 4 (ss7 _ 2 rfl _ rfl _)) $$ HS
  iintro HS
  iapply (recv_B X Wt K c (ii 4) 0 2 10 5 (rs8 c _ 2 rfl _ rfl _)) $$ HS
  iintro ⟨HS, HL⟩
  iapply (ldB X Wt c 0 2 rfl) $$ HL
  iintro HL
  iapply (Wp_ret c)
  iapply Hk
  isplitr; · ipureintro; exact fun off inb h => isB_sum X Wt c 0 2 (pay := fun v1 v2 => k0_pay9 (k0_pay8 v1) v2) pay_B rfl h
  isplitl [HS]; · iexact HS
  iexact HL

theorem part27 {Q : (PUnit) → sProp 𝕄} (a : BitVec 32) (v : FVec F S64x512 .f32) (b d : BitVec 32)
    (hv : ∀ (off : Fin 2 → ℕ) (inb), off = ![256 * 2 + 64 * cB (0 + 1) c, 512] → isB X Wt c 0 2 (k0_pay9 v ((Memref.whole cc0_scratch0).view.readAt (Elt F) (Rect.unit (s := S1024x1024) off S64x512.size inb).toLoadRect (bPart X Wt c)))) : iprop(St X Wt K c 10 5 5 ∗ lB X Wt c 0 2 ∗ PRp X Wt c)
    ⊢ iprop((St X Wt K c 11 6 5 ∗ PRp X Wt c -∗ Q ⟨⟩) -∗ Wp c (onArgs (k0_part27 (F := F)) c a v b d) Q) := by
  rw [k0_part27_eq_skeleton]; unfold k0_part27_skel
  simp only [Prog.lift, Prog.bind_op, Prog.bind_ret, Prog.pure_eq_ret]
  iintro ⟨HS, HL, HP⟩ Hk
  iapply (ldPR X Wt c 0 2 (off6_21 c)) $$ HP
  iintro HP
  iapply (ldB X Wt c 0 2 rfl) $$ HL
  iintro HL
  iapply (svB X Wt c 0 2 (hv _ _ (off6_21 c)) rfl) $$ HL
  iintro HL
  iapply (snd_B X Wt K c (ii 10) 0 2 5 5 (dst10 c _) rfl rfl (ss7 _ 6 rfl _ rfl _) (rs8 _ _ 6 rfl _ rfl _)) $$ [HS HL]
  · isplitl [HS] <;> iassumption
  iintro HS
  iapply (sent_B X Wt K c (ii 5) 0 3 11 5 (ss7 _ 3 rfl _ rfl _)) $$ HS
  iintro HS
  iapply (Wp_ret c)
  iapply Hk; isplitl [HS]; · iexact HS
  iexact HP

theorem part28 {Q : (PUnit) → sProp 𝕄} (a b : BitVec 32) : iprop(St X Wt K c 11 6 5 ∗ PRp X Wt c)
    ⊢ iprop((St X Wt K c 12 7 6 ∗ PRp X Wt c -∗ Q ⟨⟩) -∗ Wp c (onArgs (k0_part28 (F := F)) c a b) Q) := by
  rw [k0_part28_eq_skeleton]; unfold k0_part28_skel
  simp only [Prog.lift, Prog.bind_op, Prog.bind_ret, Prog.pure_eq_ret]
  iintro ⟨HS, HP⟩ Hk
  iapply (recv_B X Wt K c (ii 5) 0 3 11 6 (rs8 c _ 3 rfl _ rfl _)) $$ HS
  iintro ⟨HS, HL⟩
  iapply (sum_B X Wt c 0 3 k0_pay10 pay_B rfl (off6_31 c)) $$ [HL HP]
  · isplitl [HL] <;> iassumption
  iintro ⟨HL, HP⟩
  iapply (snd_B X Wt K c (ii 11) 0 3 6 6 (dst11 c _) rfl rfl (ss7 _ 7 rfl _ rfl _) (rs8 _ _ 7 rfl _ rfl _)) $$ [HS HL]
  · isplitl [HS] <;> iassumption
  iintro HS
  iapply (sent_A X Wt K c (ii 6) 1 0 12 6 (ss5 _ 2 rfl _ rfl _)) $$ HS
  iintro HS
  iapply (Wp_ret c)
  iapply Hk; isplitl [HS]; · iexact HS
  iexact HP

theorem part29 {Q : (PUnit) → sProp 𝕄} (a b : BitVec 32) : iprop(St X Wt K c 12 7 6 ∗ PLp X Wt c)
    ⊢ iprop((St X Wt K c 13 7 7 ∗ PLp X Wt c -∗ Q ⟨⟩) -∗ Wp c (onArgs (k0_part29 (F := F)) c a b) Q) := by
  rw [k0_part29_eq_skeleton]; unfold k0_part29_skel
  simp only [Prog.lift, Prog.bind_op, Prog.bind_ret, Prog.pure_eq_ret]
  iintro ⟨HS, HP⟩ Hk
  iapply (recv_A X Wt K c (ii 6) 1 0 12 7 (rs6 c _ 2 rfl _ rfl _)) $$ HS
  iintro ⟨HS, HL⟩
  iapply (sum_A X Wt c 1 0 k0_pay11 pay_A rfl (off4_2 c)) $$ [HL HP]
  · isplitl [HL] <;> iassumption
  iintro ⟨HL, HP⟩
  iapply (snd_A X Wt K c (ii 12) 1 0 7 7 (dst12 c _) rfl rfl (ss5 _ 4 rfl _ rfl _) (rs6 _ _ 4 rfl _ rfl _)) $$ [HS HL]
  · isplitl [HS] <;> iassumption
  iintro HS
  iapply (Wp_ret c)
  iapply Hk; isplitl [HS]; · iexact HS
  iexact HP

theorem part30 {Q : (PUnit) → sProp 𝕄} (a b : BitVec 32) : iprop(St X Wt K c 13 7 7 ∗ PLp X Wt c)
    ⊢ iprop((St X Wt K c 13 8 8 ∗ PLp X Wt c ∗ aA X Wt c 1 1 -∗ Q ⟨⟩) -∗ Wp c (onArgs (k0_part30 (F := F)) c a b) Q) := by
  rw [k0_part30_eq_skeleton]; unfold k0_part30_skel
  simp only [Prog.lift, Prog.bind_op, Prog.bind_ret, Prog.pure_eq_ret]
  iintro ⟨HS, HP⟩ Hk
  iapply (sent_A X Wt K c (ii 7) 1 1 13 7 (ss5 _ 3 rfl _ rfl _)) $$ HS
  iintro HS
  iapply (recv_A X Wt K c (ii 7) 1 1 13 8 (rs6 c _ 3 rfl _ rfl _)) $$ HS
  iintro ⟨HS, HL⟩
  iapply (sum_A X Wt c 1 1 k0_pay12 pay_A rfl (off5_2 c)) $$ [HL HP]
  · isplitl [HL] <;> iassumption
  iintro ⟨HL, HP⟩
  iapply (Wp_ret c)
  iapply Hk; isplitl [HS]; · iexact HS
  isplitl [HP]; · iexact HP
  iexact HL

theorem part31 {Q : (FVec F S64x512 .f32) → sProp 𝕄} (a b : BitVec 32) : iprop(St X Wt K c 13 8 8 ∗ aA X Wt c 1 1 ∗ PRp X Wt c)
    ⊢ iprop((∀ r, ⌜isB X Wt c 1 0 (k0_pay14 r)⌝ ∗ St X Wt K c 14 9 9 ∗ PRp X Wt c ∗ lB X Wt c 1 0 -∗ Q r) -∗ Wp c (onArgs (k0_part31 (F := F)) c a b) Q) := by
  rw [k0_part31_eq_skeleton]; unfold k0_part31_skel
  simp only [Prog.lift, Prog.bind_op, Prog.bind_ret, Prog.pure_eq_ret]
  iintro ⟨HS, HL, HP⟩ Hk
  iapply (snd_A X Wt K c (ii 13) 1 1 8 8 (dst13 c _) rfl rfl (ss5 _ 5 rfl _ rfl _) (rs6 _ _ 5 rfl _ rfl _)) $$ [HS HL]
  · isplitl [HS] <;> iassumption
  iintro HS
  iapply (sent_B X Wt K c (ii 8) 1 0 14 8 (ss7 _ 4 rfl _ rfl _)) $$ HS
  iintro HS
  iapply (recv_B X Wt K c (ii 8) 1 0 14 9 (rs8 c _ 4 rfl _ rfl _)) $$ HS
  iintro ⟨HS, HL⟩
  iapply (ldB X Wt c 1 0 rfl) $$ HL
  iintro HL
  iapply (ldPR X Wt c 1 0 (off6_02 c)) $$ HP
  iintro HP
  iapply (Wp_ret c)
  iapply Hk
  isplitr; · ipureintro; exact isB_sum X Wt c 1 0 (pay := fun v1 v2 => k0_pay14 (k0_pay13 v1 v2)) pay_B rfl (off6_02 c)
  isplitl [HS]; · iexact HS
  isplitl [HP]; · iexact HP
  iexact HL

theorem part32 {Q : (PUnit) → sProp 𝕄} (a : BitVec 32) (v : FVec F S64x512 .f32) (hv : isB X Wt c 1 0 (k0_pay14 v)) : iprop(St X Wt K c 14 9 9 ∗ lB X Wt c 1 0)
    ⊢ iprop((St X Wt K c 15 10 9 -∗ Q ⟨⟩) -∗ Wp c (onArgs (k0_part32 (F := F)) c a v) Q) := by
  rw [k0_part32_eq_skeleton]; unfold k0_part32_skel
  simp only [Prog.lift, Prog.bind_op, Prog.bind_ret, Prog.pure_eq_ret]
  iintro ⟨HS, HL⟩ Hk
  iapply (ldB X Wt c 1 0 rfl) $$ HL
  iintro HL
  iapply (svB X Wt c 1 0 hv rfl) $$ HL
  iintro HL
  iapply (snd_B X Wt K c (ii 14) 1 0 9 9 (dst14 c _) rfl rfl (ss7 _ 8 rfl _ rfl _) (rs8 _ _ 8 rfl _ rfl _)) $$ [HS HL]
  · isplitl [HS] <;> iassumption
  iintro HS
  iapply (sent_B X Wt K c (ii 9) 1 1 15 9 (ss7 _ 5 rfl _ rfl _)) $$ HS
  iintro HS
  iapply (Wp_ret c)
  iapply Hk; iexact HS

theorem part33 {Q : (PUnit) → sProp 𝕄} (a b : BitVec 32) : iprop(St X Wt K c 15 10 9 ∗ PRp X Wt c)
    ⊢ iprop((St X Wt K c 16 11 10 ∗ PRp X Wt c -∗ Q ⟨⟩) -∗ Wp c (onArgs (k0_part33 (F := F)) c a b) Q) := by
  rw [k0_part33_eq_skeleton]; unfold k0_part33_skel
  simp only [Prog.lift, Prog.bind_op, Prog.bind_ret, Prog.pure_eq_ret]
  iintro ⟨HS, HP⟩ Hk
  iapply (recv_B X Wt K c (ii 9) 1 1 15 10 (rs8 c _ 5 rfl _ rfl _)) $$ HS
  iintro ⟨HS, HL⟩
  iapply (sum_B X Wt c 1 1 k0_pay15 pay_B rfl (off6_12 c)) $$ [HL HP]
  · isplitl [HL] <;> iassumption
  iintro ⟨HL, HP⟩
  iapply (snd_B X Wt K c (ii 15) 1 1 10 10 (dst15 c _) rfl rfl (ss7 _ 9 rfl _ rfl _) (rs8 _ _ 9 rfl _ rfl _)) $$ [HS HL]
  · isplitl [HS] <;> iassumption
  iintro HS
  iapply (sent_B X Wt K c (ii 10) 1 2 16 10 (ss7 _ 6 rfl _ rfl _)) $$ HS
  iintro HS
  iapply (Wp_ret c)
  iapply Hk; isplitl [HS]; · iexact HS
  iexact HP

theorem part34 {Q : (PUnit) → sProp 𝕄} (a b : BitVec 32) : iprop(St X Wt K c 16 11 10 ∗ PRp X Wt c)
    ⊢ iprop((St X Wt K c 17 11 11 ∗ PRp X Wt c -∗ Q ⟨⟩) -∗ Wp c (onArgs (k0_part34 (F := F)) c a b) Q) := by
  rw [k0_part34_eq_skeleton]; unfold k0_part34_skel
  simp only [Prog.lift, Prog.bind_op, Prog.bind_ret, Prog.pure_eq_ret]
  iintro ⟨HS, HP⟩ Hk
  iapply (recv_B X Wt K c (ii 10) 1 2 16 11 (rs8 c _ 6 rfl _ rfl _)) $$ HS
  iintro ⟨HS, HL⟩
  iapply (sum_B X Wt c 1 2 k0_pay16 pay_B rfl (off6_22 c)) $$ [HL HP]
  · isplitl [HL] <;> iassumption
  iintro ⟨HL, HP⟩
  iapply (snd_B X Wt K c (ii 16) 1 2 11 11 (dst16 c _) rfl rfl (ss7 _ 10 rfl _ rfl _) (rs8 _ _ 10 rfl _ rfl _)) $$ [HS HL]
  · isplitl [HS] <;> iassumption
  iintro HS
  iapply (Wp_ret c)
  iapply Hk; isplitl [HS]; · iexact HS
  iexact HP

theorem part35 {Q : (BitVec 32) → sProp 𝕄} (a b : BitVec 32) : iprop(St X Wt K c 17 11 11 ∗ PRp X Wt c)
    ⊢ iprop((∀ r, St X Wt K c 17 12 12 ∗ PRp X Wt c ∗ aB X Wt c 1 3 -∗ Q r) -∗ Wp c (onArgs (k0_part35 (F := F)) c a b) Q) := by
  rw [k0_part35_eq_skeleton]; unfold k0_part35_skel
  simp only [Prog.lift, Prog.bind_op, Prog.bind_ret, Prog.pure_eq_ret]
  iintro ⟨HS, HP⟩ Hk
  iapply (sent_B X Wt K c (ii 11) 1 3 17 11 (ss7 _ 7 rfl _ rfl _)) $$ HS
  iintro HS
  iapply (recv_B X Wt K c (ii 11) 1 3 17 12 (rs8 c _ 7 rfl _ rfl _)) $$ HS
  iintro ⟨HS, HL⟩
  iapply (sum_B X Wt c 1 3 k0_pay17 pay_B rfl (off6_32 c)) $$ [HL HP]
  · isplitl [HL] <;> iassumption
  iintro ⟨HL, HP⟩
  iapply (Wp_ret c)
  iapply Hk; isplitl [HS]; · iexact HS
  isplitl [HP]; · iexact HP
  iexact HL

theorem part36 {Q : (Σ' (_ : FVec F S256x256 .f32), Vec F S256x256 .f32) → sProp 𝕄} (a b d : BitVec 32) : iprop(St X Wt K c 17 12 12 ∗ aB X Wt c 1 3 ∗ PLp X Wt c)
    ⊢ iprop((∀ r, ⌜isA X Wt c 2 0 (k0_pay19 r.1 r.2)⌝ ∗ St X Wt K c 18 13 13 ∗ PLp X Wt c ∗ lA X Wt c 2 0 -∗ Q r) -∗ Wp c (onArgs (k0_part36 (F := F)) c a b d) Q) := by
  rw [k0_part36_eq_skeleton]; unfold k0_part36_skel
  simp only [Prog.lift, Prog.bind_op, Prog.bind_ret, Prog.pure_eq_ret]
  iintro ⟨HS, HL, HP⟩ Hk
  iapply (snd_B X Wt K c (ii 17) 1 3 12 12 (dst17 c _) rfl rfl (ss7 _ 11 rfl _ rfl _) (rs8 _ _ 11 rfl _ rfl _)) $$ [HS HL]
  · isplitl [HS] <;> iassumption
  iintro HS
  iapply (sent_A X Wt K c (ii 12) 2 0 18 12 (ss5 _ 4 rfl _ rfl _)) $$ HS
  iintro HS
  iapply (recv_A X Wt K c (ii 12) 2 0 18 13 (rs6 c _ 4 rfl _ rfl _)) $$ HS
  iintro ⟨HS, HL⟩
  iapply (ldA X Wt c 2 0 rfl) $$ HL
  iintro HL
  iapply (ldPL X Wt c 2 0 (off7_eq c)) $$ HP
  iintro HP
  iapply (Wp_ret c)
  iapply Hk
  isplitr; · ipureintro; exact isA_sum X Wt c 2 0 (pay := fun v1 v2 => k0_pay19 (k0_pay18 v1) v2) pay_A rfl (off7_eq c)
  isplitl [HS]; · iexact HS
  isplitl [HP]; · iexact HP
  iexact HL

theorem part37 {Q : (FVec F S1x256x256 .f32) → sProp 𝕄} (a b : BitVec 32) (v : FVec F S256x256 .f32) (v' : Vec F S256x256 .f32) (hv : isA X Wt c 2 0 (k0_pay19 v v')) : iprop(St X Wt K c 18 13 13 ∗ PLp X Wt c ∗ lA X Wt c 2 0)
    ⊢ iprop((∀ r, ⌜isA X Wt c 2 1 r⌝ ∗ St X Wt K c 18 14 14 ∗ PLp X Wt c ∗ aA X Wt c 2 0 ∗ lA X Wt c 2 1 -∗ Q r) -∗ Wp c (onArgs (k0_part37 (F := F)) c a b v v') Q) := by
  rw [k0_part37_eq_skeleton]; unfold k0_part37_skel
  simp only [Prog.lift, Prog.bind_op, Prog.bind_ret, Prog.pure_eq_ret]
  iintro ⟨HS, HP, H0⟩ Hk
  iapply (ldA X Wt c 2 0 rfl) $$ H0
  iintro H0
  iapply (svA X Wt c 2 0 hv rfl) $$ H0
  iintro H0
  iapply (sent_A X Wt K c (ii 13) 2 1 18 13 (ss5 _ 5 rfl _ rfl _)) $$ HS
  iintro HS
  iapply (recv_A X Wt K c (ii 13) 2 1 18 14 (rs6 c _ 5 rfl _ rfl _)) $$ HS
  iintro ⟨HS, HL⟩
  iapply (ldA X Wt c 2 1 rfl) $$ HL
  iintro HL
  iapply (ldPL X Wt c 2 1 (off8_eq c)) $$ HP
  iintro HP
  iapply (ldA X Wt c 2 1 rfl) $$ HL
  iintro HL
  iapply (Wp_ret c)
  iapply Hk
  isplitr; · ipureintro; exact isA_sum X Wt c 2 1 pay_A rfl (off8_eq c)
  isplitl [HS]; · iexact HS
  isplitl [HP]; · iexact HP
  isplitl [H0]; · iexact H0
  iexact HL

end Cert.KernelIdeal.Ring
-- ==== Proof.Body0.lean ====
/- The start of the kernel: the product and the barrier, one printed piece of it after another. -/
module

public import proofs.«01_k».proof.Proof.Body1

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

variable (c : Dev nD)

/-- The barrier's semaphore. -/
abbrev barA : Sems sig S_ := SemArray.scalar (sig.barrier 0 rfl)

/-- A piece that only computes. -/
theorem pure_part {α : Type} {Q : α → sProp 𝕄} {p : Prog (TpuEff nD τ sig (Elt F) Λ₀ .tc) α} {r : α} (h : p = .ret r) : iprop(∀ r, Q r) ⊢ Wp c p Q := by
  subst h
  iintro H
  iapply (Wp_ret c)
  iapply H

theorem part1 {Q : (Σ' (_ : Dev nD) (_ : BitVec 32) (_ : BitVec 32) (_ : BitVec 32) (_ : BitVec 32) (_ : BitVec 32) (_ : BitVec 32) (_ : BitVec 32), BitVec 1) → sProp 𝕄} : iprop(∀ r, ⌜r.1 = c⌝ -∗ Q r) ⊢ Wp c (onArgs (k0_part1 (F := F))) Q := by
  rw [k0_part1_eq_skeleton]; unfold k0_part1_skel
  simp only [Prog.lift, Prog.bind_op, Prog.bind_ret, Prog.pure_eq_ret, wp_deviceId]
  iintro Hk
  iapply (Wp_ret c)
  iapply Hk
  ipureintro; rfl

theorem part2 {Q : (Σ' (_ : BitVec 32) (_ : BitVec 32) (_ : BitVec 32) (_ : BitVec 32) (_ : BitVec 32) (_ : BitVec 32) (_ : BitVec 1) (_ : BitVec 1), BitVec 1) → sProp 𝕄} (v2 : BitVec 32) (v19 : BitVec 32) (v29 : BitVec 32) (c2_i32 : BitVec 32) (v30 : BitVec 32) (v35 : BitVec 32) (v37 : BitVec 32) (v38 : BitVec 1) : iprop(∀ r, Q r) ⊢ Wp c (onArgs (k0_part2 (F := F)) v2 v19 v29 c2_i32 v30 v35 v37 v38) Q := by
  rw [k0_part2_eq_skeleton]
  exact pure_part c rfl

theorem part3 {Q : (Σ' (_ : BitVec 32) (_ : BitVec 32) (_ : BitVec 32) (_ : BitVec 32) (_ : BitVec 1) (_ : BitVec 1), BitVec 32) → sProp 𝕄} (v19 : BitVec 32) (v46 : BitVec 32) (v57 : BitVec 32) (v72 : BitVec 32) (v73 : BitVec 32) (v74 : BitVec 1) (v75 : BitVec 1) (v76 : BitVec 1) : iprop(∀ r, Q r) ⊢ Wp c (onArgs (k0_part3 (F := F)) v19 v46 v57 v72 v73 v74 v75 v76) Q := by
  rw [k0_part3_eq_skeleton]
  exact pure_part c rfl

theorem part4 {Q : (Σ' (_ : BitVec 32) (_ : BitVec 32) (_ : BitVec 32) (_ : BitVec 32) (_ : BitVec 32) (_ : BitVec 1) (_ : BitVec 1), BitVec 32) → sProp 𝕄} (v19 : BitVec 32) (v46 : BitVec 32) (v110 : BitVec 32) (v111 : BitVec 32) (v112 : BitVec 1) (v113 : BitVec 1) (c0_i32_58 : BitVec 32) : iprop(∀ r, Q r) ⊢ Wp c (onArgs (k0_part4 (F := F)) v19 v46 v110 v111 v112 v113 c0_i32_58) Q := by
  rw [k0_part4_eq_skeleton]
  exact pure_part c rfl

theorem part16 {Q : (Σ' (_ : BitVec 32) (_ : BitVec 32) (_ : BitVec 32) (_ : BitVec 32) (_ : BitVec 32), BitVec 32) → sProp 𝕄} (v46 : BitVec 32) (v69 : BitVec 32) (c6_i32_322 : BitVec 32) : iprop(∀ r, Q r) ⊢ Wp c (onArgs (k0_part16 (F := F)) v46 v69 c6_i32_322) Q := by
  rw [k0_part16_eq_skeleton]
  exact pure_part c rfl

theorem part18 {Q : (Σ' (_ : BitVec 32) (_ : BitVec 32) (_ : BitVec 32) (_ : BitVec 32) (_ : BitVec 32), BitVec 32) → sProp 𝕄} (v46 : BitVec 32) (v623 : BitVec 32) (v625 : BitVec 32) : iprop(∀ r, Q r) ⊢ Wp c (onArgs (k0_part18 (F := F)) v46 v623 v625) Q := by
  rw [k0_part18_eq_skeleton]
  exact pure_part c rfl

theorem part49 {Q : (Σ' (_ : BitVec 32) (_ : BitVec 32) (_ : BitVec 32) (_ : BitVec 1) (_ : BitVec 1), BitVec 1) → sProp 𝕄} (v46 : BitVec 32) (v1540 : BitVec 32) (v1541 : BitVec 32) (v1542 : BitVec 1) (c0_i32_1208 : BitVec 32) : iprop(∀ r, Q r) ⊢ Wp c (onArgs (k0_part49 (F := F)) v46 v1540 v1541 v1542 c0_i32_1208) Q := by
  rw [k0_part49_eq_skeleton]
  exact pure_part c rfl

theorem part51 {Q : (Σ' (_ : BitVec 32), BitVec 32) → sProp 𝕄} (v46 : BitVec 32) (v69 : BitVec 32) (v1614 : BitVec 32) (c2_i32_1247 : BitVec 32) (v1615 : BitVec 32) (v1620 : BitVec 32) : iprop(∀ r, Q r) ⊢ Wp c (onArgs (k0_part51 (F := F)) v46 v69 v1614 c2_i32_1247 v1615 v1620) Q := by
  rw [k0_part51_eq_skeleton]
  exact pure_part c rfl

theorem part53 {Q : (PUnit) → sProp 𝕄} (v46 : BitVec 32) (v69 : BitVec 32) (v1680 : BitVec 32) (v1697 : BitVec 32) (c2_i32_1291 : BitVec 32) : iprop(∀ r, Q r) ⊢ Wp c (onArgs (k0_part53 (F := F)) c v46 v69 v1680 v1697 c2_i32_1291) Q := by
  rw [k0_part53_eq_skeleton]
  exact pure_part c rfl

theorem part56 {Q : (Σ' (_ : BitVec 32), BitVec 32) → sProp 𝕄} (v46 : BitVec 32) (v1804 : BitVec 32) (v1805 : BitVec 32) (v1806 : BitVec 1) (v1809 : BitVec 1) : iprop(∀ r, Q r) ⊢ Wp c (onArgs (k0_part56 (F := F)) v46 v1804 v1805 v1806 v1809) Q := by
  rw [k0_part56_eq_skeleton]
  exact pure_part c rfl

theorem part58 {Q : (Σ' (_ : BitVec 32), BitVec 32) → sProp 𝕄} (v46 : BitVec 32) (v69 : BitVec 32) (v1878 : BitVec 32) (c2_i32_1395 : BitVec 32) (v1879 : BitVec 32) (v1884 : BitVec 32) (v1886 : BitVec 32) (c0_i32_1399 : BitVec 32) : iprop(∀ r, Q r) ⊢ Wp c (onArgs (k0_part58 (F := F)) v46 v69 v1878 c2_i32_1395 v1879 v1884 v1886 c0_i32_1399) Q := by
  rw [k0_part58_eq_skeleton]
  exact pure_part c rfl

theorem part5 {Q : (Σ' (_ : BitVec 32) (_ : BitVec 32) (_ : BitVec 32), FVec F S1024x512 .f32) → sProp 𝕄} (f : Buf (Elt F) (locP c)) (v46 : BitVec 32) (v146 : BitVec 32) (v147 : BitVec 32) (v148 : BitVec 1) (v149 : BitVec 1) (c0_i32_82 : BitVec 32) : iprop(xS X c ∗ wS Wt c ∗ (locP c ↦[halfL]{fullShare} f))
    ⊢ iprop((∀ r, ⌜r.2.2.2 = k0_pay1 (X c) (wL Wt c)⌝ ∗ xS X c ∗ wS Wt c ∗ (locP c ↦[halfL]{fullShare} f) -∗ Q r) -∗ Wp c (onArgs (k0_part5 (F := F)) v46 v146 v147 v148 v149 c0_i32_82) Q) := by
  rw [k0_part5_eq_skeleton]; unfold k0_part5_skel
  simp only [semSignalWord, semWaitWord, Prog.lift, Prog.bind_op, Prog.bind_ret, Prog.pure_eq_ret]
  iintro ⟨HX, HW, HP⟩ Hk
  iapply (ld c 0 rfl Finset.univ (X c) ![0, 0] S1024x32.size inb_S1024x32_S1024x32_0_0 _ (Finset.subset_univ _)) $$ HX
  iintro HX
  iapply (ld c 1 rfl Finset.univ (Wt c) ![0, 0] S32x512.size inb_S32x1024_S32x512_0_0 _ (Finset.subset_univ _)) $$ HW
  iintro HW
  iapply (ld c 3 rfl halfL f ![0, 0] S1024x512.size inb_S1024x1024_S1024x512_0_0 _ (Finset.Subset.refl _)) $$ HP
  iintro HP
  rw [readX (X c)]
  iapply (Wp_ret c)
  iapply Hk
  isplitr; · ipureintro; exact rfl
  isplitl [HX]; · iexact HX
  isplitl [HW]; · iexact HW
  iexact HP

theorem part6 {Q : (Σ' (_ : Sems sig S_) (_ : BitVec 32) (_ : BitVec 32) (_ : BitVec 32) (_ : BitVec 1), BitVec 1) → sProp 𝕄} (f : Buf (Elt F) (locP c)) (v19 : BitVec 32) (v29 : BitVec 32) (v69 : BitVec 32) (v186 : FVec F S1024x512 .f32) (hv : v186 = k0_pay1 (X c) (wL Wt c)) : iprop(Sig X Wt K c 0 ∗ (locP c ↦[halfL]{fullShare} f))
    ⊢ iprop((∀ r, ⌜r.1 = barA⌝ ∗ Sig X Wt K c 1 ∗ (locP c ↦[halfL]{fullShare} (bPart X Wt c)) -∗ Q r) -∗ Wp c (onArgs (k0_part6 (F := F)) c v19 v29 v69 v186) Q) := by
  rw [k0_part6_eq_skeleton]; unfold k0_part6_skel
  simp only [semSignalWord, semWaitWord, Prog.lift, Prog.bind_op, Prog.bind_ret, Prog.pure_eq_ret]
  iintro ⟨HS, HP⟩ Hk
  iapply (sv c 3 rfl halfL f (bPart X Wt c) ![0, 0] S1024x512.size inb_S1024x1024_S1024x512_0_0 _ _ _ rfl (fun y => (congrFun hv y).trans (pay_L X Wt c y))) $$ HP
  iintro HP
  iapply (step_signal X Wt K c ⟨0, by decide⟩ _ (sdst0 c _) rfl) $$ HS
  iintro HS
  iapply (Wp_ret c)
  iapply Hk
  isplitr; · ipureintro; exact rfl
  isplitl [HS]; · iexact HS
  iexact HP

theorem part7 {Q : (Σ' (_ : BitVec 32) (_ : BitVec 32), BitVec 32) → sProp 𝕄} (v29 : BitVec 32) (v46 : BitVec 32) (v213 : BitVec 32) (v215 : BitVec 32) (v216 : BitVec 32) (v217 : BitVec 1) (v220 : BitVec 1) : iprop(Sig X Wt K c 1)
    ⊢ iprop((∀ r, Sig X Wt K c 2 -∗ Q r) -∗ Wp c (onArgs (k0_part7 (F := F)) c v29 v46 barA v213 v215 v216 v217 v220) Q) := by
  rw [k0_part7_eq_skeleton]; unfold k0_part7_skel
  simp only [semSignalWord, semWaitWord, Prog.lift, Prog.bind_op, Prog.bind_ret, Prog.pure_eq_ret]
  iintro HS Hk
  iapply (step_signal X Wt K c ⟨1, by decide⟩ _ (sdst1 c _) rfl) $$ HS
  iintro HS
  iapply (Wp_ret c)
  iapply Hk; iexact HS

theorem part8 {Q : (Σ' (_ : BitVec 32) (_ : BitVec 32) (_ : BitVec 32), BitVec 32) → sProp 𝕄} (v19 : BitVec 32) (v46 : BitVec 32) (v69 : BitVec 32) (v258 : BitVec 32) (c8_i32_147 : BitVec 32) (c0_i32_148 : BitVec 32) : iprop(Sig X Wt K c 2)
    ⊢ iprop((∀ r, Sig X Wt K c 3 -∗ Q r) -∗ Wp c (onArgs (k0_part8 (F := F)) c v19 v46 v69 barA v258 c8_i32_147 c0_i32_148) Q) := by
  rw [k0_part8_eq_skeleton]; unfold k0_part8_skel
  simp only [semSignalWord, semWaitWord, Prog.lift, Prog.bind_op, Prog.bind_ret, Prog.pure_eq_ret]
  iintro HS Hk
  iapply (step_signal X Wt K c ⟨2, by decide⟩ _ (sdst2 c _) rfl) $$ HS
  iintro HS
  iapply (Wp_ret c)
  iapply Hk; iexact HS

theorem part9 {Q : (Σ' (_ : BitVec 32) (_ : BitVec 32), BitVec 1) → sProp 𝕄} (v29 : BitVec 32) (v46 : BitVec 32) (v283 : BitVec 32) (v294 : BitVec 32) (c2_i32_170 : BitVec 32) (c0_i32_171 : BitVec 32) : iprop(Sig X Wt K c 3)
    ⊢ iprop((∀ r, Sig X Wt K c 4 -∗ Q r) -∗ Wp c (onArgs (k0_part9 (F := F)) c v29 v46 barA v283 v294 c2_i32_170 c0_i32_171) Q) := by
  rw [k0_part9_eq_skeleton]; unfold k0_part9_skel
  simp only [semSignalWord, semWaitWord, Prog.lift, Prog.bind_op, Prog.bind_ret, Prog.pure_eq_ret]
  iintro HS Hk
  iapply (step_signal X Wt K c ⟨3, by decide⟩ _ (sdst3 c _) rfl) $$ HS
  iintro HS
  iapply (Wp_ret c)
  iapply Hk; iexact HS

theorem part10 {Q : (Σ' (_ : BitVec 32) (_ : BitVec 32) (_ : BitVec 32), BitVec 1) → sProp 𝕄} (v19 : BitVec 32) (v46 : BitVec 32) (v69 : BitVec 32) (v330 : BitVec 32) (v331 : BitVec 32) (v332 : BitVec 1) : iprop(Sig X Wt K c 4)
    ⊢ iprop((∀ r, Sig X Wt K c 5 -∗ Q r) -∗ Wp c (onArgs (k0_part10 (F := F)) c v19 v46 v69 barA v330 v331 v332) Q) := by
  rw [k0_part10_eq_skeleton]; unfold k0_part10_skel
  simp only [semSignalWord, semWaitWord, Prog.lift, Prog.bind_op, Prog.bind_ret, Prog.pure_eq_ret]
  iintro HS Hk
  iapply (step_signal X Wt K c ⟨4, by decide⟩ _ (sdst4 c _) rfl) $$ HS
  iintro HS
  iapply (Wp_ret c)
  iapply Hk; iexact HS

theorem part11 {Q : (Σ' (_ : BitVec 32) (_ : BitVec 32), BitVec 1) → sProp 𝕄} (v29 : BitVec 32) (v46 : BitVec 32) (v353 : BitVec 32) (v366 : BitVec 32) (v367 : BitVec 32) (v368 : BitVec 1) : iprop(Sig X Wt K c 5)
    ⊢ iprop((∀ r, Sig X Wt K c 6 -∗ Q r) -∗ Wp c (onArgs (k0_part11 (F := F)) c v29 v46 barA v353 v366 v367 v368) Q) := by
  rw [k0_part11_eq_skeleton]; unfold k0_part11_skel
  simp only [semSignalWord, semWaitWord, Prog.lift, Prog.bind_op, Prog.bind_ret, Prog.pure_eq_ret]
  iintro HS Hk
  iapply (step_signal X Wt K c ⟨5, by decide⟩ _ (sdst5 c _) rfl) $$ HS
  iintro HS
  iapply (Wp_ret c)
  iapply Hk; iexact HS

theorem part12 {Q : (Σ' (_ : BitVec 32) (_ : BitVec 32) (_ : BitVec 32), BitVec 1) → sProp 𝕄} (v19 : BitVec 32) (v46 : BitVec 32) (v69 : BitVec 32) (v400 : BitVec 32) (v401 : BitVec 32) (v406 : BitVec 1) : iprop(Sig X Wt K c 6)
    ⊢ iprop((∀ r, Sig X Wt K c 7 -∗ Q r) -∗ Wp c (onArgs (k0_part12 (F := F)) c v19 v46 v69 barA v400 v401 v406) Q) := by
  rw [k0_part12_eq_skeleton]; unfold k0_part12_skel
  simp only [semSignalWord, semWaitWord, Prog.lift, Prog.bind_op, Prog.bind_ret, Prog.pure_eq_ret]
  iintro HS Hk
  iapply (step_signal X Wt K c ⟨6, by decide⟩ _ (sdst6 c _) rfl) $$ HS
  iintro HS
  iapply (Wp_ret c)
  iapply Hk; iexact HS

theorem part13 {Q : (BitVec 32) → sProp 𝕄} (v19 : BitVec 32) (v29 : BitVec 32) (v46 : BitVec 32) (v423 : BitVec 32) (v436 : BitVec 32) (v437 : BitVec 32) (v442 : BitVec 1) : iprop(Sig X Wt K c 7)
    ⊢ iprop((∀ r, Sig X Wt K c 8 -∗ Q r) -∗ Wp c (onArgs (k0_part13 (F := F)) c v19 v29 v46 barA v423 v436 v437 v442) Q) := by
  rw [k0_part13_eq_skeleton]; unfold k0_part13_skel
  simp only [semSignalWord, semWaitWord, Prog.lift, Prog.bind_op, Prog.bind_ret, Prog.pure_eq_ret]
  iintro HS Hk
  iapply (step_signal X Wt K c ⟨7, by decide⟩ _ (sdst7 c _) rfl) $$ HS
  iintro HS
  iapply (Wp_ret c)
  iapply Hk; iexact HS

theorem part14 {Q : (Σ' (_ : BitVec 32) (_ : BitVec 32) (_ : BitVec 32) (_ : BitVec 32), BitVec 1) → sProp 𝕄} (v46 : BitVec 32) (v69 : BitVec 32) (v480 : BitVec 32) : iprop(Sig X Wt K c 8)
    ⊢ iprop((∀ r, Sig X Wt K c 9 -∗ Q r) -∗ Wp c (onArgs (k0_part14 (F := F)) c v46 v69 barA v480) Q) := by
  rw [k0_part14_eq_skeleton]; unfold k0_part14_skel
  simp only [semSignalWord, semWaitWord, Prog.lift, Prog.bind_op, Prog.bind_ret, Prog.pure_eq_ret]
  iintro HS Hk
  iapply (step_signal X Wt K c ⟨8, by decide⟩ _ (sdst8 c _) rfl) $$ HS
  iintro HS
  iapply (Wp_ret c)
  iapply Hk; iexact HS

theorem part15 {Q : (BitVec 32) → sProp 𝕄} (v19 : BitVec 32) (v29 : BitVec 32) (v46 : BitVec 32) (v493 : BitVec 32) (v514 : BitVec 32) (c2_i32_300 : BitVec 32) (v515 : BitVec 32) (v516 : BitVec 1) : iprop(Sig X Wt K c 9)
    ⊢ iprop((∀ r, Sig X Wt K c 11 -∗ Q r) -∗ Wp c (onArgs (k0_part15 (F := F)) c v19 v29 v46 barA v493 v514 c2_i32_300 v515 v516) Q) := by
  rw [k0_part15_eq_skeleton]; unfold k0_part15_skel
  simp only [semSignalWord, semWaitWord, Prog.lift, Prog.bind_op, Prog.bind_ret, Prog.pure_eq_ret]
  iintro HS Hk
  iapply (step_signal X Wt K c ⟨9, by decide⟩ _ (sdst9 c _) rfl) $$ HS
  iintro HS
  iapply (step_signal X Wt K c ⟨10, by decide⟩ _ (sdst10 c _) rfl) $$ HS
  iintro HS
  iapply (Wp_ret c)
  iapply Hk; iexact HS

theorem part17 {Q : (Σ' (_ : BitVec 32), BitVec 32) → sProp 𝕄} (v19 : BitVec 32) (v29 : BitVec 32) (v46 : BitVec 32) (v69 : BitVec 32) (v563 : BitVec 32) (v584 : BitVec 32) (c2_i32_341 : BitVec 32) (v585 : BitVec 32) (v590 : BitVec 32) (c0_i32_344 : BitVec 32) : iprop(Sig X Wt K c 11)
    ⊢ iprop((∀ r, Sig X Wt K c 13 -∗ Q r) -∗ Wp c (onArgs (k0_part17 (F := F)) c v19 v29 v46 v69 barA v563 v584 c2_i32_341 v585 v590 c0_i32_344) Q) := by
  rw [k0_part17_eq_skeleton]; unfold k0_part17_skel
  simp only [semSignalWord, semWaitWord, Prog.lift, Prog.bind_op, Prog.bind_ret, Prog.pure_eq_ret]
  iintro HS Hk
  iapply (step_signal X Wt K c ⟨11, by decide⟩ _ (sdst11 c _) rfl) $$ HS
  iintro HS
  iapply (step_signal X Wt K c ⟨12, by decide⟩ _ (sdst12 c _) rfl) $$ HS
  iintro HS
  iapply (Wp_ret c)
  iapply Hk; iexact HS

theorem part19 {Q : (PUnit) → sProp 𝕄} (v46 : BitVec 32) (v80 : BitVec 32) (v118 : BitVec 32) (v633 : BitVec 32) (v654 : BitVec 32) (c2_i32_382 : BitVec 32) (v655 : BitVec 32) (v660 : BitVec 32) (v665 : BitVec 32) : iprop(Sig X Wt K c 13 ∗ cred (tallyAt (barCell c) () 14) ∗ atPos ER (barCell c) 0 ∅ 0 ∗ Pre c ∗ srcPts X Wt c (ii 0))
    ⊢ iprop((St X Wt K c 1 0 0 ∗ semVal (barCell c) 0 -∗ Q ⟨⟩) -∗ Wp c (onArgs (k0_part19 (F := F)) c v46 v80 v118 barA v633 v654 c2_i32_382 v655 v660 v665) Q) := by
  rw [k0_part19_eq_skeleton]; unfold k0_part19_skel
  simp only [semSignalWord, semWaitWord, Prog.lift, Prog.bind_op, Prog.bind_ret, Prog.pure_eq_ret]
  iintro ⟨HS, HC, HA, HP, H0⟩ Hk
  iapply (step_signal X Wt K c ⟨13, by decide⟩ _ (sdst13 c _) rfl) $$ HS
  iintro HS
  iapply (step_bar X Wt K c rfl) $$ [HS HC HA HP]
  · isplitl [HS]; · iexact HS
    isplitl [HC]; · iexact HC
    isplitl [HA] <;> iassumption
  iintro ⟨HS, HB⟩
  iapply (snd_A0 X Wt K c (ii 0) 0 0 0 (dst0 c _) (off1_eq c) rfl (ss5 _ 0 rfl _ rfl _) (rs6 _ _ 0 rfl _ rfl _)) $$ [HS H0]
  · isplitl [HS] <;> first | iexact HS | iexact H0
  iintro HS
  iapply (Wp_ret c)
  iapply Hk; isplitl [HS]; · iexact HS
  iexact HB

end Cert.KernelIdeal.Ring
-- ==== Proof.Body2.lean ====
/- The end of the kernel's sums and the sending of the two exchanges, one printed piece of it after another. -/
module

public import proofs.«01_k».proof.Proof.Body1

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

variable (c : Dev nD)

/-- Offsets and semaphores of the exchanges, by how much further the other device is. -/
theorem off11_w (e : ℕ) {w : BitVec 32} (hw : w = BitVec.ofNat 32 e) (he : 1 ≤ e ∧ e < 8 := by decide) : k0_off11 c w = ![2, 32 * ((jj c + e) % 8), 0] := by
  subst hw
  obtain ⟨d, rfl⟩ := Nat.exists_eq_add_of_le he.1
  exact off11_eq ⟨d, by omega⟩ c
theorem off17_w (e : ℕ) {w : BitVec 32} (hw : w = BitVec.ofNat 32 e) (he : 1 ≤ e ∧ e < 8 := by decide) : k0_off17 c w = ![2, rowB (yy c) ((mm c + e) % 8), 0] := by
  subst hw
  obtain ⟨d, rfl⟩ := Nat.exists_eq_add_of_le he.1
  exact off17_eq ⟨d, by omega⟩ c
theorem sqA (i : Fin 32) (h : 18 ≤ i.val ∧ i.val < 25 := by decide) {inb} :
    ((cc0_scratch10.slice (Rect.unit (s := S8) (k0_off9 c) S1.size inb)).squeeze S_ squeezes_S1_S_).sem = rsem (dst i c) i :=
  rs10 (dst i c) i (jj c) (rsemN_DA c i h) _ (off9_eq c) inb
theorem sqB (i : Fin 32) (h : 25 ≤ i.val := by decide) {inb} :
    ((cc0_scratch12.slice (Rect.unit (s := S8) (k0_off15 c) S1.size inb)).squeeze S_ squeezes_S1_S_).sem = rsem (dst i c) i :=
  rs12 (dst i c) i (mm c) (rsemN_DB c i h) _ (off15_eq c) inb

theorem dev_self : dev (zz c) (jj c) = c := by revert c; decide
theorem devY_self : devY (yy c) (mm c) = c := by revert c; decide

/-- Rows stored as one layer, without it: element by element. -/
theorem drop3 (v : Vec F S1x32x512 .f32) (y : S32x512.Idx) :
    k0_pay21 v y = v (ix3 (n0 := 1) (n1 := 32) (n2 := 512) (⟨0, Nat.one_pos⟩ : Fin 1) (y (0 : Fin 2)) (y (1 : Fin 2))) := by
  have e0 : k0_pay21 v = shapeCast S32x512 v shapeCasts_S1x32x512_S32x512 := shapeCast_self _ _
  rw [e0]
  refine (shapeCast_dropUnit_apply ![32, 512] v shapeCasts_S1x32x512_S32x512 y).trans (congrArg v ?_)
  funext a
  match a with
  | ⟨0, _⟩ => rfl
  | ⟨1, _⟩ => rfl
  | ⟨2, _⟩ => rfl

/-- Stored rows are the device's own of what it collects. -/
def isXA (v : FVec F S32x512 .f32) : Prop := ∀ (off : Fin 2 → ℕ) (inb), off = ![32 * jj c, 0] →
  ∀ y, v y = bGatA X Wt c ((Rect.unit (s := S256x512) off S32x512.size inb).emb y)
def isXB (v : FVec F S32x512 .f32) : Prop := ∀ (off : Fin 2 → ℕ) (inb), off = ![32 * mm c, 0] →
  ∀ y, v y = bGatB X Wt c ((Rect.unit (s := S256x512) off S32x512.size inb).emb y)

theorem isXA_row {off : Fin 3 → ℕ} {inb} (hoff : off = ![2, 32 * jj c, 0]) :
    isXA X Wt c (k0_pay21 ((Memref.whole cc0_scratch1).view.readAt (Elt F) (Rect.unit (s := S3x256x512) off S1x32x512.size inb).toLoadRect (bAccA X Wt c))) := by
  intro o i ho y
  subst hoff ho
  have y0 : (y (0 : Fin 2)).val < 32 := (y (0 : Fin 2)).isLt
  rw [drop3]
  show accA X Wt (2 + 1 * 0) c (32 * jj c + 1 * (y (0 : Fin 2)).val) (0 + 1 * (y (1 : Fin 2)).val)
    = gatA X Wt c (32 * jj c + 1 * (y (0 : Fin 2)).val) (0 + 1 * (y (1 : Fin 2)).val)
  simp only [Nat.mul_zero, Nat.add_zero, Nat.zero_add, Nat.one_mul]
  unfold gatA
  rw [show (32 * jj c + (y (0 : Fin 2)).val) / 32 = jj c from by omega, show (32 * jj c + (y (0 : Fin 2)).val) % 32 = (y (0 : Fin 2)).val from by omega, dev_self]
theorem isXB_row {off : Fin 3 → ℕ} {inb} (hoff : off = ![2, rowB (yy c) (mm c), 0]) :
    isXB X Wt c (k0_pay27 ((Memref.whole cc0_scratch2).view.readAt (Elt F) (Rect.unit (s := S3x256x512) off S1x32x512.size inb).toLoadRect (bAccB X Wt c))) := by
  intro o i ho y
  subst hoff ho
  have y0 : (y (0 : Fin 2)).val < 32 := (y (0 : Fin 2)).isLt
  refine (drop3 _ y).trans ?_
  show accB X Wt (2 + 1 * 0) c (rowB (yy c) (mm c) + 1 * (y (0 : Fin 2)).val) (0 + 1 * (y (1 : Fin 2)).val)
    = gatB X Wt c (32 * mm c + 1 * (y (0 : Fin 2)).val) (0 + 1 * (y (1 : Fin 2)).val)
  simp only [Nat.mul_zero, Nat.add_zero, Nat.zero_add, Nat.one_mul]
  unfold gatB
  rw [show (32 * mm c + (y (0 : Fin 2)).val) / 32 = mm c from by omega, show (32 * mm c + (y (0 : Fin 2)).val) % 32 = (y (0 : Fin 2)).val from by omega, devY_self]

section
variable {α : Type}

/-- Loads of the device's own summed rows, and the load and the store of its rows of what it collects. -/
theorem ldRA {Q : α → sProp 𝕄} {off : Fin 3 → ℕ} {inb} (hoff : off = ![2, 32 * jj c, 0]) {w1} {k : Vec F S1x32x512 .f32 → Prog (TpuEff nD τ sig (Elt F) Λ₀ .tc) α} :
    (locA c ↦[row3 (32 * jj c)]{fullShare} bAccA X Wt c : sProp 𝕄)
    ⊢ iprop(((locA c ↦[row3 (32 * jj c)]{fullShare} bAccA X Wt c) -∗ Wp c (k ((Memref.whole cc0_scratch1).view.readAt (Elt F) (Rect.unit (s := S3x256x512) off S1x32x512.size inb).toLoadRect (bAccA X Wt c))) Q)
      -∗ Wp c (.op (.load (Memref.whole cc0_scratch1) (Rect.unit (s := S3x256x512) off S1x32x512.size inb).toLoadRect w1) k) Q) := by
  subst hoff
  exact ld c 4 rfl (row3 (32 * jj c)) (bAccA X Wt c) ![2, 32 * jj c, 0] S1x32x512.size inb w1 (Finset.Subset.refl _)
theorem ldRB {Q : α → sProp 𝕄} {off : Fin 3 → ℕ} {inb} (hoff : off = ![2, rowB (yy c) (mm c), 0]) {w1} {k : Vec F S1x32x512 .f32 → Prog (TpuEff nD τ sig (Elt F) Λ₀ .tc) α} :
    (locB c ↦[row3 (rowB (yy c) (mm c))]{fullShare} bAccB X Wt c : sProp 𝕄)
    ⊢ iprop(((locB c ↦[row3 (rowB (yy c) (mm c))]{fullShare} bAccB X Wt c) -∗ Wp c (k ((Memref.whole cc0_scratch2).view.readAt (Elt F) (Rect.unit (s := S3x256x512) off S1x32x512.size inb).toLoadRect (bAccB X Wt c))) Q)
      -∗ Wp c (.op (.load (Memref.whole cc0_scratch2) (Rect.unit (s := S3x256x512) off S1x32x512.size inb).toLoadRect w1) k) Q) := by
  subst hoff
  exact ld c 5 rfl (row3 (rowB (yy c) (mm c))) (bAccB X Wt c) ![2, rowB (yy c) (mm c), 0] S1x32x512.size inb w1 (Finset.Subset.refl _)
theorem ldXA {Q : α → sProp 𝕄} (f : Buf (Elt F) (locXA c)) {off : Fin 2 → ℕ} {inb} (hoff : off = ![32 * jj c, 0]) {w1} {k : Vec F S32x512 .f32 → Prog (TpuEff nD τ sig (Elt F) Λ₀ .tc) α} :
    (locXA c ↦[row2 (32 * jj c)]{fullShare} f : sProp 𝕄)
    ⊢ iprop(((locXA c ↦[row2 (32 * jj c)]{fullShare} f) -∗ Wp c (k ((Memref.whole cc0_scratch3).view.readAt (Elt F) (Rect.unit (s := S256x512) off S32x512.size inb).toLoadRect f)) Q)
      -∗ Wp c (.op (.load (Memref.whole cc0_scratch3) (Rect.unit (s := S256x512) off S32x512.size inb).toLoadRect w1) k) Q) := by
  subst hoff
  exact ld c 6 rfl (row2 (32 * jj c)) f ![32 * jj c, 0] S32x512.size inb w1 (Finset.Subset.refl _)
theorem ldXB {Q : α → sProp 𝕄} (f : Buf (Elt F) (locXB c)) {off : Fin 2 → ℕ} {inb} (hoff : off = ![32 * mm c, 0]) {w1} {k : Vec F S32x512 .f32 → Prog (TpuEff nD τ sig (Elt F) Λ₀ .tc) α} :
    (locXB c ↦[row2 (32 * mm c)]{fullShare} f : sProp 𝕄)
    ⊢ iprop(((locXB c ↦[row2 (32 * mm c)]{fullShare} f) -∗ Wp c (k ((Memref.whole cc0_scratch4).view.readAt (Elt F) (Rect.unit (s := S256x512) off S32x512.size inb).toLoadRect f)) Q)
      -∗ Wp c (.op (.load (Memref.whole cc0_scratch4) (Rect.unit (s := S256x512) off S32x512.size inb).toLoadRect w1) k) Q) := by
  subst hoff
  exact ld c 7 rfl (row2 (32 * mm c)) f ![32 * mm c, 0] S32x512.size inb w1 (Finset.Subset.refl _)
theorem svXA {Q : α → sProp 𝕄} (f : Buf (Elt F) (locXA c)) {v : FVec F S32x512 .f32} (hv : isXA X Wt c v) {off : Fin 2 → ℕ} {inb} (hoff : off = ![32 * jj c, 0]) {w1} {w2}
    {k : PUnit → Prog (TpuEff nD τ sig (Elt F) Λ₀ .tc) α} : (locXA c ↦[row2 (32 * jj c)]{fullShare} f : sProp 𝕄)
    ⊢ iprop(((locXA c ↦[row2 (32 * jj c)]{fullShare} bGatA X Wt c) -∗ Wp c (k ⟨⟩) Q)
      -∗ Wp c (.op (.store (Memref.whole cc0_scratch3) (Rect.unit (s := S256x512) off S32x512.size inb) v Finset.univ w1 w2) k) Q) := by
  subst hoff
  exact sv c 6 rfl (row2 (32 * jj c)) f (bGatA X Wt c) ![32 * jj c, 0] S32x512.size inb v w1 w2 rfl (hv _ inb rfl)
theorem svXB {Q : α → sProp 𝕄} (f : Buf (Elt F) (locXB c)) {v : FVec F S32x512 .f32} (hv : isXB X Wt c v) {off : Fin 2 → ℕ} {inb} (hoff : off = ![32 * mm c, 0]) {w1} {w2}
    {k : PUnit → Prog (TpuEff nD τ sig (Elt F) Λ₀ .tc) α} : (locXB c ↦[row2 (32 * mm c)]{fullShare} f : sProp 𝕄)
    ⊢ iprop(((locXB c ↦[row2 (32 * mm c)]{fullShare} bGatB X Wt c) -∗ Wp c (k ⟨⟩) Q)
      -∗ Wp c (.op (.store (Memref.whole cc0_scratch4) (Rect.unit (s := S256x512) off S32x512.size inb) v Finset.univ w1 w2) k) Q) := by
  subst hoff
  exact sv c 7 rfl (row2 (32 * mm c)) f (bGatB X Wt c) ![32 * mm c, 0] S32x512.size inb v w1 w2 rfl (hv _ inb rfl)
end

theorem part38 {Q : (PUnit) → sProp 𝕄} (a b : BitVec 32) (v : FVec F S1x256x256 .f32) (hv : isA X Wt c 2 1 v) : iprop(St X Wt K c 18 14 14 ∗ aA X Wt c 2 0 ∗ lA X Wt c 2 1)
    ⊢ iprop((St X Wt K c 19 14 14 ∗ (locA c ↦[row3 (32 * jj c)]{fullShare} bAccA X Wt c) ∗ srcPts X Wt c (ii 19) ∗ srcPts X Wt c (ii 20) ∗ srcPts X Wt c (ii 21) ∗ srcPts X Wt c (ii 22) ∗ srcPts X Wt c (ii 23) ∗ srcPts X Wt c (ii 24) -∗ Q ⟨⟩) -∗ Wp c (onArgs (k0_part38 (F := F)) c a b v) Q) := by
  rw [k0_part38_eq_skeleton]; unfold k0_part38_skel
  simp only [Prog.lift, Prog.bind_op, Prog.bind_ret, Prog.pure_eq_ret]
  iintro ⟨HS, H0, HL⟩ Hk
  iapply (svA X Wt c 2 1 hv rfl) $$ HL
  iintro HL
  ihave HZ := (of_eq' (slotA_halves c (bAccA X Wt c)).symm) $$ [H0 HL]
  · isplitl [H0] <;> iassumption
  ihave HZ := (of_eq' (slotA_rows X Wt c)) $$ HZ
  icases HZ with ⟨HR, H18, H19, H20, H21, H22, H23, H24⟩
  iapply (snd_DA X Wt K c (ii 18) 1 14 14 (dst18 c _) (off11_w c 1 rfl) (off10_eq c) (ss9 _ 0 rfl _ rfl _) (sqA c (ii 18))) $$ [HS H18]
  · isplitl [HS]; · iexact HS
    iexact H18
  iintro HS
  iapply (Wp_ret c)
  iapply Hk; isplitl [HS]; · iexact HS
  isplitl [HR]; · iexact HR
  isplitl [H19]; · iexact H19
  isplitl [H20]; · iexact H20
  isplitl [H21]; · iexact H21
  isplitl [H22]; · iexact H22
  isplitl [H23]; · iexact H23
  iexact H24

theorem part39 {Q : (BitVec 32) → sProp 𝕄} (a0 a1 : BitVec 32) : iprop(St X Wt K c 19 14 14 ∗ srcPts X Wt c (ii 19))
    ⊢ iprop((∀ r, St X Wt K c 20 14 14 -∗ Q r) -∗ Wp c (onArgs (k0_part39 (F := F)) c a0 a1) Q) := by
  rw [k0_part39_eq_skeleton]; unfold k0_part39_skel
  simp only [Prog.lift, Prog.bind_op, Prog.bind_ret, Prog.pure_eq_ret]
  iintro ⟨HS, H⟩ Hk
  iapply (snd_DA X Wt K c (ii 19) 2 14 14 (dst19 c _) (off11_w c 2 rfl) (off10_eq c) (ss9 _ 1 rfl _ rfl _) (sqA c (ii 19))) $$ [HS H]
  · isplitl [HS]; · iexact HS
    iexact H
  iintro HS
  iapply (Wp_ret c)
  iapply Hk; iexact HS

theorem part40 {Q : (BitVec 32) → sProp 𝕄} (a0 a1 a2 : BitVec 32) : iprop(St X Wt K c 20 14 14 ∗ srcPts X Wt c (ii 20))
    ⊢ iprop((∀ r, St X Wt K c 21 14 14 -∗ Q r) -∗ Wp c (onArgs (k0_part40 (F := F)) c a0 a1 a2) Q) := by
  rw [k0_part40_eq_skeleton]; unfold k0_part40_skel
  simp only [Prog.lift, Prog.bind_op, Prog.bind_ret, Prog.pure_eq_ret]
  iintro ⟨HS, H⟩ Hk
  iapply (snd_DA X Wt K c (ii 20) 3 14 14 (dst20 c _) (off11_w c 3 rfl) (off10_eq c) (ss9 _ 2 rfl _ rfl _) (sqA c (ii 20))) $$ [HS H]
  · isplitl [HS]; · iexact HS
    iexact H
  iintro HS
  iapply (Wp_ret c)
  iapply Hk; iexact HS

theorem part41 {Q : (Σ' (_ : BitVec 32), BitVec 32) → sProp 𝕄} (a0 a1 a2 : BitVec 32) : iprop(St X Wt K c 21 14 14 ∗ srcPts X Wt c (ii 21))
    ⊢ iprop((∀ r, St X Wt K c 22 14 14 -∗ Q r) -∗ Wp c (onArgs (k0_part41 (F := F)) c a0 a1 a2) Q) := by
  rw [k0_part41_eq_skeleton]; unfold k0_part41_skel
  simp only [Prog.lift, Prog.bind_op, Prog.bind_ret, Prog.pure_eq_ret]
  iintro ⟨HS, H⟩ Hk
  iapply (snd_DA X Wt K c (ii 21) 4 14 14 (dst21 c _) (off11_w c 4 rfl) (off10_eq c) (ss9 _ 3 rfl _ rfl _) (sqA c (ii 21))) $$ [HS H]
  · isplitl [HS]; · iexact HS
    iexact H
  iintro HS
  iapply (Wp_ret c)
  iapply Hk; iexact HS

theorem part42 {Q : (Σ' (_ : BitVec 32) (_ : BitVec 32), BitVec 32) → sProp 𝕄} (a0 a1 a2 a3 : BitVec 32) : iprop(St X Wt K c 22 14 14 ∗ srcPts X Wt c (ii 22))
    ⊢ iprop((∀ r, St X Wt K c 23 14 14 -∗ Q r) -∗ Wp c (onArgs (k0_part42 (F := F)) c a0 a1 a2 a3) Q) := by
  rw [k0_part42_eq_skeleton]; unfold k0_part42_skel
  simp only [Prog.lift, Prog.bind_op, Prog.bind_ret, Prog.pure_eq_ret]
  iintro ⟨HS, H⟩ Hk
  iapply (snd_DA X Wt K c (ii 22) 5 14 14 (dst22 c _) (off11_w c 5 rfl) (off10_eq c) (ss9 _ 4 rfl _ rfl _) (sqA c (ii 22))) $$ [HS H]
  · isplitl [HS]; · iexact HS
    iexact H
  iintro HS
  iapply (Wp_ret c)
  iapply Hk; iexact HS

theorem part43 {Q : (Σ' (_ : BitVec 32) (_ : BitVec 32), BitVec 1) → sProp 𝕄} (a0 a1 a2 a3 a4 : BitVec 32) : iprop(St X Wt K c 23 14 14 ∗ srcPts X Wt c (ii 23))
    ⊢ iprop((∀ r, St X Wt K c 24 14 14 -∗ Q r) -∗ Wp c (onArgs (k0_part43 (F := F)) c a0 a1 a2 a3 a4) Q) := by
  rw [k0_part43_eq_skeleton]; unfold k0_part43_skel
  simp only [Prog.lift, Prog.bind_op, Prog.bind_ret, Prog.pure_eq_ret]
  iintro ⟨HS, H⟩ Hk
  iapply (snd_DA X Wt K c (ii 23) 6 14 14 (dst23 c _) (off11_w c 6 rfl) (off10_eq c) (ss9 _ 5 rfl _ rfl _) (sqA c (ii 23))) $$ [HS H]
  · isplitl [HS]; · iexact HS
    iexact H
  iintro HS
  iapply (Wp_ret c)
  iapply Hk; iexact HS

theorem part44 {Q : (Vec F S1x32x512 .f32) → sProp 𝕄} (a0 a1 a2 a3 : BitVec 32) (b : BitVec 1) : iprop(St X Wt K c 24 14 14 ∗ srcPts X Wt c (ii 24) ∗ (locA c ↦[row3 (32 * jj c)]{fullShare} bAccA X Wt c))
    ⊢ iprop((∀ r, ⌜isXA X Wt c (k0_pay21 r)⌝ ∗ St X Wt K c 25 14 14 ∗ (locA c ↦[row3 (32 * jj c)]{fullShare} bAccA X Wt c) -∗ Q r) -∗ Wp c (onArgs (k0_part44 (F := F)) c a0 a1 a2 a3 b) Q) := by
  rw [k0_part44_eq_skeleton]; unfold k0_part44_skel
  simp only [Prog.lift, Prog.bind_op, Prog.bind_ret, Prog.pure_eq_ret]
  iintro ⟨HS, H, HR⟩ Hk
  iapply (snd_DA X Wt K c (ii 24) 7 14 14 (dst24 c _) (off11_w c 7 rfl) (off10_eq c) (ss9 _ 6 rfl _ rfl _) (sqA c (ii 24))) $$ [HS H]
  · isplitl [HS]; · iexact HS
    iexact H
  iintro HS
  iapply (ldRA X Wt c (off12_eq c)) $$ HR
  iintro HR
  iapply (Wp_ret c)
  iapply Hk
  isplitr; · ipureintro; exact isXA_row X Wt c (off12_eq c)
  isplitl [HS]; · iexact HS
  iexact HR

theorem part45 {Q : (FVec F S64x512 .f32) → sProp 𝕄} (f : Buf (Elt F) (locXA c)) (a0 a1 a2 : BitVec 32) (v : Vec F S1x32x512 .f32) (hv : isXA X Wt c (k0_pay21 v)) : iprop(St X Wt K c 25 14 14 ∗ (locXA c ↦[row2 (32 * jj c)]{fullShare} f) ∗ PRp X Wt c)
    ⊢ iprop((∀ r, ⌜isB X Wt c 2 0 (k0_pay23 r)⌝ ∗ St X Wt K c 25 15 15 ∗ (locXA c ↦[row2 (32 * jj c)]{fullShare} bGatA X Wt c) ∗ PRp X Wt c ∗ lB X Wt c 2 0 -∗ Q r) -∗ Wp c (onArgs (k0_part45 (F := F)) c a0 a1 a2 v) Q) := by
  rw [k0_part45_eq_skeleton]; unfold k0_part45_skel
  simp only [Prog.lift, Prog.bind_op, Prog.bind_ret, Prog.pure_eq_ret]
  iintro ⟨HS, HA, HP⟩ Hk
  iapply (ldXA c f (off13_eq c)) $$ HA
  iintro HA
  iapply (svXA X Wt c f hv (off13_eq c)) $$ HA
  iintro HA
  iapply (sent_B X Wt K c (ii 14) 2 0 25 14 (ss7 _ 8 rfl _ rfl _)) $$ HS
  iintro HS
  iapply (recv_B X Wt K c (ii 14) 2 0 25 15 (rs8 c _ 8 rfl _ rfl _)) $$ HS
  iintro ⟨HS, HL⟩
  iapply (ldB X Wt c 2 0 rfl) $$ HL
  iintro HL
  iapply (ldPR X Wt c 2 0 (off14_0 c)) $$ HP
  iintro HP
  iapply (Wp_ret c)
  iapply Hk
  isplitr; · ipureintro; exact isB_sum X Wt c 2 0 (pay := fun v1 v2 => k0_pay23 (k0_pay22 v1 v2)) pay_B rfl (off14_0 c)
  isplitl [HS]; · iexact HS
  isplitl [HA]; · iexact HA
  isplitl [HP]; · iexact HP
  iexact HL

theorem part46 {Q : (PUnit) → sProp 𝕄} (a0 a1 : BitVec 32) (v : FVec F S64x512 .f32) (hv : isB X Wt c 2 0 (k0_pay23 v)) : iprop(St X Wt K c 25 15 15 ∗ lB X Wt c 2 0 ∗ PRp X Wt c)
    ⊢ iprop((St X Wt K c 25 16 16 ∗ PRp X Wt c ∗ aB X Wt c 2 0 ∗ aB X Wt c 2 1 -∗ Q ⟨⟩) -∗ Wp c (onArgs (k0_part46 (F := F)) c a0 a1 v) Q) := by
  rw [k0_part46_eq_skeleton]; unfold k0_part46_skel
  simp only [Prog.lift, Prog.bind_op, Prog.bind_ret, Prog.pure_eq_ret]
  iintro ⟨HS, H0, HP⟩ Hk
  iapply (ldB X Wt c 2 0 rfl) $$ H0
  iintro H0
  iapply (svB X Wt c 2 0 hv rfl) $$ H0
  iintro H0
  iapply (sent_B X Wt K c (ii 15) 2 1 25 15 (ss7 _ 9 rfl _ rfl _)) $$ HS
  iintro HS
  iapply (recv_B X Wt K c (ii 15) 2 1 25 16 (rs8 c _ 9 rfl _ rfl _)) $$ HS
  iintro ⟨HS, HL⟩
  iapply (sum_B X Wt c 2 1 k0_pay24 pay_B rfl (off14_1 c)) $$ [HL HP]
  · isplitl [HL] <;> iassumption
  iintro ⟨HL, HP⟩
  iapply (Wp_ret c)
  iapply Hk; isplitl [HS]; · iexact HS
  isplitl [HP]; · iexact HP
  isplitl [H0]; · iexact H0
  iexact HL

theorem part47 {Q : (PUnit) → sProp 𝕄} (a0 a1 : BitVec 32) : iprop(St X Wt K c 25 16 16 ∗ PRp X Wt c)
    ⊢ iprop((St X Wt K c 25 17 17 ∗ PRp X Wt c ∗ aB X Wt c 2 2 -∗ Q ⟨⟩) -∗ Wp c (onArgs (k0_part47 (F := F)) c a0 a1) Q) := by
  rw [k0_part47_eq_skeleton]; unfold k0_part47_skel
  simp only [Prog.lift, Prog.bind_op, Prog.bind_ret, Prog.pure_eq_ret]
  iintro ⟨HS, HP⟩ Hk
  iapply (sent_B X Wt K c (ii 16) 2 2 25 16 (ss7 _ 10 rfl _ rfl _)) $$ HS
  iintro HS
  iapply (recv_B X Wt K c (ii 16) 2 2 25 17 (rs8 c _ 10 rfl _ rfl _)) $$ HS
  iintro ⟨HS, HL⟩
  iapply (sum_B X Wt c 2 2 k0_pay25 pay_B rfl (off14_2 c)) $$ [HL HP]
  · isplitl [HL] <;> iassumption
  iintro ⟨HL, HP⟩
  iapply (Wp_ret c)
  iapply Hk; isplitl [HS]; · iexact HS
  isplitl [HP]; · iexact HP
  iexact HL

theorem part48 {Q : (Σ' (_ : BitVec 32) (_ : BitVec 32) (_ : BitVec 1), BitVec 32) → sProp 𝕄} (a0 a1 a2 : BitVec 32) : iprop(St X Wt K c 25 17 17 ∗ PRp X Wt c)
    ⊢ iprop((∀ r, St X Wt K c 25 18 18 ∗ PRp X Wt c ∗ aB X Wt c 2 3 -∗ Q r) -∗ Wp c (onArgs (k0_part48 (F := F)) c a0 a1 a2) Q) := by
  rw [k0_part48_eq_skeleton]; unfold k0_part48_skel
  simp only [Prog.lift, Prog.bind_op, Prog.bind_ret, Prog.pure_eq_ret]
  iintro ⟨HS, HP⟩ Hk
  iapply (sent_B X Wt K c (ii 17) 2 3 25 17 (ss7 _ 11 rfl _ rfl _)) $$ HS
  iintro HS
  iapply (recv_B X Wt K c (ii 17) 2 3 25 18 (rs8 c _ 11 rfl _ rfl _)) $$ HS
  iintro ⟨HS, HL⟩
  iapply (sum_B X Wt c 2 3 k0_pay26 pay_B rfl (off14_3 c)) $$ [HL HP]
  · isplitl [HL] <;> iassumption
  iintro ⟨HL, HP⟩
  iapply (Wp_ret c)
  iapply Hk; isplitl [HS]; · iexact HS
  isplitl [HP]; · iexact HP
  iexact HL

theorem part50 {Q : (Σ' (_ : BitVec 32) (_ : BitVec 32) (_ : BitVec 32), BitVec 32) → sProp 𝕄} (a0 a1 a2 a3 a4 : BitVec 32) (b0 b1 b2 : BitVec 1) : iprop(St X Wt K c 25 18 18 ∗ srcPts X Wt c (ii 25))
    ⊢ iprop((∀ r, St X Wt K c 26 18 18 -∗ Q r) -∗ Wp c (onArgs (k0_part50 (F := F)) c a0 a1 a2 a3 a4 b0 b1 b2) Q) := by
  rw [k0_part50_eq_skeleton]; unfold k0_part50_skel
  simp only [Prog.lift, Prog.bind_op, Prog.bind_ret, Prog.pure_eq_ret]
  iintro ⟨HS, H⟩ Hk
  iapply (snd_DB X Wt K c (ii 25) 1 18 18 (dst25 c _) (off17_w c 1 rfl) (off16_eq c) (ss11 _ 0 rfl _ rfl _) (sqB c (ii 25))) $$ [HS H]
  · isplitl [HS]; · iexact HS
    iexact H
  iintro HS
  iapply (Wp_ret c)
  iapply Hk; iexact HS

theorem part52 {Q : (Σ' (_ : BitVec 32) (_ : BitVec 32), BitVec 32) → sProp 𝕄} (a0 a1 a2 : BitVec 32) : iprop(St X Wt K c 26 18 18 ∗ srcPts X Wt c (ii 26))
    ⊢ iprop((∀ r, St X Wt K c 27 18 18 -∗ Q r) -∗ Wp c (onArgs (k0_part52 (F := F)) c a0 a1 a2) Q) := by
  rw [k0_part52_eq_skeleton]; unfold k0_part52_skel
  simp only [Prog.lift, Prog.bind_op, Prog.bind_ret, Prog.pure_eq_ret]
  iintro ⟨HS, H⟩ Hk
  iapply (snd_DB X Wt K c (ii 26) 2 18 18 (dst26 c _) (off17_w c 2 rfl) (off16_eq c) (ss11 _ 1 rfl _ rfl _) (sqB c (ii 26))) $$ [HS H]
  · isplitl [HS]; · iexact HS
    iexact H
  iintro HS
  iapply (Wp_ret c)
  iapply Hk; iexact HS

theorem part54 {Q : (Σ' (_ : BitVec 32), BitVec 32) → sProp 𝕄} (a0 a1 : BitVec 32) : iprop(St X Wt K c 27 18 18 ∗ srcPts X Wt c (ii 27))
    ⊢ iprop((∀ r, St X Wt K c 28 18 18 -∗ Q r) -∗ Wp c (onArgs (k0_part54 (F := F)) c a0 a1) Q) := by
  rw [k0_part54_eq_skeleton]; unfold k0_part54_skel
  simp only [Prog.lift, Prog.bind_op, Prog.bind_ret, Prog.pure_eq_ret]
  iintro ⟨HS, H⟩ Hk
  iapply (snd_DB X Wt K c (ii 27) 3 18 18 (dst27 c _) (off17_w c 3 rfl) (off16_eq c) (ss11 _ 2 rfl _ rfl _) (sqB c (ii 27))) $$ [HS H]
  · isplitl [HS]; · iexact HS
    iexact H
  iintro HS
  iapply (Wp_ret c)
  iapply Hk; iexact HS

theorem part55 {Q : (Σ' (_ : BitVec 32) (_ : BitVec 32) (_ : BitVec 1), BitVec 1) → sProp 𝕄} (a0 a1 a2 a3 : BitVec 32) : iprop(St X Wt K c 28 18 18 ∗ srcPts X Wt c (ii 28))
    ⊢ iprop((∀ r, St X Wt K c 29 18 18 -∗ Q r) -∗ Wp c (onArgs (k0_part55 (F := F)) c a0 a1 a2 a3) Q) := by
  rw [k0_part55_eq_skeleton]; unfold k0_part55_skel
  simp only [Prog.lift, Prog.bind_op, Prog.bind_ret, Prog.pure_eq_ret]
  iintro ⟨HS, H⟩ Hk
  iapply (snd_DB X Wt K c (ii 28) 4 18 18 (dst28 c _) (off17_w c 4 rfl) (off16_eq c) (ss11 _ 3 rfl _ rfl _) (sqB c (ii 28))) $$ [HS H]
  · isplitl [HS]; · iexact HS
    iexact H
  iintro HS
  iapply (Wp_ret c)
  iapply Hk; iexact HS

theorem part57 {Q : (Σ' (_ : BitVec 32) (_ : BitVec 32) (_ : BitVec 32) (_ : BitVec 32) (_ : BitVec 32), BitVec 32) → sProp 𝕄} (a0 a1 a2 a3 : BitVec 32) : iprop(St X Wt K c 29 18 18 ∗ srcPts X Wt c (ii 29))
    ⊢ iprop((∀ r, St X Wt K c 30 18 18 -∗ Q r) -∗ Wp c (onArgs (k0_part57 (F := F)) c a0 a1 a2 a3) Q) := by
  rw [k0_part57_eq_skeleton]; unfold k0_part57_skel
  simp only [Prog.lift, Prog.bind_op, Prog.bind_ret, Prog.pure_eq_ret]
  iintro ⟨HS, H⟩ Hk
  iapply (snd_DB X Wt K c (ii 29) 5 18 18 (dst29 c _) (off17_w c 5 rfl) (off16_eq c) (ss11 _ 4 rfl _ rfl _) (sqB c (ii 29))) $$ [HS H]
  · isplitl [HS]; · iexact HS
    iexact H
  iintro HS
  iapply (Wp_ret c)
  iapply Hk; iexact HS

theorem part59 {Q : (Σ' (_ : BitVec 32) (_ : BitVec 32), BitVec 32) → sProp 𝕄} (a0 a1 a2 : BitVec 32) : iprop(St X Wt K c 30 18 18 ∗ srcPts X Wt c (ii 30))
    ⊢ iprop((∀ r, St X Wt K c 31 18 18 -∗ Q r) -∗ Wp c (onArgs (k0_part59 (F := F)) c a0 a1 a2) Q) := by
  rw [k0_part59_eq_skeleton]; unfold k0_part59_skel
  simp only [Prog.lift, Prog.bind_op, Prog.bind_ret, Prog.pure_eq_ret]
  iintro ⟨HS, H⟩ Hk
  iapply (snd_DB X Wt K c (ii 30) 6 18 18 (dst30 c _) (off17_w c 6 rfl) (off16_eq c) (ss11 _ 5 rfl _ rfl _) (sqB c (ii 30))) $$ [HS H]
  · isplitl [HS]; · iexact HS
    iexact H
  iintro HS
  iapply (Wp_ret c)
  iapply Hk; iexact HS

theorem part60 {Q : (Σ' (_ : BitVec 32), BitVec 32) → sProp 𝕄} (a0 a1 a2 a3 a4 a5 : BitVec 32) : iprop(St X Wt K c 31 18 18 ∗ srcPts X Wt c (ii 31))
    ⊢ iprop((∀ r, St X Wt K c 32 18 18 -∗ Q r) -∗ Wp c (onArgs (k0_part60 (F := F)) c a0 a1 a2 a3 a4 a5) Q) := by
  rw [k0_part60_eq_skeleton]; unfold k0_part60_skel
  simp only [Prog.lift, Prog.bind_op, Prog.bind_ret, Prog.pure_eq_ret]
  iintro ⟨HS, H⟩ Hk
  iapply (snd_DB X Wt K c (ii 31) 7 18 18 (dst31 c _) (off17_w c 7 rfl) (off16_eq c) (ss11 _ 6 rfl _ rfl _) (sqB c (ii 31))) $$ [HS H]
  · isplitl [HS]; · iexact HS
    iexact H
  iintro HS
  iapply (Wp_ret c)
  iapply Hk; iexact HS

end Cert.KernelIdeal.Ring
-- ==== Proof.Body3.lean ====
/- The end of the kernel: the collected rows, their sums and the result, one printed piece of it after another. -/
module

public import proofs.«01_k».proof.Proof.Body2

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

variable (c : Dev nD)

/-- The semaphores the rows of the exchanges raise here, by how much further the device they come from is. -/
theorem rqA (i : Fin 32) (e : ℕ) (hi : i.val = 17 + e := by rfl) (he : 1 ≤ e ∧ e < 8 := by decide) {w : BitVec 32} (hw : w = BitVec.ofNat 32 e := by rfl) {inb} :
    ((cc0_scratch10.slice (Rect.unit (s := S8) (k0_off20 c w) S1.size inb)).squeeze S_ squeezes_S1_S_).sem = rsem c i := by
  subst hw
  obtain ⟨d, rfl⟩ := Nat.exists_eq_add_of_le he.1
  refine rs10 c i ((jj c + (7 - d)) % 8) ?_ _ (off20_eq ⟨d, by omega⟩ c) inb
  rw [rsemN_RA c i (by omega), hi]
  congr 3; omega
theorem rqB (i : Fin 32) (e : ℕ) (hi : i.val = 24 + e := by rfl) (he : 1 ≤ e ∧ e < 8 := by decide) {w : BitVec 32} (hw : w = BitVec.ofNat 32 e := by rfl) {inb} :
    ((cc0_scratch12.slice (Rect.unit (s := S8) (k0_off22 c w) S1.size inb)).squeeze S_ squeezes_S1_S_).sem = rsem c i := by
  subst hw
  obtain ⟨d, rfl⟩ := Nat.exists_eq_add_of_le he.1
  refine rs12 c i ((mm c + (7 - d)) % 8) ?_ _ (off22_eq ⟨d, by omega⟩ c) inb
  rw [rsemN_RB c i (by omega), hi]
  congr 3; omega

/-- Block `t` of what a device has collected, in its layer and in its row across the layers. -/
def gA (t : ℕ) : Vec F S32x512 .f32 := fun y => gatA X Wt c (32 * t + (y (0 : Fin 2)).val) (y (1 : Fin 2)).val
def gB (t : ℕ) : Vec F S32x512 .f32 := fun y => gatB X Wt c (32 * t + (y (0 : Fin 2)).val) (y (1 : Fin 2)).val

theorem read_gA (t : ℕ) (off : Fin 2 → ℕ) (inb) (hoff : off = ![32 * t, 0]) :
    (Memref.whole cc0_scratch3).view.readAt (Elt F) (Rect.unit (s := S256x512) off S32x512.size inb).toLoadRect (bGatA X Wt c) = gA X Wt c t := by
  subst hoff
  funext y
  show gatA X Wt c (32 * t + 1 * (y (0 : Fin 2)).val) (0 + 1 * (y (1 : Fin 2)).val) = gatA X Wt c (32 * t + (y (0 : Fin 2)).val) (y (1 : Fin 2)).val
  simp only [Nat.zero_add, Nat.one_mul]
theorem read_gB (t : ℕ) (off : Fin 2 → ℕ) (inb) (hoff : off = ![32 * t, 0]) :
    (Memref.whole cc0_scratch4).view.readAt (Elt F) (Rect.unit (s := S256x512) off S32x512.size inb).toLoadRect (bGatB X Wt c) = gB X Wt c t := by
  subst hoff
  funext y
  show gatB X Wt c (32 * t + 1 * (y (0 : Fin 2)).val) (0 + 1 * (y (1 : Fin 2)).val) = gatB X Wt c (32 * t + (y (0 : Fin 2)).val) (y (1 : Fin 2)).val
  simp only [Nat.zero_add, Nat.one_mul]

/-- The left half and the right half of a device's rows of the result. -/
def outA : FVec F S32x512 .f32 := k0_pay32 (gA X Wt c 0) (gA X Wt c 1) (gA X Wt c 2) (gA X Wt c 3) (gA X Wt c 4) (gA X Wt c 5) (gA X Wt c 6) (gA X Wt c 7)
def outB : FVec F S32x512 .f32 := k0_pay32 (gB X Wt c 0) (gB X Wt c 1) (gB X Wt c 2) (gB X Wt c 3) (gB X Wt c 4) (gB X Wt c 5) (gB X Wt c 6) (gB X Wt c 7)
/-- A device's rows of the result. -/
def bOut : (cc0_stg2_0 : Ref sig .tc).ty.Contents (Elt F) := fun i =>
  if (i (1 : Fin 2)).val < 512 then outA X Wt c (ix2 (n0 := 32) (n1 := 512) (Fin.ofNat 32 (i (0 : Fin 2)).val) (Fin.ofNat 512 (i (1 : Fin 2)).val))
  else outB X Wt c (ix2 (n0 := 32) (n1 := 512) (Fin.ofNat 32 (i (0 : Fin 2)).val) (Fin.ofNat 512 ((i (1 : Fin 2)).val - 512)))

theorem outA_read : k0_pay31 (k0_pay29 ((Memref.whole cc0_scratch3).view.readAt (Elt F) (Rect.unit (s := S256x512) ![0, 0] S32x512.size inb_S256x512_S32x512_0_0).toLoadRect (bGatA X Wt c)) ((Memref.whole cc0_scratch3).view.readAt (Elt F) (Rect.unit (s := S256x512) ![32, 0] S32x512.size inb_S256x512_S32x512_32_0).toLoadRect (bGatA X Wt c)) ((Memref.whole cc0_scratch3).view.readAt (Elt F) (Rect.unit (s := S256x512) ![64, 0] S32x512.size inb_S256x512_S32x512_64_0).toLoadRect (bGatA X Wt c)) ((Memref.whole cc0_scratch3).view.readAt (Elt F) (Rect.unit (s := S256x512) ![96, 0] S32x512.size inb_S256x512_S32x512_96_0).toLoadRect (bGatA X Wt c)) ((Memref.whole cc0_scratch3).view.readAt (Elt F) (Rect.unit (s := S256x512) ![128, 0] S32x512.size inb_S256x512_S32x512_128_0).toLoadRect (bGatA X Wt c)) ((Memref.whole cc0_scratch3).view.readAt (Elt F) (Rect.unit (s := S256x512) ![160, 0] S32x512.size inb_S256x512_S32x512_160_0).toLoadRect (bGatA X Wt c)) ((Memref.whole cc0_scratch3).view.readAt (Elt F) (Rect.unit (s := S256x512) ![192, 0] S32x512.size inb_S256x512_S32x512_192_0).toLoadRect (bGatA X Wt c)) ((Memref.whole cc0_scratch3).view.readAt (Elt F) (Rect.unit (s := S256x512) ![224, 0] S32x512.size inb_S256x512_S32x512_224_0).toLoadRect (bGatA X Wt c)))
    (k0_pay30 ((Memref.whole cc0_scratch3).view.readAt (Elt F) (Rect.unit (s := S256x512) ![0, 0] S32x512.size inb_S256x512_S32x512_0_0).toLoadRect (bGatA X Wt c)) ((Memref.whole cc0_scratch3).view.readAt (Elt F) (Rect.unit (s := S256x512) ![32, 0] S32x512.size inb_S256x512_S32x512_32_0).toLoadRect (bGatA X Wt c)) ((Memref.whole cc0_scratch3).view.readAt (Elt F) (Rect.unit (s := S256x512) ![64, 0] S32x512.size inb_S256x512_S32x512_64_0).toLoadRect (bGatA X Wt c)) ((Memref.whole cc0_scratch3).view.readAt (Elt F) (Rect.unit (s := S256x512) ![96, 0] S32x512.size inb_S256x512_S32x512_96_0).toLoadRect (bGatA X Wt c)) ((Memref.whole cc0_scratch3).view.readAt (Elt F) (Rect.unit (s := S256x512) ![128, 0] S32x512.size inb_S256x512_S32x512_128_0).toLoadRect (bGatA X Wt c)) ((Memref.whole cc0_scratch3).view.readAt (Elt F) (Rect.unit (s := S256x512) ![160, 0] S32x512.size inb_S256x512_S32x512_160_0).toLoadRect (bGatA X Wt c)) ((Memref.whole cc0_scratch3).view.readAt (Elt F) (Rect.unit (s := S256x512) ![192, 0] S32x512.size inb_S256x512_S32x512_192_0).toLoadRect (bGatA X Wt c)) ((Memref.whole cc0_scratch3).view.readAt (Elt F) (Rect.unit (s := S256x512) ![224, 0] S32x512.size inb_S256x512_S32x512_224_0).toLoadRect (bGatA X Wt c))) = outA X Wt c := by
  rw [read_gA X Wt c 0 _ _ rfl, read_gA X Wt c 1 _ _ rfl, read_gA X Wt c 2 _ _ rfl, read_gA X Wt c 3 _ _ rfl, read_gA X Wt c 4 _ _ rfl, read_gA X Wt c 5 _ _ rfl, read_gA X Wt c 6 _ _ rfl, read_gA X Wt c 7 _ _ rfl]
  rfl
theorem outB_read : k0_pay32 ((Memref.whole cc0_scratch4).view.readAt (Elt F) (Rect.unit (s := S256x512) ![0, 0] S32x512.size inb_S256x512_S32x512_0_0).toLoadRect (bGatB X Wt c)) ((Memref.whole cc0_scratch4).view.readAt (Elt F) (Rect.unit (s := S256x512) ![32, 0] S32x512.size inb_S256x512_S32x512_32_0).toLoadRect (bGatB X Wt c)) ((Memref.whole cc0_scratch4).view.readAt (Elt F) (Rect.unit (s := S256x512) ![64, 0] S32x512.size inb_S256x512_S32x512_64_0).toLoadRect (bGatB X Wt c)) ((Memref.whole cc0_scratch4).view.readAt (Elt F) (Rect.unit (s := S256x512) ![96, 0] S32x512.size inb_S256x512_S32x512_96_0).toLoadRect (bGatB X Wt c)) ((Memref.whole cc0_scratch4).view.readAt (Elt F) (Rect.unit (s := S256x512) ![128, 0] S32x512.size inb_S256x512_S32x512_128_0).toLoadRect (bGatB X Wt c)) ((Memref.whole cc0_scratch4).view.readAt (Elt F) (Rect.unit (s := S256x512) ![160, 0] S32x512.size inb_S256x512_S32x512_160_0).toLoadRect (bGatB X Wt c)) ((Memref.whole cc0_scratch4).view.readAt (Elt F) (Rect.unit (s := S256x512) ![192, 0] S32x512.size inb_S256x512_S32x512_192_0).toLoadRect (bGatB X Wt c)) ((Memref.whole cc0_scratch4).view.readAt (Elt F) (Rect.unit (s := S256x512) ![224, 0] S32x512.size inb_S256x512_S32x512_224_0).toLoadRect (bGatB X Wt c)) = outB X Wt c := by
  rw [read_gB X Wt c 0 _ _ rfl, read_gB X Wt c 1 _ _ rfl, read_gB X Wt c 2 _ _ rfl, read_gB X Wt c 3 _ _ rfl, read_gB X Wt c 4 _ _ rfl, read_gB X Wt c 5 _ _ rfl, read_gB X Wt c 6 _ _ rfl, read_gB X Wt c 7 _ _ rfl]
  rfl

theorem ix_self (y : S32x512.Idx) : ix2 (n0 := 32) (n1 := 512) (Fin.ofNat 32 (y (0 : Fin 2)).val) (Fin.ofNat 512 (y (1 : Fin 2)).val) = y := by
  have h0 : (y (0 : Fin 2)).val < 32 := (y (0 : Fin 2)).isLt
  have h1 : (y (1 : Fin 2)).val < 512 := (y (1 : Fin 2)).isLt
  funext a
  refine Fin.ext ?_
  match a with
  | ⟨0, _⟩ => exact Nat.mod_eq_of_lt h0
  | ⟨1, _⟩ => exact Nat.mod_eq_of_lt h1
theorem outA_at (y : S32x512.Idx) : outA X Wt c y = bOut X Wt c ((Rect.unit (s := S32x1024) ![0, 0] S32x512.size inb_S32x1024_S32x512_0_0).emb y) := by
  have h1 : (y (1 : Fin 2)).val < 512 := (y (1 : Fin 2)).isLt
  show _ = if 0 + 1 * (y (1 : Fin 2)).val < 512 then outA X Wt c (ix2 (n0 := 32) (n1 := 512) (Fin.ofNat 32 (0 + 1 * (y (0 : Fin 2)).val)) (Fin.ofNat 512 (0 + 1 * (y (1 : Fin 2)).val)))
    else outB X Wt c (ix2 (n0 := 32) (n1 := 512) (Fin.ofNat 32 (0 + 1 * (y (0 : Fin 2)).val)) (Fin.ofNat 512 (0 + 1 * (y (1 : Fin 2)).val - 512)))
  simp only [Nat.zero_add, Nat.one_mul]
  rw [if_pos h1, ix_self]
theorem outB_at (y : S32x512.Idx) : outB X Wt c y = bOut X Wt c ((Rect.unit (s := S32x1024) ![0, 512] S32x512.size inb_S32x1024_S32x512_0_512).emb y) := by
  show _ = if 512 + 1 * (y (1 : Fin 2)).val < 512 then outA X Wt c (ix2 (n0 := 32) (n1 := 512) (Fin.ofNat 32 (0 + 1 * (y (0 : Fin 2)).val)) (Fin.ofNat 512 (512 + 1 * (y (1 : Fin 2)).val)))
    else outB X Wt c (ix2 (n0 := 32) (n1 := 512) (Fin.ofNat 32 (0 + 1 * (y (0 : Fin 2)).val)) (Fin.ofNat 512 (512 + 1 * (y (1 : Fin 2)).val - 512)))
  simp only [Nat.zero_add, Nat.one_mul]
  rw [if_neg (by omega), Nat.add_sub_cancel_left, ix_self]

/-- The halves of the staged result. -/
def outL : Finset S32x1024.Idx := box (s := ⟨2, ![32, 1024]⟩) ![0, 0] ![32, 512]
def outR : Finset S32x1024.Idx := box (s := ⟨2, ![32, 1024]⟩) ![0, 512] ![32, 512]
theorem out_halves (f : Buf (Elt F) ((c : Thread nD τ).loc cc0_stg2_0)) :
    ((c : Thread nD τ).loc cc0_stg2_0 ↦[Finset.univ]{fullShare} f : sProp 𝕄)
      = iprop(((c : Thread nD τ).loc cc0_stg2_0 ↦[outL]{fullShare} f) ∗ ((c : Thread nD τ).loc cc0_stg2_0 ↦[outR]{fullShare} f)) := by
  have mL : ∀ x : S32x1024.Idx, x ∈ outL ↔ (x (1 : Fin 2)).val < 512 := by
    intro x
    have h0 : (x (0 : Fin 2)).val < 32 := (x (0 : Fin 2)).isLt
    exact mem_box2.trans (by
      show (0 ≤ (x (0 : Fin 2)).val ∧ (x (0 : Fin 2)).val < 0 + 32) ∧ (0 ≤ (x (1 : Fin 2)).val ∧ (x (1 : Fin 2)).val < 0 + 512) ↔ _
      omega)
  have mR : ∀ x : S32x1024.Idx, x ∈ outR ↔ 512 ≤ (x (1 : Fin 2)).val := by
    intro x
    have h0 : (x (0 : Fin 2)).val < 32 := (x (0 : Fin 2)).isLt
    have h1 : (x (1 : Fin 2)).val < 1024 := (x (1 : Fin 2)).isLt
    exact mem_box2.trans (by
      show (0 ≤ (x (0 : Fin 2)).val ∧ (x (0 : Fin 2)).val < 0 + 32) ∧ (512 ≤ (x (1 : Fin 2)).val ∧ (x (1 : Fin 2)).val < 512 + 512) ↔ _
      omega)
  rw [pts_fin (ℓ := (c : Thread nD τ).loc cc0_stg2_0) (fun q : Fin 2 => if q = 0 then outL else outR) Finset.univ f ?_ ?_, bigSep_univ_eq_bigSepL [0, 1] (by decide) (by decide)]
  · rfl
  · intro i j hij
    rw [Finset.disjoint_left]
    intro x hx hx'
    fin_cases i <;> fin_cases j <;> first
      | exact hij rfl
      | exact absurd ((mL x).mp hx) (Nat.not_lt.mpr ((mR x).mp hx'))
      | exact absurd ((mL x).mp hx') (Nat.not_lt.mpr ((mR x).mp hx))
  · intro x
    refine ⟨fun _ => ?_, fun _ => Finset.mem_univ _⟩
    by_cases h : (x (1 : Fin 2)).val < 512
    · exact ⟨0, (mL x).mpr h⟩
    · exact ⟨1, (mR x).mpr (Nat.not_lt.mp h)⟩

section
variable {α : Type}
/-- A load of collected rows. -/
theorem ldGA {Q : α → sProp 𝕄} (off : Fin 2 → ℕ) (inb) (w1) {k : Vec F S32x512 .f32 → Prog (TpuEff nD τ sig (Elt F) Λ₀ .tc) α} :
    (locXA c ↦[Finset.univ]{fullShare} bGatA X Wt c : sProp 𝕄)
    ⊢ iprop(((locXA c ↦[Finset.univ]{fullShare} bGatA X Wt c) -∗ Wp c (k ((Memref.whole cc0_scratch3).view.readAt (Elt F) (Rect.unit (s := S256x512) off S32x512.size inb).toLoadRect (bGatA X Wt c))) Q)
      -∗ Wp c (.op (.load (Memref.whole cc0_scratch3) (Rect.unit (s := S256x512) off S32x512.size inb).toLoadRect w1) k) Q) :=
  ld c 6 rfl Finset.univ (bGatA X Wt c) off S32x512.size inb w1 (Finset.subset_univ _)
theorem ldGB {Q : α → sProp 𝕄} (off : Fin 2 → ℕ) (inb) (w1) {k : Vec F S32x512 .f32 → Prog (TpuEff nD τ sig (Elt F) Λ₀ .tc) α} :
    (locXB c ↦[Finset.univ]{fullShare} bGatB X Wt c : sProp 𝕄)
    ⊢ iprop(((locXB c ↦[Finset.univ]{fullShare} bGatB X Wt c) -∗ Wp c (k ((Memref.whole cc0_scratch4).view.readAt (Elt F) (Rect.unit (s := S256x512) off S32x512.size inb).toLoadRect (bGatB X Wt c))) Q)
      -∗ Wp c (.op (.load (Memref.whole cc0_scratch4) (Rect.unit (s := S256x512) off S32x512.size inb).toLoadRect w1) k) Q) :=
  ld c 7 rfl Finset.univ (bGatB X Wt c) off S32x512.size inb w1 (Finset.subset_univ _)
end

theorem part61 {Q : (Σ' (_ : BitVec 32) (_ : BitVec 32) (_ : BitVec 1), BitVec 32) → sProp 𝕄} (f : Buf (Elt F) (locXB c)) (a0 a1 a2 a3 a4 a5 : BitVec 32) : iprop(St X Wt K c 32 18 18 ∗ (locB c ↦[row3 (rowB (yy c) (mm c))]{fullShare} bAccB X Wt c) ∗ (locXB c ↦[row2 (32 * mm c)]{fullShare} f))
    ⊢ iprop((∀ r, St X Wt K c 32 18 19 ∗ (locB c ↦[row3 (rowB (yy c) (mm c))]{fullShare} bAccB X Wt c) ∗ (locXB c ↦[row2 (32 * mm c)]{fullShare} bGatB X Wt c) ∗ landPts X Wt c (ii 18) -∗ Q r) -∗ Wp c (onArgs (k0_part61 (F := F)) c a0 a1 a2 a3 a4 a5) Q) := by
  rw [k0_part61_eq_skeleton]; unfold k0_part61_skel
  simp only [Prog.lift, Prog.bind_op, Prog.bind_ret, Prog.pure_eq_ret]
  iintro ⟨HS, HR, HB⟩ Hk
  iapply (ldRB X Wt c (off18_eq c)) $$ HR
  iintro HR
  iapply (ldXB c f (off19_eq c)) $$ HB
  iintro HB
  iapply (svXB X Wt c f (isXB_row X Wt c (off18_eq c)) (off19_eq c)) $$ HB
  iintro HB
  iapply (recv_D X Wt K c (ii 18) 32 18 (rqA c (ii 18) 1)) $$ HS
  iintro ⟨HS, H18⟩
  iapply (Wp_ret c)
  iapply Hk; isplitl [HS]; · iexact HS
  isplitl [HR]; · iexact HR
  isplitl [HB]; · iexact HB
  iexact H18

theorem part62 {Q : (Σ' (_ : BitVec 32), BitVec 32) → sProp 𝕄} (a0 a1 a2 a3 : BitVec 32) (b : BitVec 1) (a4 : BitVec 32) : iprop(St X Wt K c 32 18 19)
    ⊢ iprop((∀ r, St X Wt K c 32 18 21 ∗ landPts X Wt c (ii 19) ∗ landPts X Wt c (ii 20) -∗ Q r) -∗ Wp c (onArgs (k0_part62 (F := F)) c a0 a1 a2 a3 b a4) Q) := by
  rw [k0_part62_eq_skeleton]; unfold k0_part62_skel
  simp only [Prog.lift, Prog.bind_op, Prog.bind_ret, Prog.pure_eq_ret]
  iintro HS Hk
  iapply (recv_D X Wt K c (ii 19) 32 18 (rqA c (ii 19) 2)) $$ HS
  iintro ⟨HS, H19⟩
  iapply (recv_D X Wt K c (ii 20) 32 18 (rqA c (ii 20) 3)) $$ HS
  iintro ⟨HS, H20⟩
  iapply (Wp_ret c)
  iapply Hk; isplitl [HS]; · iexact HS
  isplitl [H19]; · iexact H19
  iexact H20

theorem part63 {Q : (PUnit) → sProp 𝕄} (a0 a1 a2 a3 : BitVec 32) : iprop(St X Wt K c 32 18 21)
    ⊢ iprop((St X Wt K c 32 18 22 ∗ landPts X Wt c (ii 21) -∗ Q ⟨⟩) -∗ Wp c (onArgs (k0_part63 (F := F)) c a0 a1 a2 a3) Q) := by
  rw [k0_part63_eq_skeleton]; unfold k0_part63_skel
  simp only [Prog.lift, Prog.bind_op, Prog.bind_ret, Prog.pure_eq_ret]
  iintro HS Hk
  iapply (recv_D X Wt K c (ii 21) 32 18 (rqA c (ii 21) 4)) $$ HS
  iintro ⟨HS, H21⟩
  iapply (Wp_ret c)
  iapply Hk; isplitl [HS]; · iexact HS
  iexact H21

theorem part64 {Q : (Σ' (_ : BitVec 32), BitVec 32) → sProp 𝕄} (a0 a1 : BitVec 32) : iprop(St X Wt K c 32 18 22)
    ⊢ iprop((∀ r, St X Wt K c 32 18 24 ∗ landPts X Wt c (ii 22) ∗ landPts X Wt c (ii 23) -∗ Q r) -∗ Wp c (onArgs (k0_part64 (F := F)) c a0 a1) Q) := by
  rw [k0_part64_eq_skeleton]; unfold k0_part64_skel
  simp only [Prog.lift, Prog.bind_op, Prog.bind_ret, Prog.pure_eq_ret]
  iintro HS Hk
  iapply (recv_D X Wt K c (ii 22) 32 18 (rqA c (ii 22) 5)) $$ HS
  iintro ⟨HS, H22⟩
  iapply (recv_D X Wt K c (ii 23) 32 18 (rqA c (ii 23) 6)) $$ HS
  iintro ⟨HS, H23⟩
  iapply (Wp_ret c)
  iapply Hk; isplitl [HS]; · iexact HS
  isplitl [H22]; · iexact H22
  iexact H23

theorem part65 {Q : (Σ' (_ : FVec F S32x512 .f32), FVec F S32x512 .f32) → sProp 𝕄} (a0 a1 a2 : BitVec 32) : iprop(St X Wt K c 32 18 24 ∗ (locXA c ↦[row2 (32 * jj c)]{fullShare} bGatA X Wt c) ∗ landPts X Wt c (ii 18) ∗ landPts X Wt c (ii 19) ∗ landPts X Wt c (ii 20) ∗ landPts X Wt c (ii 21) ∗ landPts X Wt c (ii 22) ∗ landPts X Wt c (ii 23))
    ⊢ iprop((∀ r, ⌜k0_pay31 r.1 r.2 = outA X Wt c⌝ ∗ St X Wt K c 32 18 25 ∗ (locXA c ↦[Finset.univ]{fullShare} bGatA X Wt c) -∗ Q r) -∗ Wp c (onArgs (k0_part65 (F := F)) c a0 a1 a2) Q) := by
  rw [k0_part65_eq_skeleton]; unfold k0_part65_skel
  simp only [Prog.lift, Prog.bind_op, Prog.bind_ret, Prog.pure_eq_ret]
  iintro ⟨HS, HA, H18, H19, H20, H21, H22, H23⟩ Hk
  iapply (recv_D X Wt K c (ii 24) 32 18 (rqA c (ii 24) 7)) $$ HS
  iintro ⟨HS, H24⟩
  ihave HA := (of_eq' (colA_rows X Wt c).symm) $$ [HA H18 H19 H20 H21 H22 H23 H24]
  · isplitl [HA]; · iexact HA
    isplitl [H24]; · iexact H24
    isplitl [H23]; · iexact H23
    isplitl [H22]; · iexact H22
    isplitl [H21]; · iexact H21
    isplitl [H20]; · iexact H20
    isplitl [H19]; · iexact H19
    iexact H18
  iapply (ldGA X Wt c ![0, 0] inb_S256x512_S32x512_0_0 _) $$ HA
  iintro HA
  iapply (ldGA X Wt c ![32, 0] inb_S256x512_S32x512_32_0 _) $$ HA
  iintro HA
  iapply (ldGA X Wt c ![64, 0] inb_S256x512_S32x512_64_0 _) $$ HA
  iintro HA
  iapply (ldGA X Wt c ![96, 0] inb_S256x512_S32x512_96_0 _) $$ HA
  iintro HA
  iapply (ldGA X Wt c ![128, 0] inb_S256x512_S32x512_128_0 _) $$ HA
  iintro HA
  iapply (ldGA X Wt c ![160, 0] inb_S256x512_S32x512_160_0 _) $$ HA
  iintro HA
  iapply (ldGA X Wt c ![192, 0] inb_S256x512_S32x512_192_0 _) $$ HA
  iintro HA
  iapply (ldGA X Wt c ![224, 0] inb_S256x512_S32x512_224_0 _) $$ HA
  iintro HA
  iapply (Wp_ret c)
  iapply Hk
  isplitr; · ipureintro; exact outA_read X Wt c
  isplitl [HS]; · iexact HS
  iexact HA

theorem part66 {Q : (Σ' (_ : BitVec 32), BitVec 32) → sProp 𝕄} (f : Buf (Elt F) ((c : Thread nD τ).loc cc0_stg2_0)) (a0 a1 : BitVec 32) (v v' : FVec F S32x512 .f32) (hv : k0_pay31 v v' = outA X Wt c) : iprop(St X Wt K c 32 18 25 ∗ ((c : Thread nD τ).loc cc0_stg2_0 ↦[outL]{fullShare} f))
    ⊢ iprop((∀ r, St X Wt K c 32 18 26 ∗ ((c : Thread nD τ).loc cc0_stg2_0 ↦[outL]{fullShare} bOut X Wt c) ∗ landPts X Wt c (ii 25) -∗ Q r) -∗ Wp c (onArgs (k0_part66 (F := F)) c a0 a1 v v') Q) := by
  rw [k0_part66_eq_skeleton]; unfold k0_part66_skel
  simp only [Prog.lift, Prog.bind_op, Prog.bind_ret, Prog.pure_eq_ret]
  iintro ⟨HS, HO⟩ Hk
  iapply (ld c 2 rfl outL f ![0, 0] S32x512.size inb_S32x1024_S32x512_0_0 _ (Finset.Subset.refl _)) $$ HO
  iintro HO
  iapply (sv c 2 rfl outL f (bOut X Wt c) ![0, 0] S32x512.size inb_S32x1024_S32x512_0_0 _ _ _ rfl (fun y => (congrFun hv y).trans (outA_at X Wt c y))) $$ HO
  iintro HO
  iapply (recv_D X Wt K c (ii 25) 32 18 (rqB c (ii 25) 1)) $$ HS
  iintro ⟨HS, H25⟩
  iapply (Wp_ret c)
  iapply Hk; isplitl [HS]; · iexact HS
  isplitl [HO]; · iexact HO
  iexact H25

theorem part67 {Q : (Σ' (_ : BitVec 32) (_ : BitVec 32) (_ : BitVec 1) (_ : BitVec 1), BitVec 32) → sProp 𝕄} (a0 a1 a2 a3 : BitVec 32) : iprop(St X Wt K c 32 18 26)
    ⊢ iprop((∀ r, St X Wt K c 32 18 28 ∗ landPts X Wt c (ii 26) ∗ landPts X Wt c (ii 27) -∗ Q r) -∗ Wp c (onArgs (k0_part67 (F := F)) c a0 a1 a2 a3) Q) := by
  rw [k0_part67_eq_skeleton]; unfold k0_part67_skel
  simp only [Prog.lift, Prog.bind_op, Prog.bind_ret, Prog.pure_eq_ret]
  iintro HS Hk
  iapply (recv_D X Wt K c (ii 26) 32 18 (rqB c (ii 26) 2)) $$ HS
  iintro ⟨HS, H26⟩
  iapply (recv_D X Wt K c (ii 27) 32 18 (rqB c (ii 27) 3)) $$ HS
  iintro ⟨HS, H27⟩
  iapply (Wp_ret c)
  iapply Hk; isplitl [HS]; · iexact HS
  isplitl [H26]; · iexact H26
  iexact H27

theorem part68 {Q : (Σ' (_ : BitVec 32) (_ : BitVec 32), BitVec 1) → sProp 𝕄} (a0 a1 a2 a3 : BitVec 32) (b b' : BitVec 1) (a4 : BitVec 32) : iprop(St X Wt K c 32 18 28)
    ⊢ iprop((∀ r, St X Wt K c 32 18 30 ∗ landPts X Wt c (ii 28) ∗ landPts X Wt c (ii 29) -∗ Q r) -∗ Wp c (onArgs (k0_part68 (F := F)) c a0 a1 a2 a3 b b' a4) Q) := by
  rw [k0_part68_eq_skeleton]; unfold k0_part68_skel
  simp only [Prog.lift, Prog.bind_op, Prog.bind_ret, Prog.pure_eq_ret]
  iintro HS Hk
  iapply (recv_D X Wt K c (ii 28) 32 18 (rqB c (ii 28) 4)) $$ HS
  iintro ⟨HS, H28⟩
  iapply (recv_D X Wt K c (ii 29) 32 18 (rqB c (ii 29) 5)) $$ HS
  iintro ⟨HS, H29⟩
  iapply (Wp_ret c)
  iapply Hk; isplitl [HS]; · iexact HS
  isplitl [H28]; · iexact H28
  iexact H29

theorem part69 {Q : (PUnit) → sProp 𝕄} (a0 a1 a2 a3 : BitVec 32) (b : BitVec 1) : iprop(St X Wt K c 32 18 30)
    ⊢ iprop((St X Wt K c 32 18 31 ∗ landPts X Wt c (ii 30) -∗ Q ⟨⟩) -∗ Wp c (onArgs (k0_part69 (F := F)) c a0 a1 a2 a3 b) Q) := by
  rw [k0_part69_eq_skeleton]; unfold k0_part69_skel
  simp only [Prog.lift, Prog.bind_op, Prog.bind_ret, Prog.pure_eq_ret]
  iintro HS Hk
  iapply (recv_D X Wt K c (ii 30) 32 18 (rqB c (ii 30) 6)) $$ HS
  iintro ⟨HS, H30⟩
  iapply (Wp_ret c)
  iapply Hk; isplitl [HS]; · iexact HS
  iexact H30

theorem part70 {Q : (PUnit) → sProp 𝕄} (f : Buf (Elt F) ((c : Thread nD τ).loc cc0_stg2_0)) : iprop(St X Wt K c 32 18 31 ∗ (locXB c ↦[row2 (32 * mm c)]{fullShare} bGatB X Wt c) ∗ landPts X Wt c (ii 25) ∗ landPts X Wt c (ii 26) ∗ landPts X Wt c (ii 27) ∗ landPts X Wt c (ii 28) ∗ landPts X Wt c (ii 29) ∗ landPts X Wt c (ii 30) ∗ ((c : Thread nD τ).loc cc0_stg2_0 ↦[outR]{fullShare} f))
    ⊢ iprop((St X Wt K c 32 18 32 ∗ (locXB c ↦[Finset.univ]{fullShare} bGatB X Wt c) ∗ ((c : Thread nD τ).loc cc0_stg2_0 ↦[outR]{fullShare} bOut X Wt c) -∗ Q ⟨⟩) -∗ Wp c (onArgs (k0_part70 (F := F)) c) Q) := by
  rw [k0_part70_eq_skeleton]; unfold k0_part70_skel
  simp only [Prog.lift, Prog.bind_op, Prog.bind_ret, Prog.pure_eq_ret]
  iintro ⟨HS, HB, H25, H26, H27, H28, H29, H30, HO⟩ Hk
  iapply (recv_D X Wt K c (ii 31) 32 18 (rqB c (ii 31) 7)) $$ HS
  iintro ⟨HS, H31⟩
  ihave HB := (of_eq' (colB_rows X Wt c).symm) $$ [HB H25 H26 H27 H28 H29 H30 H31]
  · isplitl [HB]; · iexact HB
    isplitl [H31]; · iexact H31
    isplitl [H30]; · iexact H30
    isplitl [H29]; · iexact H29
    isplitl [H28]; · iexact H28
    isplitl [H27]; · iexact H27
    isplitl [H26]; · iexact H26
    iexact H25
  iapply (ldGB X Wt c ![0, 0] inb_S256x512_S32x512_0_0 _) $$ HB
  iintro HB
  iapply (ldGB X Wt c ![32, 0] inb_S256x512_S32x512_32_0 _) $$ HB
  iintro HB
  iapply (ldGB X Wt c ![64, 0] inb_S256x512_S32x512_64_0 _) $$ HB
  iintro HB
  iapply (ldGB X Wt c ![96, 0] inb_S256x512_S32x512_96_0 _) $$ HB
  iintro HB
  iapply (ldGB X Wt c ![128, 0] inb_S256x512_S32x512_128_0 _) $$ HB
  iintro HB
  iapply (ldGB X Wt c ![160, 0] inb_S256x512_S32x512_160_0 _) $$ HB
  iintro HB
  iapply (ldGB X Wt c ![192, 0] inb_S256x512_S32x512_192_0 _) $$ HB
  iintro HB
  iapply (ldGB X Wt c ![224, 0] inb_S256x512_S32x512_224_0 _) $$ HB
  iintro HB
  iapply (ld c 2 rfl outR f ![0, 512] S32x512.size inb_S32x1024_S32x512_0_512 _ (Finset.Subset.refl _)) $$ HO
  iintro HO
  iapply (sv c 2 rfl outR f (bOut X Wt c) ![0, 512] S32x512.size inb_S32x1024_S32x512_0_512 _ _ _ rfl (fun y => (congrFun (outB_read X Wt c) y).trans (outB_at X Wt c y))) $$ HO
  iintro HO
  iapply (Wp_ret c)
  iapply Hk; isplitl [HS]; · iexact HS
  isplitl [HB]; · iexact HB
  iexact HO

theorem part71 {Q : (PUnit) → sProp 𝕄} : iprop(St X Wt K c 32 18 32)
    ⊢ iprop((St X Wt K c 32 23 32 -∗ Q ⟨⟩) -∗ Wp c (onArgs (k0_part71 (F := F)) c) Q) := by
  rw [k0_part71_eq_skeleton]; unfold k0_part71_skel
  simp only [Prog.lift, Prog.bind_op, Prog.bind_ret, Prog.pure_eq_ret]
  iintro HS Hk
  iapply (sent_D X Wt K c (ii 18) 32 32 (ss9 _ 0 rfl _ rfl _)) $$ HS
  iintro HS
  iapply (sent_D X Wt K c (ii 19) 32 32 (ss9 _ 1 rfl _ rfl _)) $$ HS
  iintro HS
  iapply (sent_D X Wt K c (ii 20) 32 32 (ss9 _ 2 rfl _ rfl _)) $$ HS
  iintro HS
  iapply (sent_D X Wt K c (ii 21) 32 32 (ss9 _ 3 rfl _ rfl _)) $$ HS
  iintro HS
  iapply (sent_D X Wt K c (ii 22) 32 32 (ss9 _ 4 rfl _ rfl _)) $$ HS
  iintro HS
  iapply (Wp_ret c)
  iapply Hk; iexact HS

theorem part72 {Q : (PUnit) → sProp 𝕄} : iprop(St X Wt K c 32 23 32)
    ⊢ iprop((St X Wt K c 32 29 32 -∗ Q ⟨⟩) -∗ Wp c (onArgs (k0_part72 (F := F)) c) Q) := by
  rw [k0_part72_eq_skeleton]; unfold k0_part72_skel
  simp only [Prog.lift, Prog.bind_op, Prog.bind_ret, Prog.pure_eq_ret]
  iintro HS Hk
  iapply (sent_D X Wt K c (ii 23) 32 32 (ss9 _ 5 rfl _ rfl _)) $$ HS
  iintro HS
  iapply (sent_D X Wt K c (ii 24) 32 32 (ss9 _ 6 rfl _ rfl _)) $$ HS
  iintro HS
  iapply (sent_D X Wt K c (ii 25) 32 32 (ss11 _ 0 rfl _ rfl _)) $$ HS
  iintro HS
  iapply (sent_D X Wt K c (ii 26) 32 32 (ss11 _ 1 rfl _ rfl _)) $$ HS
  iintro HS
  iapply (sent_D X Wt K c (ii 27) 32 32 (ss11 _ 2 rfl _ rfl _)) $$ HS
  iintro HS
  iapply (sent_D X Wt K c (ii 28) 32 32 (ss11 _ 3 rfl _ rfl _)) $$ HS
  iintro HS
  iapply (Wp_ret c)
  iapply Hk; iexact HS

end Cert.KernelIdeal.Ring
-- ==== Proof.Body4.lean ====
/- The kernel from its first piece to its last. -/
module

public import proofs.«01_k».proof.Proof.Body0
public import proofs.«01_k».proof.Proof.Body3

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (K : Dev nD × Ci → ℕ)

variable (c : Dev nD)

/-- One piece after another. -/
theorem Wp_bind {α β : Type} {Q : β → sProp 𝕄} {p : Prog (TpuEff nD τ sig (Elt F) Λ₀ .tc) α} {k : α → Prog (TpuEff nD τ sig (Elt F) Λ₀ .tc) β} :
    Wp c p (fun r => Wp c (k r) Q) ⊢ Wp c (p >>= k) Q := of_eq' (wp_bind _ _ _ _ _ _).symm

theorem part73 {Q : (Σ' (d0 : Dev nD) (v2 : BitVec 32) (v29 : BitVec 32) (v67 : BitVec 32) (v69 : BitVec 32) (v2000 : BitVec 32), BitVec 32) → sProp 𝕄} (fP : Buf (Elt F) (locP c)) (fXA : Buf (Elt F) (locXA c)) :
    iprop(Sig X Wt K c 0 ∗ cred (tallyAt (barCell c) () 14) ∗ atPos ER (barCell c) 0 ∅ 0 ∗ Pre c ∗ xS X c ∗ wS Wt c ∗ (locP c ↦[halfL]{fullShare} fP) ∗ (locP c ↦[halfR]{fullShare} fP) ∗ (locXA c ↦[row2 (32 * jj c)]{fullShare} fXA))
    ⊢ iprop((∀ r, ⌜r.1 = c⌝ ∗ St X Wt K c 32 18 18 ∗ semVal (barCell c) 0 ∗ xS X c ∗ wS Wt c ∗ PLp X Wt c ∗ PRp X Wt c ∗ (locXA c ↦[row2 (32 * jj c)]{fullShare} bGatA X Wt c) ∗ (locA c ↦[row3 (32 * jj c)]{fullShare} bAccA X Wt c) ∗ (locB c ↦[row3 (rowB (yy c) (mm c))]{fullShare} bAccB X Wt c) -∗ Q r) -∗ Wp c (onArgs (k0_part73 (F := F))) Q) := by
  rw [k0_part73_eq_skeleton]; unfold k0_part73_skel
  iintro ⟨HS, HC, HA, HPre, HX, HW, HL, HR, HXA⟩ Hk
  iapply (Wp_bind c)
  iapply (part1 c)
  iintro %r %hv
  obtain ⟨v0, v1, v2, v3, v4, v5, v6, v7, v8⟩ := r
  dsimp only at hv
  subst v0
  dsimp only
  iapply (Wp_bind c)
  iapply (part2 c _ _ _ _ _ _ _ _)
  iintro %r
  obtain ⟨v0, v1, v2, v3, v4, v5, v6, v7, v8⟩ := r
  dsimp only
  iapply (Wp_bind c)
  iapply (part3 c _ _ _ _ _ _ _ _)
  iintro %r
  obtain ⟨v0, v1, v2, v3, v4, v5, v6⟩ := r
  dsimp only
  iapply (Wp_bind c)
  iapply (part4 c _ _ _ _ _ _ _)
  iintro %r
  obtain ⟨v0, v1, v2, v3, v4, v5, v6, v7⟩ := r
  dsimp only
  iapply (Wp_bind c)
  iapply (part5 X Wt c fP _ _ _ _ _ _) $$ [HX HW HL]
  · isplitl [HX]; · iexact HX
    isplitl [HW]; · iexact HW
    iexact HL
  iintro %r ⟨%hv, HX, HW, HL⟩
  obtain ⟨v0, v1, v2, v3⟩ := r
  dsimp only
  iapply (Wp_bind c)
  iapply (part6 X Wt K c fP _ _ _ _ hv) $$ [HS HL]
  · isplitl [HS]; · iexact HS
    iexact HL
  iintro %r ⟨%hv, HS, HL⟩
  obtain ⟨v0, v1, v2, v3, v4, v5⟩ := r
  dsimp only at hv
  subst v0
  dsimp only
  ihave HZ := (of_eq' (left_pieces X Wt c)) $$ HL
  icases HZ with ⟨HPL, S0, S1⟩
  iapply (Wp_bind c)
  iapply (part7 X Wt K c _ _ _ _ _ _ _) $$ HS
  iintro %r HS
  obtain ⟨v0, v1, v2⟩ := r
  dsimp only
  iapply (Wp_bind c)
  iapply (part8 X Wt K c _ _ _ _ _ _) $$ HS
  iintro %r HS
  obtain ⟨v0, v1, v2, v3⟩ := r
  dsimp only
  iapply (Wp_bind c)
  iapply (part9 X Wt K c _ _ _ _ _ _) $$ HS
  iintro %r HS
  obtain ⟨v0, v1, v2⟩ := r
  dsimp only
  iapply (Wp_bind c)
  iapply (part10 X Wt K c _ _ _ _ _ _) $$ HS
  iintro %r HS
  obtain ⟨v0, v1, v2, v3⟩ := r
  dsimp only
  iapply (Wp_bind c)
  iapply (part11 X Wt K c _ _ _ _ _ _) $$ HS
  iintro %r HS
  obtain ⟨v0, v1, v2⟩ := r
  dsimp only
  iapply (Wp_bind c)
  iapply (part12 X Wt K c _ _ _ _ _ _) $$ HS
  iintro %r HS
  obtain ⟨v0, v1, v2, v3⟩ := r
  dsimp only
  iapply (Wp_bind c)
  iapply (part13 X Wt K c _ _ _ _ _ _ _) $$ HS
  iintro %r HS
  iapply (Wp_bind c)
  iapply (part14 X Wt K c _ _ _) $$ HS
  iintro %r HS
  obtain ⟨v0, v1, v2, v3, v4⟩ := r
  dsimp only
  iapply (Wp_bind c)
  iapply (part15 X Wt K c _ _ _ _ _ _ _ _) $$ HS
  iintro %r HS
  iapply (Wp_bind c)
  iapply (part16 c _ _ _)
  iintro %r
  obtain ⟨v0, v1, v2, v3, v4, v5⟩ := r
  dsimp only
  iapply (Wp_bind c)
  iapply (part17 X Wt K c _ _ _ _ _ _ _ _ _ _) $$ HS
  iintro %r HS
  obtain ⟨v0, v1⟩ := r
  dsimp only
  iapply (Wp_bind c)
  iapply (part18 c _ _ _)
  iintro %r
  obtain ⟨v0, v1, v2, v3, v4, v5⟩ := r
  dsimp only
  iapply (Wp_bind c)
  iapply (part19 X Wt K c _ _ _ _ _ _ _ _ _) $$ [HS HC HA HPre S0]
  · isplitl [HS]; · iexact HS
    isplitl [HC]; · iexact HC
    isplitl [HA]; · iexact HA
    isplitl [HPre]; · iexact HPre
    iexact S0
  iintro ⟨HS, HB⟩
  iapply (Wp_bind c)
  iapply (part20 X Wt K c fP _ _) $$ [HS S1 HX HW HR]
  · isplitl [HS]; · iexact HS
    isplitl [S1]; · iexact S1
    isplitl [HX]; · iexact HX
    isplitl [HW]; · iexact HW
    iexact HR
  iintro ⟨HS, HPR, S3, S4, S5, HX, HW⟩
  iapply (Wp_bind c)
  iapply (part21 X Wt K c _ _) $$ [HS S3 S4 S5]
  · isplitl [HS]; · iexact HS
    isplitl [S3]; · iexact S3
    isplitl [S4]; · iexact S4
    iexact S5
  iintro HS
  iapply (Wp_bind c)
  iapply (part22 X Wt K c _ _) $$ [HS HPL]
  · isplitl [HS]; · iexact HS
    iexact HPL
  iintro ⟨HS, HPL⟩
  iapply (Wp_bind c)
  iapply (part23 X Wt K c _ _) $$ [HS HPL]
  · isplitl [HS]; · iexact HS
    iexact HPL
  iintro ⟨HS, HPL, BA01⟩
  iapply (Wp_bind c)
  iapply (part24 X Wt K c _ _) $$ [HS BA01 HPR]
  · isplitl [HS]; · iexact HS
    isplitl [BA01]; · iexact BA01
    iexact HPR
  iintro ⟨HS, HPR, BB00⟩
  iapply (Wp_bind c)
  iapply (part25 X Wt K c _ _) $$ [HS BB00 HPR]
  · isplitl [HS]; · iexact HS
    isplitl [BB00]; · iexact BB00
    iexact HPR
  iintro %r ⟨%hv, HS, HPR, BB01⟩
  iapply (Wp_bind c)
  iapply (part26 X Wt K c _ _ _ hv) $$ [HS BB01]
  · isplitl [HS]; · iexact HS
    iexact BB01
  iintro %r ⟨%hv, HS, BB02⟩
  obtain ⟨v0, v1, v2⟩ := r
  dsimp only
  iapply (Wp_bind c)
  iapply (part27 X Wt K c _ _ _ _ hv) $$ [HS BB02 HPR]
  · isplitl [HS]; · iexact HS
    isplitl [BB02]; · iexact BB02
    iexact HPR
  iintro ⟨HS, HPR⟩
  iapply (Wp_bind c)
  iapply (part28 X Wt K c _ _) $$ [HS HPR]
  · isplitl [HS]; · iexact HS
    iexact HPR
  iintro ⟨HS, HPR⟩
  iapply (Wp_bind c)
  iapply (part29 X Wt K c _ _) $$ [HS HPL]
  · isplitl [HS]; · iexact HS
    iexact HPL
  iintro ⟨HS, HPL⟩
  iapply (Wp_bind c)
  iapply (part30 X Wt K c _ _) $$ [HS HPL]
  · isplitl [HS]; · iexact HS
    iexact HPL
  iintro ⟨HS, HPL, BA11⟩
  iapply (Wp_bind c)
  iapply (part31 X Wt K c _ _) $$ [HS BA11 HPR]
  · isplitl [HS]; · iexact HS
    isplitl [BA11]; · iexact BA11
    iexact HPR
  iintro %r ⟨%hv, HS, HPR, BB10⟩
  iapply (Wp_bind c)
  iapply (part32 X Wt K c _ _ hv) $$ [HS BB10]
  · isplitl [HS]; · iexact HS
    iexact BB10
  iintro HS
  iapply (Wp_bind c)
  iapply (part33 X Wt K c _ _) $$ [HS HPR]
  · isplitl [HS]; · iexact HS
    iexact HPR
  iintro ⟨HS, HPR⟩
  iapply (Wp_bind c)
  iapply (part34 X Wt K c _ _) $$ [HS HPR]
  · isplitl [HS]; · iexact HS
    iexact HPR
  iintro ⟨HS, HPR⟩
  iapply (Wp_bind c)
  iapply (part35 X Wt K c _ _) $$ [HS HPR]
  · isplitl [HS]; · iexact HS
    iexact HPR
  iintro %r ⟨HS, HPR, BB13⟩
  iapply (Wp_bind c)
  iapply (part36 X Wt K c _ _ _) $$ [HS BB13 HPL]
  · isplitl [HS]; · iexact HS
    isplitl [BB13]; · iexact BB13
    iexact HPL
  iintro %r ⟨%hv, HS, HPL, BA20⟩
  obtain ⟨v0, v1⟩ := r
  dsimp only
  iapply (Wp_bind c)
  iapply (part37 X Wt K c _ _ _ _ hv) $$ [HS HPL BA20]
  · isplitl [HS]; · iexact HS
    isplitl [HPL]; · iexact HPL
    iexact BA20
  iintro %r ⟨%hv, HS, HPL, BA20, BA21⟩
  iapply (Wp_bind c)
  iapply (part38 X Wt K c _ _ _ hv) $$ [HS BA20 BA21]
  · isplitl [HS]; · iexact HS
    isplitl [BA20]; · iexact BA20
    iexact BA21
  iintro ⟨HS, HRA, S19, S20, S21, S22, S23, S24⟩
  iapply (Wp_bind c)
  iapply (part39 X Wt K c _ _) $$ [HS S19]
  · isplitl [HS]; · iexact HS
    iexact S19
  iintro %r HS
  iapply (Wp_bind c)
  iapply (part40 X Wt K c _ _ _) $$ [HS S20]
  · isplitl [HS]; · iexact HS
    iexact S20
  iintro %r HS
  iapply (Wp_bind c)
  iapply (part41 X Wt K c _ _ _) $$ [HS S21]
  · isplitl [HS]; · iexact HS
    iexact S21
  iintro %r HS
  obtain ⟨v0, v1⟩ := r
  dsimp only
  iapply (Wp_bind c)
  iapply (part42 X Wt K c _ _ _ _) $$ [HS S22]
  · isplitl [HS]; · iexact HS
    iexact S22
  iintro %r HS
  obtain ⟨v0, v1, v2⟩ := r
  dsimp only
  iapply (Wp_bind c)
  iapply (part43 X Wt K c _ _ _ _ _) $$ [HS S23]
  · isplitl [HS]; · iexact HS
    iexact S23
  iintro %r HS
  obtain ⟨v0, v1, v2⟩ := r
  dsimp only
  iapply (Wp_bind c)
  iapply (part44 X Wt K c _ _ _ _ _) $$ [HS S24 HRA]
  · isplitl [HS]; · iexact HS
    isplitl [S24]; · iexact S24
    iexact HRA
  iintro %r ⟨%hv, HS, HRA⟩
  iapply (Wp_bind c)
  iapply (part45 X Wt K c fXA _ _ _ _ hv) $$ [HS HXA HPR]
  · isplitl [HS]; · iexact HS
    isplitl [HXA]; · iexact HXA
    iexact HPR
  iintro %r ⟨%hv, HS, HXA, HPR, BB20⟩
  iapply (Wp_bind c)
  iapply (part46 X Wt K c _ _ _ hv) $$ [HS BB20 HPR]
  · isplitl [HS]; · iexact HS
    isplitl [BB20]; · iexact BB20
    iexact HPR
  iintro ⟨HS, HPR, BB20, BB21⟩
  iapply (Wp_bind c)
  iapply (part47 X Wt K c _ _) $$ [HS HPR]
  · isplitl [HS]; · iexact HS
    iexact HPR
  iintro ⟨HS, HPR, BB22⟩
  iapply (Wp_bind c)
  iapply (part48 X Wt K c _ _ _) $$ [HS HPR]
  · isplitl [HS]; · iexact HS
    iexact HPR
  iintro %r ⟨HS, HPR, BB23⟩
  obtain ⟨v0, v1, v2, v3⟩ := r
  dsimp only
  iapply (Wp_bind c)
  iapply (part49 c _ _ _ _ _)
  iintro %r
  obtain ⟨v0, v1, v2, v3, v4, v5⟩ := r
  dsimp only
  ihave HZ := (of_eq' (slotB_quarters c (bAccB X Wt c)).symm) $$ [BB20 BB21 BB22 BB23]
  · isplitl [BB20]; · iexact BB20
    isplitl [BB21]; · iexact BB21
    isplitl [BB22] <;> iassumption
  ihave HZ := (of_eq' (slotB_rows X Wt c)) $$ HZ
  icases HZ with ⟨HRB, S25, S26, S27, S28, S29, S30, S31⟩
  iapply (Wp_bind c)
  iapply (part50 X Wt K c _ _ _ _ _ _ _ _) $$ [HS S25]
  · isplitl [HS]; · iexact HS
    iexact S25
  iintro %r HS
  obtain ⟨v0, v1, v2, v3⟩ := r
  dsimp only
  iapply (Wp_bind c)
  iapply (part51 c _ _ _ _ _ _)
  iintro %r
  obtain ⟨v0, v1⟩ := r
  dsimp only
  iapply (Wp_bind c)
  iapply (part52 X Wt K c _ _ _) $$ [HS S26]
  · isplitl [HS]; · iexact HS
    iexact S26
  iintro %r HS
  obtain ⟨v0, v1, v2⟩ := r
  dsimp only
  iapply (Wp_bind c)
  iapply (part53 c _ _ _ _ _)
  iintro %r
  iapply (Wp_bind c)
  iapply (part54 X Wt K c _ _) $$ [HS S27]
  · isplitl [HS]; · iexact HS
    iexact S27
  iintro %r HS
  obtain ⟨v0, v1⟩ := r
  dsimp only
  iapply (Wp_bind c)
  iapply (part55 X Wt K c _ _ _ _) $$ [HS S28]
  · isplitl [HS]; · iexact HS
    iexact S28
  iintro %r HS
  obtain ⟨v0, v1, v2, v3⟩ := r
  dsimp only
  iapply (Wp_bind c)
  iapply (part56 c _ _ _ _ _)
  iintro %r
  obtain ⟨v0, v1⟩ := r
  dsimp only
  iapply (Wp_bind c)
  iapply (part57 X Wt K c _ _ _ _) $$ [HS S29]
  · isplitl [HS]; · iexact HS
    iexact S29
  iintro %r HS
  obtain ⟨v0, v1, v2, v3, v4, v5⟩ := r
  dsimp only
  iapply (Wp_bind c)
  iapply (part58 c _ _ _ _ _ _ _ _)
  iintro %r
  obtain ⟨v0, v1⟩ := r
  dsimp only
  iapply (Wp_bind c)
  iapply (part59 X Wt K c _ _ _) $$ [HS S30]
  · isplitl [HS]; · iexact HS
    iexact S30
  iintro %r HS
  obtain ⟨v0, v1, v2⟩ := r
  dsimp only
  iapply (Wp_bind c)
  iapply (part60 X Wt K c _ _ _ _ _ _) $$ [HS S31]
  · isplitl [HS]; · iexact HS
    iexact S31
  iintro %r HS
  obtain ⟨v0, v1⟩ := r
  dsimp only
  iapply (Wp_ret c)
  iapply Hk
  isplitr; · ipureintro; rfl
  isplitl [HS]; · iexact HS
  isplitl [HB]; · iexact HB
  isplitl [HX]; · iexact HX
  isplitl [HW]; · iexact HW
  isplitl [HPL]; · iexact HPL
  isplitl [HPR]; · iexact HPR
  isplitl [HXA]; · iexact HXA
  isplitl [HRA]; · iexact HRA
  iexact HRB

/-- The whole kernel: its result is in place, its transfers are all done, and it holds again all it began with. -/
theorem body_wp {Q : PUnit → sProp 𝕄} (fP : Buf (Elt F) (locP c)) (fXA : Buf (Elt F) (locXA c)) (fXB : Buf (Elt F) (locXB c)) (fO : Buf (Elt F) ((c : Thread nD τ).loc cc0_stg2_0)) :
    iprop(Sig X Wt K c 0 ∗ cred (tallyAt (barCell c) () 14) ∗ atPos ER (barCell c) 0 ∅ 0 ∗ Pre c ∗ xS X c ∗ wS Wt c ∗ (locP c ↦[halfL]{fullShare} fP) ∗ (locP c ↦[halfR]{fullShare} fP) ∗ (locXA c ↦[row2 (32 * jj c)]{fullShare} fXA) ∗ (locXB c ↦[row2 (32 * mm c)]{fullShare} fXB) ∗ ((c : Thread nD τ).loc cc0_stg2_0 ↦[Finset.univ]{fullShare} fO))
    ⊢ iprop((St X Wt K c 32 32 32 ∗ semVal (barCell c) 0 ∗ xS X c ∗ wS Wt c ∗ ((c : Thread nD τ).loc cc0_stg2_0 ↦[Finset.univ]{fullShare} bOut X Wt c) ∗ PLp X Wt c ∗ PRp X Wt c ∗ (locXA c ↦[Finset.univ]{fullShare} bGatA X Wt c) ∗ (locXB c ↦[Finset.univ]{fullShare} bGatB X Wt c) ∗ (locA c ↦[row3 (32 * jj c)]{fullShare} bAccA X Wt c) ∗ (locB c ↦[row3 (rowB (yy c) (mm c))]{fullShare} bAccB X Wt c) -∗ Q ⟨⟩) -∗ Wp c (onArgs (cc0_body (F := F))) Q) := by
  rw [cc0_body_eq_skeleton]; unfold cc0_body_skel
  iintro ⟨HS, HC, HA, HPre, HX, HW, HL, HR, HXA, HXB, HO⟩ Hk
  ihave HO := (of_eq' (out_halves c fO)) $$ HO
  icases HO with ⟨HOL, HOR⟩
  iapply (Wp_bind c)
  iapply (part73 X Wt K c fP fXA) $$ [HS HC HA HPre HX HW HL HR HXA]
  · isplitl [HS]; · iexact HS
    isplitl [HC]; · iexact HC
    isplitl [HA]; · iexact HA
    isplitl [HPre]; · iexact HPre
    isplitl [HX]; · iexact HX
    isplitl [HW]; · iexact HW
    isplitl [HL]; · iexact HL
    isplitl [HR]; · iexact HR
    iexact HXA
  iintro %r ⟨%hv, HS, HB, HX, HW, HPL, HPR, HXA, HRA, HRB⟩
  obtain ⟨v0, v1, v2, v3, v4, v5, v6⟩ := r
  dsimp only at hv
  subst v0
  dsimp only
  iapply (Wp_bind c)
  iapply (part61 X Wt K c fXB _ _ _ _ _ _) $$ [HS HRB HXB]
  · isplitl [HS]; · iexact HS
    isplitl [HRB]; · iexact HRB
    iexact HXB
  iintro %r ⟨HS, HRB, HXB, L18⟩
  obtain ⟨v0, v1, v2, v3⟩ := r
  dsimp only
  iapply (Wp_bind c)
  iapply (part62 X Wt K c _ _ _ _ _ _) $$ HS
  iintro %r ⟨HS, L19, L20⟩
  obtain ⟨v0, v1⟩ := r
  dsimp only
  iapply (Wp_bind c)
  iapply (part63 X Wt K c _ _ _ _) $$ HS
  iintro ⟨HS, L21⟩
  iapply (Wp_bind c)
  iapply (part64 X Wt K c _ _) $$ HS
  iintro %r ⟨HS, L22, L23⟩
  obtain ⟨v0, v1⟩ := r
  dsimp only
  iapply (Wp_bind c)
  iapply (part65 X Wt K c _ _ _) $$ [HS HXA L18 L19 L20 L21 L22 L23]
  · isplitl [HS]; · iexact HS
    isplitl [HXA]; · iexact HXA
    isplitl [L18]; · iexact L18
    isplitl [L19]; · iexact L19
    isplitl [L20]; · iexact L20
    isplitl [L21]; · iexact L21
    isplitl [L22]; · iexact L22
    iexact L23
  iintro %r ⟨%hv, HS, HXA⟩
  obtain ⟨v0, v1⟩ := r
  dsimp only
  iapply (Wp_bind c)
  iapply (part66 X Wt K c fO _ _ _ _ hv) $$ [HS HOL]
  · isplitl [HS]; · iexact HS
    iexact HOL
  iintro %r ⟨HS, HOL, L25⟩
  obtain ⟨v0, v1⟩ := r
  dsimp only
  iapply (Wp_bind c)
  iapply (part67 X Wt K c _ _ _ _) $$ HS
  iintro %r ⟨HS, L26, L27⟩
  obtain ⟨v0, v1, v2, v3, v4⟩ := r
  dsimp only
  iapply (Wp_bind c)
  iapply (part68 X Wt K c _ _ _ _ _ _ _) $$ HS
  iintro %r ⟨HS, L28, L29⟩
  obtain ⟨v0, v1, v2⟩ := r
  dsimp only
  iapply (Wp_bind c)
  iapply (part69 X Wt K c _ _ _ _ _) $$ HS
  iintro ⟨HS, L30⟩
  iapply (Wp_bind c)
  iapply (part70 X Wt K c fO) $$ [HS HXB L25 L26 L27 L28 L29 L30 HOR]
  · isplitl [HS]; · iexact HS
    isplitl [HXB]; · iexact HXB
    isplitl [L25]; · iexact L25
    isplitl [L26]; · iexact L26
    isplitl [L27]; · iexact L27
    isplitl [L28]; · iexact L28
    isplitl [L29]; · iexact L29
    isplitl [L30]; · iexact L30
    iexact HOR
  iintro ⟨HS, HXB, HOR⟩
  iapply (Wp_bind c)
  iapply (part71 X Wt K c) $$ HS
  iintro HS
  iapply (Wp_bind c)
  iapply (part72 X Wt K c) $$ HS
  iintro HS
  simp only [Prog.lift, Prog.bind_op, Prog.bind_ret, Prog.pure_eq_ret]
  iapply (sent_D X Wt K c (ii 29) 32 32 (ss11 _ 4 rfl _ rfl _)) $$ HS
  iintro HS
  iapply (sent_D X Wt K c (ii 30) 32 32 (ss11 _ 5 rfl _ rfl _)) $$ HS
  iintro HS
  iapply (sent_D X Wt K c (ii 31) 32 32 (ss11 _ 6 rfl _ rfl _)) $$ HS
  iintro HS
  ihave HO := (of_eq' (out_halves c (bOut X Wt c)).symm) $$ [HOL HOR]
  · isplitl [HOL] <;> iassumption
  iapply (Wp_ret c)
  iapply Hk
  isplitl [HS]; · iexact HS
  isplitl [HB]; · iexact HB
  isplitl [HX]; · iexact HX
  isplitl [HW]; · iexact HW
  isplitl [HO]; · iexact HO
  isplitl [HPL]; · iexact HPL
  isplitl [HPR]; · iexact HPR
  isplitl [HXA]; · iexact HXA
  isplitl [HXB]; · iexact HXB
  isplitl [HRA]; · iexact HRA
  iexact HRB

end Cert.KernelIdeal.Ring
-- ==== Proof.Enter.lean ====
/- How the memory a device starts with is cut into the places its transfers land, and how it is put together again at the end. -/
module

public import proofs.«01_k».proof.Proof.Memory
public import proofs.«01_k».proof.Proof.Sends

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x32 .f32) (Wt : Dev nD → Vec F S32x1024 .f32)
variable (c : Dev nD)

/-- What a device collects in its layer, with any contents, by blocks. -/
theorem colA_any (fA : Buf (Elt F) (locA c)) (fB : Buf (Elt F) (locB c)) (f : Buf (Elt F) (locXA c)) (fXB : Buf (Elt F) (locXB c)) :
    (locXA c ↦[Finset.univ]{fullShare} f : sProp 𝕄)
    = iprop((locXA c ↦[row2 (32 * jj c)]{fullShare} f) ∗ landAt c 24 fA fB f fXB ∗ landAt c 23 fA fB f fXB ∗ landAt c 22 fA fB f fXB
      ∗ landAt c 21 fA fB f fXB ∗ landAt c 20 fA fB f fXB ∗ landAt c 19 fA fB f fXB ∗ landAt c 18 fA fB f fXB) := by
  have hj := jj_lt c
  obtain ⟨h1, h2, h3⟩ := jperm (jj c) hj
  obtain ⟨hd, hS⟩ := col_rows (fun d => (jj c + d.val) % 8) h1 h2 h3
  have e : (jj c + (0 : Fin 8).val) % 8 = jj c := Nat.mod_eq_of_lt hj
  have hl : ∀ i : Fin 32, 18 ≤ i.val ∧ i.val < 25 → landAt c i fA fB f fXB = (locXA c ↦[row2 (32 * ((jj c + (25 - i.val)) % 8))]{fullShare} f) := by
    intro i hi
    rw [landAt_XA c i hi.1 hi.2, jj_src c i hi]
  rw [hl 18 (by decide), hl 19 (by decide), hl 20 (by decide), hl 21 (by decide), hl 22 (by decide), hl 23 (by decide), hl 24 (by decide),
    pts_fin (ℓ := locXA c) _ Finset.univ _ hd hS, bigSep_univ_eq_bigSepL [0, 1, 2, 3, 4, 5, 6, 7] (by decide) (by decide)]
  simp only [bigSepL_cons_cons, bigSepL_singleton, e]
  rfl

/-- What a device collects across the layers, with any contents, by blocks. -/
theorem colB_any (fA : Buf (Elt F) (locA c)) (fB : Buf (Elt F) (locB c)) (fXA : Buf (Elt F) (locXA c)) (f : Buf (Elt F) (locXB c)) :
    (locXB c ↦[Finset.univ]{fullShare} f : sProp 𝕄)
    = iprop((locXB c ↦[row2 (32 * mm c)]{fullShare} f) ∗ landAt c 31 fA fB fXA f ∗ landAt c 30 fA fB fXA f ∗ landAt c 29 fA fB fXA f
      ∗ landAt c 28 fA fB fXA f ∗ landAt c 27 fA fB fXA f ∗ landAt c 26 fA fB fXA f ∗ landAt c 25 fA fB fXA f) := by
  have hj := mm_lt c
  obtain ⟨h1, h2, h3⟩ := jperm (mm c) hj
  obtain ⟨hd, hS⟩ := col_rows (fun d => (mm c + d.val) % 8) h1 h2 h3
  have e : (mm c + (0 : Fin 8).val) % 8 = mm c := Nat.mod_eq_of_lt hj
  have hl : ∀ i : Fin 32, 25 ≤ i.val → landAt c i fA fB fXA f = (locXB c ↦[row2 (32 * ((mm c + (32 - i.val)) % 8))]{fullShare} f) := by
    intro i hi
    rw [landAt_XB c i hi, mm_src c i hi]
  rw [hl 25 (by decide), hl 26 (by decide), hl 27 (by decide), hl 28 (by decide), hl 29 (by decide), hl 30 (by decide), hl 31 (by decide),
    pts_fin (ℓ := locXB c) _ Finset.univ _ hd hS, bigSep_univ_eq_bigSepL [0, 1, 2, 3, 4, 5, 6, 7] (by decide) (by decide)]
  simp only [bigSepL_cons_cons, bigSepL_singleton, e]
  rfl

/-- The left sums with any contents, by the places the transfers to them land. -/
theorem sumsA_any (f : Buf (Elt F) (locA c)) (fB : Buf (Elt F) (locB c)) (fXA : Buf (Elt F) (locXA c)) (fXB : Buf (Elt F) (locXB c)) :
    (locA c ↦[Finset.univ]{fullShare} f : sProp 𝕄)
    = iprop(landAt c 0 f fB fXA fXB ∗ landAt c 1 f fB fXA fXB ∗ landAt c 6 f fB fXA fXB ∗ landAt c 7 f fB fXA fXB
      ∗ landAt c 12 f fB fXA fXB ∗ landAt c 13 f fB fXA fXB) := by
  rw [sumsA, slotA_halves, landAt_A c 0 0 0 rfl (by decide) (by decide), landAt_A c 1 0 1 rfl (by decide) (by decide),
    landAt_A c 6 1 0 rfl (by decide) (by decide), landAt_A c 7 1 1 rfl (by decide) (by decide),
    landAt_A c 12 2 0 rfl (by decide) (by decide), landAt_A c 13 2 1 rfl (by decide) (by decide)]

/-- The right sums with any contents, by the places the transfers to them land. -/
theorem sumsB_any (fA : Buf (Elt F) (locA c)) (f : Buf (Elt F) (locB c)) (fXA : Buf (Elt F) (locXA c)) (fXB : Buf (Elt F) (locXB c)) :
    (locB c ↦[Finset.univ]{fullShare} f : sProp 𝕄)
    = iprop(landAt c 2 fA f fXA fXB ∗ landAt c 3 fA f fXA fXB ∗ landAt c 4 fA f fXA fXB ∗ landAt c 5 fA f fXA fXB
      ∗ landAt c 8 fA f fXA fXB ∗ landAt c 9 fA f fXA fXB ∗ landAt c 10 fA f fXA fXB ∗ landAt c 11 fA f fXA fXB
      ∗ landAt c 14 fA f fXA fXB ∗ landAt c 15 fA f fXA fXB ∗ landAt c 16 fA f fXA fXB ∗ landAt c 17 fA f fXA fXB) := by
  rw [sumsB, slotB_quarters, landAt_B c 2 0 0 rfl (by decide) (by decide), landAt_B c 3 0 1 rfl (by decide) (by decide),
    landAt_B c 4 0 2 rfl (by decide) (by decide), landAt_B c 5 0 3 rfl (by decide) (by decide),
    landAt_B c 8 1 0 rfl (by decide) (by decide), landAt_B c 9 1 1 rfl (by decide) (by decide),
    landAt_B c 10 1 2 rfl (by decide) (by decide), landAt_B c 11 1 3 rfl (by decide) (by decide),
    landAt_B c 14 2 0 rfl (by decide) (by decide), landAt_B c 15 2 1 rfl (by decide) (by decide),
    landAt_B c 16 2 2 rfl (by decide) (by decide), landAt_B c 17 2 3 rfl (by decide) (by decide)]

/-- A product over the transfers, one by one. -/
theorem big32 (Φ : Fin 32 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-- The four buffers the transfers land in are the places they land and a device's own two blocks of rows. -/
theorem lands_in (fA : Buf (Elt F) (locA c)) (fB : Buf (Elt F) (locB c)) (fXA : Buf (Elt F) (locXA c)) (fXB : Buf (Elt F) (locXB c)) :
    iprop((locA c ↦[Finset.univ]{fullShare} fA) ∗ (locB c ↦[Finset.univ]{fullShare} fB) ∗ (locXA c ↦[Finset.univ]{fullShare} fXA)
      ∗ (locXB c ↦[Finset.univ]{fullShare} fXB))
    ⊢ iprop((bigSep Finset.univ fun i : Fin 32 => Land (F := F) c i) ∗ (locXA c ↦[row2 (32 * jj c)]{fullShare} fXA)
      ∗ (locXB c ↦[row2 (32 * mm c)]{fullShare} fXB)) := by
  have h : iprop((locA c ↦[Finset.univ]{fullShare} fA) ∗ (locB c ↦[Finset.univ]{fullShare} fB) ∗ (locXA c ↦[Finset.univ]{fullShare} fXA)
      ∗ (locXB c ↦[Finset.univ]{fullShare} fXB))
    ⊢ iprop((bigSep Finset.univ fun i : Fin 32 => landAt (F := F) c i fA fB fXA fXB) ∗ (locXA c ↦[row2 (32 * jj c)]{fullShare} fXA)
      ∗ (locXB c ↦[row2 (32 * mm c)]{fullShare} fXB) : sProp 𝕄) := by
    rw [sumsA_any c fA fB fXA fXB, sumsB_any c fA fB fXA fXB, colA_any c fA fB fXA fXB, colB_any c fA fB fXA fXB, big32]
    iintro ⟨⟨H0, H1, H6, H7, H12, H13⟩, ⟨H2, H3, H4, H5, H8, H9, H10, H11, H14, H15, H16, H17⟩, ⟨HA, H24, H23, H22, H21, H20, H19, H18⟩,
      HB, H31, H30, H29, H28, H27, H26, H25⟩
    isplitr [HA HB]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      iexact H31
    isplitl [HA] <;> iassumption
  refine h.trans ?_
  iintro ⟨H, HA, HB⟩
  isplitl [H]
  · iapply (big_mono (fun i : Fin 32 => landAt (F := F) c i fA fB fXA fXB) (fun i => Land c i) fun i => landAt_Land c i fA fB fXA fXB)
    iexact H
  isplitl [HA] <;> iassumption

/-- The places the transfers were sent from, with what stayed, are the product and the sums whole. -/
theorem sources_out :
    iprop((bigSep Finset.univ fun i : Fin 32 => srcPts X Wt c i) ∗ (locP c ↦[PL c]{fullShare} bPart X Wt c) ∗ (locP c ↦[PR c]{fullShare} bPart X Wt c)
      ∗ (locA c ↦[row3 (32 * jj c)]{fullShare} bAccA X Wt c) ∗ (locB c ↦[row3 (rowB (yy c) (mm c))]{fullShare} bAccB X Wt c))
    ⊢ iprop((locP c ↦[Finset.univ]{fullShare} bPart X Wt c) ∗ (locA c ↦[Finset.univ]{fullShare} bAccA X Wt c)
      ∗ (locB c ↦[Finset.univ]{fullShare} bAccB X Wt c)) := by
  rw [part_halves, left_pieces, right_pieces, sumsA, sumsB, slotA_rows, slotB_rows,
    ← srcPts_A X Wt c 6 0 0 rfl (by decide) (by decide), ← srcPts_A X Wt c 7 0 1 rfl (by decide) (by decide),
    ← srcPts_A X Wt c 12 1 0 rfl (by decide) (by decide), ← srcPts_A X Wt c 13 1 1 rfl (by decide) (by decide),
    ← srcPts_B X Wt c 8 0 0 rfl (by decide) (by decide), ← srcPts_B X Wt c 9 0 1 rfl (by decide) (by decide),
    ← srcPts_B X Wt c 10 0 2 rfl (by decide) (by decide), ← srcPts_B X Wt c 11 0 3 rfl (by decide) (by decide),
    ← srcPts_B X Wt c 14 1 0 rfl (by decide) (by decide), ← srcPts_B X Wt c 15 1 1 rfl (by decide) (by decide),
    ← srcPts_B X Wt c 16 1 2 rfl (by decide) (by decide), ← srcPts_B X Wt c 17 1 3 rfl (by decide) (by decide), big32]
  iintro ⟨⟨H0, H1, H2, H3, H4, H5, H6, H7, H8, H9, H10, H11, H12, H13, H14, H15, H16, H17, H18, H19, H20, H21, H22, H23, H24, H25, H26, H27, H28, H29, H30, H31⟩, HPL, HPR, HA, HB⟩
  isplitl [HPL HPR H0 H1 H2 H3 H4 H5]
  · isplitl [HPL H0 H1]
    · isplitl [HPL]; · iexact HPL
      isplitl [H0]; · iexact H0
      iexact H1
    isplitl [HPR]; · iexact HPR
    isplitl [H2]; · iexact H2
    isplitl [H3]; · iexact H3
    isplitl [H4]; · iexact H4
    iexact H5
  isplitl [HA H6 H7 H12 H13 H18 H19 H20 H21 H22 H23 H24]
  · isplitl [H6]; · iexact H6
    isplitl [H7]; · iexact H7
    isplitl [H12]; · iexact H12
    isplitl [H13]; · iexact H13
    isplitl [HA]; · iexact HA
    isplitl [H18]; · iexact H18
    isplitl [H19]; · iexact H19
    isplitl [H20]; · iexact H20
    isplitl [H21]; · iexact H21
    isplitl [H22]; · iexact H22
    isplitl [H23]; · iexact H23
    iexact H24
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [HB]; · iexact HB
  isplitl [H25]; · iexact H25
  isplitl [H26]; · iexact H26
  isplitl [H27]; · iexact H27
  isplitl [H28]; · iexact H28
  isplitl [H29]; · iexact H29
  isplitl [H30]; · iexact H30
  iexact H31

end Cert.KernelIdeal.Ring

end
-- ==== Proof.Enclose.lean ====
/- What a device holds when the kernel is entered and when it is left, and the kernel between the two. -/
module

public import proofs.«01_k».proof.Proof.Body4
public import proofs.«01_k».proof.Proof.Enter
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state the program starts in. -/
abbrev s₀ : MemSt nD τ sig (Elt F) := ⟨m, fun _ => 0, ρ⟩

/-- What is staged on device `c` of the left factor. -/
def xstg (c : Dev nD) : Vec F S1024x32 .f32 := (win0_0.blk (0 : Fin 1)).view.read (Elt F) (m ((c : Thread nD τ).loc main_arg0))
/-- What is staged on device `c` of the right factor. -/
def wstg (c : Dev nD) : Vec F S32x1024 .f32 := (win0_1.blk (0 : Fin 1)).view.read (Elt F) (m ((c : Thread nD τ).loc main_arg1))

/-- The schedule at the staged factors. -/
abbrev Rm : Rounds.Schedule (GSem nD τ sig) (Fin 14) 𝕄 := Rd (xstg m) (wstg m)

/-- The two semaphores of a device that nothing raises. -/
def spares (c : Dev nD) : sProp 𝕄 :=
  iprop(semVal ((c : Thread nD τ), .dma (⟨46 + jj c % 8, by omega⟩ : Fin 69)) 0 ∗ semVal ((c : Thread nD τ), .dma (⟨61 + mm c % 8, by omega⟩ : Fin 69)) 0)

/-- The cells' invariants, each with the mark that its cell has reached round 0. -/
def Recs (K : Dev nD × Ci → ℕ) : sProp 𝕄 :=
  bigSep Finset.univ fun ck : Dev nD × Ci => iprop(cellInv ER (Rm m) (K ck) (kcell ck) ∗ reached ER (kcell ck) 0)

instance Recs_persistent (K : Dev nD × Ci → ℕ) : BI.Persistent (Recs m K) := by unfold Recs; infer_instance

/-- The duties device `c` pays and where it stands. -/
def linear (c : Dev nD) : sProp 𝕄 :=
  iprop(atPos ER (barCell c) 0 ∅ 0
    ∗ (bigSep Finset.univ fun n : Fin 14 => dutyTok ER (barCell (sdst n c)) 0 n)
    ∗ (bigSep Finset.univ fun i : Fin 32 => iprop(dutyTok ER (scell c i) 0 0 ∗ dutyTok ER (rcell (dst i c) i) 0 0 ∗ atPos ER (scell c i) 0 ∅ 0))
    ∗ (bigSep Finset.univ fun i : Fin 32 => atPos ER (rcell c i) 0 ∅ 0)
    ∗ spares c)

/-- What the launch makes for device `c`. -/
def ghost (c : Dev nD) : sProp 𝕄 := iprop(∃ K, Recs m K ∗ linear (F := F) c)

/-- What device `c` starts from: that, its credits, the levels. -/
def start (c : Dev nD) : sProp 𝕄 :=
  iprop(ghost m c ∗ cred (tallyAt (barCell c) () 14) ∗ (bigSep Finset.univ fun i : Fin 32 => cred (tallyAt (rcell c i) () (N i))) ∗ Lev F)

/-- The kernel's five buffers, with any contents. -/
def bufs (c : Dev nD) : sProp 𝕄 :=
  iprop((∃ f, locP c ↦{fullShare} f) ∗ (∃ f, locA c ↦{fullShare} f) ∗ (∃ f, locB c ↦{fullShare} f)
    ∗ (∃ f, locXA c ↦{fullShare} f) ∗ (∃ f, locXB c ↦{fullShare} f))

/-- Device `c` when the kernel is entered. -/
def Φ₀ (c : Dev nD) : sProp 𝕄 := iprop(start m c ∗ bufs (F := F) c)
/-- Device `c` when it is left: every counter back at zero. -/
def Φ₁ (c : Dev nD) : sProp 𝕄 :=
  iprop((bigSep Finset.univ fun i : Fin 32 => semVal (scell c i) 0) ∗ (bigSep Finset.univ fun i : Fin 32 => semVal (rcell c i) 0)
    ∗ spares c ∗ semVal (barCell c) 0 ∗ bufs (F := F) c)

/-- The proof's data for the launch. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => bOut (xstg m) (wstg m) c
  Φ t := match t with
    | ⟨0, _⟩ => Φ₀ m c
    | ⟨_ + 1, _⟩ => Φ₁ c
  q _ := fullShare
  owed t := match t with
    | ⟨0, _⟩ => Ob c 0
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer with given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- Before the kernel, as the launch states it. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- After the kernel, as the launch states it. -/
def bodyPost (c : Dev nD) : sProp 𝕄 :=
  iprop(Φ₁ (F := F) c ∗ (dats m ρ 0 c).owesAt () t0_0.succ ∗ stg c cc0_stg0_0 (xstg m c) ∗ stg c cc0_stg1_0 (wstg m c)
    ∗ stg c cc0_stg2_0 (bOut (xstg m) (wstg m) c))

theorem sigSt_zero (c : Dev nD) (n : Fin 14) :
    sigSt (F := F) c 0 n = iprop(dutyTok ER (barCell (sdst n c)) 0 n ∗ Grant (F := F) c n) := if_pos (Nat.zero_le _)
theorem recvSt_zero (c : Dev nD) (i : Fin 32) :
    recvSt (F := F) c 0 i = iprop(atPos ER (rcell c i) 0 ∅ 0 ∗ cred (tallyAt (rcell c i) () (N i))) := if_pos (Nat.zero_le _)
theorem recvSt_end (c : Dev nD) (i : Fin 32) : recvSt (F := F) c 32 i = semVal (rcell c i) 0 := if_neg (by have := i.isLt; omega)
theorem sendSt_end (c : Dev nD) (i : Fin 32) : sendSt (xstg m) (wstg m) c 32 32 i = iprop(semVal (scell c i) 0 ∗ srcPts (xstg m) (wstg m) c i) := by
  have := i.isLt
  unfold sendSt; rw [if_neg (by omega), if_neg (by omega)]

/-- What a device needs before its first signal, from what the launch makes. -/
theorem enter (c : Dev nD) (K : Dev nD × Ci → ℕ) (W : Waits sig Unit) :
    iprop((Recs m K ∗ linear (F := F) c) ∗ (bigSep Finset.univ fun i : Fin 32 => cred (tallyAt (rcell c i) () (N i))) ∗ Lev F
      ∗ owes (c : Thread nD τ) (Ob c 0) W ∗ (bigSep Finset.univ fun i : Fin 32 => Land (F := F) c i))
    ⊢ iprop(Sig (xstg m) (wstg m) K c 0 ∗ atPos ER (barCell c) 0 ∅ 0 ∗ Pre (F := F) c ∗ spares (F := F) c) := by
  unfold linear Sig Pre
  iintro ⟨⟨HR, HB, HT, HS, HV, HZ⟩, HC, HL, HO, HG⟩
  isplitl [HR HL HO HT HG]
  · isplitl [HR HL]
    · unfold Inv Recs
      isplitl [HR] <;> iassumption
    isplitl [HO]
    · iexists W; iexact HO
    ihave HG := (grants_of_lands (F := F) c) $$ HG
    rw [funext (sigSt_zero (F := F) c), bigSep_sep']
    isplitl [HT] <;> iassumption
  isplitl [HB]; · iexact HB
  isplitr [HZ]
  · isplitl [HS]; · iexact HS
    rw [funext (recvSt_zero (F := F) c), bigSep_sep']
    isplitl [HV] <;> iassumption
  iexact HZ

set_option maxHeartbeats 1000000 in
/-- What a device holds at the end is every counter at zero, its five buffers, nothing owed. -/
theorem leave (c : Dev nD) (K : Dev nD × Ci → ℕ) :
    iprop(St (xstg m) (wstg m) K c 32 32 32 ∗ PLp (xstg m) (wstg m) c ∗ PRp (xstg m) (wstg m) c
      ∗ (locXA c ↦[Finset.univ]{fullShare} bGatA (xstg m) (wstg m) c) ∗ (locXB c ↦[Finset.univ]{fullShare} bGatB (xstg m) (wstg m) c)
      ∗ (locA c ↦[row3 (32 * jj c)]{fullShare} bAccA (xstg m) (wstg m) c)
      ∗ (locB c ↦[row3 (rowB (yy c) (mm c))]{fullShare} bAccB (xstg m) (wstg m) c))
    ⊢ iprop((∃ W, owes (c : Thread nD τ) 0 W) ∗ (bigSep Finset.univ fun i : Fin 32 => semVal (scell c i) 0)
      ∗ (bigSep Finset.univ fun i : Fin 32 => semVal (rcell c i) 0) ∗ bufs (F := F) c) := by
  unfold St bufs
  rw [funext (sendSt_end m c), funext (recvSt_end (F := F) c), bigSep_sep', Od_end]
  iintro ⟨⟨-, HO, ⟨HS, HP⟩, HV⟩, HL, HR, HXA, HXB, HA, HB⟩
  isplitl [HO]; · iexact HO
  isplitl [HS]; · iexact HS
  isplitl [HV]; · iexact HV
  ihave H := (sources_out (xstg m) (wstg m) c) $$ [HP HL HR HA HB]
  · isplitl [HP]; · iexact HP
    isplitl [HL]; · iexact HL
    isplitl [HR]; · iexact HR
    isplitl [HA] <;> iassumption
  icases H with ⟨HP, HA, HB⟩
  isplitl [HP]; · iexists _; iexact HP
  isplitl [HA]; · iexists _; iexact HA
  isplitl [HB]; · iexists _; iexact HB
  isplitl [HXA]; · iexists _; iexact HXA
  iexists _; iexact HXB

set_option maxHeartbeats 1000000 in
/-- The kernel from what the launch states before it to what it states after it. -/
theorem sound_body (c : Dev nD) : bodyPre m ρ c ⊢ Wp c (onArgs (cc0_body (F := F))) (fun _ => bodyPost m ρ c) := by
  unfold bodyPre Φ₀ start ghost
  iintro ⟨⟨⟨⟨%K, HG⟩, HcB, HcV, HLv⟩, HBuf⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx
  subst hw
  unfold Dat.owesAt Pipeline.owesWithin
  icases Ho with ⟨%W, %hW, HO⟩
  rw [show (dats m ρ 0 c).owed t0_0.castSucc = Ob c 0 from rfl]
  unfold bufs
  icases HBuf with ⟨⟨%fP, HP⟩, ⟨%fA, HA⟩, ⟨%fB, HB⟩, ⟨%fXA, HXA⟩, ⟨%fXB, HXB⟩⟩
  ihave HL := (lands_in c fA fB fXA fXB) $$ [HA HB HXA HXB]
  · isplitl [HA]; · iexact HA
    isplitl [HB]; · iexact HB
    isplitl [HXA] <;> iassumption
  icases HL with ⟨HL, HXA, HXB⟩
  ihave HE := (enter m c K W) $$ [HG HcV HLv HO HL]
  · isplitl [HG]; · iexact HG
    isplitl [HcV]; · iexact HcV
    isplitl [HLv]; · iexact HLv
    isplitl [HO] <;> iassumption
  icases HE with ⟨HS, HatB, HPre, HZ⟩
  ihave HP := (of_eq' (part_halves c fP)) $$ HP
  icases HP with ⟨HPL, HPR⟩
  iapply (body_wp (xstg m) (wstg m) K c fP fXA fXB g2) $$ [HS HcB HatB HPre Hx Hw HPL HPR HXA HXB Hout]
  · isplitl [HS]; · iexact HS
    isplitl [HcB]; · iexact HcB
    isplitl [HatB]; · iexact HatB
    isplitl [HPre]; · iexact HPre
    isplitl [Hx]; · iexact Hx
    isplitl [Hw]; · iexact Hw
    isplitl [HPL]; · iexact HPL
    isplitl [HPR]; · iexact HPR
    isplitl [HXA]; · iexact HXA
    isplitl [HXB] <;> iassumption
  iintro ⟨HS, HvB, Hx, Hw, Hout, HL, HR, HXA, HXB, HA, HB⟩
  ihave HE := (leave m c K) $$ [HS HL HR HXA HXB HA HB]
  · isplitl [HS]; · iexact HS
    isplitl [HL]; · iexact HL
    isplitl [HR]; · iexact HR
    isplitl [HXA]; · iexact HXA
    isplitl [HXB]; · iexact HXB
    isplitl [HA] <;> iassumption
  icases HE with ⟨⟨%W', HO⟩, HvS, HvR, HBuf⟩
  unfold bodyPost Φ₁ Dat.owesAt Pipeline.owesWithin
  rw [show (dats m ρ 0 c).owed t0_0.succ = 0 from rfl]
  isplitl [HvS HvR HZ HvB HBuf]
  · isplitl [HvS]; · iexact HvS
    isplitl [HvR]; · iexact HvR
    isplitl [HZ]; · iexact HZ
    isplitl [HvB] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 16000 in
/-- What the launch asks of the kernel on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Ring

end
-- ==== Proof.Launch.lean ====
/- The launch of the kernel on the mesh: every cell set up at once, then the run of the whole program. -/
module

public import proofs.«01_k».proof.Proof.Enclose
public import Idealize.ShloMosaic.Lib.Pipeline.Launch
public import Idealize.ShloMosaic.Lib.Pipeline.Kit
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ### The cells -/

/-- A device's cells, listed: its barrier's, its sends', its receipts'. -/
def ciEquiv : Unit ⊕ (Fin 32 ⊕ Fin 32) ≃ Ci where
  toFun := fun | .inl _ => none | .inr (.inl i) => some (false, i) | .inr (.inr i) => some (true, i)
  invFun := fun | none => .inl () | some (false, i) => .inr (.inl i) | some (true, i) => .inr (.inr i)
  left_inv := by rintro (_ | i | i) <;> rfl
  right_inv := by rintro (_ | ⟨_ | _, i⟩) <;> rfl

/-- A product over a device's cells. -/
theorem bigSep_ci (Φ : Ci → sProp 𝕄) : bigSep Finset.univ Φ
    = iprop(Φ none ∗ (bigSep Finset.univ fun i : Fin 32 => Φ (some (false, i))) ∗ (bigSep Finset.univ fun i : Fin 32 => Φ (some (true, i)))) := by
  rw [bigSep_univ_equiv ciEquiv, bigSep_univ_sum, bigSep_univ_sum, Finset.univ_unique, bigSep_singleton]
  rfl

/-- The role of a cell, by its name. -/
def roleOf : Ci → Role
  | none => .bar
  | some (false, i) => .send i
  | some (true, i) => .recv i
theorem role_kcell (ck : Dev nD × Ci) : role (kcell ck) = roleOf ck.2 := by
  obtain ⟨c, _ | ⟨_ | _, i⟩⟩ := ck
  · exact role_bar c
  · exact role_send c i
  · exact role_recv c i
theorem kcell_dev (ck : Dev nD × Ci) : (kcell ck).1.1 = ck.1 := by
  obtain ⟨c, _ | ⟨_ | _, i⟩⟩ := ck <;> rfl
theorem roleOf_inj : ∀ k k' : Ci, roleOf k = roleOf k' → k = k'
  | none, none, _ => rfl
  | some (false, i), some (false, i'), h => by injection h with h; rw [h]
  | some (true, i), some (true, i'), h => by injection h with h; rw [h]
  | none, some (false, _), h => by cases h
  | none, some (true, _), h => by cases h
  | some (false, _), none, h => by cases h
  | some (true, _), none, h => by cases h
  | some (false, _), some (true, _), h => by cases h
  | some (true, _), some (false, _), h => by cases h

theorem kcell_injective : Function.Injective (kcell : Dev nD × Ci → GSem nD τ sig) := by
  intro a b h
  have h1 : a.1 = b.1 := by rw [← kcell_dev a, ← kcell_dev b, h]
  have h2 : a.2 = b.2 := roleOf_inj _ _ (by rw [← role_kcell a, ← role_kcell b, h])
  exact Prod.ext h1 h2
/-- All cells of the kernel. -/
def ringCells : Finset (GSem nD τ sig) := Finset.univ.map ⟨kcell, kcell_injective⟩

/-! ### The duties -/

/-- A device's duties: fourteen of its barrier, one of each transfer's cell. -/
abbrev Ti : Type := Fin 14 ⊕ (Fin 32 ⊕ Fin 32)
def tokOf (ct : Dev nD × Ti) : GSem nD τ sig × ℕ × Fin 14 := match ct.2 with
  | .inl n => (barCell ct.1, 0, n)
  | .inr (.inl i) => (scell ct.1 i, 0, 0)
  | .inr (.inr i) => (rcell ct.1 i, 0, 0)
def tokRole : Ti → Role × Fin 14
  | .inl n => (.bar, n)
  | .inr (.inl i) => (.send i, 0)
  | .inr (.inr i) => (.recv i, 0)
theorem tok_role (ct : Dev nD × Ti) : (role (tokOf ct).1, (tokOf ct).2.2) = tokRole ct.2 := by
  obtain ⟨c, n | i | i⟩ := ct
  · rfl
  · exact congrArg (fun r => (r, (0 : Fin 14))) (role_send c i)
  · exact congrArg (fun r => (r, (0 : Fin 14))) (role_recv c i)
theorem tok_dev (ct : Dev nD × Ti) : (tokOf ct).1.1.1 = ct.1 := by
  obtain ⟨c, n | i | i⟩ := ct <;> rfl
theorem tokRole_inj : ∀ k k' : Ti, tokRole k = tokRole k' → k = k'
  | .inl n, .inl n', h => by injection h with _ h; rw [h]
  | .inr (.inl i), .inr (.inl i'), h => by injection h with h _; injection h with h; rw [h]
  | .inr (.inr i), .inr (.inr i'), h => by injection h with h _; injection h with h; rw [h]
  | .inl _, .inr (.inl _), h => by injection h with h _; cases h
  | .inl _, .inr (.inr _), h => by injection h with h _; cases h
  | .inr (.inl _), .inl _, h => by injection h with h _; cases h
  | .inr (.inr _), .inl _, h => by injection h with h _; cases h
  | .inr (.inl _), .inr (.inr _), h => by injection h with h _; cases h
  | .inr (.inr _), .inr (.inl _), h => by injection h with h _; cases h
theorem tokOf_injective : Function.Injective tokOf := by
  intro a b h
  have h1 : a.1 = b.1 := by rw [← tok_dev a, ← tok_dev b, h]
  have h2 : a.2 = b.2 := tokRole_inj _ _ (by rw [← tok_role a, ← tok_role b, h])
  exact Prod.ext h1 h2
def ringToks : Finset (GSem nD τ sig × ℕ × Fin 14) := Finset.univ.map ⟨tokOf, tokOf_injective⟩

/-- The element the launch starts from. -/
def u₀ : UU :=
  (initOf (Pipeline.cells cfgs cellOf_inj) (Pipeline.launchToks cfgs cellOf_inj), initOf ringCells ringToks)

/-- The duties of device `c`'s own cells. -/
def toks (c : Dev nD) : sProp 𝕄 :=
  iprop((bigSep Finset.univ fun n : Fin 14 => dutyTok ER (barCell c) 0 n)
    ∗ (bigSep Finset.univ fun i : Fin 32 => dutyTok ER (scell c i) 0 0) ∗ (bigSep Finset.univ fun i : Fin 32 => dutyTok ER (rcell c i) 0 0))

/-- What the launch deals device `c` of the kernel's cells. -/
def G (c : Dev nD) : sProp 𝕄 :=
  iprop((bigSep Finset.univ fun k : Ci => roundState ER (Rm m) (kcell (c, k)) 0)
    ∗ (bigSep Finset.univ fun k : Ci => iprop(atPos ER (kcell (c, k)) 0 ∅ 0 ∗ reached ER (kcell (c, k)) 0)) ∗ toks c)

/-- The launch's element deals every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ci => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rm m) ringCells ringToks) $$ HX with ⟨Hst, Hr, Hat, Htok⟩
  imodintro
  ihave Hst' := (Entails.of_eq (hX fun g => roundState ER (Rm m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The kernel's own semaphores. -/
abbrev osem : Fin 66 → SemLoc sig := fun k => .dma (⟨k.val + 3, by omega⟩ : Fin 69)
theorem osem_eq (k : Fin 66) (n : ℕ) (hn : n < 69) (h : k.val + 3 = n) : osem k = .dma (⟨n, hn⟩ : Fin 69) := by subst h; rfl
theorem ownSemFacts : Pipeline.OwnSemFacts cfg0.spec osem := by decide +kernel

/-- Which of its own semaphores device `c` uses for what. -/
def ownOf (c : Dev nD) : (Fin 32 ⊕ Fin 32) ⊕ Bool → Fin 66
  | .inl (.inl i) => ⟨(ssemN i.val - 3) % 66, Nat.mod_lt _ (by decide)⟩
  | .inl (.inr i) => ⟨(rsemN c i - 3) % 66, Nat.mod_lt _ (by decide)⟩
  | .inr false => ⟨(43 + jj c % 8) % 66, Nat.mod_lt _ (by decide)⟩
  | .inr true => ⟨(58 + mm c % 8) % 66, Nat.mod_lt _ (by decide)⟩
theorem ownOf_injective : ∀ c, Function.Injective (ownOf c) := by decide +kernel
theorem ownOf_bijective (c : Dev nD) : Function.Bijective (ownOf c) :=
  (Fintype.bijective_iff_injective_and_card _).mpr ⟨ownOf_injective c, by decide⟩
theorem ssemN_ge (i : Fin 32) : 3 ≤ ssemN i.val := by revert i; decide
theorem rsemN_ge (c : Dev nD) (i : Fin 32) : 3 ≤ rsemN c i := by revert c i; decide +kernel

/-- The kernel's own semaphores are those its transfers raise and the two spare ones. -/
theorem ownSems0_eq (c : Dev nD) : (Pipeline.ownSems0 (Ix := Unit) (Name := ℕ) (U := UU) (Lvl := ℕ) (Val := Elt F) (τ := τ) osem c : sProp 𝕄)
    = iprop(((bigSep Finset.univ fun i : Fin 32 => semVal (scell c i) 0) ∗ (bigSep Finset.univ fun i : Fin 32 => semVal (rcell c i) 0)) ∗ spares c) := by
  unfold Pipeline.ownSems0 spares
  rw [bigSep_univ_equiv (Equiv.ofBijective (ownOf c) (ownOf_bijective c)), bigSep_univ_sum, bigSep_univ_sum,
    bigSep_univ_eq_bigSepL [false, true] (by decide) (by decide), bigSepL_cons_cons, bigSepL_singleton]
  have hs : ∀ i : Fin 32, (((c : Dev nD).tc : Thread nD τ), osem (Equiv.ofBijective (ownOf c) (ownOf_bijective c) (.inl (.inl i)))) = scell c i := fun i =>
    congrArg (Prod.mk _) (osem_eq _ _ (ssemN_lt i) (by
      show (ssemN i.val - 3) % 66 + 3 = ssemN i.val
      have := ssemN_lt i; have := ssemN_ge i; omega))
  have hr : ∀ i : Fin 32, (((c : Dev nD).tc : Thread nD τ), osem (Equiv.ofBijective (ownOf c) (ownOf_bijective c) (.inl (.inr i)))) = rcell c i := fun i =>
    congrArg (Prod.mk _) (osem_eq _ _ (rsemN_lt c i) (by
      show (rsemN c i - 3) % 66 + 3 = rsemN c i
      have := rsemN_lt c i; have := rsemN_ge c i; omega))
  have h0 : (((c : Dev nD).tc : Thread nD τ), osem (Equiv.ofBijective (ownOf c) (ownOf_bijective c) (.inr false)))
      = ((c : Thread nD τ), .dma (⟨46 + jj c % 8, by omega⟩ : Fin 69)) :=
    congrArg (Prod.mk _) (osem_eq _ _ (by omega) (by
      show (43 + jj c % 8) % 66 + 3 = 46 + jj c % 8
      omega))
  have h1 : (((c : Dev nD).tc : Thread nD τ), osem (Equiv.ofBijective (ownOf c) (ownOf_bijective c) (.inr true)))
      = ((c : Thread nD τ), .dma (⟨61 + mm c % 8, by omega⟩ : Fin 69)) :=
    congrArg (Prod.mk _) (osem_eq _ _ (by omega) (by
      show (58 + mm c % 8) % 66 + 3 = 61 + mm c % 8
      omega))
  simp only [hs, hr, h0, h1]
  rfl

/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Ci => semVal (kcell (c, k)) 0) ∗ spares c : sProp 𝕄) := by
  rw [ownSems0_eq, unscopedSems0_eq, bigSep_ci]
  iintro ⟨⟨⟨HS, HV⟩, HZ⟩, HB⟩
  isplitr [HZ]
  · isplitl [HB]; · iexact HB
    isplitl [HS]; · iexact HS
    iexact HV
  iexact HZ

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rm m) κ (kcell (c, k))))
          ∗ (bigSep Finset.univ fun k => iprop(atPos ER (kcell (c, k)) 0 ∅ 0 ∗ reached ER (kcell (c, k)) 0)) ∗ toks c ∗ spares c) := by
  unfold G
  iintro ⟨Hos, Hus, Hst, Hat, Htok⟩
  ihave Hv := (sems0_eq (F := F) c) $$ [Hos Hus]
  · isplitl [Hos] <;> iassumption
  icases Hv with ⟨Hv, HZ⟩
  imod (show iprop((bigSep Finset.univ fun k : Ci => semVal (kcell (c, k)) 0) ∗ bigSep Finset.univ fun k : Ci => roundState ER (Rm m) (kcell (c, k)) 0)
      ⊢ (|={Set.univ}=> bigSep Finset.univ fun k => iprop(∃ κ : ℕ, cellInv ER (Rm m) κ (kcell (c, k))) : sProp 𝕄) from by
        rw [← bigSep_sep']
        exact (bigSep_mono fun k _ => (Rounds.body_intro ER (Rm m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ### The duties dealt to those who pay them -/

/-- The duties device `c` pays. -/
def payToks (c : Dev nD) : sProp 𝕄 :=
  iprop((bigSep Finset.univ fun n : Fin 14 => dutyTok ER (barCell (sdst n c)) 0 n)
    ∗ (bigSep Finset.univ fun i : Fin 32 => dutyTok ER (scell c i) 0 0) ∗ (bigSep Finset.univ fun i : Fin 32 => dutyTok ER (rcell (dst i c) i) 0 0))

/-- A product over devices and numbers may be dealt to other devices, number by number. -/
theorem deal {ι : Type} [Fintype ι] (e : ι → Dev nD ≃ Dev nD) (Φ : ι → Dev nD → sProp 𝕄) :
    (bigSep Finset.univ fun c : Dev nD => bigSep Finset.univ fun i : ι => Φ i c)
      = bigSep Finset.univ fun c : Dev nD => bigSep Finset.univ fun i : ι => Φ i (e i c) := by
  rw [prod_swap (fun (c : Dev nD) (i : ι) => Φ i c), prod_swap (fun (c : Dev nD) (i : ι) => Φ i (e i c))]
  exact bigSep_congr fun i _ => bigSep_univ_equiv (e i) (Φ i)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal sdstEquiv (fun (n : Fin 14) (c : Dev nD) => (dutyTok ER (barCell c) 0 n : sProp 𝕄)),
    deal dstEquiv (fun (i : Fin 32) (c : Dev nD) => (dutyTok ER (rcell c i) 0 0 : sProp 𝕄))]
  exact BI.Entails.refl _

/-- What a device holds alone, from its places, the duties it pays and its spare semaphores. -/
theorem linear_intro (c : Dev nD) :
    iprop((bigSep Finset.univ fun k : Ci => atPos ER (kcell (c, k)) 0 ∅ 0) ∗ payToks c ∗ spares c : sProp 𝕄) ⊢ linear c := by
  unfold payToks linear
  rw [bigSep_ci, bigSep_sep', bigSep_sep']
  iintro ⟨⟨HB, HS, HR⟩, ⟨HtB, HtS, HtR⟩, HZ⟩
  isplitl [HB]; · iexact HB
  isplitl [HtB]; · iexact HtB
  isplitl [HtS HtR HS]
  · isplitl [HtS]; · iexact HtS
    isplitl [HtR]; · iexact HtR
    iexact HS
  isplitl [HR]; · iexact HR
  iexact HZ

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Ci → ℕ) (c : Dev nD) : iprop(Recs m K ∗ linear c) ⊢ ghost m c := by
  unfold ghost
  iintro H
  iexists K
  iexact H

theorem regroup :
    (bigSep Finset.univ fun c : Dev nD => iprop((bigSep Finset.univ fun k => iprop(∃ κ : ℕ, cellInv ER (Rm m) κ (kcell (c, k))))
          ∗ (bigSep Finset.univ fun k => iprop(atPos ER (kcell (c, k)) 0 ∅ 0 ∗ reached ER (kcell (c, k)) 0)) ∗ toks c ∗ spares c) : sProp 𝕄)
      ⊢ bigSep Finset.univ (ghost m) := by
  rw [bigSep_sep', bigSep_sep', bigSep_sep', ← bigSep_univ_prod (fun ck : Dev nD × Ci => iprop(∃ κ : ℕ, cellInv ER (Rm m) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, HR⟩, Htok, HZ⟩
  ihave HK := (BI.bigSep_exists_pi Finset.univ (fun (ck : Dev nD × Ci) (κ : ℕ) => (cellInv ER (Rm m) κ (kcell ck) : sProp 𝕄))) $$ HI
  icases HK with ⟨%K, HI⟩
  ihave Htk := (toks_around (F := F)) $$ Htok
  iapply (bigSep_with_persistent (R := Recs m K) fun c _ => ghost_intro m K c)
  isplitl [HI HR]
  · unfold Recs
    rw [bigSep_sep']
    isplitl [HI] <;> iassumption
  · iapply (show iprop((bigSep Finset.univ fun c : Dev nD => bigSep Finset.univ fun k : Ci => atPos ER (kcell (c, k)) 0 ∅ 0)
        ∗ (bigSep Finset.univ fun c : Dev nD => payToks c) ∗ bigSep Finset.univ fun c : Dev nD => spares c)
        ⊢ (bigSep Finset.univ fun c : Dev nD => linear c : sProp 𝕄) from by
      rw [← bigSep_sep', ← bigSep_sep']
      exact bigSep_mono fun c _ => linear_intro c)
    isplitl [Hat]; · iexact Hat
    isplitl [Htk] <;> iassumption

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ### The credits of the launch -/

theorem cell_iff {a b : Dev nD × Ci} : kcell a = kcell b ↔ a = b := ⟨fun h => kcell_injective h, fun h => h ▸ rfl⟩

theorem tally_at (a b : Dev nD × Ci) (n : ℕ) : (tallyAt (kcell a) () n : CellTallies nD τ sig Unit) (kcell b) () = if b = a then n else 0 := by
  rw [tallyAt_apply]
  by_cases h : b = a
  · rw [if_pos h, if_pos ⟨cell_iff.mpr h, rfl⟩]
  · rw [if_neg h, if_neg fun h' => h (cell_iff.mp h'.1)]

/-- What device `d` owes a cell, by the duties it pays. -/
theorem owed_at (d : Dev nD) (b : Dev nD × Ci) : Ob d 0 (kcell b) ()
    = (∑ i : Fin 32, if b = (dst i d, some (true, i)) then N i else 0) + ∑ j : Fin 14, if b = (sdst j d, none) then 1 else 0 := by
  unfold Ob Od
  rw [Finset.filter_true_of_mem (fun _ _ => Nat.zero_le _), Finset.filter_true_of_mem (fun _ _ => Nat.zero_le _),
    Pi.add_apply, Finsupp.add_apply, Finset.sum_apply, Finset.sum_apply, Finsupp.finset_sum_apply, Finsupp.finset_sum_apply]
  exact congrArg₂ (· + ·) (Finset.sum_congr rfl fun i _ => tally_at (dst i d, some (true, i)) b (N i))
    (Finset.sum_congr rfl fun j _ => tally_at (sdst j d, none) b 1)

theorem launch_bar (c : Dev nD) :
    tallyOn (barCell c) (launchCredit (Pipeline.owing fun d => Ob d 0) 0 (barCell c)) = (tallyAt (barCell c) () 14 : CellTallies nD τ sig Unit) := by
  unfold tallyAt; refine congrArg _ (Finsupp.ext fun u => ?_); cases u
  rw [Pipeline.launchCredit_owing, Finsupp.single_eq_same]
  show ∑ d : Dev nD, Ob d 0 (kcell (c, none)) () = 14
  rw [Finset.sum_congr rfl fun d _ => owed_at d (c, none), Finset.sum_add_distrib,
    Finset.sum_eq_zero (fun d _ => Finset.sum_eq_zero fun i _ => if_neg fun h => by cases congrArg Prod.snd h), Nat.zero_add, Finset.sum_comm,
    Finset.sum_congr rfl fun j _ => (Finset.sum_eq_single (ssrc j c)
      (fun d _ hd => if_neg fun h => hd (by have := congrArg Prod.fst h; dsimp only at this; rw [this, ssrc_sdst])) (fun h => absurd (Finset.mem_univ _) h)).trans
      (if_pos (by rw [sdst_ssrc]))]
  decide

theorem launch_recv (c : Dev nD) (i : Fin 32) :
    tallyOn (rcell c i) (launchCredit (Pipeline.owing fun d => Ob d 0) 0 (rcell c i)) = (tallyAt (rcell c i) () (N i) : CellTallies nD τ sig Unit) := by
  unfold tallyAt; refine congrArg _ (Finsupp.ext fun u => ?_); cases u
  rw [Pipeline.launchCredit_owing, Finsupp.single_eq_same]
  show ∑ d : Dev nD, Ob d 0 (kcell (c, some (true, i))) () = N i
  rw [Finset.sum_congr rfl fun d _ => owed_at d (c, some (true, i)), Finset.sum_add_distrib,
    Finset.sum_eq_zero (f := fun d : Dev nD => ∑ j : Fin 14, _) (fun d _ => Finset.sum_eq_zero fun j _ => if_neg fun h => by cases congrArg Prod.snd h), Nat.add_zero, Finset.sum_comm,
    Finset.sum_eq_single i (fun k _ hk => Finset.sum_eq_zero fun d _ => if_neg fun h => hk (by
      have := congrArg Prod.snd h; injection this with this; injection this with _ this; exact this.symm)) (fun h => absurd (Finset.mem_univ _) h),
    Finset.sum_eq_single (src i c)
      (fun d _ hd => if_neg fun h => hd (by have := congrArg Prod.fst h; dsimp only at this; rw [this, src_dst])) (fun h => absurd (Finset.mem_univ _) h)]
  exact if_pos (by rw [dst_src])

theorem creds (c : Dev nD) :
    (Pipeline.launchCred (fun d => Ob d 0) c : sProp 𝕄)
      ⊢ iprop(cred (tallyAt (barCell c) () 14) ∗ bigSep Finset.univ fun i : Fin 32 => cred (tallyAt (rcell c i) () (N i))) := by
  unfold Pipeline.launchCred
  rw [bigSep_univ_at _ (SemLoc.reg barS), launch_bar]
  refine sep_mono_right ?_
  have hinj : Function.Injective fun i : Fin 32 => (SemLoc.dma (rsem c i) : SemLoc sig) := fun i j h => by
    have h' : rcell c i = rcell c j := congrArg (Prod.mk _) h
    have := role_recv c i; rw [h', role_recv] at this; injection this with this; exact this.symm
  have hsub : Finset.univ.map ⟨fun i : Fin 32 => (SemLoc.dma (rsem c i) : SemLoc sig), hinj⟩ ⊆ Finset.univ.erase (SemLoc.reg barS) := fun x hx => by
    obtain ⟨i, -, rfl⟩ := Finset.mem_map.mp hx
    exact Finset.mem_erase.mpr ⟨fun h => (by cases h), Finset.mem_univ _⟩
  refine (BI.bigSep_subset hsub).trans ?_
  rw [bigSep_map]
  exact bigSep_mono fun i _ => Entails.of_eq (congrArg cred (launch_recv c i))

/-! ### The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ob d 0) c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    unfold Lev; iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨HvS, HvR, HZ, HB, Hr⟩
  isplitl [HB]; · iexact HB
  isplitl [HvS HvR HZ]
  · isplitr [HZ]
    · isplitl [HvS] <;> iassumption
    iexact HZ
  iexact Hr

theorem lv_low (c : Dev nD) (q : Fin 69) (h : q.val < 3) : lv ((c : Thread nD τ), .dma q) () = 0 := by
  have hr : role ((c : Thread nD τ), .dma q) = .none := roleD_low c q h
  unfold lv; rw [hr]

theorem waits (c : Dev nD) : (levAts L lv : sProp 𝕄) ⊢ Pipeline.cellsWaits cfgs (dats m ρ) () 0 c :=
  Pipeline.cellsWaits_intro cfgs (dats m ρ) () 0 c fun w s t => by
    have hq : lv ((c : Thread nD τ), .dma ((cfg0.win w).sem s)) () = 0 := lv_low c _ (by revert w s; decide)
    rcases t with ⟨_ | _, ht⟩
    · exact mayWait_Ob c _ hq 0
    · show _ ⊢ MayWait (c : Thread nD τ) _ () 0
      rw [MayWait_zero]; iintro -; iempintro

/-! ### The run -/

/-- The contents of a window's array after the run. -/
def finalA (c : Dev nD) (w : Fin cfg0.W) : Buf (Elt F) ((cfg0.win w).arr.view.loc (c : Thread nD τ)) := (dats m ρ 0 c).arrAt w cfg0.N

/-- Every window's array holds its final contents on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of thirty-two devices, for any float values, from any memory with zero counters: every fair execution of
    the program ends, and then each device's arrays hold their final contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ob d 0) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Value.lean ====
/- What the kernel computes over the extended reals: a device's rows of the result are the gelu of its rows of the whole
   product, in whatever order the devices' parts were added. -/
module

public import proofs.«01_k».proof.Proof.Launch
public import Idealize.ShloMosaic.PureOps.Ideal.Laws
public import Idealize.ShloMosaic.Lib.MatmulPlain
public import Idealize.ShloMosaic.Lib.IdealHost
public import Idealize.ShloMosaic.Lib.Layout
public import Idealize.ShloMosaic.Lib.Pipeline.ValueKit

@[expose] public section

noncomputable section

namespace Cert.KernelIdeal.Ring

open Cert.KernelIdeal Cert.KernelIdeal.Gen
open Idealize.ShloMosaic Idealize.ShloMosaic.TcCoe
open Idealize.ShloMosaic.ValueIdx hiding ix2
open scoped BigOperators

variable (X : Dev nD → Vec Ideal S1024x32 .f32) (Wt : Dev nD → Vec Ideal S32x1024 .f32)

/-! ### One device's part of the product -/

/-- An element of a whole array, by plain coordinates. -/
def at2 (x : (⟨2, ![1024, 1024]⟩ : Shape).Idx → EReal) (r k : ℕ) : EReal :=
  x (ix2 (n0 := 1024) (n1 := 1024) (Fin.ofNat 1024 r) (Fin.ofNat 1024 k))

/-- The printed product of a device's columns and one half of its rows, element by element. -/
theorem prod_apply (a : Vec Ideal S1024x32 .f32) (b : Vec Ideal S32x512 .f32) (r : Fin 1024) (k : Fin 512) :
    k0_pay1 a b (ix2 r k) = ∑ q : Fin 32, a (ix2 r q) * b (ix2 q k) := by
  have h : k0_pay1 a b = FloatOps.matmul (DotDims.plain 1024 32 512) none (φ₁ := .f32) (φ₂ := .f32) a b (constant (F := Ideal) S1024x512 .f32 0x00000000#32) := by
    unfold k0_pay1
    simp only [shapeCast_self]
    rfl
  rw [h]
  refine (Ideal.matmul_plain_apply (φ₁ := .f32) (φ₂ := .f32) none a b _ r k).trans ?_
  rw [constant_apply, Ideal.ofBits_zero_f32, zero_add]
  rfl

/-- A device's part of the product, where its factors are columns and rows of two whole arrays. -/
theorem part_eq (x w : (⟨2, ![1024, 1024]⟩ : Shape).Idx → EReal)
    (hX : ∀ c i, X c i = at2 x (i (0 : Fin 2)).val (32 * c.val + (i (1 : Fin 2)).val))
    (hW : ∀ c i, Wt c i = at2 w (32 * c.val + (i (0 : Fin 2)).val) (i (1 : Fin 2)).val)
    (c : Dev nD) (r k : ℕ) (hr : r < 1024) (hk : k < 1024) :
    part X Wt c r k = ∑ q : Fin 32, at2 x r (32 * c.val + q.val) * at2 w (32 * c.val + q.val) k := by
  unfold part
  split
  · rename_i h
    unfold n2
    rw [prod_apply]
    refine Finset.sum_congr rfl fun q _ => ?_
    have hw : wL Wt c (ix2 q (Fin.ofNat 512 k)) = at2 w (32 * c.val + (0 + 1 * q.val)) (0 + 1 * (k % 512)) := hW c _
    rw [hX, hw, Nat.mod_eq_of_lt h]
    simp only [Nat.zero_add, Nat.one_mul]
    show at2 x (r % 1024) _ * _ = _
    rw [Nat.mod_eq_of_lt hr]
    rfl
  · rename_i h
    have hk' : k - 512 < 512 := by omega
    unfold n2
    show k0_pay1 (X c) (wR Wt c) _ = _
    rw [prod_apply]
    refine Finset.sum_congr rfl fun q _ => ?_
    have hw : wR Wt c (ix2 q (Fin.ofNat 512 (k - 512))) = at2 w (32 * c.val + (0 + 1 * q.val)) (512 + 1 * ((k - 512) % 512)) := hW c _
    rw [hX, hw, Nat.mod_eq_of_lt hk', Nat.one_mul, Nat.one_mul, show 512 + (k - 512) = k by omega]
    simp only [Nat.zero_add, Nat.one_mul]
    show at2 x (r % 1024) _ * _ = _
    rw [Nat.mod_eq_of_lt hr]
    rfl

/-! ### The sums around the layers and around the rows -/

/-- A sum around the layers, at the end: four devices' parts of one row. -/
theorem accA_sum (c : Dev nD) (r k : ℕ) :
    accA X Wt 2 c r k = ∑ i : Fin 4, part X Wt (lz^[i.val] c) (256 * zz c + r) k := by
  have h3 : cA 3 c = zz c := by revert c; decide +kernel
  have h2 : cA 2 (lz c) = zz c := by revert c; decide +kernel
  have h1 : cA 1 (lz (lz c)) = zz c := by revert c; decide +kernel
  have h0 : cA 0 (lz (lz (lz c))) = zz c := by revert c; decide +kernel
  show ((part X Wt (lz (lz (lz c))) (256 * cA 0 (lz (lz (lz c))) + r) k + part X Wt (lz (lz c)) (256 * cA 1 (lz (lz c)) + r) k)
    + part X Wt (lz c) (256 * cA 2 (lz c) + r) k) + part X Wt c (256 * cA 3 c + r) k = _
  rw [h0, h1, h2, h3, Fin.sum_univ_four]
  show _ = part X Wt c _ k + part X Wt (lz c) _ k + part X Wt (lz (lz c)) _ k + part X Wt (lz (lz (lz c))) _ k
  ac_rfl

/-- A sum around the rows, at the end: four devices' parts of one row. -/
theorem accB_sum (c : Dev nD) (r k : ℕ) :
    accB X Wt 2 c r k = ∑ i : Fin 4, part X Wt (ly^[i.val] c) (rowOf (yy c) r) (512 + k) := by
  have h3 : cB 3 c = yy c := by revert c; decide +kernel
  have h2 : cB 2 (ly c) = yy c := by revert c; decide +kernel
  have h1 : cB 1 (ly (ly c)) = yy c := by revert c; decide +kernel
  have h0 : cB 0 (ly (ly (ly c))) = yy c := by revert c; decide +kernel
  show ((part X Wt (ly (ly (ly c))) (rowOf (cB 0 (ly (ly (ly c)))) r) (512 + k) + part X Wt (ly (ly c)) (rowOf (cB 1 (ly (ly c))) r) (512 + k))
    + part X Wt (ly c) (rowOf (cB 2 (ly c)) r) (512 + k)) + part X Wt c (rowOf (cB 3 c) r) (512 + k) = _
  rw [h0, h1, h2, h3, Fin.sum_univ_four]
  show _ = part X Wt c _ _ + part X Wt (ly c) _ _ + part X Wt (ly (ly c)) _ _ + part X Wt (ly (ly (ly c))) _ _
  ac_rfl

/-- The blocks that a device collects in its layer, each summed around the layers, count every device once. -/
theorem allA (c : Dev nD) : Function.Bijective fun p : Fin 8 × Fin 4 => lz^[p.2.val] (dev (zz c) p.1.val) := by
  revert c; decide +kernel
/-- So do those that it collects in its row, each summed around the rows. -/
theorem allB (c : Dev nD) : Function.Bijective fun p : Fin 8 × Fin 4 => ly^[p.2.val] (devY (yy c) p.1.val) := by
  revert c; decide +kernel

/-- The sum of the collected blocks of the layer: every device's part of the row. -/
theorem sumA (c : Dev nD) (r k : ℕ) (hr : r < 32) :
    ∑ t : Fin 8, gatA X Wt c (32 * t.val + r) k = ∑ d : Dev nD, part X Wt d (32 * c.val + r) k := by
  rw [← (allA c).sum_comp fun d => part X Wt d (32 * c.val + r) k, Fintype.sum_prod_type]
  refine Finset.sum_congr rfl fun t _ => ?_
  have ht : (32 * t.val + r) / 32 = t.val := by omega
  have hm : (32 * t.val + r) % 32 = r := by omega
  have hz : ∀ t : Fin 8, zz (dev (zz c) t.val) = zz c := by revert c; decide +kernel
  have hc : 256 * zz c + (32 * jj c + r) = 32 * c.val + r := by unfold zz jj; omega
  unfold gatA
  rw [ht, hm, accA_sum, hz t, hc]

/-- The sum of the collected blocks of the row: every device's part of the row. -/
theorem sumB (c : Dev nD) (r k : ℕ) (hr : r < 32) :
    ∑ t : Fin 8, gatB X Wt c (32 * t.val + r) k = ∑ d : Dev nD, part X Wt d (32 * c.val + r) (512 + k) := by
  rw [← (allB c).sum_comp fun d => part X Wt d (32 * c.val + r) (512 + k), Fintype.sum_prod_type]
  refine Finset.sum_congr rfl fun t _ => ?_
  have ht : (32 * t.val + r) / 32 = t.val := by omega
  have hm : (32 * t.val + r) % 32 = r := by omega
  have hy : ∀ t : Fin 8, yy (devY (yy c) t.val) = yy c := by revert c; decide +kernel
  have hc : ∀ r : Fin 32, rowOf (yy c) (rowB (yy c) (mm c) + r.val) = 32 * c.val + r.val := by revert c; decide +kernel
  unfold gatB
  rw [ht, hm, accB_sum, hy t, hc ⟨r, hr⟩]

/-! ### The result -/

/-- The gelu by its tangent approximation, as the kernel writes it. -/
def gelu (s : EReal) : EReal :=
  Ideal.ofBits .f32 0x3F000000#32 * s * (Ideal.ofBits .f32 0x3F800000#32
    + Ideal.tanh (Ideal.ofBits .f32 0x3F4C422A#32 * (s + Ideal.ofBits .f32 0x3D372713#32 * s * s * s)))

/-- The printed end of the kernel: the gelu of the sum of the eight collected blocks. -/
theorem pay32_apply (g : Fin 8 → Vec Ideal S32x512 .f32) (y : S32x512.Idx) :
    k0_pay32 (g 0) (g 1) (g 2) (g 3) (g 4) (g 5) (g 6) (g 7) y = gelu (∑ t : Fin 8, g t y) := by
  rw [Fin.sum_univ_eight]; rfl

/-- A device's rows of the result: the gelu of the sum of every device's part. -/
theorem bOut_apply (c : Dev nD) (i : S32x1024.Idx) :
    bOut X Wt c i = gelu (∑ d : Dev nD, part X Wt d (32 * c.val + (i (0 : Fin 2)).val) (i (1 : Fin 2)).val) := by
  have h0 : (i (0 : Fin 2)).val < 32 := (i (0 : Fin 2)).isLt
  have h1 : (i (1 : Fin 2)).val < 1024 := (i (1 : Fin 2)).isLt
  unfold bOut
  split
  · rename_i h
    refine (pay32_apply (fun t => gA X Wt c t.val) _).trans (congrArg gelu ?_)
    rw [← sumA X Wt c _ _ h0]
    refine Finset.sum_congr rfl fun t _ => ?_
    show gatA X Wt c (32 * t.val + (i (0 : Fin 2)).val % 32) ((i (1 : Fin 2)).val % 512) = _
    rw [Nat.mod_eq_of_lt h0, Nat.mod_eq_of_lt h]
  · rename_i h
    have h' : (i (1 : Fin 2)).val - 512 < 512 := by omega
    refine (pay32_apply (fun t => gB X Wt c t.val) _).trans (congrArg gelu ?_)
    refine Eq.trans ?_ ((sumB X Wt c _ ((i (1 : Fin 2)).val - 512) h0).trans (by rw [show 512 + ((i (1 : Fin 2)).val - 512) = (i (1 : Fin 2)).val by omega]))
    refine Finset.sum_congr rfl fun t _ => ?_
    show gatB X Wt c (32 * t.val + (i (0 : Fin 2)).val % 32) (((i (1 : Fin 2)).val - 512) % 512) = _
    rw [Nat.mod_eq_of_lt h0, Nat.mod_eq_of_lt h']

/-- Every device's part of an element of the product, added up, is that element of the whole product. -/
theorem parts_sum (x w : (⟨2, ![1024, 1024]⟩ : Shape).Idx → EReal)
    (hX : ∀ c i, X c i = at2 x (i (0 : Fin 2)).val (32 * c.val + (i (1 : Fin 2)).val))
    (hW : ∀ c i, Wt c i = at2 w (32 * c.val + (i (0 : Fin 2)).val) (i (1 : Fin 2)).val)
    (r k : ℕ) (hr : r < 1024) (hk : k < 1024) :
    ∑ d : Dev nD, part X Wt d r k = ∑ q : Fin 1024, at2 x r q.val * at2 w q.val k := by
  rw [Finset.sum_congr rfl fun d _ => part_eq X Wt x w hX hW d r k hr hk]
  rw [← (finProdFinEquiv (m := 32) (n := 32)).sum_comp fun q : Fin 1024 => at2 x r q.val * at2 w q.val k,
    Fintype.sum_prod_type]
  refine Finset.sum_congr rfl fun d _ => Finset.sum_congr rfl fun q _ => ?_
  rw [show (finProdFinEquiv (m := 32) (n := 32) (d, q)).val = 32 * d.val + q.val from Nat.add_comm _ _]

/-! ### The arrays of the run -/

section Run
variable {F : FTy → Type} [FloatOps F]
variable (m : (ℓ : Loc nD τ sig) → Buf (Elt F) ℓ) (ρ : Dev nD → PrngReg)

/-- The left factor is staged whole. -/
theorem xstg_eq (c : Dev nD) : xstg m c = m ((c : Thread nD τ).loc main_arg0) :=
  Memref.read_access_unit_zero (Elt F) main_arg0 (funext fun a => by fin_cases a <;> decide) (fun a => by fin_cases a <;> decide) _
/-- So is the right one. -/
theorem wstg_eq (c : Dev nD) : wstg m c = m ((c : Thread nD τ).loc main_arg1) :=
  Memref.read_access_unit_zero (Elt F) main_arg1 (funext fun a => by fin_cases a <;> decide) (fun a => by fin_cases a <;> decide) _

/-- The result array at the end of a run is what the body left. -/
theorem final_out (c : Dev nD) : finalA m ρ c (2 : Fin 3) = bOut (xstg m) (wstg m) c :=
  (dats m ρ 0 c).arrAt_eq_of_after_last (2 : Fin 3) (0 : Fin 1) ⟨by decide +kernel, fun t _ => Subsingleton.elim (α := Fin 1) t 0, fun a => by fin_cases a <;> decide +kernel⟩ _ fun j => rfl

end Run

end Cert.KernelIdeal.Ring

end
-- ==== Proof.Reference.lean ====
/- What the reference computes over the extended reals, element by element: the gelu of the plain product. -/
module

public import proofs.«01_k».proof.Proof.Value
public import proofs.«01_k».proof.Proof.Gen.ReferenceIdeal.Run

@[expose] public section

noncomputable section

namespace Cert.ReferenceIdeal.Whole

open Cert.ReferenceIdeal Cert.ReferenceIdeal.Gen
open Idealize.ShloMosaic Idealize.ShloMosaic.TcCoe Idealize.ShloMosaic.StableHlo
open Cert.KernelIdeal.Ring (at2 gelu)
open scoped BigOperators

/-- The reference's product of its two arguments. -/
def prod (x w : FVec Ideal S1024x1024 .f32) : FVec Ideal S1024x1024 .f32 :=
  Host.dotGeneral dot_S1024x1024_S1024x1024_S1024x1024_1_0_0_1_n_n none x w

/-- The reference's last steps, at any product. -/
def ends (y : FVec Ideal S1024x1024 .f32) : FVec Ideal S1024x1024 .f32 :=
  mulf (mulf (broadcastInDim S1024x1024 ![] bcast_S_S1024x1024 (constant S_ .f32 0x3F000000#32)) y)
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf y (mulf (broadcastInDim S1024x1024 ![] bcast_S_S1024x1024 (constant S_ .f32 0x3D372713#32)) (mulf (mulf y y) y))))))

/-- An element of the product: a sum over the whole contracted axis. -/
theorem prod_apply (x w : FVec Ideal S1024x1024 .f32) (i : S1024x1024.Idx) :
    prod x w i = ∑ q : Fin 1024, at2 x (i (0 : Fin 2)).val q.val * at2 w q.val (i (1 : Fin 2)).val := by
  have hi : i = ix2 (n0 := 1024) (n1 := 1024) (i (0 : Fin 2)) (i (1 : Fin 2)) := ValueIdx.eq_ix2 i
  have h : prod x w i = FloatOps.matmul (F := Ideal) (DotDims.plain 1024 1024 1024) none (φ₁ := .f32) (φ₂ := .f32) x w (fun _ => 0) i := rfl
  have hat : ∀ (f : FVec Ideal S1024x1024 .f32) (a b : Fin 1024), at2 f a.val b.val = f (ix2 a b) := fun f a b => by
    unfold at2
    rw [show Fin.ofNat 1024 a.val = a from Fin.ext (Nat.mod_eq_of_lt a.isLt), show Fin.ofNat 1024 b.val = b from Fin.ext (Nat.mod_eq_of_lt b.isLt)]
  rw [h, hi]
  refine (Ideal.matmul_plain_apply (φ₁ := .f32) (φ₂ := .f32) none x w (fun _ => 0) _ _).trans ?_
  rw [zero_add]
  refine Finset.sum_congr rfl fun q _ => ?_
  exact congrArg₂ (· * ·) (hat x _ q).symm (hat w q _).symm

/-- An element of the last steps: the gelu, its cube multiplied out in another order. -/
theorem ends_apply (y : FVec Ideal S1024x1024 .f32) (i : S1024x1024.Idx) : ends y i = gelu (y i) := by
  unfold gelu
  rw [mul_assoc (Ideal.ofBits .f32 0x3D372713#32 * y i), mul_assoc (Ideal.ofBits .f32 0x3D372713#32), ← mul_assoc (y i)]
  rfl

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- After a run that left the region's arrays with their final contents, both arguments are as they were. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r} (h : Cert.KernelIdeal.Ring.QC m ρ r) (c : Dev Cert.KernelIdeal.nD) :
    r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1) :=
  ⟨(h c 0).trans ((Cert.KernelIdeal.Ring.dats m ρ 0 c).arrAt_in (0 : Fin 3) rfl _),
    (h c 1).trans ((Cert.KernelIdeal.Ring.dats m ρ 0 c).arrAt_in (1 : Fin 3) rfl _)⟩

/-- The kernel over extended reals runs to its end on every device, keeps its arguments and leaves every counter at zero. -/
theorem frame_ideal : Cert.quiescent_KernelIdeal := fun m ρ _ =>
  (θ_run Cert.KernelIdeal.defs _ _).mono (fun _ h => ⟨fun c => args_kept m ρ h.1 c, h.2⟩)
    (Cert.KernelIdeal.Ring.run_main (F := Ideal) m ρ)

/-- The two printed kernels are called by the same table of bodies. -/
theorem bodies_same : Cert.Kernel.defs₀ (F := Bits) = Cert.KernelIdeal.defs₀ (F := Bits) := by
  unfold Cert.Kernel.defs₀ Cert.KernelIdeal.defs₀
  congr 1
  funext l p
  fin_cases l
  rfl

/-- So do the tables of their calls. -/
theorem defs_same : Cert.Kernel.defs (F := Bits) = Cert.KernelIdeal.defs (F := Bits) :=
  congrArg (Pipeline.defs (Cert.KernelIdeal.pcfgs (F := Bits))) bodies_same

/-- The kernel over machine words too runs to its end on every device, keeps its arguments and leaves every counter at zero. -/
theorem frame_kernel : Cert.quiescent_Kernel := fun m ρ _ => by
  rw [defs_same]
  exact (θ_run Cert.KernelIdeal.defs _ _).mono (fun _ h => ⟨fun c => args_kept m ρ h.1 c, h.2⟩)
    (Cert.KernelIdeal.Ring.run_main (F := Bits) m ρ)

/-- The reference runs to its end, keeps its arguments and has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The kernel's result on every device is that device's rows of the reference's result, over the extended reals and from
    any arguments: the devices' parts, added around the layers, around the rows and over what is collected, make up the whole
    product, and the gelu is the reference's. -/
theorem same_values : Cert.algebraic_KernelIdeal_ReferenceIdeal := by
  intro m g m' g' _ hagree
  refine ⟨Cert.ReferenceIdeal.Whole.ends (Cert.ReferenceIdeal.Whole.prod
    (m' (((0 : Dev Cert.ReferenceIdeal.nD).tc : Thread _ _).loc Cert.ReferenceIdeal.main_arg0))
    (m' (((0 : Dev Cert.ReferenceIdeal.nD).tc : Thread _ _).loc Cert.ReferenceIdeal.main_arg1))), ?_, ?_⟩
  · refine (θ_run Cert.KernelIdeal.defs _ _).mono (fun _ h c => ⟨?_, args_kept m g h.1 c⟩)
      (Cert.KernelIdeal.Ring.run_main (F := Ideal) m g)
    refine ((h.1 c 2).trans (Cert.KernelIdeal.Ring.final_out m g c)).trans (funext fun i => ?_)
    have h0 : (i (0 : Fin 2)).val < 32 := (i (0 : Fin 2)).isLt
    have h1 : (i (1 : Fin 2)).val < 1024 := (i (1 : Fin 2)).isLt
    have hc : c.val < 32 := c.isLt
    have hat : ∀ (f : Cert.ReferenceIdeal.S1024x1024.Idx → EReal) (j : Cert.ReferenceIdeal.S1024x1024.Idx),
        Cert.KernelIdeal.Ring.at2 f (j (0 : Fin 2)).val (j (1 : Fin 2)).val = f j := fun f j => by
      unfold Cert.KernelIdeal.Ring.at2
      congr 1
      funext a
      fin_cases a
      · exact Fin.ext (Nat.mod_eq_of_lt (j (0 : Fin 2)).isLt)
      · exact Fin.ext (Nat.mod_eq_of_lt (j (1 : Fin 2)).isLt)
    refine (Cert.KernelIdeal.Ring.bOut_apply _ _ c i).trans ?_
    rw [Cert.KernelIdeal.Ring.parts_sum _ _
      (m' (((0 : Dev Cert.ReferenceIdeal.nD).tc : Thread _ _).loc Cert.ReferenceIdeal.main_arg0))
      (m' (((0 : Dev Cert.ReferenceIdeal.nD).tc : Thread _ _).loc Cert.ReferenceIdeal.main_arg1)) ?_ ?_ _ _ (by omega) h1]
    · rw [Layout.block_apply, Cert.ReferenceIdeal.Whole.ends_apply, Cert.ReferenceIdeal.Whole.prod_apply]
      have e0 := (Layout.idx_rows_val (k := 32) (dS := ![32, 1024]) (dT := ![1024, 1024]) (by decide) c i).1
      have e1 := (Layout.idx_rows_val (k := 32) (dS := ![32, 1024]) (dT := ![1024, 1024]) (by decide) c i).2
      rw [e0, e1]
      show _ = Cert.KernelIdeal.Ring.gelu (∑ q : Fin 1024, Cert.KernelIdeal.Ring.at2 _ (c.val * 32 + (i (0 : Fin 2)).val) q.val * _)
      rw [Nat.mul_comm c.val 32]
    · intro d j
      rw [Cert.KernelIdeal.Ring.xstg_eq, (hagree d).1, Layout.block_apply, Nat.mul_comm 32 d.val]
      exact (hat _ _).symm
    · intro d j
      rw [Cert.KernelIdeal.Ring.wstg_eq, (hagree d).2, Layout.block_apply, Nat.mul_comm 32 d.val]
      exact (hat _ _).symm
  · exact (θ_run Cert.ReferenceIdeal.defs _ _).mono (fun _ h => h 0) (Cert.ReferenceIdeal.Value.run m' g')

theorem claim : Cert.Claim := ⟨Cert.Kernel.Gen.facts, Cert.KernelIdeal.Gen.facts, Cert.ReferenceIdeal.Gen.facts, frame_kernel, frame_ideal, frame_reference, trivial, same_values⟩

end Cert.Proof

end
